-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_logits_above_minus_infinity [hPre_logits_above_minus_infinity : Cert.Pre_logits_above_minus_infinity.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_logits_above_minus_infinity.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_logits_above_minus_infinity [hPre_logits_above_minus_infinity : Cert.Pre_logits_above_minus_infinity.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_logits_above_minus_infinity.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Kernel2Ideal_pre_logits_above_minus_infinity [hKernel2Ideal : Cert.Kernel2Ideal.Facts] [hPre_logits_above_minus_infinity : Cert.Pre_logits_above_minus_infinity.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_logits_above_minus_infinity m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Reference2Ideal_pre_logits_above_minus_infinity [hReference2Ideal : Cert.Reference2Ideal.Facts] [hPre_logits_above_minus_infinity : Cert.Pre_logits_above_minus_infinity.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_logits_above_minus_infinity m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def preserves_Kernel2_Kernel2Ideal : Prop :=
  True

def algebraic_Kernel2Ideal_Reference2Ideal_pre_logits_above_minus_infinity [hKernel2Ideal : Cert.Kernel2Ideal.Facts] [hReference2Ideal : Cert.Reference2Ideal.Facts] [hPre_logits_above_minus_infinity : Cert.Pre_logits_above_minus_infinity.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_logits_above_minus_infinity m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_indices) = v0 c
          ∧ r.2.mem ((c.tc : Thread Cert.Reference2Ideal.nD Cert.Reference2Ideal.τ).loc Cert.Reference2Ideal.main_v12) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def Claim : Prop :=
  ∃ (hKernel : Cert.Kernel.Facts) (hKernel2 : Cert.Kernel2.Facts) (hKernel2Ideal : Cert.Kernel2Ideal.Facts) (hReference2Ideal : Cert.Reference2Ideal.Facts) (hPre_logits_above_minus_infinity : Cert.Pre_logits_above_minus_infinity.Facts),
    quiescent_Kernel (hKernel := hKernel)
    ∧ quiescent_Kernel2 (hKernel2 := hKernel2)
    ∧ quiescent_Kernel2Ideal (hKernel2Ideal := hKernel2Ideal)
    ∧ quiescent_Kernel2Ideal_pre_logits_above_minus_infinity (hKernel2Ideal := hKernel2Ideal) (hPre_logits_above_minus_infinity := hPre_logits_above_minus_infinity)
    ∧ quiescent_Reference2Ideal (hReference2Ideal := hReference2Ideal)
    ∧ quiescent_Reference2Ideal_pre_logits_above_minus_infinity (hReference2Ideal := hReference2Ideal) (hPre_logits_above_minus_infinity := hPre_logits_above_minus_infinity)
    ∧ preserves_Kernel2_Kernel2Ideal
    ∧ algebraic_Kernel2Ideal_Reference2Ideal_pre_logits_above_minus_infinity (hKernel2Ideal := hKernel2Ideal) (hReference2Ideal := hReference2Ideal) (hPre_logits_above_minus_infinity := hPre_logits_above_minus_infinity)
-- ==== Pre_logits_above_minus_infinity.lean ====
abbrev S32768x4096 : Shape := ⟨2, ![32768, 4096]⟩
abbrev S64x4096 : Shape := ⟨2, ![64, 4096]⟩
abbrev S4096x64 : Shape := ⟨2, ![4096, 64]⟩
abbrev S32768x64 : Shape := ⟨2, ![32768, 64]⟩
abbrev S_ : Shape := ⟨0, ![]⟩

class Facts : Prop where
  transposes_S64x4096_S4096x64_1_0 : S64x4096.Transposes [1, 0] S4096x64
  bcast_S_S32768x64 : S_.BroadcastsInDim S32768x64 (![] : Fin 0 → Fin S32768x64.rank)
  dot_S32768x4096_S4096x64_S32768x64_1_0_0_1_n_n_wf : DotDims.WF S32768x4096 S4096x64 S32768x64 [1] [0] [0] [1] [] []

variable [Facts]

def dot_S32768x4096_S4096x64_S32768x64_1_0_0_1_n_n : DotDims S32768x4096 S4096x64 S32768x64 where
  lhsContracting := [1]
  rhsContracting := [0]
  lhsNonContracting := [0]
  rhsNonContracting := [1]
  lhsBatch := []
  rhsBatch := []
  wf := dot_S32768x4096_S4096x64_S32768x64_1_0_0_1_n_n_wf
def fn {F : FTy → Type} [FloatOps F] (main_arg0 : FVec F S32768x4096 .f32) (main_arg1 : FVec F S64x4096 .f32) : IVec S32768x64 1 :=
  let main_v0 : FVec F S4096x64 .f32 := (transpose S4096x64 [1, 0] · transposes_S64x4096_S4096x64_1_0) main_arg1
  let main_v1 : FVec F S32768x64 .f32 := (fun l r => Host.dotGeneral dot_S32768x4096_S4096x64_S32768x64_1_0_0_1_n_n none l r) main_arg0 main_v0
  let main_cst : FVec F S_ .f32 := constant S_ .f32 0xFF800000#32
  let main_v2 : FVec F S32768x64 .f32 := broadcastInDim S32768x64 ![] bcast_S_S32768x64 main_cst
  let main_v3 : IVec S32768x64 1 := cmpf .ogt main_v1 main_v2
  main_v3
-- ==== Kernel.lean ====
abbrev S32768x4096 : Shape := ⟨2, ![32768, 4096]⟩
abbrev S64x4096 : Shape := ⟨2, ![64, 4096]⟩
abbrev S32768x8 : Shape := ⟨2, ![32768, 8]⟩
abbrev S_ : Shape := ⟨0, ![]⟩
abbrev S10x256x4096 : Shape := ⟨3, ![10, 256, 4096]⟩
abbrev S10 : Shape := ⟨1, ![10]⟩
abbrev S2x256x8 : Shape := ⟨3, ![2, 256, 8]⟩
abbrev S2 : Shape := ⟨1, ![2]⟩
abbrev S1 : Shape := ⟨1, ![1]⟩
abbrev S1x256x4096 : Shape := ⟨3, ![1, 256, 4096]⟩
abbrev S256x4096 : Shape := ⟨2, ![256, 4096]⟩
abbrev S64x256 : Shape := ⟨2, ![64, 256]⟩
abbrev S256 : Shape := ⟨1, ![256]⟩
abbrev S1x256 : Shape := ⟨2, ![1, 256]⟩
abbrev S8x256 : Shape := ⟨2, ![8, 256]⟩
abbrev S256x8 : Shape := ⟨2, ![256, 8]⟩
abbrev S1x256x8 : Shape := ⟨3, ![1, 256, 8]⟩

abbrev nBuf : Space → Nat
  | .hbm => 4
  | .vmem => 4
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S32768x8, .i32⟩
  | .hbm, ⟨3, _⟩ => ⟨S32768x8, .f32⟩
  | .local _ .vmem, ⟨0, _⟩ => ⟨S64x4096, .f32⟩
  | .local _ .vmem, ⟨1, _⟩ => ⟨S10x256x4096, .f32⟩
  | .local _ .vmem, ⟨2, _⟩ => ⟨S2x256x8, .i32⟩
  | .local _ .vmem, ⟨3, _⟩ => ⟨S2x256x8, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_scratch0 : Ref sig .tc := ⟨.vmem, 0, rfl⟩
abbrev cc0_scoped0 : Ref sig .tc := ⟨.vmem, 1, rfl⟩
abbrev cc0_scoped2 : Ref sig .tc := ⟨.vmem, 2, rfl⟩
abbrev cc0_scoped4 : Ref sig .tc := ⟨.vmem, 3, rfl⟩

abbrev nD : Nat := 1
abbrev τ : Topo := Topo.v7x

variable {F : FTy → Type} [BitOps F]

abbrev grid0 : Pipeline.Grid := .none

def k0_off1 : Fin 1 → Nat :=
  let c0_i32_55_r0 : BitVec 32 := 0#32
  let c10_i32_r0 : BitVec 32 := 10#32
  let v57_r0 : BitVec 32 := Scalar.remui c0_i32_55_r0 c10_i32_r0
  ![v57_r0.toNat]
def k0_off2 : Fin 3 → Nat :=
  let c0_i32_55_r0 : BitVec 32 := 0#32
  let c10_i32_r0 : BitVec 32 := 10#32
  let v57_r0 : BitVec 32 := Scalar.remui c0_i32_55_r0 c10_i32_r0
  let c0_i32_56_r0 : BitVec 32 := 0#32
  let c0_i32_57_r0 : BitVec 32 := 0#32
  ![v57_r0.toNat, 0, 0]
def k0_off3 : Fin 2 → Nat :=
  let c256_i32_r0 : BitVec 32 := 256#32
  let c0_i32_53_r0 : BitVec 32 := 0#32
  let c0_i32_54_r0 : BitVec 32 := 0#32
  let v56_r0 : BitVec 32 := Scalar.addi c0_i32_53_r0 c0_i32_54_r0
  let v58_r0 : BitVec 32 := Scalar.muli c256_i32_r0 v56_r0
  let c0_i32_58_r0 : BitVec 32 := 0#32
  ![v58_r0.toNat, 0]
def k0_off4 (arg8_r0 : BitVec 32) : Fin 1 → Nat :=
  let c10_i32_205_r0 : BitVec 32 := 10#32
  let v215_r0 : BitVec 32 := Scalar.remui arg8_r0 c10_i32_205_r0
  ![v215_r0.toNat]
def k0_cond1 (arg6_r0 : BitVec 32) (arg7_r0 : BitVec 32) : BitVec 1 :=
  let c0_i32_198_r0 : BitVec 32 := 0#32
  let v205_r0 : BitVec 32 := Scalar.addi arg6_r0 c0_i32_198_r0
  let c0_i32_199_r0 : BitVec 32 := 0#32
  let v206_r0 : BitVec 32 := Scalar.addi arg7_r0 c0_i32_199_r0
  let v207_r0 : BitVec 1 := Scalar.cmpi .ne v205_r0 v206_r0
  let v208_r0 : BitVec 32 := Scalar.extui v207_r0
  let c0_i32_200_r0 : BitVec 32 := 0#32
  let v209_r0 : BitVec 1 := Scalar.cmpi .ne v208_r0 c0_i32_200_r0
  v209_r0

def k0_off5 (arg8_r0 : BitVec 32) : Fin 3 → Nat :=
  let c10_i32_205_r0 : BitVec 32 := 10#32
  let v215_r0 : BitVec 32 := Scalar.remui arg8_r0 c10_i32_205_r0
  let c0_i32_207_r0 : BitVec 32 := 0#32
  let c0_i32_208_r0 : BitVec 32 := 0#32
  ![v215_r0.toNat, 0, 0]

def k0_chk1 (arg6_r0 : BitVec 32) (arg7_r0 : BitVec 32) (arg8_r0 : BitVec 32) : Prop :=
  (∀ (k0_h1 : k0_cond1 arg6_r0 arg7_r0 = 1#1), ∀ a, (k0_off4 arg8_r0) a + S1.size a ≤ S10.size a) ∧
  (∀ (k0_h1 : k0_cond1 arg6_r0 arg7_r0 = 1#1), ∀ a, (k0_off5 arg8_r0) a + S1x256x4096.size a ≤ S10x256x4096.size a)
theorem k0_off4_inb : ∀ (arg6_r0 : BitVec 32) (arg7_r0 : BitVec 32) (arg8_r0 : BitVec 32) (k0_hw1 : k0_chk1 arg6_r0 arg7_r0 arg8_r0), ∀ (k0_h1 : k0_cond1 arg6_r0 arg7_r0 = 1#1), ∀ a, (k0_off4 arg8_r0) a + S1.size a ≤ S10.size a := fun arg6_r0 arg7_r0 arg8_r0 k0_hw1 k0_h1 => k0_hw1.1 k0_h1
theorem k0_off5_inb : ∀ (arg6_r0 : BitVec 32) (arg7_r0 : BitVec 32) (arg8_r0 : BitVec 32) (k0_hw1 : k0_chk1 arg6_r0 arg7_r0 arg8_r0), ∀ (k0_h1 : k0_cond1 arg6_r0 arg7_r0 = 1#1), ∀ a, (k0_off5 arg8_r0) a + S1x256x4096.size a ≤ S10x256x4096.size a := fun arg6_r0 arg7_r0 arg8_r0 k0_hw1 k0_h1 => k0_hw1.2 k0_h1

def k0_off6 (arg7_r0 : BitVec 32) : Fin 2 → Nat :=
  let c256_i32_206_r0 : BitVec 32 := 256#32
  let c0_i32_199_r0 : BitVec 32 := 0#32
  let v206_r0 : BitVec 32 := Scalar.addi arg7_r0 c0_i32_199_r0
  let v216_r0 : BitVec 32 := Scalar.muli c256_i32_206_r0 v206_r0
  let c0_i32_209_r0 : BitVec 32 := 0#32
  ![v216_r0.toNat, 0]

def k0_chk2 (arg6_r0 : BitVec 32) (arg7_r0 : BitVec 32) : Prop :=
  (∀ (k0_h1 : k0_cond1 arg6_r0 arg7_r0 = 1#1), ∀ a, (k0_off6 arg7_r0) a + S256x4096.size a ≤ S32768x4096.size a)
theorem k0_off6_inb : ∀ (arg6_r0 : BitVec 32) (arg7_r0 : BitVec 32) (k0_hw2 : k0_chk2 arg6_r0 arg7_r0), ∀ (k0_h1 : k0_cond1 arg6_r0 arg7_r0 = 1#1), ∀ a, (k0_off6 arg7_r0) a + S256x4096.size a ≤ S32768x4096.size a := fun arg6_r0 arg7_r0 k0_hw2 k0_h1 => k0_hw2 k0_h1

def k0_off7 (arg8_r0 : BitVec 32) : Fin 1 → Nat :=
  let c10_i32_205_r0 : BitVec 32 := 10#32
  let v215_r0 : BitVec 32 := Scalar.remui arg8_r0 c10_i32_205_r0
  ![v215_r0.toNat]
def k0_cond2 (arg6_r0 : BitVec 32) (arg7_r0 : BitVec 32) : BitVec 1 :=
  let c0_i32_198_r0 : BitVec 32 := 0#32
  let v205_r0 : BitVec 32 := Scalar.addi arg6_r0 c0_i32_198_r0
  let c0_i32_199_r0 : BitVec 32 := 0#32
  let v206_r0 : BitVec 32 := Scalar.addi arg7_r0 c0_i32_199_r0
  let v207_r0 : BitVec 1 := Scalar.cmpi .ne v205_r0 v206_r0
  let v208_r0 : BitVec 32 := Scalar.extui v207_r0
  let c0_i32_200_r0 : BitVec 32 := 0#32
  let v209_r0 : BitVec 1 := Scalar.cmpi .ne v208_r0 c0_i32_200_r0
  v209_r0

def k0_off8 (arg8_r0 : BitVec 32) : Fin 3 → Nat :=
  let c10_i32_205_r0 : BitVec 32 := 10#32
  let v215_r0 : BitVec 32 := Scalar.remui arg8_r0 c10_i32_205_r0
  let c0_i32_207_r0 : BitVec 32 := 0#32
  let c0_i32_208_r0 : BitVec 32 := 0#32
  ![v215_r0.toNat, 0, 0]

def k0_chk3 (arg6_r0 : BitVec 32) (arg7_r0 : BitVec 32) (arg8_r0 : BitVec 32) : Prop :=
  (∀ (k0_h2 : k0_cond2 arg6_r0 arg7_r0 = 1#1), ∀ a, (k0_off7 arg8_r0) a + S1.size a ≤ S10.size a) ∧
  (∀ (k0_h2 : k0_cond2 arg6_r0 arg7_r0 = 1#1), ∀ a, (k0_off8 arg8_r0) a + S1x256x4096.size a ≤ S10x256x4096.size a)
theorem k0_off7_inb : ∀ (arg6_r0 : BitVec 32) (arg7_r0 : BitVec 32) (arg8_r0 : BitVec 32) (k0_hw3 : k0_chk3 arg6_r0 arg7_r0 arg8_r0), ∀ (k0_h2 : k0_cond2 arg6_r0 arg7_r0 = 1#1), ∀ a, (k0_off7 arg8_r0) a + S1.size a ≤ S10.size a := fun arg6_r0 arg7_r0 arg8_r0 k0_hw3 k0_h2 => k0_hw3.1 k0_h2
theorem k0_off8_inb : ∀ (arg6_r0 : BitVec 32) (arg7_r0 : BitVec 32) (arg8_r0 : BitVec 32) (k0_hw3 : k0_chk3 arg6_r0 arg7_r0 arg8_r0), ∀ (k0_h2 : k0_cond2 arg6_r0 arg7_r0 = 1#1), ∀ a, (k0_off8 arg8_r0) a + S1x256x4096.size a ≤ S10x256x4096.size a := fun arg6_r0 arg7_r0 arg8_r0 k0_hw3 k0_h2 => k0_hw3.2 k0_h2

def k0_off9 (arg7_r0 : BitVec 32) : Fin 2 → Nat :=
  let c256_i32_206_r0 : BitVec 32 := 256#32
  let c0_i32_199_r0 : BitVec 32 := 0#32
  let v206_r0 : BitVec 32 := Scalar.addi arg7_r0 c0_i32_199_r0
  let v216_r0 : BitVec 32 := Scalar.muli c256_i32_206_r0 v206_r0
  let c0_i32_209_r0 : BitVec 32 := 0#32
  ![v216_r0.toNat, 0]

def k0_chk4 (arg6_r0 : BitVec 32) (arg7_r0 : BitVec 32) : Prop :=
  (∀ (k0_h2 : k0_cond2 arg6_r0 arg7_r0 = 1#1), ∀ a, (k0_off9 arg7_r0) a + S256x4096.size a ≤ S32768x4096.size a)
theorem k0_off9_inb : ∀ (arg6_r0 : BitVec 32) (arg7_r0 : BitVec 32) (k0_hw4 : k0_chk4 arg6_r0 arg7_r0), ∀ (k0_h2 : k0_cond2 arg6_r0 arg7_r0 = 1#1), ∀ a, (k0_off9 arg7_r0) a + S256x4096.size a ≤ S32768x4096.size a := fun arg6_r0 arg7_r0 k0_hw4 k0_h2 => k0_hw4 k0_h2

def k0_off10 (arg8_r0 : BitVec 32) : Fin 1 → Nat :=
  let c10_i32_205_r0 : BitVec 32 := 10#32
  let v215_r0 : BitVec 32 := Scalar.remui arg8_r0 c10_i32_205_r0
  ![v215_r0.toNat]
def k0_cond3 (arg6_r0 : BitVec 32) (arg7_r0 : BitVec 32) : BitVec 1 :=
  let c0_i32_198_r0 : BitVec 32 := 0#32
  let v205_r0 : BitVec 32 := Scalar.addi arg6_r0 c0_i32_198_r0
  let c0_i32_199_r0 : BitVec 32 := 0#32
  let v206_r0 : BitVec 32 := Scalar.addi arg7_r0 c0_i32_199_r0
  let v207_r0 : BitVec 1 := Scalar.cmpi .ne v205_r0 v206_r0
  let v208_r0 : BitVec 32 := Scalar.extui v207_r0
  let c0_i32_200_r0 : BitVec 32 := 0#32
  let v209_r0 : BitVec 1 := Scalar.cmpi .ne v208_r0 c0_i32_200_r0
  v209_r0

def k0_off11 (arg8_r0 : BitVec 32) : Fin 3 → Nat :=
  let c10_i32_205_r0 : BitVec 32 := 10#32
  let v215_r0 : BitVec 32 := Scalar.remui arg8_r0 c10_i32_205_r0
  let c0_i32_207_r0 : BitVec 32 := 0#32
  let c0_i32_208_r0 : BitVec 32 := 0#32
  ![v215_r0.toNat, 0, 0]

def k0_chk5 (arg6_r0 : BitVec 32) (arg7_r0 : BitVec 32) (arg8_r0 : BitVec 32) : Prop :=
  (∀ (k0_h3 : k0_cond3 arg6_r0 arg7_r0 = 1#1), ∀ a, (k0_off10 arg8_r0) a + S1.size a ≤ S10.size a) ∧
  (∀ (k0_h3 : k0_cond3 arg6_r0 arg7_r0 = 1#1), ∀ a, (k0_off11 arg8_r0) a + S1x256x4096.size a ≤ S10x256x4096.size a)
theorem k0_off10_inb : ∀ (arg6_r0 : BitVec 32) (arg7_r0 : BitVec 32) (arg8_r0 : BitVec 32) (k0_hw5 : k0_chk5 arg6_r0 arg7_r0 arg8_r0), ∀ (k0_h3 : k0_cond3 arg6_r0 arg7_r0 = 1#1), ∀ a, (k0_off10 arg8_r0) a + S1.size a ≤ S10.size a := fun arg6_r0 arg7_r0 arg8_r0 k0_hw5 k0_h3 => k0_hw5.1 k0_h3
theorem k0_off11_inb : ∀ (arg6_r0 : BitVec 32) (arg7_r0 : BitVec 32) (arg8_r0 : BitVec 32) (k0_hw5 : k0_chk5 arg6_r0 arg7_r0 arg8_r0), ∀ (k0_h3 : k0_cond3 arg6_r0 arg7_r0 = 1#1), ∀ a, (k0_off11 arg8_r0) a + S1x256x4096.size a ≤ S10x256x4096.size a := fun arg6_r0 arg7_r0 arg8_r0 k0_hw5 k0_h3 => k0_hw5.2 k0_h3

def k0_off12 (arg7_r0 : BitVec 32) : Fin 2 → Nat :=
  let c256_i32_206_r0 : BitVec 32 := 256#32
  let c0_i32_199_r0 : BitVec 32 := 0#32
  let v206_r0 : BitVec 32 := Scalar.addi arg7_r0 c0_i32_199_r0
  let v216_r0 : BitVec 32 := Scalar.muli c256_i32_206_r0 v206_r0
  let c0_i32_209_r0 : BitVec 32 := 0#32
  ![v216_r0.toNat, 0]

def k0_chk6 (arg6_r0 : BitVec 32) (arg7_r0 : BitVec 32) : Prop :=
  (∀ (k0_h3 : k0_cond3 arg6_r0 arg7_r0 = 1#1), ∀ a, (k0_off12 arg7_r0) a + S256x4096.size a ≤ S32768x4096.size a)
theorem k0_off12_inb : ∀ (arg6_r0 : BitVec 32) (arg7_r0 : BitVec 32) (k0_hw6 : k0_chk6 arg6_r0 arg7_r0), ∀ (k0_h3 : k0_cond3 arg6_r0 arg7_r0 = 1#1), ∀ a, (k0_off12 arg7_r0) a + S256x4096.size a ≤ S32768x4096.size a := fun arg6_r0 arg7_r0 k0_hw6 k0_h3 => k0_hw6 k0_h3

def k0_off13 (arg8_r0 : BitVec 32) : Fin 1 → Nat :=
  let c10_i32_205_r0 : BitVec 32 := 10#32
  let v215_r0 : BitVec 32 := Scalar.remui arg8_r0 c10_i32_205_r0
  ![v215_r0.toNat]
def k0_cond4 (arg6_r0 : BitVec 32) (arg7_r0 : BitVec 32) : BitVec 1 :=
  let c0_i32_198_r0 : BitVec 32 := 0#32
  let v205_r0 : BitVec 32 := Scalar.addi arg6_r0 c0_i32_198_r0
  let c0_i32_199_r0 : BitVec 32 := 0#32
  let v206_r0 : BitVec 32 := Scalar.addi arg7_r0 c0_i32_199_r0
  let v207_r0 : BitVec 1 := Scalar.cmpi .ne v205_r0 v206_r0
  let v208_r0 : BitVec 32 := Scalar.extui v207_r0
  let c0_i32_200_r0 : BitVec 32 := 0#32
  let v209_r0 : BitVec 1 := Scalar.cmpi .ne v208_r0 c0_i32_200_r0
  v209_r0

def k0_off14 (arg8_r0 : BitVec 32) : Fin 3 → Nat :=
  let c10_i32_205_r0 : BitVec 32 := 10#32
  let v215_r0 : BitVec 32 := Scalar.remui arg8_r0 c10_i32_205_r0
  let c0_i32_207_r0 : BitVec 32 := 0#32
  let c0_i32_208_r0 : BitVec 32 := 0#32
  ![v215_r0.toNat, 0, 0]

def k0_chk7 (arg6_r0 : BitVec 32) (arg7_r0 : BitVec 32) (arg8_r0 : BitVec 32) : Prop :=
  (∀ (k0_h4 : k0_cond4 arg6_r0 arg7_r0 = 1#1), ∀ a, (k0_off13 arg8_r0) a + S1.size a ≤ S10.size a) ∧
  (∀ (k0_h4 : k0_cond4 arg6_r0 arg7_r0 = 1#1), ∀ a, (k0_off14 arg8_r0) a + S1x256x4096.size a ≤ S10x256x4096.size a)
theorem k0_off13_inb : ∀ (arg6_r0 : BitVec 32) (arg7_r0 : BitVec 32) (arg8_r0 : BitVec 32) (k0_hw7 : k0_chk7 arg6_r0 arg7_r0 arg8_r0), ∀ (k0_h4 : k0_cond4 arg6_r0 arg7_r0 = 1#1), ∀ a, (k0_off13 arg8_r0) a + S1.size a ≤ S10.size a := fun arg6_r0 arg7_r0 arg8_r0 k0_hw7 k0_h4 => k0_hw7.1 k0_h4
theorem k0_off14_inb : ∀ (arg6_r0 : BitVec 32) (arg7_r0 : BitVec 32) (arg8_r0 : BitVec 32) (k0_hw7 : k0_chk7 arg6_r0 arg7_r0 arg8_r0), ∀ (k0_h4 : k0_cond4 arg6_r0 arg7_r0 = 1#1), ∀ a, (k0_off14 arg8_r0) a + S1x256x4096.size a ≤ S10x256x4096.size a := fun arg6_r0 arg7_r0 arg8_r0 k0_hw7 k0_h4 => k0_hw7.2 k0_h4

def k0_off15 (arg7_r0 : BitVec 32) : Fin 2 → Nat :=
  let c256_i32_206_r0 : BitVec 32 := 256#32
  let c0_i32_199_r0 : BitVec 32 := 0#32
  let v206_r0 : BitVec 32 := Scalar.addi arg7_r0 c0_i32_199_r0
  let v216_r0 : BitVec 32 := Scalar.muli c256_i32_206_r0 v206_r0
  let c0_i32_209_r0 : BitVec 32 := 0#32
  ![v216_r0.toNat, 0]

def k0_chk8 (arg6_r0 : BitVec 32) (arg7_r0 : BitVec 32) : Prop :=
  (∀ (k0_h4 : k0_cond4 arg6_r0 arg7_r0 = 1#1), ∀ a, (k0_off15 arg7_r0) a + S256x4096.size a ≤ S32768x4096.size a)
theorem k0_off15_inb : ∀ (arg6_r0 : BitVec 32) (arg7_r0 : BitVec 32) (k0_hw8 : k0_chk8 arg6_r0 arg7_r0), ∀ (k0_h4 : k0_cond4 arg6_r0 arg7_r0 = 1#1), ∀ a, (k0_off15 arg7_r0) a + S256x4096.size a ≤ S32768x4096.size a := fun arg6_r0 arg7_r0 k0_hw8 k0_h4 => k0_hw8 k0_h4

def k0_off16 (arg8_r0 : BitVec 32) : Fin 1 → Nat :=
  let c10_i32_205_r0 : BitVec 32 := 10#32
  let v215_r0 : BitVec 32 := Scalar.remui arg8_r0 c10_i32_205_r0
  ![v215_r0.toNat]
def k0_cond5 (arg6_r0 : BitVec 32) (arg7_r0 : BitVec 32) : BitVec 1 :=
  let c0_i32_198_r0 : BitVec 32 := 0#32
  let v205_r0 : BitVec 32 := Scalar.addi arg6_r0 c0_i32_198_r0
  let c0_i32_199_r0 : BitVec 32 := 0#32
  let v206_r0 : BitVec 32 := Scalar.addi arg7_r0 c0_i32_199_r0
  let v207_r0 : BitVec 1 := Scalar.cmpi .ne v205_r0 v206_r0
  let v208_r0 : BitVec 32 := Scalar.extui v207_r0
  let c0_i32_200_r0 : BitVec 32 := 0#32
  let v209_r0 : BitVec 1 := Scalar.cmpi .ne v208_r0 c0_i32_200_r0
  v209_r0

def k0_off17 (arg8_r0 : BitVec 32) : Fin 3 → Nat :=
  let c10_i32_205_r0 : BitVec 32 := 10#32
  let v215_r0 : BitVec 32 := Scalar.remui arg8_r0 c10_i32_205_r0
  let c0_i32_207_r0 : BitVec 32 := 0#32
  let c0_i32_208_r0 : BitVec 32 := 0#32
  ![v215_r0.toNat, 0, 0]

def k0_chk9 (arg6_r0 : BitVec 32) (arg7_r0 : BitVec 32) (arg8_r0 : BitVec 32) : Prop :=
  (∀ (k0_h5 : k0_cond5 arg6_r0 arg7_r0 = 1#1), ∀ a, (k0_off16 arg8_r0) a + S1.size a ≤ S10.size a) ∧
  (∀ (k0_h5 : k0_cond5 arg6_r0 arg7_r0 = 1#1), ∀ a, (k0_off17 arg8_r0) a + S1x256x4096.size a ≤ S10x256x4096.size a)
theorem k0_off16_inb : ∀ (arg6_r0 : BitVec 32) (arg7_r0 : BitVec 32) (arg8_r0 : BitVec 32) (k0_hw9 : k0_chk9 arg6_r0 arg7_r0 arg8_r0), ∀ (k0_h5 : k0_cond5 arg6_r0 arg7_r0 = 1#1), ∀ a, (k0_off16 arg8_r0) a + S1.size a ≤ S10.size a := fun arg6_r0 arg7_r0 arg8_r0 k0_hw9 k0_h5 => k0_hw9.1 k0_h5
theorem k0_off17_inb : ∀ (arg6_r0 : BitVec 32) (arg7_r0 : BitVec 32) (arg8_r0 : BitVec 32) (k0_hw9 : k0_chk9 arg6_r0 arg7_r0 arg8_r0), ∀ (k0_h5 : k0_cond5 arg6_r0 arg7_r0 = 1#1), ∀ a, (k0_off17 arg8_r0) a + S1x256x4096.size a ≤ S10x256x4096.size a := fun arg6_r0 arg7_r0 arg8_r0 k0_hw9 k0_h5 => k0_hw9.2 k0_h5

def k0_off18 (arg7_r0 : BitVec 32) : Fin 2 → Nat :=
  let c256_i32_206_r0 : BitVec 32 := 256#32
  let c0_i32_199_r0 : BitVec 32 := 0#32
  let v206_r0 : BitVec 32 := Scalar.addi arg7_r0 c0_i32_199_r0
  let v216_r0 : BitVec 32 := Scalar.muli c256_i32_206_r0 v206_r0
  let c0_i32_209_r0 : BitVec 32 := 0#32
  ![v216_r0.toNat, 0]

def k0_chk10 (arg6_r0 : BitVec 32) (arg7_r0 : BitVec 32) : Prop :=
  (∀ (k0_h5 : k0_cond5 arg6_r0 arg7_r0 = 1#1), ∀ a, (k0_off18 arg7_r0) a + S256x4096.size a ≤ S32768x4096.size a)
theorem k0_off18_inb : ∀ (arg6_r0 : BitVec 32) (arg7_r0 : BitVec 32) (k0_hw10 : k0_chk10 arg6_r0 arg7_r0), ∀ (k0_h5 : k0_cond5 arg6_r0 arg7_r0 = 1#1), ∀ a, (k0_off18 arg7_r0) a + S256x4096.size a ≤ S32768x4096.size a := fun arg6_r0 arg7_r0 k0_hw10 k0_h5 => k0_hw10 k0_h5

def k0_off19 (arg8_r0 : BitVec 32) : Fin 1 → Nat :=
  let c10_i32_205_r0 : BitVec 32 := 10#32
  let v215_r0 : BitVec 32 := Scalar.remui arg8_r0 c10_i32_205_r0
  ![v215_r0.toNat]
def k0_cond6 (arg6_r0 : BitVec 32) (arg7_r0 : BitVec 32) : BitVec 1 :=
  let c0_i32_198_r0 : BitVec 32 := 0#32
  let v205_r0 : BitVec 32 := Scalar.addi arg6_r0 c0_i32_198_r0
  let c0_i32_199_r0 : BitVec 32 := 0#32
  let v206_r0 : BitVec 32 := Scalar.addi arg7_r0 c0_i32_199_r0
  let v207_r0 : BitVec 1 := Scalar.cmpi .ne v205_r0 v206_r0
  let v208_r0 : BitVec 32 := Scalar.extui v207_r0
  let c0_i32_200_r0 : BitVec 32 := 0#32
  let v209_r0 : BitVec 1 := Scalar.cmpi .ne v208_r0 c0_i32_200_r0
  v209_r0

def k0_off20 (arg8_r0 : BitVec 32) : Fin 3 → Nat :=
  let c10_i32_205_r0 : BitVec 32 := 10#32
  let v215_r0 : BitVec 32 := Scalar.remui arg8_r0 c10_i32_205_r0
  let c0_i32_207_r0 : BitVec 32 := 0#32
  let c0_i32_208_r0 : BitVec 32 := 0#32
  ![v215_r0.toNat, 0, 0]

def k0_chk11 (arg6_r0 : BitVec 32) (arg7_r0 : BitVec 32) (arg8_r0 : BitVec 32) : Prop :=
  (∀ (k0_h6 : k0_cond6 arg6_r0 arg7_r0 = 1#1), ∀ a, (k0_off19 arg8_r0) a + S1.size a ≤ S10.size a) ∧
  (∀ (k0_h6 : k0_cond6 arg6_r0 arg7_r0 = 1#1), ∀ a, (k0_off20 arg8_r0) a + S1x256x4096.size a ≤ S10x256x4096.size a)
theorem k0_off19_inb : ∀ (arg6_r0 : BitVec 32) (arg7_r0 : BitVec 32) (arg8_r0 : BitVec 32) (k0_hw11 : k0_chk11 arg6_r0 arg7_r0 arg8_r0), ∀ (k0_h6 : k0_cond6 arg6_r0 arg7_r0 = 1#1), ∀ a, (k0_off19 arg8_r0) a + S1.size a ≤ S10.size a := fun arg6_r0 arg7_r0 arg8_r0 k0_hw11 k0_h6 => k0_hw11.1 k0_h6
theorem k0_off20_inb : ∀ (arg6_r0 : BitVec 32) (arg7_r0 : BitVec 32) (arg8_r0 : BitVec 32) (k0_hw11 : k0_chk11 arg6_r0 arg7_r0 arg8_r0), ∀ (k0_h6 : k0_cond6 arg6_r0 arg7_r0 = 1#1), ∀ a, (k0_off20 arg8_r0) a + S1x256x4096.size a ≤ S10x256x4096.size a := fun arg6_r0 arg7_r0 arg8_r0 k0_hw11 k0_h6 => k0_hw11.2 k0_h6

def k0_off21 (arg7_r0 : BitVec 32) : Fin 2 → Nat :=
  let c256_i32_206_r0 : BitVec 32 := 256#32
  let c0_i32_199_r0 : BitVec 32 := 0#32
  let v206_r0 : BitVec 32 := Scalar.addi arg7_r0 c0_i32_199_r0
  let v216_r0 : BitVec 32 := Scalar.muli c256_i32_206_r0 v206_r0
  let c0_i32_209_r0 : BitVec 32 := 0#32
  ![v216_r0.toNat, 0]

def k0_chk12 (arg6_r0 : BitVec 32) (arg7_r0 : BitVec 32) : Prop :=
  (∀ (k0_h6 : k0_cond6 arg6_r0 arg7_r0 = 1#1), ∀ a, (k0_off21 arg7_r0) a + S256x4096.size a ≤ S32768x4096.size a)
theorem k0_off21_inb : ∀ (arg6_r0 : BitVec 32) (arg7_r0 : BitVec 32) (k0_hw12 : k0_chk12 arg6_r0 arg7_r0), ∀ (k0_h6 : k0_cond6 arg6_r0 arg7_r0 = 1#1), ∀ a, (k0_off21 arg7_r0) a + S256x4096.size a ≤ S32768x4096.size a := fun arg6_r0 arg7_r0 k0_hw12 k0_h6 => k0_hw12 k0_h6

def k0_off22 (arg8_r0 : BitVec 32) : Fin 1 → Nat :=
  let c10_i32_205_r0 : BitVec 32 := 10#32
  let v215_r0 : BitVec 32 := Scalar.remui arg8_r0 c10_i32_205_r0
  ![v215_r0.toNat]
def k0_cond7 (arg6_r0 : BitVec 32) (arg7_r0 : BitVec 32) : BitVec 1 :=
  let c0_i32_198_r0 : BitVec 32 := 0#32
  let v205_r0 : BitVec 32 := Scalar.addi arg6_r0 c0_i32_198_r0
  let c0_i32_199_r0 : BitVec 32 := 0#32
  let v206_r0 : BitVec 32 := Scalar.addi arg7_r0 c0_i32_199_r0
  let v207_r0 : BitVec 1 := Scalar.cmpi .ne v205_r0 v206_r0
  let v208_r0 : BitVec 32 := Scalar.extui v207_r0
  let c0_i32_200_r0 : BitVec 32 := 0#32
  let v209_r0 : BitVec 1 := Scalar.cmpi .ne v208_r0 c0_i32_200_r0
  v209_r0

def k0_off23 (arg8_r0 : BitVec 32) : Fin 3 → Nat :=
  let c10_i32_205_r0 : BitVec 32 := 10#32
  let v215_r0 : BitVec 32 := Scalar.remui arg8_r0 c10_i32_205_r0
  let c0_i32_207_r0 : BitVec 32 := 0#32
  let c0_i32_208_r0 : BitVec 32 := 0#32
  ![v215_r0.toNat, 0, 0]

def k0_chk13 (arg6_r0 : BitVec 32) (arg7_r0 : BitVec 32) (arg8_r0 : BitVec 32) : Prop :=
  (∀ (k0_h7 : k0_cond7 arg6_r0 arg7_r0 = 1#1), ∀ a, (k0_off22 arg8_r0) a + S1.size a ≤ S10.size a) ∧
  (∀ (k0_h7 : k0_cond7 arg6_r0 arg7_r0 = 1#1), ∀ a, (k0_off23 arg8_r0) a + S1x256x4096.size a ≤ S10x256x4096.size a)
theorem k0_off22_inb : ∀ (arg6_r0 : BitVec 32) (arg7_r0 : BitVec 32) (arg8_r0 : BitVec 32) (k0_hw13 : k0_chk13 arg6_r0 arg7_r0 arg8_r0), ∀ (k0_h7 : k0_cond7 arg6_r0 arg7_r0 = 1#1), ∀ a, (k0_off22 arg8_r0) a + S1.size a ≤ S10.size a := fun arg6_r0 arg7_r0 arg8_r0 k0_hw13 k0_h7 => k0_hw13.1 k0_h7
theorem k0_off23_inb : ∀ (arg6_r0 : BitVec 32) (arg7_r0 : BitVec 32) (arg8_r0 : BitVec 32) (k0_hw13 : k0_chk13 arg6_r0 arg7_r0 arg8_r0), ∀ (k0_h7 : k0_cond7 arg6_r0 arg7_r0 = 1#1), ∀ a, (k0_off23 arg8_r0) a + S1x256x4096.size a ≤ S10x256x4096.size a := fun arg6_r0 arg7_r0 arg8_r0 k0_hw13 k0_h7 => k0_hw13.2 k0_h7

def k0_off24 (arg7_r0 : BitVec 32) : Fin 2 → Nat :=
  let c256_i32_206_r0 : BitVec 32 := 256#32
  let c0_i32_199_r0 : BitVec 32 := 0#32
  let v206_r0 : BitVec 32 := Scalar.addi arg7_r0 c0_i32_199_r0
  let v216_r0 : BitVec 32 := Scalar.muli c256_i32_206_r0 v206_r0
  let c0_i32_209_r0 : BitVec 32 := 0#32
  ![v216_r0.toNat, 0]

def k0_chk14 (arg6_r0 : BitVec 32) (arg7_r0 : BitVec 32) : Prop :=
  (∀ (k0_h7 : k0_cond7 arg6_r0 arg7_r0 = 1#1), ∀ a, (k0_off24 arg7_r0) a + S256x4096.size a ≤ S32768x4096.size a)
theorem k0_off24_inb : ∀ (arg6_r0 : BitVec 32) (arg7_r0 : BitVec 32) (k0_hw14 : k0_chk14 arg6_r0 arg7_r0), ∀ (k0_h7 : k0_cond7 arg6_r0 arg7_r0 = 1#1), ∀ a, (k0_off24 arg7_r0) a + S256x4096.size a ≤ S32768x4096.size a := fun arg6_r0 arg7_r0 k0_hw14 k0_h7 => k0_hw14 k0_h7

def k0_off25 (arg8_r0 : BitVec 32) : Fin 1 → Nat :=
  let c10_i32_205_r0 : BitVec 32 := 10#32
  let v215_r0 : BitVec 32 := Scalar.remui arg8_r0 c10_i32_205_r0
  ![v215_r0.toNat]
def k0_cond8 (arg6_r0 : BitVec 32) (arg7_r0 : BitVec 32) : BitVec 1 :=
  let c0_i32_198_r0 : BitVec 32 := 0#32
  let v205_r0 : BitVec 32 := Scalar.addi arg6_r0 c0_i32_198_r0
  let c0_i32_199_r0 : BitVec 32 := 0#32
  let v206_r0 : BitVec 32 := Scalar.addi arg7_r0 c0_i32_199_r0
  let v207_r0 : BitVec 1 := Scalar.cmpi .ne v205_r0 v206_r0
  let v208_r0 : BitVec 32 := Scalar.extui v207_r0
  let c0_i32_200_r0 : BitVec 32 := 0#32
  let v209_r0 : BitVec 1 := Scalar.cmpi .ne v208_r0 c0_i32_200_r0
  v209_r0

def k0_off26 (arg8_r0 : BitVec 32) : Fin 3 → Nat :=
  let c10_i32_205_r0 : BitVec 32 := 10#32
  let v215_r0 : BitVec 32 := Scalar.remui arg8_r0 c10_i32_205_r0
  let c0_i32_207_r0 : BitVec 32 := 0#32
  let c0_i32_208_r0 : BitVec 32 := 0#32
  ![v215_r0.toNat, 0, 0]

def k0_chk15 (arg6_r0 : BitVec 32) (arg7_r0 : BitVec 32) (arg8_r0 : BitVec 32) : Prop :=
  (∀ (k0_h8 : k0_cond8 arg6_r0 arg7_r0 = 1#1), ∀ a, (k0_off25 arg8_r0) a + S1.size a ≤ S10.size a) ∧
  (∀ (k0_h8 : k0_cond8 arg6_r0 arg7_r0 = 1#1), ∀ a, (k0_off26 arg8_r0) a + S1x256x4096.size a ≤ S10x256x4096.size a)
theorem k0_off25_inb : ∀ (arg6_r0 : BitVec 32) (arg7_r0 : BitVec 32) (arg8_r0 : BitVec 32) (k0_hw15 : k0_chk15 arg6_r0 arg7_r0 arg8_r0), ∀ (k0_h8 : k0_cond8 arg6_r0 arg7_r0 = 1#1), ∀ a, (k0_off25 arg8_r0) a + S1.size a ≤ S10.size a := fun arg6_r0 arg7_r0 arg8_r0 k0_hw15 k0_h8 => k0_hw15.1 k0_h8
theorem k0_off26_inb : ∀ (arg6_r0 : BitVec 32) (arg7_r0 : BitVec 32) (arg8_r0 : BitVec 32) (k0_hw15 : k0_chk15 arg6_r0 arg7_r0 arg8_r0), ∀ (k0_h8 : k0_cond8 arg6_r0 arg7_r0 = 1#1), ∀ a, (k0_off26 arg8_r0) a + S1x256x4096.size a ≤ S10x256x4096.size a := fun arg6_r0 arg7_r0 arg8_r0 k0_hw15 k0_h8 => k0_hw15.2 k0_h8

def k0_off27 (arg7_r0 : BitVec 32) : Fin 2 → Nat :=
  let c256_i32_206_r0 : BitVec 32 := 256#32
  let c0_i32_199_r0 : BitVec 32 := 0#32
  let v206_r0 : BitVec 32 := Scalar.addi arg7_r0 c0_i32_199_r0
  let v216_r0 : BitVec 32 := Scalar.muli c256_i32_206_r0 v206_r0
  let c0_i32_209_r0 : BitVec 32 := 0#32
  ![v216_r0.toNat, 0]

def k0_chk16 (arg6_r0 : BitVec 32) (arg7_r0 : BitVec 32) : Prop :=
  (∀ (k0_h8 : k0_cond8 arg6_r0 arg7_r0 = 1#1), ∀ a, (k0_off27 arg7_r0) a + S256x4096.size a ≤ S32768x4096.size a)
theorem k0_off27_inb : ∀ (arg6_r0 : BitVec 32) (arg7_r0 : BitVec 32) (k0_hw16 : k0_chk16 arg6_r0 arg7_r0), ∀ (k0_h8 : k0_cond8 arg6_r0 arg7_r0 = 1#1), ∀ a, (k0_off27 arg7_r0) a + S256x4096.size a ≤ S32768x4096.size a := fun arg6_r0 arg7_r0 k0_hw16 k0_h8 => k0_hw16 k0_h8

@[reducible] def k0_t1_loop : Scf.Loop 32 :=
  let c0_i32_125_r0 : BitVec 32 := 0#32
  let c128_i32_126_r0 : BitVec 32 := 128#32
  let v129_r0 : BitVec 32 := Scalar.addi c0_i32_125_r0 c128_i32_126_r0
  let c1_i32_127_r0 : BitVec 32 := 1#32
  ⟨c0_i32_125_r0, v129_r0, c1_i32_127_r0⟩
def k0_off28 (arg17_r0 : BitVec 32) : Fin 1 → Nat :=
  let c10_i32_334_r0 : BitVec 32 := 10#32
  let v450_r0 : BitVec 32 := Scalar.remui arg17_r0 c10_i32_334_r0
  ![v450_r0.toNat]
def k0_cond9 (arg15_r0 : BitVec 32) (arg16_r0 : BitVec 32) : BitVec 1 :=
  let c0_i32_327_r0 : BitVec 32 := 0#32
  let v440_r0 : BitVec 32 := Scalar.addi arg15_r0 c0_i32_327_r0
  let c0_i32_328_r0 : BitVec 32 := 0#32
  let v441_r0 : BitVec 32 := Scalar.addi arg16_r0 c0_i32_328_r0
  let v442_r0 : BitVec 1 := Scalar.cmpi .ne v440_r0 v441_r0
  let v443_r0 : BitVec 32 := Scalar.extui v442_r0
  let c0_i32_329_r0 : BitVec 32 := 0#32
  let v444_r0 : BitVec 1 := Scalar.cmpi .ne v443_r0 c0_i32_329_r0
  v444_r0

def k0_off29 (arg17_r0 : BitVec 32) : Fin 3 → Nat :=
  let c10_i32_334_r0 : BitVec 32 := 10#32
  let v450_r0 : BitVec 32 := Scalar.remui arg17_r0 c10_i32_334_r0
  let c0_i32_336_r0 : BitVec 32 := 0#32
  let c0_i32_337_r0 : BitVec 32 := 0#32
  ![v450_r0.toNat, 0, 0]

def k0_chk17 (arg15_r0 : BitVec 32) (arg16_r0 : BitVec 32) (arg17_r0 : BitVec 32) : Prop :=
  (∀ (k0_h9 : k0_cond9 arg15_r0 arg16_r0 = 1#1), ∀ a, (k0_off28 arg17_r0) a + S1.size a ≤ S10.size a) ∧
  (∀ (k0_h9 : k0_cond9 arg15_r0 arg16_r0 = 1#1), ∀ a, (k0_off29 arg17_r0) a + S1x256x4096.size a ≤ S10x256x4096.size a)
theorem k0_off28_inb : ∀ (arg15_r0 : BitVec 32) (arg16_r0 : BitVec 32) (arg17_r0 : BitVec 32) (k0_hw17 : k0_chk17 arg15_r0 arg16_r0 arg17_r0), ∀ (k0_h9 : k0_cond9 arg15_r0 arg16_r0 = 1#1), ∀ a, (k0_off28 arg17_r0) a + S1.size a ≤ S10.size a := fun arg15_r0 arg16_r0 arg17_r0 k0_hw17 k0_h9 => k0_hw17.1 k0_h9
theorem k0_off29_inb : ∀ (arg15_r0 : BitVec 32) (arg16_r0 : BitVec 32) (arg17_r0 : BitVec 32) (k0_hw17 : k0_chk17 arg15_r0 arg16_r0 arg17_r0), ∀ (k0_h9 : k0_cond9 arg15_r0 arg16_r0 = 1#1), ∀ a, (k0_off29 arg17_r0) a + S1x256x4096.size a ≤ S10x256x4096.size a := fun arg15_r0 arg16_r0 arg17_r0 k0_hw17 k0_h9 => k0_hw17.2 k0_h9

def k0_off30 (arg16_r0 : BitVec 32) : Fin 2 → Nat :=
  let c256_i32_335_r0 : BitVec 32 := 256#32
  let c0_i32_328_r0 : BitVec 32 := 0#32
  let v441_r0 : BitVec 32 := Scalar.addi arg16_r0 c0_i32_328_r0
  let v451_r0 : BitVec 32 := Scalar.muli c256_i32_335_r0 v441_r0
  let c0_i32_338_r0 : BitVec 32 := 0#32
  ![v451_r0.toNat, 0]

def k0_chk18 (arg15_r0 : BitVec 32) (arg16_r0 : BitVec 32) : Prop :=
  (∀ (k0_h9 : k0_cond9 arg15_r0 arg16_r0 = 1#1), ∀ a, (k0_off30 arg16_r0) a + S256x4096.size a ≤ S32768x4096.size a)
theorem k0_off30_inb : ∀ (arg15_r0 : BitVec 32) (arg16_r0 : BitVec 32) (k0_hw18 : k0_chk18 arg15_r0 arg16_r0), ∀ (k0_h9 : k0_cond9 arg15_r0 arg16_r0 = 1#1), ∀ a, (k0_off30 arg16_r0) a + S256x4096.size a ≤ S32768x4096.size a := fun arg15_r0 arg16_r0 k0_hw18 k0_h9 => k0_hw18 k0_h9

def k0_off31 (arg8_r0 : BitVec 32) : Fin 1 → Nat :=
  let c10_i32_328_r0 : BitVec 32 := 10#32
  let v441_r0 : BitVec 32 := Scalar.remui arg8_r0 c10_i32_328_r0
  ![v441_r0.toNat]
def k0_cond10 (k0_t1 : Fin k0_t1_loop.trips) (arg14_r0 : BitVec 32) : BitVec 1 :=
  let c0_i32_200_r0 : BitVec 32 := 0#32
  let v207_r0 : BitVec 32 := Scalar.addi arg14_r0 c0_i32_200_r0
  let true_202_r0 : BitVec 1 := 1#1
  let c1_i32_201_r0 : BitVec 32 := 1#32
  let v208_r0 : BitVec 32 := Scalar.subi arg14_r0 c1_i32_201_r0
  let v209_r0 : BitVec 32 := Scalar.select true_202_r0 v208_r0 arg14_r0
  let c_m1_i32_203_r0 : BitVec 32 := 4294967295#32
  let v210_r0 : BitVec 1 := Scalar.cmpi .eq v209_r0 c_m1_i32_203_r0
  let c127_i32_204_r0 : BitVec 32 := 127#32
  let v211_r0 : BitVec 32 := Scalar.select v210_r0 c127_i32_204_r0 v209_r0
  let c0_i32_205_r0 : BitVec 32 := 0#32
  let v212_r0 : BitVec 32 := Scalar.addi v211_r0 c0_i32_205_r0
  let v280_r0 : BitVec 1 := Scalar.cmpi .ne v207_r0 v212_r0
  let c0_i32_125_r0 : BitVec 32 := 0#32
  let c1_i32_127_r0 : BitVec 32 := 1#32
  let arg6_r0 : BitVec 32 := Scf.iv c0_i32_125_r0 c1_i32_127_r0 k0_t1
  let c0_i32_198_r0 : BitVec 32 := 0#32
  let v205_r0 : BitVec 1 := Scalar.cmpi .eq arg6_r0 c0_i32_198_r0
  let v281_r0 : BitVec 1 := Scalar.ori v280_r0 v205_r0
  let c0_i32_266_r0 : BitVec 32 := 0#32
  let v282_r0 : BitVec 1 := Scalar.cmpi .sge arg6_r0 c0_i32_266_r0
  let v283_r0 : BitVec 1 := Scalar.andi v281_r0 v282_r0
  let v284_r0 : BitVec 32 := Scalar.extui v283_r0
  let c0_i32_267_r0 : BitVec 32 := 0#32
  let v285_r0 : BitVec 1 := Scalar.cmpi .ne v284_r0 c0_i32_267_r0
  v285_r0

def k0_off32 (arg8_r0 : BitVec 32) : Fin 3 → Nat :=
  let c10_i32_328_r0 : BitVec 32 := 10#32
  let v441_r0 : BitVec 32 := Scalar.remui arg8_r0 c10_i32_328_r0
  let c0_i32_329_r0 : BitVec 32 := 0#32
  let c0_i32_330_r0 : BitVec 32 := 0#32
  ![v441_r0.toNat, 0, 0]
def k0_off33 (arg14_r0 : BitVec 32) : Fin 2 → Nat :=
  let c256_i32_327_r0 : BitVec 32 := 256#32
  let c0_i32_200_r0 : BitVec 32 := 0#32
  let v207_r0 : BitVec 32 := Scalar.addi arg14_r0 c0_i32_200_r0
  let v440_r0 : BitVec 32 := Scalar.muli c256_i32_327_r0 v207_r0
  let c0_i32_331_r0 : BitVec 32 := 0#32
  ![v440_r0.toNat, 0]
def k0_off34 (arg8_r0 : BitVec 32) : Fin 3 → Nat :=
  let c10_i32_272_r0 : BitVec 32 := 10#32
  let v298_r0 : BitVec 32 := Scalar.remui arg8_r0 c10_i32_272_r0
  let v302_r0 : Index := Scalar.indexCast v298_r0
  let c0_276_r0 : Index := 0#32
  let c0_277_r0 : Index := 0#32
  ![v302_r0.toNat, 0, 0]

def k0_chk20 (arg8_r0 : BitVec 32) : Prop :=
  (∀ a, (k0_off34 arg8_r0) a + S1x256x4096.size a ≤ S10x256x4096.size a)
theorem k0_off34_inb : ∀ (arg8_r0 : BitVec 32) (k0_hw20 : k0_chk20 arg8_r0), ∀ a, (k0_off34 arg8_r0) a + S1x256x4096.size a ≤ S10x256x4096.size a := fun arg8_r0 k0_hw20 => k0_hw20

def k0_off35 (arg10_r0 : BitVec 32) : Fin 3 → Nat :=
  let c2_i32_273_r0 : BitVec 32 := 2#32
  let v299_r0 : BitVec 32 := Scalar.remui arg10_r0 c2_i32_273_r0
  let v382_r0 : Index := Scalar.indexCast v299_r0
  let c0_299_r0 : Index := 0#32
  let c0_300_r0 : Index := 0#32
  ![v382_r0.toNat, 0, 0]

def k0_chk21 (arg10_r0 : BitVec 32) : Prop :=
  (∀ a, (k0_off35 arg10_r0) a + S1x256x8.size a ≤ S2x256x8.size a)
theorem k0_off35_inb : ∀ (arg10_r0 : BitVec 32) (k0_hw21 : k0_chk21 arg10_r0), ∀ a, (k0_off35 arg10_r0) a + S1x256x8.size a ≤ S2x256x8.size a := fun arg10_r0 k0_hw21 => k0_hw21

def k0_off36 (arg12_r0 : BitVec 32) : Fin 3 → Nat :=
  let c2_i32_274_r0 : BitVec 32 := 2#32
  let v300_r0 : BitVec 32 := Scalar.remui arg12_r0 c2_i32_274_r0
  let v387_r0 : Index := Scalar.indexCast v300_r0
  let c0_301_r0 : Index := 0#32
  let c0_302_r0 : Index := 0#32
  ![v387_r0.toNat, 0, 0]

def k0_chk22 (arg12_r0 : BitVec 32) : Prop :=
  (∀ a, (k0_off36 arg12_r0) a + S1x256x8.size a ≤ S2x256x8.size a)
theorem k0_off36_inb : ∀ (arg12_r0 : BitVec 32) (k0_hw22 : k0_chk22 arg12_r0), ∀ a, (k0_off36 arg12_r0) a + S1x256x8.size a ≤ S2x256x8.size a := fun arg12_r0 k0_hw22 => k0_hw22

def k0_off37 (arg10_r0 : BitVec 32) : Fin 1 → Nat :=
  let c2_i32_327_r0 : BitVec 32 := 2#32
  let v440_r0 : BitVec 32 := Scalar.remui arg10_r0 c2_i32_327_r0
  ![v440_r0.toNat]
def k0_cond14 (k0_t1 : Fin k0_t1_loop.trips) (arg14_r0 : BitVec 32) : BitVec 1 :=
  let c0_i32_200_r0 : BitVec 32 := 0#32
  let v207_r0 : BitVec 32 := Scalar.addi arg14_r0 c0_i32_200_r0
  let true_207_r0 : BitVec 1 := 1#1
  let c1_i32_206_r0 : BitVec 32 := 1#32
  let v213_r0 : BitVec 32 := Scalar.addi arg14_r0 c1_i32_206_r0
  let v214_r0 : BitVec 32 := Scalar.select true_207_r0 v213_r0 arg14_r0
  let c128_i32_208_r0 : BitVec 32 := 128#32
  let v215_r0 : BitVec 1 := Scalar.cmpi .eq v214_r0 c128_i32_208_r0
  let c0_i32_209_r0 : BitVec 32 := 0#32
  let v216_r0 : BitVec 32 := Scalar.select v215_r0 c0_i32_209_r0 v214_r0
  let c0_i32_210_r0 : BitVec 32 := 0#32
  let v217_r0 : BitVec 32 := Scalar.addi v216_r0 c0_i32_210_r0
  let v396_r0 : BitVec 1 := Scalar.cmpi .ne v207_r0 v217_r0
  let c0_i32_125_r0 : BitVec 32 := 0#32
  let c1_i32_127_r0 : BitVec 32 := 1#32
  let arg6_r0 : BitVec 32 := Scf.iv c0_i32_125_r0 c1_i32_127_r0 k0_t1
  let c127_i32_199_r0 : BitVec 32 := 127#32
  let v206_r0 : BitVec 1 := Scalar.cmpi .eq arg6_r0 c127_i32_199_r0
  let v397_r0 : BitVec 1 := Scalar.ori v396_r0 v206_r0
  let v398_r0 : BitVec 32 := Scalar.extui v397_r0
  let c0_i32_305_r0 : BitVec 32 := 0#32
  let v399_r0 : BitVec 1 := Scalar.cmpi .ne v398_r0 c0_i32_305_r0
  v399_r0

def k0_off38 (arg14_r0 : BitVec 32) : Fin 2 → Nat :=
  let c256_i32_328_r0 : BitVec 32 := 256#32
  let c0_i32_200_r0 : BitVec 32 := 0#32
  let v207_r0 : BitVec 32 := Scalar.addi arg14_r0 c0_i32_200_r0
  let v441_r0 : BitVec 32 := Scalar.muli c256_i32_328_r0 v207_r0
  let c0_i32_329_r0 : BitVec 32 := 0#32
  ![v441_r0.toNat, 0]
def k0_off39 (arg10_r0 : BitVec 32) : Fin 3 → Nat :=
  let c2_i32_327_r0 : BitVec 32 := 2#32
  let v440_r0 : BitVec 32 := Scalar.remui arg10_r0 c2_i32_327_r0
  let c0_i32_330_r0 : BitVec 32 := 0#32
  let c0_i32_331_r0 : BitVec 32 := 0#32
  ![v440_r0.toNat, 0, 0]
def k0_off40 (arg12_r0 : BitVec 32) : Fin 1 → Nat :=
  let c2_i32_327_r0 : BitVec 32 := 2#32
  let v440_r0 : BitVec 32 := Scalar.remui arg12_r0 c2_i32_327_r0
  ![v440_r0.toNat]
def k0_cond15 (k0_t1 : Fin k0_t1_loop.trips) (arg14_r0 : BitVec 32) : BitVec 1 :=
  let c0_i32_200_r0 : BitVec 32 := 0#32
  let v207_r0 : BitVec 32 := Scalar.addi arg14_r0 c0_i32_200_r0
  let true_207_r0 : BitVec 1 := 1#1
  let c1_i32_206_r0 : BitVec 32 := 1#32
  let v213_r0 : BitVec 32 := Scalar.addi arg14_r0 c1_i32_206_r0
  let v214_r0 : BitVec 32 := Scalar.select true_207_r0 v213_r0 arg14_r0
  let c128_i32_208_r0 : BitVec 32 := 128#32
  let v215_r0 : BitVec 1 := Scalar.cmpi .eq v214_r0 c128_i32_208_r0
  let c0_i32_209_r0 : BitVec 32 := 0#32
  let v216_r0 : BitVec 32 := Scalar.select v215_r0 c0_i32_209_r0 v214_r0
  let c0_i32_210_r0 : BitVec 32 := 0#32
  let v217_r0 : BitVec 32 := Scalar.addi v216_r0 c0_i32_210_r0
  let v403_r0 : BitVec 1 := Scalar.cmpi .ne v207_r0 v217_r0
  let c0_i32_125_r0 : BitVec 32 := 0#32
  let c1_i32_127_r0 : BitVec 32 := 1#32
  let arg6_r0 : BitVec 32 := Scf.iv c0_i32_125_r0 c1_i32_127_r0 k0_t1
  let c127_i32_199_r0 : BitVec 32 := 127#32
  let v206_r0 : BitVec 1 := Scalar.cmpi .eq arg6_r0 c127_i32_199_r0
  let v404_r0 : BitVec 1 := Scalar.ori v403_r0 v206_r0
  let v405_r0 : BitVec 32 := Scalar.extui v404_r0
  let c0_i32_308_r0 : BitVec 32 := 0#32
  let v406_r0 : BitVec 1 := Scalar.cmpi .ne v405_r0 c0_i32_308_r0
  v406_r0

def k0_off41 (arg14_r0 : BitVec 32) : Fin 2 → Nat :=
  let c256_i32_328_r0 : BitVec 32 := 256#32
  let c0_i32_200_r0 : BitVec 32 := 0#32
  let v207_r0 : BitVec 32 := Scalar.addi arg14_r0 c0_i32_200_r0
  let v441_r0 : BitVec 32 := Scalar.muli c256_i32_328_r0 v207_r0
  let c0_i32_329_r0 : BitVec 32 := 0#32
  ![v441_r0.toNat, 0]
def k0_off42 (arg12_r0 : BitVec 32) : Fin 3 → Nat :=
  let c2_i32_327_r0 : BitVec 32 := 2#32
  let v440_r0 : BitVec 32 := Scalar.remui arg12_r0 c2_i32_327_r0
  let c0_i32_330_r0 : BitVec 32 := 0#32
  let c0_i32_331_r0 : BitVec 32 := 0#32
  ![v440_r0.toNat, 0, 0]
def k0_off43 (arg11_r0 : BitVec 32) : Fin 1 → Nat :=
  let c2_i32_327_r0 : BitVec 32 := 2#32
  let v440_r0 : BitVec 32 := Scalar.remui arg11_r0 c2_i32_327_r0
  ![v440_r0.toNat]
def k0_cond17 (k0_t1 : Fin k0_t1_loop.trips) (arg14_r0 : BitVec 32) : BitVec 1 :=
  let c0_i32_200_r0 : BitVec 32 := 0#32
  let v207_r0 : BitVec 32 := Scalar.addi arg14_r0 c0_i32_200_r0
  let true_202_r0 : BitVec 1 := 1#1
  let c1_i32_201_r0 : BitVec 32 := 1#32
  let v208_r0 : BitVec 32 := Scalar.subi arg14_r0 c1_i32_201_r0
  let v209_r0 : BitVec 32 := Scalar.select true_202_r0 v208_r0 arg14_r0
  let c_m1_i32_203_r0 : BitVec 32 := 4294967295#32
  let v210_r0 : BitVec 1 := Scalar.cmpi .eq v209_r0 c_m1_i32_203_r0
  let c127_i32_204_r0 : BitVec 32 := 127#32
  let v211_r0 : BitVec 32 := Scalar.select v210_r0 c127_i32_204_r0 v209_r0
  let c0_i32_205_r0 : BitVec 32 := 0#32
  let v212_r0 : BitVec 32 := Scalar.addi v211_r0 c0_i32_205_r0
  let v416_r0 : BitVec 1 := Scalar.cmpi .ne v207_r0 v212_r0
  let c0_i32_125_r0 : BitVec 32 := 0#32
  let c1_i32_127_r0 : BitVec 32 := 1#32
  let arg6_r0 : BitVec 32 := Scf.iv c0_i32_125_r0 c1_i32_127_r0 k0_t1
  let c0_i32_198_r0 : BitVec 32 := 0#32
  let v205_r0 : BitVec 1 := Scalar.cmpi .eq arg6_r0 c0_i32_198_r0
  let true_314_r0 : BitVec 1 := 1#1
  let v417_r0 : BitVec 1 := Scalar.xori v205_r0 true_314_r0
  let v418_r0 : BitVec 1 := Scalar.andi v416_r0 v417_r0
  let v419_r0 : BitVec 32 := Scalar.extui v418_r0
  let c0_i32_315_r0 : BitVec 32 := 0#32
  let v420_r0 : BitVec 1 := Scalar.cmpi .ne v419_r0 c0_i32_315_r0
  v420_r0

def k0_off44 (arg14_r0 : BitVec 32) : Fin 2 → Nat :=
  let c256_i32_328_r0 : BitVec 32 := 256#32
  let true_202_r0 : BitVec 1 := 1#1
  let c1_i32_201_r0 : BitVec 32 := 1#32
  let v208_r0 : BitVec 32 := Scalar.subi arg14_r0 c1_i32_201_r0
  let v209_r0 : BitVec 32 := Scalar.select true_202_r0 v208_r0 arg14_r0
  let c_m1_i32_203_r0 : BitVec 32 := 4294967295#32
  let v210_r0 : BitVec 1 := Scalar.cmpi .eq v209_r0 c_m1_i32_203_r0
  let c127_i32_204_r0 : BitVec 32 := 127#32
  let v211_r0 : BitVec 32 := Scalar.select v210_r0 c127_i32_204_r0 v209_r0
  let c0_i32_205_r0 : BitVec 32 := 0#32
  let v212_r0 : BitVec 32 := Scalar.addi v211_r0 c0_i32_205_r0
  let v441_r0 : BitVec 32 := Scalar.muli c256_i32_328_r0 v212_r0
  let c0_i32_329_r0 : BitVec 32 := 0#32
  ![v441_r0.toNat, 0]
def k0_off45 (arg11_r0 : BitVec 32) : Fin 3 → Nat :=
  let c2_i32_327_r0 : BitVec 32 := 2#32
  let v440_r0 : BitVec 32 := Scalar.remui arg11_r0 c2_i32_327_r0
  let c0_i32_330_r0 : BitVec 32 := 0#32
  let c0_i32_331_r0 : BitVec 32 := 0#32
  ![v440_r0.toNat, 0, 0]
def k0_off46 (arg13_r0 : BitVec 32) : Fin 1 → Nat :=
  let c2_i32_327_r0 : BitVec 32 := 2#32
  let v440_r0 : BitVec 32 := Scalar.remui arg13_r0 c2_i32_327_r0
  ![v440_r0.toNat]
def k0_cond18 (k0_t1 : Fin k0_t1_loop.trips) (arg14_r0 : BitVec 32) : BitVec 1 :=
  let c0_i32_200_r0 : BitVec 32 := 0#32
  let v207_r0 : BitVec 32 := Scalar.addi arg14_r0 c0_i32_200_r0
  let true_202_r0 : BitVec 1 := 1#1
  let c1_i32_201_r0 : BitVec 32 := 1#32
  let v208_r0 : BitVec 32 := Scalar.subi arg14_r0 c1_i32_201_r0
  let v209_r0 : BitVec 32 := Scalar.select true_202_r0 v208_r0 arg14_r0
  let c_m1_i32_203_r0 : BitVec 32 := 4294967295#32
  let v210_r0 : BitVec 1 := Scalar.cmpi .eq v209_r0 c_m1_i32_203_r0
  let c127_i32_204_r0 : BitVec 32 := 127#32
  let v211_r0 : BitVec 32 := Scalar.select v210_r0 c127_i32_204_r0 v209_r0
  let c0_i32_205_r0 : BitVec 32 := 0#32
  let v212_r0 : BitVec 32 := Scalar.addi v211_r0 c0_i32_205_r0
  let v424_r0 : BitVec 1 := Scalar.cmpi .ne v207_r0 v212_r0
  let c0_i32_125_r0 : BitVec 32 := 0#32
  let c1_i32_127_r0 : BitVec 32 := 1#32
  let arg6_r0 : BitVec 32 := Scf.iv c0_i32_125_r0 c1_i32_127_r0 k0_t1
  let c0_i32_198_r0 : BitVec 32 := 0#32
  let v205_r0 : BitVec 1 := Scalar.cmpi .eq arg6_r0 c0_i32_198_r0
  let true_318_r0 : BitVec 1 := 1#1
  let v425_r0 : BitVec 1 := Scalar.xori v205_r0 true_318_r0
  let v426_r0 : BitVec 1 := Scalar.andi v424_r0 v425_r0
  let v427_r0 : BitVec 32 := Scalar.extui v426_r0
  let c0_i32_319_r0 : BitVec 32 := 0#32
  let v428_r0 : BitVec 1 := Scalar.cmpi .ne v427_r0 c0_i32_319_r0
  v428_r0

def k0_off47 (arg14_r0 : BitVec 32) : Fin 2 → Nat :=
  let c256_i32_328_r0 : BitVec 32 := 256#32
  let true_202_r0 : BitVec 1 := 1#1
  let c1_i32_201_r0 : BitVec 32 := 1#32
  let v208_r0 : BitVec 32 := Scalar.subi arg14_r0 c1_i32_201_r0
  let v209_r0 : BitVec 32 := Scalar.select true_202_r0 v208_r0 arg14_r0
  let c_m1_i32_203_r0 : BitVec 32 := 4294967295#32
  let v210_r0 : BitVec 1 := Scalar.cmpi .eq v209_r0 c_m1_i32_203_r0
  let c127_i32_204_r0 : BitVec 32 := 127#32
  let v211_r0 : BitVec 32 := Scalar.select v210_r0 c127_i32_204_r0 v209_r0
  let c0_i32_205_r0 : BitVec 32 := 0#32
  let v212_r0 : BitVec 32 := Scalar.addi v211_r0 c0_i32_205_r0
  let v441_r0 : BitVec 32 := Scalar.muli c256_i32_328_r0 v212_r0
  let c0_i32_329_r0 : BitVec 32 := 0#32
  ![v441_r0.toNat, 0]
def k0_off48 (arg13_r0 : BitVec 32) : Fin 3 → Nat :=
  let c2_i32_327_r0 : BitVec 32 := 2#32
  let v440_r0 : BitVec 32 := Scalar.remui arg13_r0 c2_i32_327_r0
  let c0_i32_330_r0 : BitVec 32 := 0#32
  let c0_i32_331_r0 : BitVec 32 := 0#32
  ![v440_r0.toNat, 0, 0]

def k0_chk19 (k0_t1 : Fin k0_t1_loop.trips) (arg8_r0 : BitVec 32) (arg10_r0 : BitVec 32) (arg11_r0 : BitVec 32) (arg12_r0 : BitVec 32) (arg13_r0 : BitVec 32) (arg14_r0 : BitVec 32) : Prop :=
  (∀ (k0_h10 : k0_cond10 k0_t1 arg14_r0 = 1#1), ∀ a, (k0_off31 arg8_r0) a + S1.size a ≤ S10.size a) ∧
  (∀ (k0_h10 : k0_cond10 k0_t1 arg14_r0 = 1#1), ∀ a, (k0_off32 arg8_r0) a + S1x256x4096.size a ≤ S10x256x4096.size a) ∧
  (∀ (k0_h10 : k0_cond10 k0_t1 arg14_r0 = 1#1), ∀ a, (k0_off33 arg14_r0) a + S256x4096.size a ≤ S32768x4096.size a) ∧
  (∀ (k0_h14 : k0_cond14 k0_t1 arg14_r0 = 1#1), ∀ a, (k0_off37 arg10_r0) a + S1.size a ≤ S2.size a) ∧
  (∀ (k0_h14 : k0_cond14 k0_t1 arg14_r0 = 1#1), ∀ a, (k0_off38 arg14_r0) a + S256x8.size a ≤ S32768x8.size a) ∧
  (∀ (k0_h14 : k0_cond14 k0_t1 arg14_r0 = 1#1), ∀ a, (k0_off39 arg10_r0) a + S1x256x8.size a ≤ S2x256x8.size a) ∧
  (∀ (k0_h15 : k0_cond15 k0_t1 arg14_r0 = 1#1), ∀ a, (k0_off40 arg12_r0) a + S1.size a ≤ S2.size a) ∧
  (∀ (k0_h15 : k0_cond15 k0_t1 arg14_r0 = 1#1), ∀ a, (k0_off41 arg14_r0) a + S256x8.size a ≤ S32768x8.size a) ∧
  (∀ (k0_h15 : k0_cond15 k0_t1 arg14_r0 = 1#1), ∀ a, (k0_off42 arg12_r0) a + S1x256x8.size a ≤ S2x256x8.size a) ∧
  (∀ (k0_h17 : k0_cond17 k0_t1 arg14_r0 = 1#1), ∀ a, (k0_off43 arg11_r0) a + S1.size a ≤ S2.size a) ∧
  (∀ (k0_h17 : k0_cond17 k0_t1 arg14_r0 = 1#1), ∀ a, (k0_off44 arg14_r0) a + S256x8.size a ≤ S32768x8.size a) ∧
  (∀ (k0_h17 : k0_cond17 k0_t1 arg14_r0 = 1#1), ∀ a, (k0_off45 arg11_r0) a + S1x256x8.size a ≤ S2x256x8.size a) ∧
  (∀ (k0_h18 : k0_cond18 k0_t1 arg14_r0 = 1#1), ∀ a, (k0_off46 arg13_r0) a + S1.size a ≤ S2.size a) ∧
  (∀ (k0_h18 : k0_cond18 k0_t1 arg14_r0 = 1#1), ∀ a, (k0_off47 arg14_r0) a + S256x8.size a ≤ S32768x8.size a) ∧
  (∀ (k0_h18 : k0_cond18 k0_t1 arg14_r0 = 1#1), ∀ a, (k0_off48 arg13_r0) a + S1x256x8.size a ≤ S2x256x8.size a)
theorem k0_off31_inb : ∀ (k0_t1 : Fin k0_t1_loop.trips) (arg8_r0 : BitVec 32) (arg10_r0 : BitVec 32) (arg11_r0 : BitVec 32) (arg12_r0 : BitVec 32) (arg13_r0 : BitVec 32) (arg14_r0 : BitVec 32) (k0_hw19 : k0_chk19 k0_t1 arg8_r0 arg10_r0 arg11_r0 arg12_r0 arg13_r0 arg14_r0), ∀ (k0_h10 : k0_cond10 k0_t1 arg14_r0 = 1#1), ∀ a, (k0_off31 arg8_r0) a + S1.size a ≤ S10.size a := fun k0_t1 arg8_r0 arg10_r0 arg11_r0 arg12_r0 arg13_r0 arg14_r0 k0_hw19 k0_h10 => k0_hw19.1 k0_h10
theorem k0_off32_inb : ∀ (k0_t1 : Fin k0_t1_loop.trips) (arg8_r0 : BitVec 32) (arg10_r0 : BitVec 32) (arg11_r0 : BitVec 32) (arg12_r0 : BitVec 32) (arg13_r0 : BitVec 32) (arg14_r0 : BitVec 32) (k0_hw19 : k0_chk19 k0_t1 arg8_r0 arg10_r0 arg11_r0 arg12_r0 arg13_r0 arg14_r0), ∀ (k0_h10 : k0_cond10 k0_t1 arg14_r0 = 1#1), ∀ a, (k0_off32 arg8_r0) a + S1x256x4096.size a ≤ S10x256x4096.size a := fun k0_t1 arg8_r0 arg10_r0 arg11_r0 arg12_r0 arg13_r0 arg14_r0 k0_hw19 k0_h10 => k0_hw19.2.1 k0_h10
theorem k0_off33_inb : ∀ (k0_t1 : Fin k0_t1_loop.trips) (arg8_r0 : BitVec 32) (arg10_r0 : BitVec 32) (arg11_r0 : BitVec 32) (arg12_r0 : BitVec 32) (arg13_r0 : BitVec 32) (arg14_r0 : BitVec 32) (k0_hw19 : k0_chk19 k0_t1 arg8_r0 arg10_r0 arg11_r0 arg12_r0 arg13_r0 arg14_r0), ∀ (k0_h10 : k0_cond10 k0_t1 arg14_r0 = 1#1), ∀ a, (k0_off33 arg14_r0) a + S256x4096.size a ≤ S32768x4096.size a := fun k0_t1 arg8_r0 arg10_r0 arg11_r0 arg12_r0 arg13_r0 arg14_r0 k0_hw19 k0_h10 => k0_hw19.2.2.1 k0_h10
theorem k0_off37_inb : ∀ (k0_t1 : Fin k0_t1_loop.trips) (arg8_r0 : BitVec 32) (arg10_r0 : BitVec 32) (arg11_r0 : BitVec 32) (arg12_r0 : BitVec 32) (arg13_r0 : BitVec 32) (arg14_r0 : BitVec 32) (k0_hw19 : k0_chk19 k0_t1 arg8_r0 arg10_r0 arg11_r0 arg12_r0 arg13_r0 arg14_r0), ∀ (k0_h14 : k0_cond14 k0_t1 arg14_r0 = 1#1), ∀ a, (k0_off37 arg10_r0) a + S1.size a ≤ S2.size a := fun k0_t1 arg8_r0 arg10_r0 arg11_r0 arg12_r0 arg13_r0 arg14_r0 k0_hw19 k0_h14 => k0_hw19.2.2.2.1 k0_h14
theorem k0_off38_inb : ∀ (k0_t1 : Fin k0_t1_loop.trips) (arg8_r0 : BitVec 32) (arg10_r0 : BitVec 32) (arg11_r0 : BitVec 32) (arg12_r0 : BitVec 32) (arg13_r0 : BitVec 32) (arg14_r0 : BitVec 32) (k0_hw19 : k0_chk19 k0_t1 arg8_r0 arg10_r0 arg11_r0 arg12_r0 arg13_r0 arg14_r0), ∀ (k0_h14 : k0_cond14 k0_t1 arg14_r0 = 1#1), ∀ a, (k0_off38 arg14_r0) a + S256x8.size a ≤ S32768x8.size a := fun k0_t1 arg8_r0 arg10_r0 arg11_r0 arg12_r0 arg13_r0 arg14_r0 k0_hw19 k0_h14 => k0_hw19.2.2.2.2.1 k0_h14
theorem k0_off39_inb : ∀ (k0_t1 : Fin k0_t1_loop.trips) (arg8_r0 : BitVec 32) (arg10_r0 : BitVec 32) (arg11_r0 : BitVec 32) (arg12_r0 : BitVec 32) (arg13_r0 : BitVec 32) (arg14_r0 : BitVec 32) (k0_hw19 : k0_chk19 k0_t1 arg8_r0 arg10_r0 arg11_r0 arg12_r0 arg13_r0 arg14_r0), ∀ (k0_h14 : k0_cond14 k0_t1 arg14_r0 = 1#1), ∀ a, (k0_off39 arg10_r0) a + S1x256x8.size a ≤ S2x256x8.size a := fun k0_t1 arg8_r0 arg10_r0 arg11_r0 arg12_r0 arg13_r0 arg14_r0 k0_hw19 k0_h14 => k0_hw19.2.2.2.2.2.1 k0_h14
theorem k0_off40_inb : ∀ (k0_t1 : Fin k0_t1_loop.trips) (arg8_r0 : BitVec 32) (arg10_r0 : BitVec 32) (arg11_r0 : BitVec 32) (arg12_r0 : BitVec 32) (arg13_r0 : BitVec 32) (arg14_r0 : BitVec 32) (k0_hw19 : k0_chk19 k0_t1 arg8_r0 arg10_r0 arg11_r0 arg12_r0 arg13_r0 arg14_r0), ∀ (k0_h15 : k0_cond15 k0_t1 arg14_r0 = 1#1), ∀ a, (k0_off40 arg12_r0) a + S1.size a ≤ S2.size a := fun k0_t1 arg8_r0 arg10_r0 arg11_r0 arg12_r0 arg13_r0 arg14_r0 k0_hw19 k0_h15 => k0_hw19.2.2.2.2.2.2.1 k0_h15
theorem k0_off41_inb : ∀ (k0_t1 : Fin k0_t1_loop.trips) (arg8_r0 : BitVec 32) (arg10_r0 : BitVec 32) (arg11_r0 : BitVec 32) (arg12_r0 : BitVec 32) (arg13_r0 : BitVec 32) (arg14_r0 : BitVec 32) (k0_hw19 : k0_chk19 k0_t1 arg8_r0 arg10_r0 arg11_r0 arg12_r0 arg13_r0 arg14_r0), ∀ (k0_h15 : k0_cond15 k0_t1 arg14_r0 = 1#1), ∀ a, (k0_off41 arg14_r0) a + S256x8.size a ≤ S32768x8.size a := fun k0_t1 arg8_r0 arg10_r0 arg11_r0 arg12_r0 arg13_r0 arg14_r0 k0_hw19 k0_h15 => k0_hw19.2.2.2.2.2.2.2.1 k0_h15
theorem k0_off42_inb : ∀ (k0_t1 : Fin k0_t1_loop.trips) (arg8_r0 : BitVec 32) (arg10_r0 : BitVec 32) (arg11_r0 : BitVec 32) (arg12_r0 : BitVec 32) (arg13_r0 : BitVec 32) (arg14_r0 : BitVec 32) (k0_hw19 : k0_chk19 k0_t1 arg8_r0 arg10_r0 arg11_r0 arg12_r0 arg13_r0 arg14_r0), ∀ (k0_h15 : k0_cond15 k0_t1 arg14_r0 = 1#1), ∀ a, (k0_off42 arg12_r0) a + S1x256x8.size a ≤ S2x256x8.size a := fun k0_t1 arg8_r0 arg10_r0 arg11_r0 arg12_r0 arg13_r0 arg14_r0 k0_hw19 k0_h15 => k0_hw19.2.2.2.2.2.2.2.2.1 k0_h15
theorem k0_off43_inb : ∀ (k0_t1 : Fin k0_t1_loop.trips) (arg8_r0 : BitVec 32) (arg10_r0 : BitVec 32) (arg11_r0 : BitVec 32) (arg12_r0 : BitVec 32) (arg13_r0 : BitVec 32) (arg14_r0 : BitVec 32) (k0_hw19 : k0_chk19 k0_t1 arg8_r0 arg10_r0 arg11_r0 arg12_r0 arg13_r0 arg14_r0), ∀ (k0_h17 : k0_cond17 k0_t1 arg14_r0 = 1#1), ∀ a, (k0_off43 arg11_r0) a + S1.size a ≤ S2.size a := fun k0_t1 arg8_r0 arg10_r0 arg11_r0 arg12_r0 arg13_r0 arg14_r0 k0_hw19 k0_h17 => k0_hw19.2.2.2.2.2.2.2.2.2.1 k0_h17
theorem k0_off44_inb : ∀ (k0_t1 : Fin k0_t1_loop.trips) (arg8_r0 : BitVec 32) (arg10_r0 : BitVec 32) (arg11_r0 : BitVec 32) (arg12_r0 : BitVec 32) (arg13_r0 : BitVec 32) (arg14_r0 : BitVec 32) (k0_hw19 : k0_chk19 k0_t1 arg8_r0 arg10_r0 arg11_r0 arg12_r0 arg13_r0 arg14_r0), ∀ (k0_h17 : k0_cond17 k0_t1 arg14_r0 = 1#1), ∀ a, (k0_off44 arg14_r0) a + S256x8.size a ≤ S32768x8.size a := fun k0_t1 arg8_r0 arg10_r0 arg11_r0 arg12_r0 arg13_r0 arg14_r0 k0_hw19 k0_h17 => k0_hw19.2.2.2.2.2.2.2.2.2.2.1 k0_h17
theorem k0_off45_inb : ∀ (k0_t1 : Fin k0_t1_loop.trips) (arg8_r0 : BitVec 32) (arg10_r0 : BitVec 32) (arg11_r0 : BitVec 32) (arg12_r0 : BitVec 32) (arg13_r0 : BitVec 32) (arg14_r0 : BitVec 32) (k0_hw19 : k0_chk19 k0_t1 arg8_r0 arg10_r0 arg11_r0 arg12_r0 arg13_r0 arg14_r0), ∀ (k0_h17 : k0_cond17 k0_t1 arg14_r0 = 1#1), ∀ a, (k0_off45 arg11_r0) a + S1x256x8.size a ≤ S2x256x8.size a := fun k0_t1 arg8_r0 arg10_r0 arg11_r0 arg12_r0 arg13_r0 arg14_r0 k0_hw19 k0_h17 => k0_hw19.2.2.2.2.2.2.2.2.2.2.2.1 k0_h17
theorem k0_off46_inb : ∀ (k0_t1 : Fin k0_t1_loop.trips) (arg8_r0 : BitVec 32) (arg10_r0 : BitVec 32) (arg11_r0 : BitVec 32) (arg12_r0 : BitVec 32) (arg13_r0 : BitVec 32) (arg14_r0 : BitVec 32) (k0_hw19 : k0_chk19 k0_t1 arg8_r0 arg10_r0 arg11_r0 arg12_r0 arg13_r0 arg14_r0), ∀ (k0_h18 : k0_cond18 k0_t1 arg14_r0 = 1#1), ∀ a, (k0_off46 arg13_r0) a + S1.size a ≤ S2.size a := fun k0_t1 arg8_r0 arg10_r0 arg11_r0 arg12_r0 arg13_r0 arg14_r0 k0_hw19 k0_h18 => k0_hw19.2.2.2.2.2.2.2.2.2.2.2.2.1 k0_h18
theorem k0_off47_inb : ∀ (k0_t1 : Fin k0_t1_loop.trips) (arg8_r0 : BitVec 32) (arg10_r0 : BitVec 32) (arg11_r0 : BitVec 32) (arg12_r0 : BitVec 32) (arg13_r0 : BitVec 32) (arg14_r0 : BitVec 32) (k0_hw19 : k0_chk19 k0_t1 arg8_r0 arg10_r0 arg11_r0 arg12_r0 arg13_r0 arg14_r0), ∀ (k0_h18 : k0_cond18 k0_t1 arg14_r0 = 1#1), ∀ a, (k0_off47 arg14_r0) a + S256x8.size a ≤ S32768x8.size a := fun k0_t1 arg8_r0 arg10_r0 arg11_r0 arg12_r0 arg13_r0 arg14_r0 k0_hw19 k0_h18 => k0_hw19.2.2.2.2.2.2.2.2.2.2.2.2.2.1 k0_h18
theorem k0_off48_inb : ∀ (k0_t1 : Fin k0_t1_loop.trips) (arg8_r0 : BitVec 32) (arg10_r0 : BitVec 32) (arg11_r0 : BitVec 32) (arg12_r0 : BitVec 32) (arg13_r0 : BitVec 32) (arg14_r0 : BitVec 32) (k0_hw19 : k0_chk19 k0_t1 arg8_r0 arg10_r0 arg11_r0 arg12_r0 arg13_r0 arg14_r0), ∀ (k0_h18 : k0_cond18 k0_t1 arg14_r0 = 1#1), ∀ a, (k0_off48 arg13_r0) a + S1x256x8.size a ≤ S2x256x8.size a := fun k0_t1 arg8_r0 arg10_r0 arg11_r0 arg12_r0 arg13_r0 arg14_r0 k0_hw19 k0_h18 => k0_hw19.2.2.2.2.2.2.2.2.2.2.2.2.2.2 k0_h18

def k0_off49 (v130_4_r0 : BitVec 32) : Fin 1 → Nat :=
  let c2_i32_r0 : BitVec 32 := 2#32
  let v191_r0 : BitVec 32 := Scalar.remui v130_4_r0 c2_i32_r0
  ![v191_r0.toNat]

def k0_off50 (v130_7_r0 : BitVec 32) : Fin 2 → Nat :=
  let c256_i32_189_r0 : BitVec 32 := 256#32
  let true_130_r0 : BitVec 1 := 1#1
  let c1_i32_129_r0 : BitVec 32 := 1#32
  let v131_r0 : BitVec 32 := Scalar.subi v130_7_r0 c1_i32_129_r0
  let v132_r0 : BitVec 32 := Scalar.select true_130_r0 v131_r0 v130_7_r0
  let c_m1_i32_131_r0 : BitVec 32 := 4294967295#32
  let v133_r0 : BitVec 1 := Scalar.cmpi .eq v132_r0 c_m1_i32_131_r0
  let c127_i32_132_r0 : BitVec 32 := 127#32
  let v134_r0 : BitVec 32 := Scalar.select v133_r0 c127_i32_132_r0 v132_r0
  let c0_i32_133_r0 : BitVec 32 := 0#32
  let v135_r0 : BitVec 32 := Scalar.addi v134_r0 c0_i32_133_r0
  let v192_r0 : BitVec 32 := Scalar.muli c256_i32_189_r0 v135_r0
  let c0_i32_190_r0 : BitVec 32 := 0#32
  ![v192_r0.toNat, 0]

def k0_off51 (v130_4_r0 : BitVec 32) : Fin 3 → Nat :=
  let c2_i32_r0 : BitVec 32 := 2#32
  let v191_r0 : BitVec 32 := Scalar.remui v130_4_r0 c2_i32_r0
  let c0_i32_191_r0 : BitVec 32 := 0#32
  let c0_i32_192_r0 : BitVec 32 := 0#32
  ![v191_r0.toNat, 0, 0]

def k0_chk23 (v130_4_r0 : BitVec 32) : Prop :=
  (∀ a, (k0_off49 v130_4_r0) a + S1.size a ≤ S2.size a) ∧
  (∀ a, (k0_off51 v130_4_r0) a + S1x256x8.size a ≤ S2x256x8.size a)
theorem k0_off49_inb : ∀ (v130_4_r0 : BitVec 32) (k0_hw23 : k0_chk23 v130_4_r0), ∀ a, (k0_off49 v130_4_r0) a + S1.size a ≤ S2.size a := fun v130_4_r0 k0_hw23 => k0_hw23.1
theorem k0_off51_inb : ∀ (v130_4_r0 : BitVec 32) (k0_hw23 : k0_chk23 v130_4_r0), ∀ a, (k0_off51 v130_4_r0) a + S1x256x8.size a ≤ S2x256x8.size a := fun v130_4_r0 k0_hw23 => k0_hw23.2

def k0_off52 (v130_6_r0 : BitVec 32) : Fin 1 → Nat :=
  let c2_i32_193_r0 : BitVec 32 := 2#32
  let v198_r0 : BitVec 32 := Scalar.remui v130_6_r0 c2_i32_193_r0
  ![v198_r0.toNat]

def k0_off53 (v130_7_r0 : BitVec 32) : Fin 2 → Nat :=
  let c256_i32_194_r0 : BitVec 32 := 256#32
  let true_130_r0 : BitVec 1 := 1#1
  let c1_i32_129_r0 : BitVec 32 := 1#32
  let v131_r0 : BitVec 32 := Scalar.subi v130_7_r0 c1_i32_129_r0
  let v132_r0 : BitVec 32 := Scalar.select true_130_r0 v131_r0 v130_7_r0
  let c_m1_i32_131_r0 : BitVec 32 := 4294967295#32
  let v133_r0 : BitVec 1 := Scalar.cmpi .eq v132_r0 c_m1_i32_131_r0
  let c127_i32_132_r0 : BitVec 32 := 127#32
  let v134_r0 : BitVec 32 := Scalar.select v133_r0 c127_i32_132_r0 v132_r0
  let c0_i32_133_r0 : BitVec 32 := 0#32
  let v135_r0 : BitVec 32 := Scalar.addi v134_r0 c0_i32_133_r0
  let v199_r0 : BitVec 32 := Scalar.muli c256_i32_194_r0 v135_r0
  let c0_i32_195_r0 : BitVec 32 := 0#32
  ![v199_r0.toNat, 0]

def k0_chk24 (v130_7_r0 : BitVec 32) : Prop :=
  (∀ a, (k0_off50 v130_7_r0) a + S256x8.size a ≤ S32768x8.size a) ∧
  (∀ a, (k0_off53 v130_7_r0) a + S256x8.size a ≤ S32768x8.size a)
theorem k0_off50_inb : ∀ (v130_7_r0 : BitVec 32) (k0_hw24 : k0_chk24 v130_7_r0), ∀ a, (k0_off50 v130_7_r0) a + S256x8.size a ≤ S32768x8.size a := fun v130_7_r0 k0_hw24 => k0_hw24.1
theorem k0_off53_inb : ∀ (v130_7_r0 : BitVec 32) (k0_hw24 : k0_chk24 v130_7_r0), ∀ a, (k0_off53 v130_7_r0) a + S256x8.size a ≤ S32768x8.size a := fun v130_7_r0 k0_hw24 => k0_hw24.2

def k0_off54 (v130_6_r0 : BitVec 32) : Fin 3 → Nat :=
  let c2_i32_193_r0 : BitVec 32 := 2#32
  let v198_r0 : BitVec 32 := Scalar.remui v130_6_r0 c2_i32_193_r0
  let c0_i32_196_r0 : BitVec 32 := 0#32
  let c0_i32_197_r0 : BitVec 32 := 0#32
  ![v198_r0.toNat, 0, 0]

def k0_chk25 (v130_6_r0 : BitVec 32) : Prop :=
  (∀ a, (k0_off52 v130_6_r0) a + S1.size a ≤ S2.size a) ∧
  (∀ a, (k0_off54 v130_6_r0) a + S1x256x8.size a ≤ S2x256x8.size a)
theorem k0_off52_inb : ∀ (v130_6_r0 : BitVec 32) (k0_hw25 : k0_chk25 v130_6_r0), ∀ a, (k0_off52 v130_6_r0) a + S1.size a ≤ S2.size a := fun v130_6_r0 k0_hw25 => k0_hw25.1
theorem k0_off54_inb : ∀ (v130_6_r0 : BitVec 32) (k0_hw25 : k0_chk25 v130_6_r0), ∀ a, (k0_off54 v130_6_r0) a + S1x256x8.size a ≤ S2x256x8.size a := fun v130_6_r0 k0_hw25 => k0_hw25.2
-- ==== Kernel2.lean ====
abbrev S32768x4096 : Shape := ⟨2, ![32768, 4096]⟩
abbrev S64x4096 : Shape := ⟨2, ![64, 4096]⟩
abbrev S32768x8 : Shape := ⟨2, ![32768, 8]⟩
abbrev S_ : Shape := ⟨0, ![]⟩
abbrev S10x256x4096 : Shape := ⟨3, ![10, 256, 4096]⟩
abbrev S10 : Shape := ⟨1, ![10]⟩
abbrev S2x256x8 : Shape := ⟨3, ![2, 256, 8]⟩
abbrev S2 : Shape := ⟨1, ![2]⟩
abbrev S1 : Shape := ⟨1, ![1]⟩
abbrev S1x256x4096 : Shape := ⟨3, ![1, 256, 4096]⟩
abbrev S256x4096 : Shape := ⟨2, ![256, 4096]⟩
abbrev S64x256 : Shape := ⟨2, ![64, 256]⟩
abbrev S256 : Shape := ⟨1, ![256]⟩
abbrev S1x256 : Shape := ⟨2, ![1, 256]⟩
abbrev S8x256 : Shape := ⟨2, ![8, 256]⟩
abbrev S256x8 : Shape := ⟨2, ![256, 8]⟩
abbrev S1x256x8 : Shape := ⟨3, ![1, 256, 8]⟩

abbrev nBuf : Space → Nat
  | .hbm => 4
  | .vmem => 4
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S32768x8, .i32⟩
  | .hbm, ⟨3, _⟩ => ⟨S32768x8, .f32⟩
  | .local _ .vmem, ⟨0, _⟩ => ⟨S64x4096, .f32⟩
  | .local _ .vmem, ⟨1, _⟩ => ⟨S10x256x4096, .f32⟩
  | .local _ .vmem, ⟨2, _⟩ => ⟨S2x256x8, .i32⟩
  | .local _ .vmem, ⟨3, _⟩ => ⟨S2x256x8, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_scratch0 : Ref sig .tc := ⟨.vmem, 0, rfl⟩
abbrev cc0_scoped0 : Ref sig .tc := ⟨.vmem, 1, rfl⟩
abbrev cc0_scoped2 : Ref sig .tc := ⟨.vmem, 2, rfl⟩
abbrev cc0_scoped4 : Ref sig .tc := ⟨.vmem, 3, rfl⟩

abbrev nD : Nat := 1
abbrev τ : Topo := Topo.v7x

variable {F : FTy → Type} [FloatOps F]

abbrev grid0 : Pipeline.Grid := .none

def k0_off1 : Fin 1 → Nat :=
  let c0_i32_55_r0 : BitVec 32 := 0#32
  let c10_i32_r0 : BitVec 32 := 10#32
  let v57_r0 : BitVec 32 := Scalar.remui c0_i32_55_r0 c10_i32_r0
  ![v57_r0.toNat]
def k0_off2 : Fin 3 → Nat :=
  let c0_i32_55_r0 : BitVec 32 := 0#32
  let c10_i32_r0 : BitVec 32 := 10#32
  let v57_r0 : BitVec 32 := Scalar.remui c0_i32_55_r0 c10_i32_r0
  let c0_i32_56_r0 : BitVec 32 := 0#32
  let c0_i32_57_r0 : BitVec 32 := 0#32
  ![v57_r0.toNat, 0, 0]
def k0_off3 : Fin 2 → Nat :=
  let c256_i32_r0 : BitVec 32 := 256#32
  let c0_i32_53_r0 : BitVec 32 := 0#32
  let c0_i32_54_r0 : BitVec 32 := 0#32
  let v56_r0 : BitVec 32 := Scalar.addi c0_i32_53_r0 c0_i32_54_r0
  let v58_r0 : BitVec 32 := Scalar.muli c256_i32_r0 v56_r0
  let c0_i32_58_r0 : BitVec 32 := 0#32
  ![v58_r0.toNat, 0]
def k0_off4 (arg8_r0 : BitVec 32) : Fin 1 → Nat :=
  let c10_i32_205_r0 : BitVec 32 := 10#32
  let v215_r0 : BitVec 32 := Scalar.remui arg8_r0 c10_i32_205_r0
  ![v215_r0.toNat]
def k0_cond1 (arg6_r0 : BitVec 32) (arg7_r0 : BitVec 32) : BitVec 1 :=
  let c0_i32_198_r0 : BitVec 32 := 0#32
  let v205_r0 : BitVec 32 := Scalar.addi arg6_r0 c0_i32_198_r0
  let c0_i32_199_r0 : BitVec 32 := 0#32
  let v206_r0 : BitVec 32 := Scalar.addi arg7_r0 c0_i32_199_r0
  let v207_r0 : BitVec 1 := Scalar.cmpi .ne v205_r0 v206_r0
  let v208_r0 : BitVec 32 := Scalar.extui v207_r0
  let c0_i32_200_r0 : BitVec 32 := 0#32
  let v209_r0 : BitVec 1 := Scalar.cmpi .ne v208_r0 c0_i32_200_r0
  v209_r0

def k0_off5 (arg8_r0 : BitVec 32) : Fin 3 → Nat :=
  let c10_i32_205_r0 : BitVec 32 := 10#32
  let v215_r0 : BitVec 32 := Scalar.remui arg8_r0 c10_i32_205_r0
  let c0_i32_207_r0 : BitVec 32 := 0#32
  let c0_i32_208_r0 : BitVec 32 := 0#32
  ![v215_r0.toNat, 0, 0]

def k0_chk1 (arg6_r0 : BitVec 32) (arg7_r0 : BitVec 32) (arg8_r0 : BitVec 32) : Prop :=
  (∀ (k0_h1 : k0_cond1 arg6_r0 arg7_r0 = 1#1), ∀ a, (k0_off4 arg8_r0) a + S1.size a ≤ S10.size a) ∧
  (∀ (k0_h1 : k0_cond1 arg6_r0 arg7_r0 = 1#1), ∀ a, (k0_off5 arg8_r0) a + S1x256x4096.size a ≤ S10x256x4096.size a)
theorem k0_off4_inb : ∀ (arg6_r0 : BitVec 32) (arg7_r0 : BitVec 32) (arg8_r0 : BitVec 32) (k0_hw1 : k0_chk1 arg6_r0 arg7_r0 arg8_r0), ∀ (k0_h1 : k0_cond1 arg6_r0 arg7_r0 = 1#1), ∀ a, (k0_off4 arg8_r0) a + S1.size a ≤ S10.size a := fun arg6_r0 arg7_r0 arg8_r0 k0_hw1 k0_h1 => k0_hw1.1 k0_h1
theorem k0_off5_inb : ∀ (arg6_r0 : BitVec 32) (arg7_r0 : BitVec 32) (arg8_r0 : BitVec 32) (k0_hw1 : k0_chk1 arg6_r0 arg7_r0 arg8_r0), ∀ (k0_h1 : k0_cond1 arg6_r0 arg7_r0 = 1#1), ∀ a, (k0_off5 arg8_r0) a + S1x256x4096.size a ≤ S10x256x4096.size a := fun arg6_r0 arg7_r0 arg8_r0 k0_hw1 k0_h1 => k0_hw1.2 k0_h1

def k0_off6 (arg7_r0 : BitVec 32) : Fin 2 → Nat :=
  let c256_i32_206_r0 : BitVec 32 := 256#32
  let c0_i32_199_r0 : BitVec 32 := 0#32
  let v206_r0 : BitVec 32 := Scalar.addi arg7_r0 c0_i32_199_r0
  let v216_r0 : BitVec 32 := Scalar.muli c256_i32_206_r0 v206_r0
  let c0_i32_209_r0 : BitVec 32 := 0#32
  ![v216_r0.toNat, 0]

def k0_chk2 (arg6_r0 : BitVec 32) (arg7_r0 : BitVec 32) : Prop :=
  (∀ (k0_h1 : k0_cond1 arg6_r0 arg7_r0 = 1#1), ∀ a, (k0_off6 arg7_r0) a + S256x4096.size a ≤ S32768x4096.size a)
theorem k0_off6_inb : ∀ (arg6_r0 : BitVec 32) (arg7_r0 : BitVec 32) (k0_hw2 : k0_chk2 arg6_r0 arg7_r0), ∀ (k0_h1 : k0_cond1 arg6_r0 arg7_r0 = 1#1), ∀ a, (k0_off6 arg7_r0) a + S256x4096.size a ≤ S32768x4096.size a := fun arg6_r0 arg7_r0 k0_hw2 k0_h1 => k0_hw2 k0_h1

def k0_off7 (arg8_r0 : BitVec 32) : Fin 1 → Nat :=
  let c10_i32_205_r0 : BitVec 32 := 10#32
  let v215_r0 : BitVec 32 := Scalar.remui arg8_r0 c10_i32_205_r0
  ![v215_r0.toNat]
def k0_cond2 (arg6_r0 : BitVec 32) (arg7_r0 : BitVec 32) : BitVec 1 :=
  let c0_i32_198_r0 : BitVec 32 := 0#32
  let v205_r0 : BitVec 32 := Scalar.addi arg6_r0 c0_i32_198_r0
  let c0_i32_199_r0 : BitVec 32 := 0#32
  let v206_r0 : BitVec 32 := Scalar.addi arg7_r0 c0_i32_199_r0
  let v207_r0 : BitVec 1 := Scalar.cmpi .ne v205_r0 v206_r0
  let v208_r0 : BitVec 32 := Scalar.extui v207_r0
  let c0_i32_200_r0 : BitVec 32 := 0#32
  let v209_r0 : BitVec 1 := Scalar.cmpi .ne v208_r0 c0_i32_200_r0
  v209_r0

def k0_off8 (arg8_r0 : BitVec 32) : Fin 3 → Nat :=
  let c10_i32_205_r0 : BitVec 32 := 10#32
  let v215_r0 : BitVec 32 := Scalar.remui arg8_r0 c10_i32_205_r0
  let c0_i32_207_r0 : BitVec 32 := 0#32
  let c0_i32_208_r0 : BitVec 32 := 0#32
  ![v215_r0.toNat, 0, 0]

def k0_chk3 (arg6_r0 : BitVec 32) (arg7_r0 : BitVec 32) (arg8_r0 : BitVec 32) : Prop :=
  (∀ (k0_h2 : k0_cond2 arg6_r0 arg7_r0 = 1#1), ∀ a, (k0_off7 arg8_r0) a + S1.size a ≤ S10.size a) ∧
  (∀ (k0_h2 : k0_cond2 arg6_r0 arg7_r0 = 1#1), ∀ a, (k0_off8 arg8_r0) a + S1x256x4096.size a ≤ S10x256x4096.size a)
theorem k0_off7_inb : ∀ (arg6_r0 : BitVec 32) (arg7_r0 : BitVec 32) (arg8_r0 : BitVec 32) (k0_hw3 : k0_chk3 arg6_r0 arg7_r0 arg8_r0), ∀ (k0_h2 : k0_cond2 arg6_r0 arg7_r0 = 1#1), ∀ a, (k0_off7 arg8_r0) a + S1.size a ≤ S10.size a := fun arg6_r0 arg7_r0 arg8_r0 k0_hw3 k0_h2 => k0_hw3.1 k0_h2
theorem k0_off8_inb : ∀ (arg6_r0 : BitVec 32) (arg7_r0 : BitVec 32) (arg8_r0 : BitVec 32) (k0_hw3 : k0_chk3 arg6_r0 arg7_r0 arg8_r0), ∀ (k0_h2 : k0_cond2 arg6_r0 arg7_r0 = 1#1), ∀ a, (k0_off8 arg8_r0) a + S1x256x4096.size a ≤ S10x256x4096.size a := fun arg6_r0 arg7_r0 arg8_r0 k0_hw3 k0_h2 => k0_hw3.2 k0_h2

def k0_off9 (arg7_r0 : BitVec 32) : Fin 2 → Nat :=
  let c256_i32_206_r0 : BitVec 32 := 256#32
  let c0_i32_199_r0 : BitVec 32 := 0#32
  let v206_r0 : BitVec 32 := Scalar.addi arg7_r0 c0_i32_199_r0
  let v216_r0 : BitVec 32 := Scalar.muli c256_i32_206_r0 v206_r0
  let c0_i32_209_r0 : BitVec 32 := 0#32
  ![v216_r0.toNat, 0]

def k0_chk4 (arg6_r0 : BitVec 32) (arg7_r0 : BitVec 32) : Prop :=
  (∀ (k0_h2 : k0_cond2 arg6_r0 arg7_r0 = 1#1), ∀ a, (k0_off9 arg7_r0) a + S256x4096.size a ≤ S32768x4096.size a)
theorem k0_off9_inb : ∀ (arg6_r0 : BitVec 32) (arg7_r0 : BitVec 32) (k0_hw4 : k0_chk4 arg6_r0 arg7_r0), ∀ (k0_h2 : k0_cond2 arg6_r0 arg7_r0 = 1#1), ∀ a, (k0_off9 arg7_r0) a + S256x4096.size a ≤ S32768x4096.size a := fun arg6_r0 arg7_r0 k0_hw4 k0_h2 => k0_hw4 k0_h2

def k0_off10 (arg8_r0 : BitVec 32) : Fin 1 → Nat :=
  let c10_i32_205_r0 : BitVec 32 := 10#32
  let v215_r0 : BitVec 32 := Scalar.remui arg8_r0 c10_i32_205_r0
  ![v215_r0.toNat]
def k0_cond3 (arg6_r0 : BitVec 32) (arg7_r0 : BitVec 32) : BitVec 1 :=
  let c0_i32_198_r0 : BitVec 32 := 0#32
  let v205_r0 : BitVec 32 := Scalar.addi arg6_r0 c0_i32_198_r0
  let c0_i32_199_r0 : BitVec 32 := 0#32
  let v206_r0 : BitVec 32 := Scalar.addi arg7_r0 c0_i32_199_r0
  let v207_r0 : BitVec 1 := Scalar.cmpi .ne v205_r0 v206_r0
  let v208_r0 : BitVec 32 := Scalar.extui v207_r0
  let c0_i32_200_r0 : BitVec 32 := 0#32
  let v209_r0 : BitVec 1 := Scalar.cmpi .ne v208_r0 c0_i32_200_r0
  v209_r0

def k0_off11 (arg8_r0 : BitVec 32) : Fin 3 → Nat :=
  let c10_i32_205_r0 : BitVec 32 := 10#32
  let v215_r0 : BitVec 32 := Scalar.remui arg8_r0 c10_i32_205_r0
  let c0_i32_207_r0 : BitVec 32 := 0#32
  let c0_i32_208_r0 : BitVec 32 := 0#32
  ![v215_r0.toNat, 0, 0]

def k0_chk5 (arg6_r0 : BitVec 32) (arg7_r0 : BitVec 32) (arg8_r0 : BitVec 32) : Prop :=
  (∀ (k0_h3 : k0_cond3 arg6_r0 arg7_r0 = 1#1), ∀ a, (k0_off10 arg8_r0) a + S1.size a ≤ S10.size a) ∧
  (∀ (k0_h3 : k0_cond3 arg6_r0 arg7_r0 = 1#1), ∀ a, (k0_off11 arg8_r0) a + S1x256x4096.size a ≤ S10x256x4096.size a)
theorem k0_off10_inb : ∀ (arg6_r0 : BitVec 32) (arg7_r0 : BitVec 32) (arg8_r0 : BitVec 32) (k0_hw5 : k0_chk5 arg6_r0 arg7_r0 arg8_r0), ∀ (k0_h3 : k0_cond3 arg6_r0 arg7_r0 = 1#1), ∀ a, (k0_off10 arg8_r0) a + S1.size a ≤ S10.size a := fun arg6_r0 arg7_r0 arg8_r0 k0_hw5 k0_h3 => k0_hw5.1 k0_h3
theorem k0_off11_inb : ∀ (arg6_r0 : BitVec 32) (arg7_r0 : BitVec 32) (arg8_r0 : BitVec 32) (k0_hw5 : k0_chk5 arg6_r0 arg7_r0 arg8_r0), ∀ (k0_h3 : k0_cond3 arg6_r0 arg7_r0 = 1#1), ∀ a, (k0_off11 arg8_r0) a + S1x256x4096.size a ≤ S10x256x4096.size a := fun arg6_r0 arg7_r0 arg8_r0 k0_hw5 k0_h3 => k0_hw5.2 k0_h3

def k0_off12 (arg7_r0 : BitVec 32) : Fin 2 → Nat :=
  let c256_i32_206_r0 : BitVec 32 := 256#32
  let c0_i32_199_r0 : BitVec 32 := 0#32
  let v206_r0 : BitVec 32 := Scalar.addi arg7_r0 c0_i32_199_r0
  let v216_r0 : BitVec 32 := Scalar.muli c256_i32_206_r0 v206_r0
  let c0_i32_209_r0 : BitVec 32 := 0#32
  ![v216_r0.toNat, 0]

def k0_chk6 (arg6_r0 : BitVec 32) (arg7_r0 : BitVec 32) : Prop :=
  (∀ (k0_h3 : k0_cond3 arg6_r0 arg7_r0 = 1#1), ∀ a, (k0_off12 arg7_r0) a + S256x4096.size a ≤ S32768x4096.size a)
theorem k0_off12_inb : ∀ (arg6_r0 : BitVec 32) (arg7_r0 : BitVec 32) (k0_hw6 : k0_chk6 arg6_r0 arg7_r0), ∀ (k0_h3 : k0_cond3 arg6_r0 arg7_r0 = 1#1), ∀ a, (k0_off12 arg7_r0) a + S256x4096.size a ≤ S32768x4096.size a := fun arg6_r0 arg7_r0 k0_hw6 k0_h3 => k0_hw6 k0_h3

def k0_off13 (arg8_r0 : BitVec 32) : Fin 1 → Nat :=
  let c10_i32_205_r0 : BitVec 32 := 10#32
  let v215_r0 : BitVec 32 := Scalar.remui arg8_r0 c10_i32_205_r0
  ![v215_r0.toNat]
def k0_cond4 (arg6_r0 : BitVec 32) (arg7_r0 : BitVec 32) : BitVec 1 :=
  let c0_i32_198_r0 : BitVec 32 := 0#32
  let v205_r0 : BitVec 32 := Scalar.addi arg6_r0 c0_i32_198_r0
  let c0_i32_199_r0 : BitVec 32 := 0#32
  let v206_r0 : BitVec 32 := Scalar.addi arg7_r0 c0_i32_199_r0
  let v207_r0 : BitVec 1 := Scalar.cmpi .ne v205_r0 v206_r0
  let v208_r0 : BitVec 32 := Scalar.extui v207_r0
  let c0_i32_200_r0 : BitVec 32 := 0#32
  let v209_r0 : BitVec 1 := Scalar.cmpi .ne v208_r0 c0_i32_200_r0
  v209_r0

def k0_off14 (arg8_r0 : BitVec 32) : Fin 3 → Nat :=
  let c10_i32_205_r0 : BitVec 32 := 10#32
  let v215_r0 : BitVec 32 := Scalar.remui arg8_r0 c10_i32_205_r0
  let c0_i32_207_r0 : BitVec 32 := 0#32
  let c0_i32_208_r0 : BitVec 32 := 0#32
  ![v215_r0.toNat, 0, 0]

def k0_chk7 (arg6_r0 : BitVec 32) (arg7_r0 : BitVec 32) (arg8_r0 : BitVec 32) : Prop :=
  (∀ (k0_h4 : k0_cond4 arg6_r0 arg7_r0 = 1#1), ∀ a, (k0_off13 arg8_r0) a + S1.size a ≤ S10.size a) ∧
  (∀ (k0_h4 : k0_cond4 arg6_r0 arg7_r0 = 1#1), ∀ a, (k0_off14 arg8_r0) a + S1x256x4096.size a ≤ S10x256x4096.size a)
theorem k0_off13_inb : ∀ (arg6_r0 : BitVec 32) (arg7_r0 : BitVec 32) (arg8_r0 : BitVec 32) (k0_hw7 : k0_chk7 arg6_r0 arg7_r0 arg8_r0), ∀ (k0_h4 : k0_cond4 arg6_r0 arg7_r0 = 1#1), ∀ a, (k0_off13 arg8_r0) a + S1.size a ≤ S10.size a := fun arg6_r0 arg7_r0 arg8_r0 k0_hw7 k0_h4 => k0_hw7.1 k0_h4
theorem k0_off14_inb : ∀ (arg6_r0 : BitVec 32) (arg7_r0 : BitVec 32) (arg8_r0 : BitVec 32) (k0_hw7 : k0_chk7 arg6_r0 arg7_r0 arg8_r0), ∀ (k0_h4 : k0_cond4 arg6_r0 arg7_r0 = 1#1), ∀ a, (k0_off14 arg8_r0) a + S1x256x4096.size a ≤ S10x256x4096.size a := fun arg6_r0 arg7_r0 arg8_r0 k0_hw7 k0_h4 => k0_hw7.2 k0_h4

def k0_off15 (arg7_r0 : BitVec 32) : Fin 2 → Nat :=
  let c256_i32_206_r0 : BitVec 32 := 256#32
  let c0_i32_199_r0 : BitVec 32 := 0#32
  let v206_r0 : BitVec 32 := Scalar.addi arg7_r0 c0_i32_199_r0
  let v216_r0 : BitVec 32 := Scalar.muli c256_i32_206_r0 v206_r0
  let c0_i32_209_r0 : BitVec 32 := 0#32
  ![v216_r0.toNat, 0]

def k0_chk8 (arg6_r0 : BitVec 32) (arg7_r0 : BitVec 32) : Prop :=
  (∀ (k0_h4 : k0_cond4 arg6_r0 arg7_r0 = 1#1), ∀ a, (k0_off15 arg7_r0) a + S256x4096.size a ≤ S32768x4096.size a)
theorem k0_off15_inb : ∀ (arg6_r0 : BitVec 32) (arg7_r0 : BitVec 32) (k0_hw8 : k0_chk8 arg6_r0 arg7_r0), ∀ (k0_h4 : k0_cond4 arg6_r0 arg7_r0 = 1#1), ∀ a, (k0_off15 arg7_r0) a + S256x4096.size a ≤ S32768x4096.size a := fun arg6_r0 arg7_r0 k0_hw8 k0_h4 => k0_hw8 k0_h4

def k0_off16 (arg8_r0 : BitVec 32) : Fin 1 → Nat :=
  let c10_i32_205_r0 : BitVec 32 := 10#32
  let v215_r0 : BitVec 32 := Scalar.remui arg8_r0 c10_i32_205_r0
  ![v215_r0.toNat]
def k0_cond5 (arg6_r0 : BitVec 32) (arg7_r0 : BitVec 32) : BitVec 1 :=
  let c0_i32_198_r0 : BitVec 32 := 0#32
  let v205_r0 : BitVec 32 := Scalar.addi arg6_r0 c0_i32_198_r0
  let c0_i32_199_r0 : BitVec 32 := 0#32
  let v206_r0 : BitVec 32 := Scalar.addi arg7_r0 c0_i32_199_r0
  let v207_r0 : BitVec 1 := Scalar.cmpi .ne v205_r0 v206_r0
  let v208_r0 : BitVec 32 := Scalar.extui v207_r0
  let c0_i32_200_r0 : BitVec 32 := 0#32
  let v209_r0 : BitVec 1 := Scalar.cmpi .ne v208_r0 c0_i32_200_r0
  v209_r0

def k0_off17 (arg8_r0 : BitVec 32) : Fin 3 → Nat :=
  let c10_i32_205_r0 : BitVec 32 := 10#32
  let v215_r0 : BitVec 32 := Scalar.remui arg8_r0 c10_i32_205_r0
  let c0_i32_207_r0 : BitVec 32 := 0#32
  let c0_i32_208_r0 : BitVec 32 := 0#32
  ![v215_r0.toNat, 0, 0]

def k0_chk9 (arg6_r0 : BitVec 32) (arg7_r0 : BitVec 32) (arg8_r0 : BitVec 32) : Prop :=
  (∀ (k0_h5 : k0_cond5 arg6_r0 arg7_r0 = 1#1), ∀ a, (k0_off16 arg8_r0) a + S1.size a ≤ S10.size a) ∧
  (∀ (k0_h5 : k0_cond5 arg6_r0 arg7_r0 = 1#1), ∀ a, (k0_off17 arg8_r0) a + S1x256x4096.size a ≤ S10x256x4096.size a)
theorem k0_off16_inb : ∀ (arg6_r0 : BitVec 32) (arg7_r0 : BitVec 32) (arg8_r0 : BitVec 32) (k0_hw9 : k0_chk9 arg6_r0 arg7_r0 arg8_r0), ∀ (k0_h5 : k0_cond5 arg6_r0 arg7_r0 = 1#1), ∀ a, (k0_off16 arg8_r0) a + S1.size a ≤ S10.size a := fun arg6_r0 arg7_r0 arg8_r0 k0_hw9 k0_h5 => k0_hw9.1 k0_h5
theorem k0_off17_inb : ∀ (arg6_r0 : BitVec 32) (arg7_r0 : BitVec 32) (arg8_r0 : BitVec 32) (k0_hw9 : k0_chk9 arg6_r0 arg7_r0 arg8_r0), ∀ (k0_h5 : k0_cond5 arg6_r0 arg7_r0 = 1#1), ∀ a, (k0_off17 arg8_r0) a + S1x256x4096.size a ≤ S10x256x4096.size a := fun arg6_r0 arg7_r0 arg8_r0 k0_hw9 k0_h5 => k0_hw9.2 k0_h5

def k0_off18 (arg7_r0 : BitVec 32) : Fin 2 → Nat :=
  let c256_i32_206_r0 : BitVec 32 := 256#32
  let c0_i32_199_r0 : BitVec 32 := 0#32
  let v206_r0 : BitVec 32 := Scalar.addi arg7_r0 c0_i32_199_r0
  let v216_r0 : BitVec 32 := Scalar.muli c256_i32_206_r0 v206_r0
  let c0_i32_209_r0 : BitVec 32 := 0#32
  ![v216_r0.toNat, 0]

def k0_chk10 (arg6_r0 : BitVec 32) (arg7_r0 : BitVec 32) : Prop :=
  (∀ (k0_h5 : k0_cond5 arg6_r0 arg7_r0 = 1#1), ∀ a, (k0_off18 arg7_r0) a + S256x4096.size a ≤ S32768x4096.size a)
theorem k0_off18_inb : ∀ (arg6_r0 : BitVec 32) (arg7_r0 : BitVec 32) (k0_hw10 : k0_chk10 arg6_r0 arg7_r0), ∀ (k0_h5 : k0_cond5 arg6_r0 arg7_r0 = 1#1), ∀ a, (k0_off18 arg7_r0) a + S256x4096.size a ≤ S32768x4096.size a := fun arg6_r0 arg7_r0 k0_hw10 k0_h5 => k0_hw10 k0_h5

def k0_off19 (arg8_r0 : BitVec 32) : Fin 1 → Nat :=
  let c10_i32_205_r0 : BitVec 32 := 10#32
  let v215_r0 : BitVec 32 := Scalar.remui arg8_r0 c10_i32_205_r0
  ![v215_r0.toNat]
def k0_cond6 (arg6_r0 : BitVec 32) (arg7_r0 : BitVec 32) : BitVec 1 :=
  let c0_i32_198_r0 : BitVec 32 := 0#32
  let v205_r0 : BitVec 32 := Scalar.addi arg6_r0 c0_i32_198_r0
  let c0_i32_199_r0 : BitVec 32 := 0#32
  let v206_r0 : BitVec 32 := Scalar.addi arg7_r0 c0_i32_199_r0
  let v207_r0 : BitVec 1 := Scalar.cmpi .ne v205_r0 v206_r0
  let v208_r0 : BitVec 32 := Scalar.extui v207_r0
  let c0_i32_200_r0 : BitVec 32 := 0#32
  let v209_r0 : BitVec 1 := Scalar.cmpi .ne v208_r0 c0_i32_200_r0
  v209_r0

def k0_off20 (arg8_r0 : BitVec 32) : Fin 3 → Nat :=
  let c10_i32_205_r0 : BitVec 32 := 10#32
  let v215_r0 : BitVec 32 := Scalar.remui arg8_r0 c10_i32_205_r0
  let c0_i32_207_r0 : BitVec 32 := 0#32
  let c0_i32_208_r0 : BitVec 32 := 0#32
  ![v215_r0.toNat, 0, 0]

def k0_chk11 (arg6_r0 : BitVec 32) (arg7_r0 : BitVec 32) (arg8_r0 : BitVec 32) : Prop :=
  (∀ (k0_h6 : k0_cond6 arg6_r0 arg7_r0 = 1#1), ∀ a, (k0_off19 arg8_r0) a + S1.size a ≤ S10.size a) ∧
  (∀ (k0_h6 : k0_cond6 arg6_r0 arg7_r0 = 1#1), ∀ a, (k0_off20 arg8_r0) a + S1x256x4096.size a ≤ S10x256x4096.size a)
theorem k0_off19_inb : ∀ (arg6_r0 : BitVec 32) (arg7_r0 : BitVec 32) (arg8_r0 : BitVec 32) (k0_hw11 : k0_chk11 arg6_r0 arg7_r0 arg8_r0), ∀ (k0_h6 : k0_cond6 arg6_r0 arg7_r0 = 1#1), ∀ a, (k0_off19 arg8_r0) a + S1.size a ≤ S10.size a := fun arg6_r0 arg7_r0 arg8_r0 k0_hw11 k0_h6 => k0_hw11.1 k0_h6
theorem k0_off20_inb : ∀ (arg6_r0 : BitVec 32) (arg7_r0 : BitVec 32) (arg8_r0 : BitVec 32) (k0_hw11 : k0_chk11 arg6_r0 arg7_r0 arg8_r0), ∀ (k0_h6 : k0_cond6 arg6_r0 arg7_r0 = 1#1), ∀ a, (k0_off20 arg8_r0) a + S1x256x4096.size a ≤ S10x256x4096.size a := fun arg6_r0 arg7_r0 arg8_r0 k0_hw11 k0_h6 => k0_hw11.2 k0_h6

def k0_off21 (arg7_r0 : BitVec 32) : Fin 2 → Nat :=
  let c256_i32_206_r0 : BitVec 32 := 256#32
  let c0_i32_199_r0 : BitVec 32 := 0#32
  let v206_r0 : BitVec 32 := Scalar.addi arg7_r0 c0_i32_199_r0
  let v216_r0 : BitVec 32 := Scalar.muli c256_i32_206_r0 v206_r0
  let c0_i32_209_r0 : BitVec 32 := 0#32
  ![v216_r0.toNat, 0]

def k0_chk12 (arg6_r0 : BitVec 32) (arg7_r0 : BitVec 32) : Prop :=
  (∀ (k0_h6 : k0_cond6 arg6_r0 arg7_r0 = 1#1), ∀ a, (k0_off21 arg7_r0) a + S256x4096.size a ≤ S32768x4096.size a)
theorem k0_off21_inb : ∀ (arg6_r0 : BitVec 32) (arg7_r0 : BitVec 32) (k0_hw12 : k0_chk12 arg6_r0 arg7_r0), ∀ (k0_h6 : k0_cond6 arg6_r0 arg7_r0 = 1#1), ∀ a, (k0_off21 arg7_r0) a + S256x4096.size a ≤ S32768x4096.size a := fun arg6_r0 arg7_r0 k0_hw12 k0_h6 => k0_hw12 k0_h6

def k0_off22 (arg8_r0 : BitVec 32) : Fin 1 → Nat :=
  let c10_i32_205_r0 : BitVec 32 := 10#32
  let v215_r0 : BitVec 32 := Scalar.remui arg8_r0 c10_i32_205_r0
  ![v215_r0.toNat]
def k0_cond7 (arg6_r0 : BitVec 32) (arg7_r0 : BitVec 32) : BitVec 1 :=
  let c0_i32_198_r0 : BitVec 32 := 0#32
  let v205_r0 : BitVec 32 := Scalar.addi arg6_r0 c0_i32_198_r0
  let c0_i32_199_r0 : BitVec 32 := 0#32
  let v206_r0 : BitVec 32 := Scalar.addi arg7_r0 c0_i32_199_r0
  let v207_r0 : BitVec 1 := Scalar.cmpi .ne v205_r0 v206_r0
  let v208_r0 : BitVec 32 := Scalar.extui v207_r0
  let c0_i32_200_r0 : BitVec 32 := 0#32
  let v209_r0 : BitVec 1 := Scalar.cmpi .ne v208_r0 c0_i32_200_r0
  v209_r0

def k0_off23 (arg8_r0 : BitVec 32) : Fin 3 → Nat :=
  let c10_i32_205_r0 : BitVec 32 := 10#32
  let v215_r0 : BitVec 32 := Scalar.remui arg8_r0 c10_i32_205_r0
  let c0_i32_207_r0 : BitVec 32 := 0#32
  let c0_i32_208_r0 : BitVec 32 := 0#32
  ![v215_r0.toNat, 0, 0]

def k0_chk13 (arg6_r0 : BitVec 32) (arg7_r0 : BitVec 32) (arg8_r0 : BitVec 32) : Prop :=
  (∀ (k0_h7 : k0_cond7 arg6_r0 arg7_r0 = 1#1), ∀ a, (k0_off22 arg8_r0) a + S1.size a ≤ S10.size a) ∧
  (∀ (k0_h7 : k0_cond7 arg6_r0 arg7_r0 = 1#1), ∀ a, (k0_off23 arg8_r0) a + S1x256x4096.size a ≤ S10x256x4096.size a)
theorem k0_off22_inb : ∀ (arg6_r0 : BitVec 32) (arg7_r0 : BitVec 32) (arg8_r0 : BitVec 32) (k0_hw13 : k0_chk13 arg6_r0 arg7_r0 arg8_r0), ∀ (k0_h7 : k0_cond7 arg6_r0 arg7_r0 = 1#1), ∀ a, (k0_off22 arg8_r0) a + S1.size a ≤ S10.size a := fun arg6_r0 arg7_r0 arg8_r0 k0_hw13 k0_h7 => k0_hw13.1 k0_h7
theorem k0_off23_inb : ∀ (arg6_r0 : BitVec 32) (arg7_r0 : BitVec 32) (arg8_r0 : BitVec 32) (k0_hw13 : k0_chk13 arg6_r0 arg7_r0 arg8_r0), ∀ (k0_h7 : k0_cond7 arg6_r0 arg7_r0 = 1#1), ∀ a, (k0_off23 arg8_r0) a + S1x256x4096.size a ≤ S10x256x4096.size a := fun arg6_r0 arg7_r0 arg8_r0 k0_hw13 k0_h7 => k0_hw13.2 k0_h7

def k0_off24 (arg7_r0 : BitVec 32) : Fin 2 → Nat :=
  let c256_i32_206_r0 : BitVec 32 := 256#32
  let c0_i32_199_r0 : BitVec 32 := 0#32
  let v206_r0 : BitVec 32 := Scalar.addi arg7_r0 c0_i32_199_r0
  let v216_r0 : BitVec 32 := Scalar.muli c256_i32_206_r0 v206_r0
  let c0_i32_209_r0 : BitVec 32 := 0#32
  ![v216_r0.toNat, 0]

def k0_chk14 (arg6_r0 : BitVec 32) (arg7_r0 : BitVec 32) : Prop :=
  (∀ (k0_h7 : k0_cond7 arg6_r0 arg7_r0 = 1#1), ∀ a, (k0_off24 arg7_r0) a + S256x4096.size a ≤ S32768x4096.size a)
theorem k0_off24_inb : ∀ (arg6_r0 : BitVec 32) (arg7_r0 : BitVec 32) (k0_hw14 : k0_chk14 arg6_r0 arg7_r0), ∀ (k0_h7 : k0_cond7 arg6_r0 arg7_r0 = 1#1), ∀ a, (k0_off24 arg7_r0) a + S256x4096.size a ≤ S32768x4096.size a := fun arg6_r0 arg7_r0 k0_hw14 k0_h7 => k0_hw14 k0_h7

def k0_off25 (arg8_r0 : BitVec 32) : Fin 1 → Nat :=
  let c10_i32_205_r0 : BitVec 32 := 10#32
  let v215_r0 : BitVec 32 := Scalar.remui arg8_r0 c10_i32_205_r0
  ![v215_r0.toNat]
def k0_cond8 (arg6_r0 : BitVec 32) (arg7_r0 : BitVec 32) : BitVec 1 :=
  let c0_i32_198_r0 : BitVec 32 := 0#32
  let v205_r0 : BitVec 32 := Scalar.addi arg6_r0 c0_i32_198_r0
  let c0_i32_199_r0 : BitVec 32 := 0#32
  let v206_r0 : BitVec 32 := Scalar.addi arg7_r0 c0_i32_199_r0
  let v207_r0 : BitVec 1 := Scalar.cmpi .ne v205_r0 v206_r0
  let v208_r0 : BitVec 32 := Scalar.extui v207_r0
  let c0_i32_200_r0 : BitVec 32 := 0#32
  let v209_r0 : BitVec 1 := Scalar.cmpi .ne v208_r0 c0_i32_200_r0
  v209_r0

def k0_off26 (arg8_r0 : BitVec 32) : Fin 3 → Nat :=
  let c10_i32_205_r0 : BitVec 32 := 10#32
  let v215_r0 : BitVec 32 := Scalar.remui arg8_r0 c10_i32_205_r0
  let c0_i32_207_r0 : BitVec 32 := 0#32
  let c0_i32_208_r0 : BitVec 32 := 0#32
  ![v215_r0.toNat, 0, 0]

def k0_chk15 (arg6_r0 : BitVec 32) (arg7_r0 : BitVec 32) (arg8_r0 : BitVec 32) : Prop :=
  (∀ (k0_h8 : k0_cond8 arg6_r0 arg7_r0 = 1#1), ∀ a, (k0_off25 arg8_r0) a + S1.size a ≤ S10.size a) ∧
  (∀ (k0_h8 : k0_cond8 arg6_r0 arg7_r0 = 1#1), ∀ a, (k0_off26 arg8_r0) a + S1x256x4096.size a ≤ S10x256x4096.size a)
theorem k0_off25_inb : ∀ (arg6_r0 : BitVec 32) (arg7_r0 : BitVec 32) (arg8_r0 : BitVec 32) (k0_hw15 : k0_chk15 arg6_r0 arg7_r0 arg8_r0), ∀ (k0_h8 : k0_cond8 arg6_r0 arg7_r0 = 1#1), ∀ a, (k0_off25 arg8_r0) a + S1.size a ≤ S10.size a := fun arg6_r0 arg7_r0 arg8_r0 k0_hw15 k0_h8 => k0_hw15.1 k0_h8
theorem k0_off26_inb : ∀ (arg6_r0 : BitVec 32) (arg7_r0 : BitVec 32) (arg8_r0 : BitVec 32) (k0_hw15 : k0_chk15 arg6_r0 arg7_r0 arg8_r0), ∀ (k0_h8 : k0_cond8 arg6_r0 arg7_r0 = 1#1), ∀ a, (k0_off26 arg8_r0) a + S1x256x4096.size a ≤ S10x256x4096.size a := fun arg6_r0 arg7_r0 arg8_r0 k0_hw15 k0_h8 => k0_hw15.2 k0_h8

def k0_off27 (arg7_r0 : BitVec 32) : Fin 2 → Nat :=
  let c256_i32_206_r0 : BitVec 32 := 256#32
  let c0_i32_199_r0 : BitVec 32 := 0#32
  let v206_r0 : BitVec 32 := Scalar.addi arg7_r0 c0_i32_199_r0
  let v216_r0 : BitVec 32 := Scalar.muli c256_i32_206_r0 v206_r0
  let c0_i32_209_r0 : BitVec 32 := 0#32
  ![v216_r0.toNat, 0]

def k0_chk16 (arg6_r0 : BitVec 32) (arg7_r0 : BitVec 32) : Prop :=
  (∀ (k0_h8 : k0_cond8 arg6_r0 arg7_r0 = 1#1), ∀ a, (k0_off27 arg7_r0) a + S256x4096.size a ≤ S32768x4096.size a)
theorem k0_off27_inb : ∀ (arg6_r0 : BitVec 32) (arg7_r0 : BitVec 32) (k0_hw16 : k0_chk16 arg6_r0 arg7_r0), ∀ (k0_h8 : k0_cond8 arg6_r0 arg7_r0 = 1#1), ∀ a, (k0_off27 arg7_r0) a + S256x4096.size a ≤ S32768x4096.size a := fun arg6_r0 arg7_r0 k0_hw16 k0_h8 => k0_hw16 k0_h8

@[reducible] def k0_t1_loop : Scf.Loop 32 :=
  let c0_i32_125_r0 : BitVec 32 := 0#32
  let c128_i32_126_r0 : BitVec 32 := 128#32
  let v129_r0 : BitVec 32 := Scalar.addi c0_i32_125_r0 c128_i32_126_r0
  let c1_i32_127_r0 : BitVec 32 := 1#32
  ⟨c0_i32_125_r0, v129_r0, c1_i32_127_r0⟩
def k0_off28 (arg17_r0 : BitVec 32) : Fin 1 → Nat :=
  let c10_i32_344_r0 : BitVec 32 := 10#32
  let v478_r0 : BitVec 32 := Scalar.remui arg17_r0 c10_i32_344_r0
  ![v478_r0.toNat]
def k0_cond9 (arg15_r0 : BitVec 32) (arg16_r0 : BitVec 32) : BitVec 1 :=
  let c0_i32_337_r0 : BitVec 32 := 0#32
  let v468_r0 : BitVec 32 := Scalar.addi arg15_r0 c0_i32_337_r0
  let c0_i32_338_r0 : BitVec 32 := 0#32
  let v469_r0 : BitVec 32 := Scalar.addi arg16_r0 c0_i32_338_r0
  let v470_r0 : BitVec 1 := Scalar.cmpi .ne v468_r0 v469_r0
  let v471_r0 : BitVec 32 := Scalar.extui v470_r0
  let c0_i32_339_r0 : BitVec 32 := 0#32
  let v472_r0 : BitVec 1 := Scalar.cmpi .ne v471_r0 c0_i32_339_r0
  v472_r0

def k0_off29 (arg17_r0 : BitVec 32) : Fin 3 → Nat :=
  let c10_i32_344_r0 : BitVec 32 := 10#32
  let v478_r0 : BitVec 32 := Scalar.remui arg17_r0 c10_i32_344_r0
  let c0_i32_346_r0 : BitVec 32 := 0#32
  let c0_i32_347_r0 : BitVec 32 := 0#32
  ![v478_r0.toNat, 0, 0]

def k0_chk17 (arg15_r0 : BitVec 32) (arg16_r0 : BitVec 32) (arg17_r0 : BitVec 32) : Prop :=
  (∀ (k0_h9 : k0_cond9 arg15_r0 arg16_r0 = 1#1), ∀ a, (k0_off28 arg17_r0) a + S1.size a ≤ S10.size a) ∧
  (∀ (k0_h9 : k0_cond9 arg15_r0 arg16_r0 = 1#1), ∀ a, (k0_off29 arg17_r0) a + S1x256x4096.size a ≤ S10x256x4096.size a)
theorem k0_off28_inb : ∀ (arg15_r0 : BitVec 32) (arg16_r0 : BitVec 32) (arg17_r0 : BitVec 32) (k0_hw17 : k0_chk17 arg15_r0 arg16_r0 arg17_r0), ∀ (k0_h9 : k0_cond9 arg15_r0 arg16_r0 = 1#1), ∀ a, (k0_off28 arg17_r0) a + S1.size a ≤ S10.size a := fun arg15_r0 arg16_r0 arg17_r0 k0_hw17 k0_h9 => k0_hw17.1 k0_h9
theorem k0_off29_inb : ∀ (arg15_r0 : BitVec 32) (arg16_r0 : BitVec 32) (arg17_r0 : BitVec 32) (k0_hw17 : k0_chk17 arg15_r0 arg16_r0 arg17_r0), ∀ (k0_h9 : k0_cond9 arg15_r0 arg16_r0 = 1#1), ∀ a, (k0_off29 arg17_r0) a + S1x256x4096.size a ≤ S10x256x4096.size a := fun arg15_r0 arg16_r0 arg17_r0 k0_hw17 k0_h9 => k0_hw17.2 k0_h9

def k0_off30 (arg16_r0 : BitVec 32) : Fin 2 → Nat :=
  let c256_i32_345_r0 : BitVec 32 := 256#32
  let c0_i32_338_r0 : BitVec 32 := 0#32
  let v469_r0 : BitVec 32 := Scalar.addi arg16_r0 c0_i32_338_r0
  let v479_r0 : BitVec 32 := Scalar.muli c256_i32_345_r0 v469_r0
  let c0_i32_348_r0 : BitVec 32 := 0#32
  ![v479_r0.toNat, 0]

def k0_chk18 (arg15_r0 : BitVec 32) (arg16_r0 : BitVec 32) : Prop :=
  (∀ (k0_h9 : k0_cond9 arg15_r0 arg16_r0 = 1#1), ∀ a, (k0_off30 arg16_r0) a + S256x4096.size a ≤ S32768x4096.size a)
theorem k0_off30_inb : ∀ (arg15_r0 : BitVec 32) (arg16_r0 : BitVec 32) (k0_hw18 : k0_chk18 arg15_r0 arg16_r0), ∀ (k0_h9 : k0_cond9 arg15_r0 arg16_r0 = 1#1), ∀ a, (k0_off30 arg16_r0) a + S256x4096.size a ≤ S32768x4096.size a := fun arg15_r0 arg16_r0 k0_hw18 k0_h9 => k0_hw18 k0_h9

def k0_off31 (arg8_r0 : BitVec 32) : Fin 1 → Nat :=
  let c10_i32_338_r0 : BitVec 32 := 10#32
  let v469_r0 : BitVec 32 := Scalar.remui arg8_r0 c10_i32_338_r0
  ![v469_r0.toNat]
def k0_cond10 (k0_t1 : Fin k0_t1_loop.trips) (arg14_r0 : BitVec 32) : BitVec 1 :=
  let c0_i32_200_r0 : BitVec 32 := 0#32
  let v207_r0 : BitVec 32 := Scalar.addi arg14_r0 c0_i32_200_r0
  let true_202_r0 : BitVec 1 := 1#1
  let c1_i32_201_r0 : BitVec 32 := 1#32
  let v208_r0 : BitVec 32 := Scalar.subi arg14_r0 c1_i32_201_r0
  let v209_r0 : BitVec 32 := Scalar.select true_202_r0 v208_r0 arg14_r0
  let c_m1_i32_203_r0 : BitVec 32 := 4294967295#32
  let v210_r0 : BitVec 1 := Scalar.cmpi .eq v209_r0 c_m1_i32_203_r0
  let c127_i32_204_r0 : BitVec 32 := 127#32
  let v211_r0 : BitVec 32 := Scalar.select v210_r0 c127_i32_204_r0 v209_r0
  let c0_i32_205_r0 : BitVec 32 := 0#32
  let v212_r0 : BitVec 32 := Scalar.addi v211_r0 c0_i32_205_r0
  let v280_r0 : BitVec 1 := Scalar.cmpi .ne v207_r0 v212_r0
  let c0_i32_125_r0 : BitVec 32 := 0#32
  let c1_i32_127_r0 : BitVec 32 := 1#32
  let arg6_r0 : BitVec 32 := Scf.iv c0_i32_125_r0 c1_i32_127_r0 k0_t1
  let c0_i32_198_r0 : BitVec 32 := 0#32
  let v205_r0 : BitVec 1 := Scalar.cmpi .eq arg6_r0 c0_i32_198_r0
  let v281_r0 : BitVec 1 := Scalar.ori v280_r0 v205_r0
  let c0_i32_266_r0 : BitVec 32 := 0#32
  let v282_r0 : BitVec 1 := Scalar.cmpi .sge arg6_r0 c0_i32_266_r0
  let v283_r0 : BitVec 1 := Scalar.andi v281_r0 v282_r0
  let v284_r0 : BitVec 32 := Scalar.extui v283_r0
  let c0_i32_267_r0 : BitVec 32 := 0#32
  let v285_r0 : BitVec 1 := Scalar.cmpi .ne v284_r0 c0_i32_267_r0
  v285_r0

def k0_off32 (arg8_r0 : BitVec 32) : Fin 3 → Nat :=
  let c10_i32_338_r0 : BitVec 32 := 10#32
  let v469_r0 : BitVec 32 := Scalar.remui arg8_r0 c10_i32_338_r0
  let c0_i32_339_r0 : BitVec 32 := 0#32
  let c0_i32_340_r0 : BitVec 32 := 0#32
  ![v469_r0.toNat, 0, 0]
def k0_off33 (arg14_r0 : BitVec 32) : Fin 2 → Nat :=
  let c256_i32_337_r0 : BitVec 32 := 256#32
  let c0_i32_200_r0 : BitVec 32 := 0#32
  let v207_r0 : BitVec 32 := Scalar.addi arg14_r0 c0_i32_200_r0
  let v468_r0 : BitVec 32 := Scalar.muli c256_i32_337_r0 v207_r0
  let c0_i32_341_r0 : BitVec 32 := 0#32
  ![v468_r0.toNat, 0]
def k0_off34 (arg8_r0 : BitVec 32) : Fin 3 → Nat :=
  let c10_i32_272_r0 : BitVec 32 := 10#32
  let v298_r0 : BitVec 32 := Scalar.remui arg8_r0 c10_i32_272_r0
  let v302_r0 : Index := Scalar.indexCast v298_r0
  let c0_276_r0 : Index := 0#32
  let c0_277_r0 : Index := 0#32
  ![v302_r0.toNat, 0, 0]

def k0_chk20 (arg8_r0 : BitVec 32) : Prop :=
  (∀ a, (k0_off34 arg8_r0) a + S1x256x4096.size a ≤ S10x256x4096.size a)
theorem k0_off34_inb : ∀ (arg8_r0 : BitVec 32) (k0_hw20 : k0_chk20 arg8_r0), ∀ a, (k0_off34 arg8_r0) a + S1x256x4096.size a ≤ S10x256x4096.size a := fun arg8_r0 k0_hw20 => k0_hw20

def k0_off35 (arg10_r0 : BitVec 32) : Fin 3 → Nat :=
  let c2_i32_273_r0 : BitVec 32 := 2#32
  let v299_r0 : BitVec 32 := Scalar.remui arg10_r0 c2_i32_273_r0
  let v410_r0 : Index := Scalar.indexCast v299_r0
  let c0_309_r0 : Index := 0#32
  let c0_310_r0 : Index := 0#32
  ![v410_r0.toNat, 0, 0]

def k0_chk21 (arg10_r0 : BitVec 32) : Prop :=
  (∀ a, (k0_off35 arg10_r0) a + S1x256x8.size a ≤ S2x256x8.size a)
theorem k0_off35_inb : ∀ (arg10_r0 : BitVec 32) (k0_hw21 : k0_chk21 arg10_r0), ∀ a, (k0_off35 arg10_r0) a + S1x256x8.size a ≤ S2x256x8.size a := fun arg10_r0 k0_hw21 => k0_hw21

def k0_off36 (arg12_r0 : BitVec 32) : Fin 3 → Nat :=
  let c2_i32_274_r0 : BitVec 32 := 2#32
  let v300_r0 : BitVec 32 := Scalar.remui arg12_r0 c2_i32_274_r0
  let v415_r0 : Index := Scalar.indexCast v300_r0
  let c0_311_r0 : Index := 0#32
  let c0_312_r0 : Index := 0#32
  ![v415_r0.toNat, 0, 0]

def k0_chk22 (arg12_r0 : BitVec 32) : Prop :=
  (∀ a, (k0_off36 arg12_r0) a + S1x256x8.size a ≤ S2x256x8.size a)
theorem k0_off36_inb : ∀ (arg12_r0 : BitVec 32) (k0_hw22 : k0_chk22 arg12_r0), ∀ a, (k0_off36 arg12_r0) a + S1x256x8.size a ≤ S2x256x8.size a := fun arg12_r0 k0_hw22 => k0_hw22

def k0_off37 (arg10_r0 : BitVec 32) : Fin 1 → Nat :=
  let c2_i32_337_r0 : BitVec 32 := 2#32
  let v468_r0 : BitVec 32 := Scalar.remui arg10_r0 c2_i32_337_r0
  ![v468_r0.toNat]
def k0_cond14 (k0_t1 : Fin k0_t1_loop.trips) (arg14_r0 : BitVec 32) : BitVec 1 :=
  let c0_i32_200_r0 : BitVec 32 := 0#32
  let v207_r0 : BitVec 32 := Scalar.addi arg14_r0 c0_i32_200_r0
  let true_207_r0 : BitVec 1 := 1#1
  let c1_i32_206_r0 : BitVec 32 := 1#32
  let v213_r0 : BitVec 32 := Scalar.addi arg14_r0 c1_i32_206_r0
  let v214_r0 : BitVec 32 := Scalar.select true_207_r0 v213_r0 arg14_r0
  let c128_i32_208_r0 : BitVec 32 := 128#32
  let v215_r0 : BitVec 1 := Scalar.cmpi .eq v214_r0 c128_i32_208_r0
  let c0_i32_209_r0 : BitVec 32 := 0#32
  let v216_r0 : BitVec 32 := Scalar.select v215_r0 c0_i32_209_r0 v214_r0
  let c0_i32_210_r0 : BitVec 32 := 0#32
  let v217_r0 : BitVec 32 := Scalar.addi v216_r0 c0_i32_210_r0
  let v424_r0 : BitVec 1 := Scalar.cmpi .ne v207_r0 v217_r0
  let c0_i32_125_r0 : BitVec 32 := 0#32
  let c1_i32_127_r0 : BitVec 32 := 1#32
  let arg6_r0 : BitVec 32 := Scf.iv c0_i32_125_r0 c1_i32_127_r0 k0_t1
  let c127_i32_199_r0 : BitVec 32 := 127#32
  let v206_r0 : BitVec 1 := Scalar.cmpi .eq arg6_r0 c127_i32_199_r0
  let v425_r0 : BitVec 1 := Scalar.ori v424_r0 v206_r0
  let v426_r0 : BitVec 32 := Scalar.extui v425_r0
  let c0_i32_315_r0 : BitVec 32 := 0#32
  let v427_r0 : BitVec 1 := Scalar.cmpi .ne v426_r0 c0_i32_315_r0
  v427_r0

def k0_off38 (arg14_r0 : BitVec 32) : Fin 2 → Nat :=
  let c256_i32_338_r0 : BitVec 32 := 256#32
  let c0_i32_200_r0 : BitVec 32 := 0#32
  let v207_r0 : BitVec 32 := Scalar.addi arg14_r0 c0_i32_200_r0
  let v469_r0 : BitVec 32 := Scalar.muli c256_i32_338_r0 v207_r0
  let c0_i32_339_r0 : BitVec 32 := 0#32
  ![v469_r0.toNat, 0]
def k0_off39 (arg10_r0 : BitVec 32) : Fin 3 → Nat :=
  let c2_i32_337_r0 : BitVec 32 := 2#32
  let v468_r0 : BitVec 32 := Scalar.remui arg10_r0 c2_i32_337_r0
  let c0_i32_340_r0 : BitVec 32 := 0#32
  let c0_i32_341_r0 : BitVec 32 := 0#32
  ![v468_r0.toNat, 0, 0]
def k0_off40 (arg12_r0 : BitVec 32) : Fin 1 → Nat :=
  let c2_i32_337_r0 : BitVec 32 := 2#32
  let v468_r0 : BitVec 32 := Scalar.remui arg12_r0 c2_i32_337_r0
  ![v468_r0.toNat]
def k0_cond15 (k0_t1 : Fin k0_t1_loop.trips) (arg14_r0 : BitVec 32) : BitVec 1 :=
  let c0_i32_200_r0 : BitVec 32 := 0#32
  let v207_r0 : BitVec 32 := Scalar.addi arg14_r0 c0_i32_200_r0
  let true_207_r0 : BitVec 1 := 1#1
  let c1_i32_206_r0 : BitVec 32 := 1#32
  let v213_r0 : BitVec 32 := Scalar.addi arg14_r0 c1_i32_206_r0
  let v214_r0 : BitVec 32 := Scalar.select true_207_r0 v213_r0 arg14_r0
  let c128_i32_208_r0 : BitVec 32 := 128#32
  let v215_r0 : BitVec 1 := Scalar.cmpi .eq v214_r0 c128_i32_208_r0
  let c0_i32_209_r0 : BitVec 32 := 0#32
  let v216_r0 : BitVec 32 := Scalar.select v215_r0 c0_i32_209_r0 v214_r0
  let c0_i32_210_r0 : BitVec 32 := 0#32
  let v217_r0 : BitVec 32 := Scalar.addi v216_r0 c0_i32_210_r0
  let v431_r0 : BitVec 1 := Scalar.cmpi .ne v207_r0 v217_r0
  let c0_i32_125_r0 : BitVec 32 := 0#32
  let c1_i32_127_r0 : BitVec 32 := 1#32
  let arg6_r0 : BitVec 32 := Scf.iv c0_i32_125_r0 c1_i32_127_r0 k0_t1
  let c127_i32_199_r0 : BitVec 32 := 127#32
  let v206_r0 : BitVec 1 := Scalar.cmpi .eq arg6_r0 c127_i32_199_r0
  let v432_r0 : BitVec 1 := Scalar.ori v431_r0 v206_r0
  let v433_r0 : BitVec 32 := Scalar.extui v432_r0
  let c0_i32_318_r0 : BitVec 32 := 0#32
  let v434_r0 : BitVec 1 := Scalar.cmpi .ne v433_r0 c0_i32_318_r0
  v434_r0

def k0_off41 (arg14_r0 : BitVec 32) : Fin 2 → Nat :=
  let c256_i32_338_r0 : BitVec 32 := 256#32
  let c0_i32_200_r0 : BitVec 32 := 0#32
  let v207_r0 : BitVec 32 := Scalar.addi arg14_r0 c0_i32_200_r0
  let v469_r0 : BitVec 32 := Scalar.muli c256_i32_338_r0 v207_r0
  let c0_i32_339_r0 : BitVec 32 := 0#32
  ![v469_r0.toNat, 0]
def k0_off42 (arg12_r0 : BitVec 32) : Fin 3 → Nat :=
  let c2_i32_337_r0 : BitVec 32 := 2#32
  let v468_r0 : BitVec 32 := Scalar.remui arg12_r0 c2_i32_337_r0
  let c0_i32_340_r0 : BitVec 32 := 0#32
  let c0_i32_341_r0 : BitVec 32 := 0#32
  ![v468_r0.toNat, 0, 0]
def k0_off43 (arg11_r0 : BitVec 32) : Fin 1 → Nat :=
  let c2_i32_337_r0 : BitVec 32 := 2#32
  let v468_r0 : BitVec 32 := Scalar.remui arg11_r0 c2_i32_337_r0
  ![v468_r0.toNat]
def k0_cond17 (k0_t1 : Fin k0_t1_loop.trips) (arg14_r0 : BitVec 32) : BitVec 1 :=
  let c0_i32_200_r0 : BitVec 32 := 0#32
  let v207_r0 : BitVec 32 := Scalar.addi arg14_r0 c0_i32_200_r0
  let true_202_r0 : BitVec 1 := 1#1
  let c1_i32_201_r0 : BitVec 32 := 1#32
  let v208_r0 : BitVec 32 := Scalar.subi arg14_r0 c1_i32_201_r0
  let v209_r0 : BitVec 32 := Scalar.select true_202_r0 v208_r0 arg14_r0
  let c_m1_i32_203_r0 : BitVec 32 := 4294967295#32
  let v210_r0 : BitVec 1 := Scalar.cmpi .eq v209_r0 c_m1_i32_203_r0
  let c127_i32_204_r0 : BitVec 32 := 127#32
  let v211_r0 : BitVec 32 := Scalar.select v210_r0 c127_i32_204_r0 v209_r0
  let c0_i32_205_r0 : BitVec 32 := 0#32
  let v212_r0 : BitVec 32 := Scalar.addi v211_r0 c0_i32_205_r0
  let v444_r0 : BitVec 1 := Scalar.cmpi .ne v207_r0 v212_r0
  let c0_i32_125_r0 : BitVec 32 := 0#32
  let c1_i32_127_r0 : BitVec 32 := 1#32
  let arg6_r0 : BitVec 32 := Scf.iv c0_i32_125_r0 c1_i32_127_r0 k0_t1
  let c0_i32_198_r0 : BitVec 32 := 0#32
  let v205_r0 : BitVec 1 := Scalar.cmpi .eq arg6_r0 c0_i32_198_r0
  let true_324_r0 : BitVec 1 := 1#1
  let v445_r0 : BitVec 1 := Scalar.xori v205_r0 true_324_r0
  let v446_r0 : BitVec 1 := Scalar.andi v444_r0 v445_r0
  let v447_r0 : BitVec 32 := Scalar.extui v446_r0
  let c0_i32_325_r0 : BitVec 32 := 0#32
  let v448_r0 : BitVec 1 := Scalar.cmpi .ne v447_r0 c0_i32_325_r0
  v448_r0

def k0_off44 (arg14_r0 : BitVec 32) : Fin 2 → Nat :=
  let c256_i32_338_r0 : BitVec 32 := 256#32
  let true_202_r0 : BitVec 1 := 1#1
  let c1_i32_201_r0 : BitVec 32 := 1#32
  let v208_r0 : BitVec 32 := Scalar.subi arg14_r0 c1_i32_201_r0
  let v209_r0 : BitVec 32 := Scalar.select true_202_r0 v208_r0 arg14_r0
  let c_m1_i32_203_r0 : BitVec 32 := 4294967295#32
  let v210_r0 : BitVec 1 := Scalar.cmpi .eq v209_r0 c_m1_i32_203_r0
  let c127_i32_204_r0 : BitVec 32 := 127#32
  let v211_r0 : BitVec 32 := Scalar.select v210_r0 c127_i32_204_r0 v209_r0
  let c0_i32_205_r0 : BitVec 32 := 0#32
  let v212_r0 : BitVec 32 := Scalar.addi v211_r0 c0_i32_205_r0
  let v469_r0 : BitVec 32 := Scalar.muli c256_i32_338_r0 v212_r0
  let c0_i32_339_r0 : BitVec 32 := 0#32
  ![v469_r0.toNat, 0]
def k0_off45 (arg11_r0 : BitVec 32) : Fin 3 → Nat :=
  let c2_i32_337_r0 : BitVec 32 := 2#32
  let v468_r0 : BitVec 32 := Scalar.remui arg11_r0 c2_i32_337_r0
  let c0_i32_340_r0 : BitVec 32 := 0#32
  let c0_i32_341_r0 : BitVec 32 := 0#32
  ![v468_r0.toNat, 0, 0]
def k0_off46 (arg13_r0 : BitVec 32) : Fin 1 → Nat :=
  let c2_i32_337_r0 : BitVec 32 := 2#32
  let v468_r0 : BitVec 32 := Scalar.remui arg13_r0 c2_i32_337_r0
  ![v468_r0.toNat]
def k0_cond18 (k0_t1 : Fin k0_t1_loop.trips) (arg14_r0 : BitVec 32) : BitVec 1 :=
  let c0_i32_200_r0 : BitVec 32 := 0#32
  let v207_r0 : BitVec 32 := Scalar.addi arg14_r0 c0_i32_200_r0
  let true_202_r0 : BitVec 1 := 1#1
  let c1_i32_201_r0 : BitVec 32 := 1#32
  let v208_r0 : BitVec 32 := Scalar.subi arg14_r0 c1_i32_201_r0
  let v209_r0 : BitVec 32 := Scalar.select true_202_r0 v208_r0 arg14_r0
  let c_m1_i32_203_r0 : BitVec 32 := 4294967295#32
  let v210_r0 : BitVec 1 := Scalar.cmpi .eq v209_r0 c_m1_i32_203_r0
  let c127_i32_204_r0 : BitVec 32 := 127#32
  let v211_r0 : BitVec 32 := Scalar.select v210_r0 c127_i32_204_r0 v209_r0
  let c0_i32_205_r0 : BitVec 32 := 0#32
  let v212_r0 : BitVec 32 := Scalar.addi v211_r0 c0_i32_205_r0
  let v452_r0 : BitVec 1 := Scalar.cmpi .ne v207_r0 v212_r0
  let c0_i32_125_r0 : BitVec 32 := 0#32
  let c1_i32_127_r0 : BitVec 32 := 1#32
  let arg6_r0 : BitVec 32 := Scf.iv c0_i32_125_r0 c1_i32_127_r0 k0_t1
  let c0_i32_198_r0 : BitVec 32 := 0#32
  let v205_r0 : BitVec 1 := Scalar.cmpi .eq arg6_r0 c0_i32_198_r0
  let true_328_r0 : BitVec 1 := 1#1
  let v453_r0 : BitVec 1 := Scalar.xori v205_r0 true_328_r0
  let v454_r0 : BitVec 1 := Scalar.andi v452_r0 v453_r0
  let v455_r0 : BitVec 32 := Scalar.extui v454_r0
  let c0_i32_329_r0 : BitVec 32 := 0#32
  let v456_r0 : BitVec 1 := Scalar.cmpi .ne v455_r0 c0_i32_329_r0
  v456_r0

def k0_off47 (arg14_r0 : BitVec 32) : Fin 2 → Nat :=
  let c256_i32_338_r0 : BitVec 32 := 256#32
  let true_202_r0 : BitVec 1 := 1#1
  let c1_i32_201_r0 : BitVec 32 := 1#32
  let v208_r0 : BitVec 32 := Scalar.subi arg14_r0 c1_i32_201_r0
  let v209_r0 : BitVec 32 := Scalar.select true_202_r0 v208_r0 arg14_r0
  let c_m1_i32_203_r0 : BitVec 32 := 4294967295#32
  let v210_r0 : BitVec 1 := Scalar.cmpi .eq v209_r0 c_m1_i32_203_r0
  let c127_i32_204_r0 : BitVec 32 := 127#32
  let v211_r0 : BitVec 32 := Scalar.select v210_r0 c127_i32_204_r0 v209_r0
  let c0_i32_205_r0 : BitVec 32 := 0#32
  let v212_r0 : BitVec 32 := Scalar.addi v211_r0 c0_i32_205_r0
  let v469_r0 : BitVec 32 := Scalar.muli c256_i32_338_r0 v212_r0
  let c0_i32_339_r0 : BitVec 32 := 0#32
  ![v469_r0.toNat, 0]
def k0_off48 (arg13_r0 : BitVec 32) : Fin 3 → Nat :=
  let c2_i32_337_r0 : BitVec 32 := 2#32
  let v468_r0 : BitVec 32 := Scalar.remui arg13_r0 c2_i32_337_r0
  let c0_i32_340_r0 : BitVec 32 := 0#32
  let c0_i32_341_r0 : BitVec 32 := 0#32
  ![v468_r0.toNat, 0, 0]

def k0_chk19 (k0_t1 : Fin k0_t1_loop.trips) (arg8_r0 : BitVec 32) (arg10_r0 : BitVec 32) (arg11_r0 : BitVec 32) (arg12_r0 : BitVec 32) (arg13_r0 : BitVec 32) (arg14_r0 : BitVec 32) : Prop :=
  (∀ (k0_h10 : k0_cond10 k0_t1 arg14_r0 = 1#1), ∀ a, (k0_off31 arg8_r0) a + S1.size a ≤ S10.size a) ∧
  (∀ (k0_h10 : k0_cond10 k0_t1 arg14_r0 = 1#1), ∀ a, (k0_off32 arg8_r0) a + S1x256x4096.size a ≤ S10x256x4096.size a) ∧
  (∀ (k0_h10 : k0_cond10 k0_t1 arg14_r0 = 1#1), ∀ a, (k0_off33 arg14_r0) a + S256x4096.size a ≤ S32768x4096.size a) ∧
  (∀ (k0_h14 : k0_cond14 k0_t1 arg14_r0 = 1#1), ∀ a, (k0_off37 arg10_r0) a + S1.size a ≤ S2.size a) ∧
  (∀ (k0_h14 : k0_cond14 k0_t1 arg14_r0 = 1#1), ∀ a, (k0_off38 arg14_r0) a + S256x8.size a ≤ S32768x8.size a) ∧
  (∀ (k0_h14 : k0_cond14 k0_t1 arg14_r0 = 1#1), ∀ a, (k0_off39 arg10_r0) a + S1x256x8.size a ≤ S2x256x8.size a) ∧
  (∀ (k0_h15 : k0_cond15 k0_t1 arg14_r0 = 1#1), ∀ a, (k0_off40 arg12_r0) a + S1.size a ≤ S2.size a) ∧
  (∀ (k0_h15 : k0_cond15 k0_t1 arg14_r0 = 1#1), ∀ a, (k0_off41 arg14_r0) a + S256x8.size a ≤ S32768x8.size a) ∧
  (∀ (k0_h15 : k0_cond15 k0_t1 arg14_r0 = 1#1), ∀ a, (k0_off42 arg12_r0) a + S1x256x8.size a ≤ S2x256x8.size a) ∧
  (∀ (k0_h17 : k0_cond17 k0_t1 arg14_r0 = 1#1), ∀ a, (k0_off43 arg11_r0) a + S1.size a ≤ S2.size a) ∧
  (∀ (k0_h17 : k0_cond17 k0_t1 arg14_r0 = 1#1), ∀ a, (k0_off44 arg14_r0) a + S256x8.size a ≤ S32768x8.size a) ∧
  (∀ (k0_h17 : k0_cond17 k0_t1 arg14_r0 = 1#1), ∀ a, (k0_off45 arg11_r0) a + S1x256x8.size a ≤ S2x256x8.size a) ∧
  (∀ (k0_h18 : k0_cond18 k0_t1 arg14_r0 = 1#1), ∀ a, (k0_off46 arg13_r0) a + S1.size a ≤ S2.size a) ∧
  (∀ (k0_h18 : k0_cond18 k0_t1 arg14_r0 = 1#1), ∀ a, (k0_off47 arg14_r0) a + S256x8.size a ≤ S32768x8.size a) ∧
  (∀ (k0_h18 : k0_cond18 k0_t1 arg14_r0 = 1#1), ∀ a, (k0_off48 arg13_r0) a + S1x256x8.size a ≤ S2x256x8.size a)
theorem k0_off31_inb : ∀ (k0_t1 : Fin k0_t1_loop.trips) (arg8_r0 : BitVec 32) (arg10_r0 : BitVec 32) (arg11_r0 : BitVec 32) (arg12_r0 : BitVec 32) (arg13_r0 : BitVec 32) (arg14_r0 : BitVec 32) (k0_hw19 : k0_chk19 k0_t1 arg8_r0 arg10_r0 arg11_r0 arg12_r0 arg13_r0 arg14_r0), ∀ (k0_h10 : k0_cond10 k0_t1 arg14_r0 = 1#1), ∀ a, (k0_off31 arg8_r0) a + S1.size a ≤ S10.size a := fun k0_t1 arg8_r0 arg10_r0 arg11_r0 arg12_r0 arg13_r0 arg14_r0 k0_hw19 k0_h10 => k0_hw19.1 k0_h10
theorem k0_off32_inb : ∀ (k0_t1 : Fin k0_t1_loop.trips) (arg8_r0 : BitVec 32) (arg10_r0 : BitVec 32) (arg11_r0 : BitVec 32) (arg12_r0 : BitVec 32) (arg13_r0 : BitVec 32) (arg14_r0 : BitVec 32) (k0_hw19 : k0_chk19 k0_t1 arg8_r0 arg10_r0 arg11_r0 arg12_r0 arg13_r0 arg14_r0), ∀ (k0_h10 : k0_cond10 k0_t1 arg14_r0 = 1#1), ∀ a, (k0_off32 arg8_r0) a + S1x256x4096.size a ≤ S10x256x4096.size a := fun k0_t1 arg8_r0 arg10_r0 arg11_r0 arg12_r0 arg13_r0 arg14_r0 k0_hw19 k0_h10 => k0_hw19.2.1 k0_h10
theorem k0_off33_inb : ∀ (k0_t1 : Fin k0_t1_loop.trips) (arg8_r0 : BitVec 32) (arg10_r0 : BitVec 32) (arg11_r0 : BitVec 32) (arg12_r0 : BitVec 32) (arg13_r0 : BitVec 32) (arg14_r0 : BitVec 32) (k0_hw19 : k0_chk19 k0_t1 arg8_r0 arg10_r0 arg11_r0 arg12_r0 arg13_r0 arg14_r0), ∀ (k0_h10 : k0_cond10 k0_t1 arg14_r0 = 1#1), ∀ a, (k0_off33 arg14_r0) a + S256x4096.size a ≤ S32768x4096.size a := fun k0_t1 arg8_r0 arg10_r0 arg11_r0 arg12_r0 arg13_r0 arg14_r0 k0_hw19 k0_h10 => k0_hw19.2.2.1 k0_h10
theorem k0_off37_inb : ∀ (k0_t1 : Fin k0_t1_loop.trips) (arg8_r0 : BitVec 32) (arg10_r0 : BitVec 32) (arg11_r0 : BitVec 32) (arg12_r0 : BitVec 32) (arg13_r0 : BitVec 32) (arg14_r0 : BitVec 32) (k0_hw19 : k0_chk19 k0_t1 arg8_r0 arg10_r0 arg11_r0 arg12_r0 arg13_r0 arg14_r0), ∀ (k0_h14 : k0_cond14 k0_t1 arg14_r0 = 1#1), ∀ a, (k0_off37 arg10_r0) a + S1.size a ≤ S2.size a := fun k0_t1 arg8_r0 arg10_r0 arg11_r0 arg12_r0 arg13_r0 arg14_r0 k0_hw19 k0_h14 => k0_hw19.2.2.2.1 k0_h14
theorem k0_off38_inb : ∀ (k0_t1 : Fin k0_t1_loop.trips) (arg8_r0 : BitVec 32) (arg10_r0 : BitVec 32) (arg11_r0 : BitVec 32) (arg12_r0 : BitVec 32) (arg13_r0 : BitVec 32) (arg14_r0 : BitVec 32) (k0_hw19 : k0_chk19 k0_t1 arg8_r0 arg10_r0 arg11_r0 arg12_r0 arg13_r0 arg14_r0), ∀ (k0_h14 : k0_cond14 k0_t1 arg14_r0 = 1#1), ∀ a, (k0_off38 arg14_r0) a + S256x8.size a ≤ S32768x8.size a := fun k0_t1 arg8_r0 arg10_r0 arg11_r0 arg12_r0 arg13_r0 arg14_r0 k0_hw19 k0_h14 => k0_hw19.2.2.2.2.1 k0_h14
theorem k0_off39_inb : ∀ (k0_t1 : Fin k0_t1_loop.trips) (arg8_r0 : BitVec 32) (arg10_r0 : BitVec 32) (arg11_r0 : BitVec 32) (arg12_r0 : BitVec 32) (arg13_r0 : BitVec 32) (arg14_r0 : BitVec 32) (k0_hw19 : k0_chk19 k0_t1 arg8_r0 arg10_r0 arg11_r0 arg12_r0 arg13_r0 arg14_r0), ∀ (k0_h14 : k0_cond14 k0_t1 arg14_r0 = 1#1), ∀ a, (k0_off39 arg10_r0) a + S1x256x8.size a ≤ S2x256x8.size a := fun k0_t1 arg8_r0 arg10_r0 arg11_r0 arg12_r0 arg13_r0 arg14_r0 k0_hw19 k0_h14 => k0_hw19.2.2.2.2.2.1 k0_h14
theorem k0_off40_inb : ∀ (k0_t1 : Fin k0_t1_loop.trips) (arg8_r0 : BitVec 32) (arg10_r0 : BitVec 32) (arg11_r0 : BitVec 32) (arg12_r0 : BitVec 32) (arg13_r0 : BitVec 32) (arg14_r0 : BitVec 32) (k0_hw19 : k0_chk19 k0_t1 arg8_r0 arg10_r0 arg11_r0 arg12_r0 arg13_r0 arg14_r0), ∀ (k0_h15 : k0_cond15 k0_t1 arg14_r0 = 1#1), ∀ a, (k0_off40 arg12_r0) a + S1.size a ≤ S2.size a := fun k0_t1 arg8_r0 arg10_r0 arg11_r0 arg12_r0 arg13_r0 arg14_r0 k0_hw19 k0_h15 => k0_hw19.2.2.2.2.2.2.1 k0_h15
theorem k0_off41_inb : ∀ (k0_t1 : Fin k0_t1_loop.trips) (arg8_r0 : BitVec 32) (arg10_r0 : BitVec 32) (arg11_r0 : BitVec 32) (arg12_r0 : BitVec 32) (arg13_r0 : BitVec 32) (arg14_r0 : BitVec 32) (k0_hw19 : k0_chk19 k0_t1 arg8_r0 arg10_r0 arg11_r0 arg12_r0 arg13_r0 arg14_r0), ∀ (k0_h15 : k0_cond15 k0_t1 arg14_r0 = 1#1), ∀ a, (k0_off41 arg14_r0) a + S256x8.size a ≤ S32768x8.size a := fun k0_t1 arg8_r0 arg10_r0 arg11_r0 arg12_r0 arg13_r0 arg14_r0 k0_hw19 k0_h15 => k0_hw19.2.2.2.2.2.2.2.1 k0_h15
theorem k0_off42_inb : ∀ (k0_t1 : Fin k0_t1_loop.trips) (arg8_r0 : BitVec 32) (arg10_r0 : BitVec 32) (arg11_r0 : BitVec 32) (arg12_r0 : BitVec 32) (arg13_r0 : BitVec 32) (arg14_r0 : BitVec 32) (k0_hw19 : k0_chk19 k0_t1 arg8_r0 arg10_r0 arg11_r0 arg12_r0 arg13_r0 arg14_r0), ∀ (k0_h15 : k0_cond15 k0_t1 arg14_r0 = 1#1), ∀ a, (k0_off42 arg12_r0) a + S1x256x8.size a ≤ S2x256x8.size a := fun k0_t1 arg8_r0 arg10_r0 arg11_r0 arg12_r0 arg13_r0 arg14_r0 k0_hw19 k0_h15 => k0_hw19.2.2.2.2.2.2.2.2.1 k0_h15
theorem k0_off43_inb : ∀ (k0_t1 : Fin k0_t1_loop.trips) (arg8_r0 : BitVec 32) (arg10_r0 : BitVec 32) (arg11_r0 : BitVec 32) (arg12_r0 : BitVec 32) (arg13_r0 : BitVec 32) (arg14_r0 : BitVec 32) (k0_hw19 : k0_chk19 k0_t1 arg8_r0 arg10_r0 arg11_r0 arg12_r0 arg13_r0 arg14_r0), ∀ (k0_h17 : k0_cond17 k0_t1 arg14_r0 = 1#1), ∀ a, (k0_off43 arg11_r0) a + S1.size a ≤ S2.size a := fun k0_t1 arg8_r0 arg10_r0 arg11_r0 arg12_r0 arg13_r0 arg14_r0 k0_hw19 k0_h17 => k0_hw19.2.2.2.2.2.2.2.2.2.1 k0_h17
theorem k0_off44_inb : ∀ (k0_t1 : Fin k0_t1_loop.trips) (arg8_r0 : BitVec 32) (arg10_r0 : BitVec 32) (arg11_r0 : BitVec 32) (arg12_r0 : BitVec 32) (arg13_r0 : BitVec 32) (arg14_r0 : BitVec 32) (k0_hw19 : k0_chk19 k0_t1 arg8_r0 arg10_r0 arg11_r0 arg12_r0 arg13_r0 arg14_r0), ∀ (k0_h17 : k0_cond17 k0_t1 arg14_r0 = 1#1), ∀ a, (k0_off44 arg14_r0) a + S256x8.size a ≤ S32768x8.size a := fun k0_t1 arg8_r0 arg10_r0 arg11_r0 arg12_r0 arg13_r0 arg14_r0 k0_hw19 k0_h17 => k0_hw19.2.2.2.2.2.2.2.2.2.2.1 k0_h17
theorem k0_off45_inb : ∀ (k0_t1 : Fin k0_t1_loop.trips) (arg8_r0 : BitVec 32) (arg10_r0 : BitVec 32) (arg11_r0 : BitVec 32) (arg12_r0 : BitVec 32) (arg13_r0 : BitVec 32) (arg14_r0 : BitVec 32) (k0_hw19 : k0_chk19 k0_t1 arg8_r0 arg10_r0 arg11_r0 arg12_r0 arg13_r0 arg14_r0), ∀ (k0_h17 : k0_cond17 k0_t1 arg14_r0 = 1#1), ∀ a, (k0_off45 arg11_r0) a + S1x256x8.size a ≤ S2x256x8.size a := fun k0_t1 arg8_r0 arg10_r0 arg11_r0 arg12_r0 arg13_r0 arg14_r0 k0_hw19 k0_h17 => k0_hw19.2.2.2.2.2.2.2.2.2.2.2.1 k0_h17
theorem k0_off46_inb : ∀ (k0_t1 : Fin k0_t1_loop.trips) (arg8_r0 : BitVec 32) (arg10_r0 : BitVec 32) (arg11_r0 : BitVec 32) (arg12_r0 : BitVec 32) (arg13_r0 : BitVec 32) (arg14_r0 : BitVec 32) (k0_hw19 : k0_chk19 k0_t1 arg8_r0 arg10_r0 arg11_r0 arg12_r0 arg13_r0 arg14_r0), ∀ (k0_h18 : k0_cond18 k0_t1 arg14_r0 = 1#1), ∀ a, (k0_off46 arg13_r0) a + S1.size a ≤ S2.size a := fun k0_t1 arg8_r0 arg10_r0 arg11_r0 arg12_r0 arg13_r0 arg14_r0 k0_hw19 k0_h18 => k0_hw19.2.2.2.2.2.2.2.2.2.2.2.2.1 k0_h18
theorem k0_off47_inb : ∀ (k0_t1 : Fin k0_t1_loop.trips) (arg8_r0 : BitVec 32) (arg10_r0 : BitVec 32) (arg11_r0 : BitVec 32) (arg12_r0 : BitVec 32) (arg13_r0 : BitVec 32) (arg14_r0 : BitVec 32) (k0_hw19 : k0_chk19 k0_t1 arg8_r0 arg10_r0 arg11_r0 arg12_r0 arg13_r0 arg14_r0), ∀ (k0_h18 : k0_cond18 k0_t1 arg14_r0 = 1#1), ∀ a, (k0_off47 arg14_r0) a + S256x8.size a ≤ S32768x8.size a := fun k0_t1 arg8_r0 arg10_r0 arg11_r0 arg12_r0 arg13_r0 arg14_r0 k0_hw19 k0_h18 => k0_hw19.2.2.2.2.2.2.2.2.2.2.2.2.2.1 k0_h18
theorem k0_off48_inb : ∀ (k0_t1 : Fin k0_t1_loop.trips) (arg8_r0 : BitVec 32) (arg10_r0 : BitVec 32) (arg11_r0 : BitVec 32) (arg12_r0 : BitVec 32) (arg13_r0 : BitVec 32) (arg14_r0 : BitVec 32) (k0_hw19 : k0_chk19 k0_t1 arg8_r0 arg10_r0 arg11_r0 arg12_r0 arg13_r0 arg14_r0), ∀ (k0_h18 : k0_cond18 k0_t1 arg14_r0 = 1#1), ∀ a, (k0_off48 arg13_r0) a + S1x256x8.size a ≤ S2x256x8.size a := fun k0_t1 arg8_r0 arg10_r0 arg11_r0 arg12_r0 arg13_r0 arg14_r0 k0_hw19 k0_h18 => k0_hw19.2.2.2.2.2.2.2.2.2.2.2.2.2.2 k0_h18

def k0_off49 (v130_4_r0 : BitVec 32) : Fin 1 → Nat :=
  let c2_i32_r0 : BitVec 32 := 2#32
  let v191_r0 : BitVec 32 := Scalar.remui v130_4_r0 c2_i32_r0
  ![v191_r0.toNat]

def k0_off50 (v130_7_r0 : BitVec 32) : Fin 2 → Nat :=
  let c256_i32_189_r0 : BitVec 32 := 256#32
  let true_130_r0 : BitVec 1 := 1#1
  let c1_i32_129_r0 : BitVec 32 := 1#32
  let v131_r0 : BitVec 32 := Scalar.subi v130_7_r0 c1_i32_129_r0
  let v132_r0 : BitVec 32 := Scalar.select true_130_r0 v131_r0 v130_7_r0
  let c_m1_i32_131_r0 : BitVec 32 := 4294967295#32
  let v133_r0 : BitVec 1 := Scalar.cmpi .eq v132_r0 c_m1_i32_131_r0
  let c127_i32_132_r0 : BitVec 32 := 127#32
  let v134_r0 : BitVec 32 := Scalar.select v133_r0 c127_i32_132_r0 v132_r0
  let c0_i32_133_r0 : BitVec 32 := 0#32
  let v135_r0 : BitVec 32 := Scalar.addi v134_r0 c0_i32_133_r0
  let v192_r0 : BitVec 32 := Scalar.muli c256_i32_189_r0 v135_r0
  let c0_i32_190_r0 : BitVec 32 := 0#32
  ![v192_r0.toNat, 0]

def k0_off51 (v130_4_r0 : BitVec 32) : Fin 3 → Nat :=
  let c2_i32_r0 : BitVec 32 := 2#32
  let v191_r0 : BitVec 32 := Scalar.remui v130_4_r0 c2_i32_r0
  let c0_i32_191_r0 : BitVec 32 := 0#32
  let c0_i32_192_r0 : BitVec 32 := 0#32
  ![v191_r0.toNat, 0, 0]

def k0_chk23 (v130_4_r0 : BitVec 32) : Prop :=
  (∀ a, (k0_off49 v130_4_r0) a + S1.size a ≤ S2.size a) ∧
  (∀ a, (k0_off51 v130_4_r0) a + S1x256x8.size a ≤ S2x256x8.size a)
theorem k0_off49_inb : ∀ (v130_4_r0 : BitVec 32) (k0_hw23 : k0_chk23 v130_4_r0), ∀ a, (k0_off49 v130_4_r0) a + S1.size a ≤ S2.size a := fun v130_4_r0 k0_hw23 => k0_hw23.1
theorem k0_off51_inb : ∀ (v130_4_r0 : BitVec 32) (k0_hw23 : k0_chk23 v130_4_r0), ∀ a, (k0_off51 v130_4_r0) a + S1x256x8.size a ≤ S2x256x8.size a := fun v130_4_r0 k0_hw23 => k0_hw23.2

def k0_off52 (v130_6_r0 : BitVec 32) : Fin 1 → Nat :=
  let c2_i32_193_r0 : BitVec 32 := 2#32
  let v198_r0 : BitVec 32 := Scalar.remui v130_6_r0 c2_i32_193_r0
  ![v198_r0.toNat]

def k0_off53 (v130_7_r0 : BitVec 32) : Fin 2 → Nat :=
  let c256_i32_194_r0 : BitVec 32 := 256#32
  let true_130_r0 : BitVec 1 := 1#1
  let c1_i32_129_r0 : BitVec 32 := 1#32
  let v131_r0 : BitVec 32 := Scalar.subi v130_7_r0 c1_i32_129_r0
  let v132_r0 : BitVec 32 := Scalar.select true_130_r0 v131_r0 v130_7_r0
  let c_m1_i32_131_r0 : BitVec 32 := 4294967295#32
  let v133_r0 : BitVec 1 := Scalar.cmpi .eq v132_r0 c_m1_i32_131_r0
  let c127_i32_132_r0 : BitVec 32 := 127#32
  let v134_r0 : BitVec 32 := Scalar.select v133_r0 c127_i32_132_r0 v132_r0
  let c0_i32_133_r0 : BitVec 32 := 0#32
  let v135_r0 : BitVec 32 := Scalar.addi v134_r0 c0_i32_133_r0
  let v199_r0 : BitVec 32 := Scalar.muli c256_i32_194_r0 v135_r0
  let c0_i32_195_r0 : BitVec 32 := 0#32
  ![v199_r0.toNat, 0]

def k0_chk24 (v130_7_r0 : BitVec 32) : Prop :=
  (∀ a, (k0_off50 v130_7_r0) a + S256x8.size a ≤ S32768x8.size a) ∧
  (∀ a, (k0_off53 v130_7_r0) a + S256x8.size a ≤ S32768x8.size a)
theorem k0_off50_inb : ∀ (v130_7_r0 : BitVec 32) (k0_hw24 : k0_chk24 v130_7_r0), ∀ a, (k0_off50 v130_7_r0) a + S256x8.size a ≤ S32768x8.size a := fun v130_7_r0 k0_hw24 => k0_hw24.1
theorem k0_off53_inb : ∀ (v130_7_r0 : BitVec 32) (k0_hw24 : k0_chk24 v130_7_r0), ∀ a, (k0_off53 v130_7_r0) a + S256x8.size a ≤ S32768x8.size a := fun v130_7_r0 k0_hw24 => k0_hw24.2

def k0_off54 (v130_6_r0 : BitVec 32) : Fin 3 → Nat :=
  let c2_i32_193_r0 : BitVec 32 := 2#32
  let v198_r0 : BitVec 32 := Scalar.remui v130_6_r0 c2_i32_193_r0
  let c0_i32_196_r0 : BitVec 32 := 0#32
  let c0_i32_197_r0 : BitVec 32 := 0#32
  ![v198_r0.toNat, 0, 0]

def k0_chk25 (v130_6_r0 : BitVec 32) : Prop :=
  (∀ a, (k0_off52 v130_6_r0) a + S1.size a ≤ S2.size a) ∧
  (∀ a, (k0_off54 v130_6_r0) a + S1x256x8.size a ≤ S2x256x8.size a)
theorem k0_off52_inb : ∀ (v130_6_r0 : BitVec 32) (k0_hw25 : k0_chk25 v130_6_r0), ∀ a, (k0_off52 v130_6_r0) a + S1.size a ≤ S2.size a := fun v130_6_r0 k0_hw25 => k0_hw25.1
theorem k0_off54_inb : ∀ (v130_6_r0 : BitVec 32) (k0_hw25 : k0_chk25 v130_6_r0), ∀ a, (k0_off54 v130_6_r0) a + S1x256x8.size a ≤ S2x256x8.size a := fun v130_6_r0 k0_hw25 => k0_hw25.2
-- ==== Reference2Ideal.lean ====
abbrev S32768x4096 : Shape := ⟨2, ![32768, 4096]⟩
abbrev S64x4096 : Shape := ⟨2, ![64, 4096]⟩
abbrev S4096x64 : Shape := ⟨2, ![4096, 64]⟩
abbrev S32768x64 : Shape := ⟨2, ![32768, 64]⟩
abbrev S32768x8 : Shape := ⟨2, ![32768, 8]⟩
abbrev S_ : Shape := ⟨0, ![]⟩
abbrev S32768 : Shape := ⟨1, ![32768]⟩
abbrev S32768x1 : Shape := ⟨2, ![32768, 1]⟩

abbrev nBuf : Space → Nat
  | .hbm => 20
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S4096x64, .f32⟩
  | .hbm, ⟨3, _⟩ => ⟨S32768x64, .f32⟩
  | .hbm, ⟨4, _⟩ => ⟨S32768x8, .f32⟩
  | .hbm, ⟨5, _⟩ => ⟨S32768x8, .i32⟩
  | .hbm, ⟨6, _⟩ => ⟨S_, .f32⟩
  | .hbm, ⟨7, _⟩ => ⟨S32768, .f32⟩
  | .hbm, ⟨8, _⟩ => ⟨S_, .f32⟩
  | .hbm, ⟨9, _⟩ => ⟨S32768, .f32⟩
  | .hbm, ⟨10, _⟩ => ⟨S32768, .f32⟩
  | .hbm, ⟨11, _⟩ => ⟨S32768x1, .f32⟩
  | .hbm, ⟨12, _⟩ => ⟨S32768x8, .f32⟩
  | .hbm, ⟨13, _⟩ => ⟨S32768x8, .f32⟩
  | .hbm, ⟨14, _⟩ => ⟨S32768x8, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S32768x8, .f32⟩
  | .hbm, ⟨19, _⟩ => ⟨S32768x8, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_values : Ref sig .tc := ⟨.hbm, 4, rfl⟩
abbrev main_indices : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Proof.K1.Names.lean ====
/-
  The names of the router's run: the blocks of the three HBM arrays that move, the slots of the three VMEM rings, the
  cells their transfers complete on, and one rule per transfer the body issues or waits for. Every rule is stated over
  the offsets as the body computes them, with the equation that says which block, slot or cell they are.
-/
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.KitQuiescent
public import Idealize.ShloMosaic.Lib.Ring
public import Idealize.ShloMosaic.Lib.Tactic

@[expose] public section

noncomputable section

namespace Cert.Proof.K1

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

/-! ## The resource algebra: the pipeline library's, beside the counters the kernel's own transfers ride on -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
/-- The counting loops call themselves under a natural number that falls. -/
abbrev 𝒱₀ : Variants := Variants.nat

omit [BitOps F] in
/-- An equation of resources, as an entailment. -/
theorem entails_of_eq {P Q : sProp 𝕄} (e : P = Q) : P ⊢ Q := e ▸ .rfl

/-! ## Blocks, slots, cells -/

abbrev xM : Memref sig .tc .hbm S32768x4096 .f32 := Memref.whole main_arg0
abbrev wM : Memref sig .tc .hbm S64x4096 .f32 := Memref.whole main_arg1
abbrev tM : Memref sig .tc .hbm S32768x8 .i32 := Memref.whole main_v0_0
abbrev oM : Memref sig .tc .hbm S32768x8 .f32 := Memref.whole main_v0_1
abbrev wbM : Memref sig .tc .vmem S64x4096 .f32 := Memref.whole cc0_scratch0
abbrev xbM : Memref sig .tc .vmem S10x256x4096 .f32 := Memref.whole cc0_scoped0
abbrev tbM : Memref sig .tc .vmem S2x256x8 .i32 := Memref.whole cc0_scoped2
abbrev obM : Memref sig .tc .vmem S2x256x8 .f32 := Memref.whole cc0_scoped4

/-- Where block `b` of 256 rows begins. -/
abbrev blkOff (b : Fin 128) : Fin 2 → Nat := ![256 * b.val, 0]
/-- Where slot `s` of a ring of `n` begins. -/
abbrev slotOff {n : ℕ} (s : Fin n) : Fin 3 → Nat := ![s.val, 0, 0]
/-- Where cell `s` of a ring of `n` begins. -/
abbrev cellOff {n : ℕ} (s : Fin n) : Fin 1 → Nat := ![s.val]

theorem xOff_inb (b : Fin 128) : ∀ a, blkOff b a + S256x4096.size a ≤ S32768x4096.size a := by
  have := b.isLt; intro a; fin_cases a
  · show 256 * b.val + 256 ≤ 32768; omega
  · show 0 + 4096 ≤ 4096; omega
theorem rOff_inb (b : Fin 128) : ∀ a, blkOff b a + S256x8.size a ≤ S32768x8.size a := by
  have := b.isLt; intro a; fin_cases a
  · show 256 * b.val + 256 ≤ 32768; omega
  · show 0 + 8 ≤ 8; omega
theorem xsOff_inb (s : Fin 10) : ∀ a, slotOff s a + S1x256x4096.size a ≤ S10x256x4096.size a := by
  have := s.isLt; intro a; fin_cases a
  · show s.val + 1 ≤ 10; omega
  · show 0 + 256 ≤ 256; omega
  · show 0 + 4096 ≤ 4096; omega
theorem rsOff_inb (s : Fin 2) : ∀ a, slotOff s a + S1x256x8.size a ≤ S2x256x8.size a := by
  have := s.isLt; intro a; fin_cases a
  · show s.val + 1 ≤ 2; omega
  · show 0 + 256 ≤ 256; omega
  · show 0 + 8 ≤ 8; omega
theorem xcOff_inb (s : Fin 10) : ∀ a, cellOff s a + S1.size a ≤ S10.size a := by
  have := s.isLt; intro a; fin_cases a; show s.val + 1 ≤ 10; omega
theorem rcOff_inb (s : Fin 2) : ∀ a, cellOff s a + S1.size a ≤ S2.size a := by
  have := s.isLt; intro a; fin_cases a; show s.val + 1 ≤ 2; omega

abbrev xblkR (b : Fin 128) : Rect S32768x4096 := Rect.unit (s := S32768x4096) (blkOff b) S256x4096.size (xOff_inb b)
abbrev rblkR (b : Fin 128) : Rect S32768x8 := Rect.unit (s := S32768x8) (blkOff b) S256x8.size (rOff_inb b)
abbrev xslotR (s : Fin 10) : Rect S10x256x4096 := Rect.unit (s := S10x256x4096) (slotOff s) S1x256x4096.size (xsOff_inb s)
abbrev rslotR (s : Fin 2) : Rect S2x256x8 := Rect.unit (s := S2x256x8) (slotOff s) S1x256x8.size (rsOff_inb s)

/-- Block `b` of `x`; of the index result; of the weight result. -/
abbrev xblk (b : Fin 128) : Memref sig .tc .hbm S256x4096 .f32 := xM.slice (xblkR b) (fun _ => rfl)
abbrev tblk (b : Fin 128) : Memref sig .tc .hbm S256x8 .i32 := tM.slice (rblkR b) (fun _ => rfl)
abbrev oblk (b : Fin 128) : Memref sig .tc .hbm S256x8 .f32 := oM.slice (rblkR b) (fun _ => rfl)
/-- Slot `s` of the ring of `x` blocks; of the ring of index blocks; of the ring of weight blocks. -/
abbrev xslot (s : Fin 10) : Memref sig .tc .vmem S256x4096 .f32 :=
  (xbM.slice (xslotR s) (fun _ => rfl)).squeeze S256x4096 squeezes_S1x256x4096_S256x4096
abbrev tslot (s : Fin 2) : Memref sig .tc .vmem S256x8 .i32 :=
  (tbM.slice (rslotR s) (fun _ => rfl)).squeeze S256x8 squeezes_S1x256x8_S256x8
abbrev oslot (s : Fin 2) : Memref sig .tc .vmem S256x8 .f32 :=
  (obM.slice (rslotR s) (fun _ => rfl)).squeeze S256x8 squeezes_S1x256x8_S256x8
/-- The cell of slot `s` in each ring. -/
abbrev xcell (s : Fin 10) : DmaSem sig := ((cc0_scoped1.slice (Rect.unit (s := S10) (cellOff s) S1.size (xcOff_inb s))).squeeze S_ squeezes_S1_S_).sem
abbrev tcell (s : Fin 2) : DmaSem sig := ((cc0_scoped3.slice (Rect.unit (s := S2) (cellOff s) S1.size (rcOff_inb s))).squeeze S_ squeezes_S1_S_).sem
abbrev ocell (s : Fin 2) : DmaSem sig := ((cc0_scoped5.slice (Rect.unit (s := S2) (cellOff s) S1.size (rcOff_inb s))).squeeze S_ squeezes_S1_S_).sem

/-! ## Values -/

/-- Squeezing away the leading axis of a block of 256 rows, on indices. -/
theorem numel_x : S256x4096.numel = S1x256x4096.numel := squeezes_S1x256x4096_S256x4096.numel_eq
theorem numel_r : S256x8.numel = S1x256x8.numel := squeezes_S1x256x8_S256x8.numel_eq

section Run

variable (c : Dev nD)
  (X : Buf (Elt F) (xM.view.loc (c : Thread nD τ))) (W : Buf (Elt F) (wM.view.loc (c : Thread nD τ)))

/-- Block `b` of `x` as a slot of the ring holds it. -/
def xv (b : Fin 128) : S1x256x4096.Idx → Elt F .f32 := fun i => (xblk b).view.read (Elt F) X ((Shape.reshapeEquiv numel_x).symm i)

/-! ## What the core holds of a slot, a block, a transfer -/

abbrev xhome (b : Fin 128) : sProp 𝕄 := (xblk b).view.loc (c : Thread nD τ) ↦[(xblk b).view.set]{fullShare} X
abbrev xslotP (s : Fin 10) (f : Buf (Elt F) ((xslot s).view.loc (c : Thread nD τ))) : sProp 𝕄 :=
  (xslot s).view.loc (c : Thread nD τ) ↦[(xslot s).view.set]{fullShare} f
abbrev xcellP (s : Fin 10) : sProp 𝕄 := semVal ((c : Thread nD τ), SemLoc.dma (xcell s)) 0
/-- A free slot of the ring of `x` blocks, its cell at zero. -/
def xfree (s : Fin 10) : sProp 𝕄 := iprop((∃ f, xslotP (F := F) c s f) ∗ xcellP (F := F) c s)
/-- Slot `s` holding block `b`. -/
def xfull (s : Fin 10) (b : Fin 128) : sProp 𝕄 :=
  iprop(∃ f, ⌜(xslot s).view.read (Elt F) f = (xblk b).view.read (Elt F) X⌝ ∗ xslotP (F := F) c s f)
/-- Block `b` on its way into slot `s`. -/
def xflight (s : Fin 10) (b : Fin 128) : sProp 𝕄 :=
  Transfers.Flight countersEmb (c : Thread nD τ) (SemLoc.dma (xcell s)) () ((xslot s).view.amount (SemLoc.dma (xcell s)))
    iprop(xfull c X s b ∗ xhome c X b)

abbrev tslotP (s : Fin 2) (f : Buf (Elt F) ((tslot s).view.loc (c : Thread nD τ))) : sProp 𝕄 :=
  (tslot s).view.loc (c : Thread nD τ) ↦[(tslot s).view.set]{fullShare} f
abbrev tcellP (s : Fin 2) : sProp 𝕄 := semVal ((c : Thread nD τ), SemLoc.dma (tcell s)) 0
abbrev tblkP (b : Fin 128) (f : Buf (Elt F) ((tblk b).view.loc (c : Thread nD τ))) : sProp 𝕄 :=
  (tblk b).view.loc (c : Thread nD τ) ↦[(tblk b).view.set]{fullShare} f
def tfree (s : Fin 2) : sProp 𝕄 := iprop((∃ f, tslotP (F := F) c s f) ∗ tcellP (F := F) c s)
/-- Block `b` of the index result holding `v`. -/
def tdone (b : Fin 128) (v : S256x8.Idx → Elt F .i32) : sProp 𝕄 :=
  iprop(∃ f, ⌜(tblk b).view.read (Elt F) f = v⌝ ∗ tblkP (F := F) c b f)
/-- Slot `s` on its way out to block `b` of the index result, with `v`. -/
def tflight (s : Fin 2) (b : Fin 128) (v : S256x8.Idx → Elt F .i32) : sProp 𝕄 :=
  Transfers.Flight countersEmb (c : Thread nD τ) (SemLoc.dma (tcell s)) () ((tblk b).view.amount (SemLoc.dma (tcell s)))
    iprop(tdone c b v ∗ ∃ f, tslotP (F := F) c s f)

abbrev oslotP (s : Fin 2) (f : Buf (Elt F) ((oslot s).view.loc (c : Thread nD τ))) : sProp 𝕄 :=
  (oslot s).view.loc (c : Thread nD τ) ↦[(oslot s).view.set]{fullShare} f
abbrev ocellP (s : Fin 2) : sProp 𝕄 := semVal ((c : Thread nD τ), SemLoc.dma (ocell s)) 0
abbrev oblkP (b : Fin 128) (f : Buf (Elt F) ((oblk b).view.loc (c : Thread nD τ))) : sProp 𝕄 :=
  (oblk b).view.loc (c : Thread nD τ) ↦[(oblk b).view.set]{fullShare} f
def ofree (s : Fin 2) : sProp 𝕄 := iprop((∃ f, oslotP (F := F) c s f) ∗ ocellP (F := F) c s)
/-- Block `b` of the weight result holding `v`. -/
def odone (b : Fin 128) (v : S256x8.Idx → Elt F .f32) : sProp 𝕄 :=
  iprop(∃ f, ⌜(oblk b).view.read (Elt F) f = v⌝ ∗ oblkP (F := F) c b f)
/-- Slot `s` on its way out to block `b` of the weight result, with `v`. -/
def oflight (s : Fin 2) (b : Fin 128) (v : S256x8.Idx → Elt F .f32) : sProp 𝕄 :=
  Transfers.Flight countersEmb (c : Thread nD τ) (SemLoc.dma (ocell s)) () ((oblk b).view.amount (SemLoc.dma (ocell s)))
    iprop(odone c b v ∗ ∃ f, oslotP (F := F) c s f)

/-- What the core owes: nothing, whatever it has waited for. -/
def owesP : sProp 𝕄 := iprop(∃ Ws, owes (c : Thread nD τ) 0 Ws)

theorem xamount_pos : ∀ s : Fin 10, 0 < (xslot s).view.amount (SemLoc.dma (xcell s)) := by decide
theorem tamount_pos : ∀ (s : Fin 2) (b : Fin 128), 0 < (tblk b).view.amount (SemLoc.dma (tcell s)) := by decide
theorem oamount_pos : ∀ (s : Fin 2) (b : Fin 128), 0 < (oblk b).view.amount (SemLoc.dma (ocell s)) := by decide

/-! ## The transfers -/

/-- The transfer as it is issued, the slot at what it held, is the block on its way. -/
theorem xflight_intro (s : Fin 10) (b : Fin 128) (f : Buf (Elt F) ((xslot s).view.loc (c : Thread nD τ))) :
    (Transfers.Flight countersEmb (c : Thread nD τ) (SemLoc.dma (xcell s)) () ((xslot s).view.amount (SemLoc.dma (xcell s)))
      iprop(xslotP (F := F) c s ((xslot s).view.write (Elt F) f (ReadAs.same.apply ((xblk b).view.read (Elt F) X)) Finset.univ) ∗ xhome c X b) : sProp 𝕄)
      ⊢ xflight c X s b := by
  unfold xflight
  refine Transfers.Flight_mono countersEmb (c : Thread nD τ) ?_
  iintro ⟨Hs, Hx⟩
  isplitl [Hs]
  · unfold xfull
    iexists _
    isplitr
    rotate_left
    · iexact Hs
    · ipureintro; exact View.read_write_univ _ _
  · iexact Hx
theorem xcredit (s : Fin 10) : (xslot s).view.dmaCredit = (xslot s).view.amount (SemLoc.dma (xcell s)) := rfl

/-- The same for a slot on its way out. -/
theorem tflight_intro (s : Fin 2) (b : Fin 128) (v : S256x8.Idx → Elt F .i32) (fs : Buf (Elt F) ((tslot s).view.loc (c : Thread nD τ)))
    (f : Buf (Elt F) ((tblk b).view.loc (c : Thread nD τ))) (hf : (tslot s).view.read (Elt F) fs = v) :
    (Transfers.Flight countersEmb (c : Thread nD τ) (SemLoc.dma (tcell s)) () ((tblk b).view.amount (SemLoc.dma (tcell s)))
      iprop(tblkP (F := F) c b ((tblk b).view.write (Elt F) f (ReadAs.same.apply ((tslot s).view.read (Elt F) fs)) Finset.univ) ∗ tslotP (F := F) c s fs) : sProp 𝕄)
      ⊢ tflight c s b v := by
  unfold tflight
  refine Transfers.Flight_mono countersEmb (c : Thread nD τ) ?_
  iintro ⟨Hb, Hs⟩
  isplitl [Hb]
  · unfold tdone
    iexists _
    isplitr
    rotate_left
    · iexact Hb
    · ipureintro; exact (View.read_write_univ _ _).trans hf
  · iexists _; iexact Hs
theorem tcredit (s : Fin 2) (b : Fin 128) : (tblk b).view.dmaCredit = (tblk b).view.amount (SemLoc.dma (tcell s)) := rfl

/-- The same for a slot on its way out. -/
theorem oflight_intro (s : Fin 2) (b : Fin 128) (v : S256x8.Idx → Elt F .f32) (fs : Buf (Elt F) ((oslot s).view.loc (c : Thread nD τ)))
    (f : Buf (Elt F) ((oblk b).view.loc (c : Thread nD τ))) (hf : (oslot s).view.read (Elt F) fs = v) :
    (Transfers.Flight countersEmb (c : Thread nD τ) (SemLoc.dma (ocell s)) () ((oblk b).view.amount (SemLoc.dma (ocell s)))
      iprop(oblkP (F := F) c b ((oblk b).view.write (Elt F) f (ReadAs.same.apply ((oslot s).view.read (Elt F) fs)) Finset.univ) ∗ oslotP (F := F) c s fs) : sProp 𝕄)
      ⊢ oflight c s b v := by
  unfold oflight
  refine Transfers.Flight_mono countersEmb (c : Thread nD τ) ?_
  iintro ⟨Hb, Hs⟩
  isplitl [Hb]
  · unfold odone
    iexists _
    isplitr
    rotate_left
    · iexact Hb
    · ipureintro; exact (View.read_write_univ _ _).trans hf
  · iexists _; iexact Hs
theorem ocredit (s : Fin 2) (b : Fin 128) : (oblk b).view.dmaCredit = (oblk b).view.amount (SemLoc.dma (ocell s)) := rfl

section Rules
variable {α : Type} (bd : Option 𝒱₀.V)

/-- Issuing block `b` of `x` into the free slot `s`. -/
theorem x_issue (s : Fin 10) (b : Fin 128) {o1 : Fin 1 → Nat} {o2 : Fin 3 → Nat} {o3 : Fin 2 → Nat}
    (h1 : o1 = cellOff s) (h2 : o2 = slotOff s) (h3 : o3 = blkOff b) {i1 i2 i3 p1 p2 p3 p4 p5}
    {Q : α → sProp 𝕄}
    {k : PUnit → Prog (TpuEff nD τ sig (Elt F) (Λ₀ F) .tc) α} :
    iprop(xfree c s ∗ xhome c X b)
      ⊢ iprop((xflight c X s b -∗ wp frame (wpE (defs₀ (F := F)) 𝒱₀ (c : Thread nD τ) bd) Set.univ (k ⟨⟩) Q)
        -∗ wp frame (wpE (defs₀ (F := F)) 𝒱₀ (c : Thread nD τ) bd) Set.univ
            (.op (.enqueueDma (xM.slice (Rect.unit (s := S32768x4096) o3 S256x4096.size i3) p1)
              (.here ((xbM.slice (Rect.unit (s := S10x256x4096) o2 S1x256x4096.size i2) p2).squeeze S256x4096 squeezes_S1x256x4096_S256x4096))
              (.dma ((cc0_scoped1.slice (Rect.unit (s := S10) o1 S1.size i1)).squeeze S_ squeezes_S1_S_).sem) p3 p4 p5) k) Q) := by
  subst h1 h2 h3
  unfold xfree
  iintro ⟨⟨⟨%f, Hs⟩, Hc⟩, Hx⟩ Hk
  iapply (Transfers.wp_dmaLocal countersEmb 𝒱₀ (c : Thread nD τ) bd () _ rfl (xamount_pos s) (Finset.Subset.refl _)) $$ [Hs Hc Hx]
  · isplitl [Hx]; · iexact Hx
    isplitl [Hs] <;> iassumption
  iintro Hf
  iapply Hk
  iapply (xflight_intro c X s b f) $$ Hf

/-- Waiting for block `b` of `x` in slot `s`. -/
theorem x_wait (s : Fin 10) (b : Fin 128) {o1 : Fin 1 → Nat} {o2 : Fin 3 → Nat} {o3 : Fin 2 → Nat}
    (h1 : o1 = cellOff s) (h2 : o2 = slotOff s) (h3 : o3 = blkOff b) {i1 i2 i3 p1 p2 p3 p4}
    {Q : α → sProp 𝕄}
    {k : PUnit → Prog (TpuEff nD τ sig (Elt F) (Λ₀ F) .tc) α} :
    iprop(xflight c X s b ∗ owesP (F := F) c)
      ⊢ iprop((iprop(xfull c X s b ∗ xcellP (F := F) c s ∗ xhome c X b ∗ owesP (F := F) c) -∗ wp frame (wpE (defs₀ (F := F)) 𝒱₀ (c : Thread nD τ) bd) Set.univ (k ⟨⟩) Q)
        -∗ wp frame (wpE (defs₀ (F := F)) 𝒱₀ (c : Thread nD τ) bd) Set.univ
            (.op (.waitDma2 ((cc0_scoped1.slice (Rect.unit (s := S10) o1 S1.size i1)).squeeze S_ squeezes_S1_S_).sem
              (xM.slice (Rect.unit (s := S32768x4096) o3 S256x4096.size i3) p1)
              ((xbM.slice (Rect.unit (s := S10x256x4096) o2 S1x256x4096.size i2) p2).squeeze S256x4096 squeezes_S1x256x4096_S256x4096) p3 p4) k) Q) := by
  subst h1 h2 h3
  unfold xflight owesP
  iintro ⟨Hf, ⟨%Ws, HW⟩⟩ Hk
  iapply (Transfers.wp_waitLocal countersEmb 𝒱₀ (c : Thread nD τ) bd () (xcredit s)) $$ [Hf HW]
  · isplitl [Hf] <;> iassumption
  iintro ⟨⟨Hd, Hs⟩, Hc, HW⟩
  iapply Hk
  isplitl [Hd]; · iexact Hd
  isplitl [Hc]; · iexact Hc
  isplitl [Hs]; · iexact Hs
  iexists _; iexact HW

/-- Sending the filled slot `s` out to block `b` of the index result. -/
theorem t_issue (s : Fin 2) (b : Fin 128) (v : S256x8.Idx → Elt F .i32) {o1 : Fin 1 → Nat} {o2 : Fin 2 → Nat} {o3 : Fin 3 → Nat}
    (h1 : o1 = cellOff s) (h2 : o2 = blkOff b) (h3 : o3 = slotOff s) {i1 i2 i3 p1 p2 p3 p4 p5}
    {Q : α → sProp 𝕄}
    {k : PUnit → Prog (TpuEff nD τ sig (Elt F) (Λ₀ F) .tc) α} :
    iprop((∃ f, ⌜(tslot s).view.read (Elt F) f = v⌝ ∗ tslotP (F := F) c s f) ∗ tcellP (F := F) c s ∗ ∃ f, tblkP (F := F) c b f)
      ⊢ iprop((tflight c s b v -∗ wp frame (wpE (defs₀ (F := F)) 𝒱₀ (c : Thread nD τ) bd) Set.univ (k ⟨⟩) Q)
        -∗ wp frame (wpE (defs₀ (F := F)) 𝒱₀ (c : Thread nD τ) bd) Set.univ
            (.op (.enqueueDma ((tbM.slice (Rect.unit (s := S2x256x8) o3 S1x256x8.size i3) p2).squeeze S256x8 squeezes_S1x256x8_S256x8)
              (.here (tM.slice (Rect.unit (s := S32768x8) o2 S256x8.size i2) p1))
              (.dma ((cc0_scoped3.slice (Rect.unit (s := S2) o1 S1.size i1)).squeeze S_ squeezes_S1_S_).sem) p3 p4 p5) k) Q) := by
  subst h1 h2 h3
  iintro ⟨⟨%fs, %hf, Hs⟩, Hc, ⟨%f, Hb⟩⟩ Hk
  iapply (Transfers.wp_dmaLocal countersEmb 𝒱₀ (c : Thread nD τ) bd () _ rfl (tamount_pos s b) (Finset.Subset.refl _)) $$ [Hs Hc Hb]
  · isplitl [Hs]; · iexact Hs
    isplitl [Hb] <;> iassumption
  iintro Hf
  iapply Hk
  iapply (tflight_intro c s b v fs f hf) $$ Hf

/-- Waiting for slot `s` to reach block `b` of the index result. -/
theorem t_wait (s : Fin 2) (b : Fin 128) (v : S256x8.Idx → Elt F .i32) {o1 : Fin 1 → Nat} {o2 : Fin 2 → Nat} {o3 : Fin 3 → Nat}
    (h1 : o1 = cellOff s) (h2 : o2 = blkOff b) (h3 : o3 = slotOff s) {i1 i2 i3 p1 p2 p3 p4}
    {Q : α → sProp 𝕄}
    {k : PUnit → Prog (TpuEff nD τ sig (Elt F) (Λ₀ F) .tc) α} :
    iprop(tflight c s b v ∗ owesP (F := F) c)
      ⊢ iprop((iprop(tdone c b v ∗ tfree (F := F) c s ∗ owesP (F := F) c) -∗ wp frame (wpE (defs₀ (F := F)) 𝒱₀ (c : Thread nD τ) bd) Set.univ (k ⟨⟩) Q)
        -∗ wp frame (wpE (defs₀ (F := F)) 𝒱₀ (c : Thread nD τ) bd) Set.univ
            (.op (.waitDma2 ((cc0_scoped3.slice (Rect.unit (s := S2) o1 S1.size i1)).squeeze S_ squeezes_S1_S_).sem
              ((tbM.slice (Rect.unit (s := S2x256x8) o3 S1x256x8.size i3) p2).squeeze S256x8 squeezes_S1x256x8_S256x8)
              (tM.slice (Rect.unit (s := S32768x8) o2 S256x8.size i2) p1) p3 p4) k) Q) := by
  subst h1 h2 h3
  unfold tflight owesP
  iintro ⟨Hf, ⟨%Ws, HW⟩⟩ Hk
  iapply (Transfers.wp_waitLocal countersEmb 𝒱₀ (c : Thread nD τ) bd () (tcredit s b)) $$ [Hf HW]
  · isplitl [Hf] <;> iassumption
  iintro ⟨⟨Hd, Hs⟩, Hc, HW⟩
  iapply Hk
  isplitl [Hd]; · iexact Hd
  isplitl [Hs Hc]
  · unfold tfree
    isplitl [Hs]; · iexact Hs
    iexact Hc
  · iexists _; iexact HW

/-- Sending the filled slot `s` out to block `b` of the weight result. -/
theorem o_issue (s : Fin 2) (b : Fin 128) (v : S256x8.Idx → Elt F .f32) {o1 : Fin 1 → Nat} {o2 : Fin 2 → Nat} {o3 : Fin 3 → Nat}
    (h1 : o1 = cellOff s) (h2 : o2 = blkOff b) (h3 : o3 = slotOff s) {i1 i2 i3 p1 p2 p3 p4 p5}
    {Q : α → sProp 𝕄}
    {k : PUnit → Prog (TpuEff nD τ sig (Elt F) (Λ₀ F) .tc) α} :
    iprop((∃ f, ⌜(oslot s).view.read (Elt F) f = v⌝ ∗ oslotP (F := F) c s f) ∗ ocellP (F := F) c s ∗ ∃ f, oblkP (F := F) c b f)
      ⊢ iprop((oflight c s b v -∗ wp frame (wpE (defs₀ (F := F)) 𝒱₀ (c : Thread nD τ) bd) Set.univ (k ⟨⟩) Q)
        -∗ wp frame (wpE (defs₀ (F := F)) 𝒱₀ (c : Thread nD τ) bd) Set.univ
            (.op (.enqueueDma ((obM.slice (Rect.unit (s := S2x256x8) o3 S1x256x8.size i3) p2).squeeze S256x8 squeezes_S1x256x8_S256x8)
              (.here (oM.slice (Rect.unit (s := S32768x8) o2 S256x8.size i2) p1))
              (.dma ((cc0_scoped5.slice (Rect.unit (s := S2) o1 S1.size i1)).squeeze S_ squeezes_S1_S_).sem) p3 p4 p5) k) Q) := by
  subst h1 h2 h3
  iintro ⟨⟨%fs, %hf, Hs⟩, Hc, ⟨%f, Hb⟩⟩ Hk
  iapply (Transfers.wp_dmaLocal countersEmb 𝒱₀ (c : Thread nD τ) bd () _ rfl (oamount_pos s b) (Finset.Subset.refl _)) $$ [Hs Hc Hb]
  · isplitl [Hs]; · iexact Hs
    isplitl [Hb] <;> iassumption
  iintro Hf
  iapply Hk
  iapply (oflight_intro c s b v fs f hf) $$ Hf

/-- Waiting for slot `s` to reach block `b` of the weight result. -/
theorem o_wait (s : Fin 2) (b : Fin 128) (v : S256x8.Idx → Elt F .f32) {o1 : Fin 1 → Nat} {o2 : Fin 2 → Nat} {o3 : Fin 3 → Nat}
    (h1 : o1 = cellOff s) (h2 : o2 = blkOff b) (h3 : o3 = slotOff s) {i1 i2 i3 p1 p2 p3 p4}
    {Q : α → sProp 𝕄}
    {k : PUnit → Prog (TpuEff nD τ sig (Elt F) (Λ₀ F) .tc) α} :
    iprop(oflight c s b v ∗ owesP (F := F) c)
      ⊢ iprop((iprop(odone c b v ∗ ofree (F := F) c s ∗ owesP (F := F) c) -∗ wp frame (wpE (defs₀ (F := F)) 𝒱₀ (c : Thread nD τ) bd) Set.univ (k ⟨⟩) Q)
        -∗ wp frame (wpE (defs₀ (F := F)) 𝒱₀ (c : Thread nD τ) bd) Set.univ
            (.op (.waitDma2 ((cc0_scoped5.slice (Rect.unit (s := S2) o1 S1.size i1)).squeeze S_ squeezes_S1_S_).sem
              ((obM.slice (Rect.unit (s := S2x256x8) o3 S1x256x8.size i3) p2).squeeze S256x8 squeezes_S1x256x8_S256x8)
              (oM.slice (Rect.unit (s := S32768x8) o2 S256x8.size i2) p1) p3 p4) k) Q) := by
  subst h1 h2 h3
  unfold oflight owesP
  iintro ⟨Hf, ⟨%Ws, HW⟩⟩ Hk
  iapply (Transfers.wp_waitLocal countersEmb 𝒱₀ (c : Thread nD τ) bd () (ocredit s b)) $$ [Hf HW]
  · isplitl [Hf] <;> iassumption
  iintro ⟨⟨Hd, Hs⟩, Hc, HW⟩
  iapply Hk
  isplitl [Hd]; · iexact Hd
  isplitl [Hs Hc]
  · unfold ofree
    isplitl [Hs]; · iexact Hs
    iexact Hc
  · iexists _; iexact HW

/-! ## The accesses -/

theorem xslot_set (s : Fin 10) : (xbM.access (xslotR s)).set ⊆ (xslot s).view.set :=
  Finset.subset_of_eq (View.set_reshape (v := xbM.access (xslotR s)) numel_x).symm

theorem tslot_set (s : Fin 2) : (tbM.access (rslotR s)).set ⊆ (tslot s).view.set :=
  Finset.subset_of_eq (View.set_reshape (v := tbM.access (rslotR s)) numel_r).symm
theorem tslot_setOn (s : Fin 2) : (tbM.access (rslotR s)).setOn Finset.univ ⊆ (tslot s).view.set := tslot_set s

theorem oslot_set (s : Fin 2) : (obM.access (rslotR s)).set ⊆ (oslot s).view.set :=
  Finset.subset_of_eq (View.set_reshape (v := obM.access (rslotR s)) numel_r).symm
theorem oslot_setOn (s : Fin 2) : (obM.access (rslotR s)).setOn Finset.univ ⊆ (oslot s).view.set := oslot_set s

omit [BitOps F] in
/-- The window of slot `s`, read before its leading axis is squeezed away. -/
theorem xv_of_full (s : Fin 10) (b : Fin 128) (f : Buf (Elt F) ((xslot s).view.loc (c : Thread nD τ)))
    (h : (xslot s).view.read (Elt F) f = (xblk b).view.read (Elt F) X) :
    (xbM.access (xslotR s)).read (Elt F) f = xv c X b := by
  funext i
  have e := congrFun h ((Shape.reshapeEquiv numel_x).symm i)
  unfold xv
  rw [← e]
  show (xbM.access (xslotR s)).read (Elt F) f i = (xbM.access (xslotR s)).read (Elt F) f (Shape.reshapeEquiv numel_x ((Shape.reshapeEquiv numel_x).symm i))
  rw [Equiv.apply_symm_apply]

/-- Loading slot `s`, which holds block `b`. -/
theorem x_load (s : Fin 10) (b : Fin 128) {o : Fin 3 → Nat} (h : o = slotOff s) {i1 p1}
    {Q : α → sProp 𝕄}
    {k : (S1x256x4096.Idx → Elt F .f32) → Prog (TpuEff nD τ sig (Elt F) (Λ₀ F) .tc) α} :
    xfull c X s b
      ⊢ iprop((xfull c X s b -∗ wp frame (wpE (defs₀ (F := F)) 𝒱₀ (c : Thread nD τ) bd) Set.univ (k (xv c X b)) Q)
        -∗ wp frame (wpE (defs₀ (F := F)) 𝒱₀ (c : Thread nD τ) bd) Set.univ
            (.op (.load xbM (Rect.unit (s := S10x256x4096) o S1x256x4096.size i1).toLoadRect p1) k) Q) := by
  subst h
  unfold xfull
  iintro ⟨%f, %hf, Hs⟩ Hk
  iapply (wp_load_rect 𝒱₀ (c : Thread nD τ) bd Set.univ (m := xbM) (r := xslotR s) (S := (xslot s).view.set) (f := f)
    (xslot_set s)) $$ Hs
  iintro Hs
  rw [xv_of_full c X s b f hf]
  iapply Hk
  iexists f
  isplitr
  · ipureintro; exact hf
  · iexact Hs

/-- Loading the index slot `s`: some contents, not looked at. -/
theorem t_load (s : Fin 2) {o : Fin 3 → Nat} (h : o = slotOff s) {i1 p1}
    {Q : α → sProp 𝕄}
    {k : (S1x256x8.Idx → Elt F .i32) → Prog (TpuEff nD τ sig (Elt F) (Λ₀ F) .tc) α} :
    iprop(∃ f, tslotP (F := F) c s f)
      ⊢ iprop((∀ w, (∃ f, tslotP (F := F) c s f) -∗ wp frame (wpE (defs₀ (F := F)) 𝒱₀ (c : Thread nD τ) bd) Set.univ (k w) Q)
        -∗ wp frame (wpE (defs₀ (F := F)) 𝒱₀ (c : Thread nD τ) bd) Set.univ
            (.op (.load tbM (Rect.unit (s := S2x256x8) o S1x256x8.size i1).toLoadRect p1) k) Q) := by
  subst h
  iintro ⟨%f, Hs⟩ Hk
  iapply (wp_load_rect 𝒱₀ (c : Thread nD τ) bd Set.univ (m := tbM) (r := rslotR s) (S := (tslot s).view.set) (f := f)
    (tslot_set s)) $$ Hs
  iintro Hs
  iapply Hk $$ %_
  iexists f; iexact Hs

/-- Storing `w` over the index slot `s`. -/
theorem t_store (s : Fin 2) (w : S1x256x8.Idx → Elt F .i32) {o : Fin 3 → Nat} (h : o = slotOff s) {i1 p1 p2}
    {Q : α → sProp 𝕄}
    {k : PUnit → Prog (TpuEff nD τ sig (Elt F) (Λ₀ F) .tc) α} :
    iprop(∃ f, tslotP (F := F) c s f)
      ⊢ iprop(((∃ f, ⌜(tslot s).view.read (Elt F) f = fun i => w (Shape.reshapeEquiv numel_r i)⌝ ∗ tslotP (F := F) c s f)
            -∗ wp frame (wpE (defs₀ (F := F)) 𝒱₀ (c : Thread nD τ) bd) Set.univ (k ⟨⟩) Q)
        -∗ wp frame (wpE (defs₀ (F := F)) 𝒱₀ (c : Thread nD τ) bd) Set.univ
            (.op (.store tbM (Rect.unit (s := S2x256x8) o S1x256x8.size i1) w Finset.univ p1 p2) k) Q) := by
  subst h
  iintro ⟨%f, Hs⟩ Hk
  iapply (wp_store 𝒱₀ (c : Thread nD τ) bd Set.univ (m := tbM) (r := rslotR s) (S := (tslot s).view.set) (f := f)
    (tslot_setOn s)) $$ Hs
  iintro Hs
  iapply Hk
  iexists _
  isplitr
  · ipureintro
    funext i
    exact congrFun (View.read_write_univ (v := tbM.access (rslotR s)) f w) (Shape.reshapeEquiv numel_r i)
  · iexact Hs

/-- Loading the weight slot `s`: some contents, not looked at. -/
theorem o_load (s : Fin 2) {o : Fin 3 → Nat} (h : o = slotOff s) {i1 p1}
    {Q : α → sProp 𝕄}
    {k : (S1x256x8.Idx → Elt F .f32) → Prog (TpuEff nD τ sig (Elt F) (Λ₀ F) .tc) α} :
    iprop(∃ f, oslotP (F := F) c s f)
      ⊢ iprop((∀ w, (∃ f, oslotP (F := F) c s f) -∗ wp frame (wpE (defs₀ (F := F)) 𝒱₀ (c : Thread nD τ) bd) Set.univ (k w) Q)
        -∗ wp frame (wpE (defs₀ (F := F)) 𝒱₀ (c : Thread nD τ) bd) Set.univ
            (.op (.load obM (Rect.unit (s := S2x256x8) o S1x256x8.size i1).toLoadRect p1) k) Q) := by
  subst h
  iintro ⟨%f, Hs⟩ Hk
  iapply (wp_load_rect 𝒱₀ (c : Thread nD τ) bd Set.univ (m := obM) (r := rslotR s) (S := (oslot s).view.set) (f := f)
    (oslot_set s)) $$ Hs
  iintro Hs
  iapply Hk $$ %_
  iexists f; iexact Hs

/-- Storing `w` over the weight slot `s`. -/
theorem o_store (s : Fin 2) (w : S1x256x8.Idx → Elt F .f32) {o : Fin 3 → Nat} (h : o = slotOff s) {i1 p1 p2}
    {Q : α → sProp 𝕄}
    {k : PUnit → Prog (TpuEff nD τ sig (Elt F) (Λ₀ F) .tc) α} :
    iprop(∃ f, oslotP (F := F) c s f)
      ⊢ iprop(((∃ f, ⌜(oslot s).view.read (Elt F) f = fun i => w (Shape.reshapeEquiv numel_r i)⌝ ∗ oslotP (F := F) c s f)
            -∗ wp frame (wpE (defs₀ (F := F)) 𝒱₀ (c : Thread nD τ) bd) Set.univ (k ⟨⟩) Q)
        -∗ wp frame (wpE (defs₀ (F := F)) 𝒱₀ (c : Thread nD τ) bd) Set.univ
            (.op (.store obM (Rect.unit (s := S2x256x8) o S1x256x8.size i1) w Finset.univ p1 p2) k) Q) := by
  subst h
  iintro ⟨%f, Hs⟩ Hk
  iapply (wp_store 𝒱₀ (c : Thread nD τ) bd Set.univ (m := obM) (r := rslotR s) (S := (oslot s).view.set) (f := f)
    (oslot_setOn s)) $$ Hs
  iintro Hs
  iapply Hk
  iexists _
  isplitr
  · ipureintro
    funext i
    exact congrFun (View.read_write_univ (v := obM.access (rslotR s)) f w) (Shape.reshapeEquiv numel_r i)
  · iexact Hs

end Rules
end Run

end Cert.Proof.K1

end
-- ==== Proof.K1.Words.lean ====
/-
  The index arithmetic of the router's pipeline, word by word: which block, slot and cell each transfer names at each trip,
  which tests pass, and what the counters carried round the loop become. Every fact is over a bounded range of trips and
  is decided.
-/
module

public import proofs.«01_k».proof.Proof.K1.Names

@[expose] public section

namespace Cert.Proof.K1

open Cert.Kernel Cert.Kernel.Gen
open Idealize.ShloMosaic
open Idealize.ShloMosaic.Ring (sl bk)

/-- The word of a counter. -/
abbrev wd (n : ℕ) : BitVec 32 := BitVec.ofNat 32 n

/-- The trips of the pipeline's loop. -/
abbrev T := Fin k0_t1_loop.trips

theorem trips_eq : k0_t1_loop.trips = 128 := by decide +kernel
theorem lt_trips (t : T) : t.val < 128 := trips_eq ▸ t.isLt

/-! ## Looking ahead: block `i + 1` after block `i` -/

theorem w_test (i : Fin 127) : Scalar.cmpi .slt (wd (i.val + 1)) 128#32 = 1#1 := by revert i; decide +kernel
theorem w_chk18 (i : Fin 127) : k0_chk18 (wd i.val) (wd (i.val + 1)) := by revert i; decide +kernel
theorem w_chk17 (i : Fin 127) : k0_chk17 (wd i.val) (wd (i.val + 1)) (wd (i.val + 1)) := by revert i; decide +kernel
theorem w_cond9 (i : Fin 127) : k0_cond9 (wd i.val) (wd (i.val + 1)) = 1#1 := by revert i; decide +kernel
theorem w_off28 (i : Fin 127) : k0_off28 (wd (i.val + 1)) = cellOff (sl 10 (i.val + 1)) := by revert i; decide +kernel
theorem w_off29 (i : Fin 127) : k0_off29 (wd (i.val + 1)) = slotOff (sl 10 (i.val + 1)) := by revert i; decide +kernel
theorem w_off30 (i : Fin 127) : k0_off30 (wd (i.val + 1)) = blkOff (bk 128 (i.val + 1)) := by revert i; decide +kernel
theorem w_next (i : Fin 127) : Scalar.select 0#1 0#32 (Scalar.select 1#1 (Scalar.addi (wd (i.val + 1)) 1#32) (wd (i.val + 1))) = wd (i.val + 2) := by
  revert i; decide +kernel
theorem w_count (i : Fin 127) :
    Scalar.addi (wd (i.val + 1)) (Scalar.extui (Scalar.cmpi .ne (Scalar.addi (wd i.val) 0#32) (Scalar.addi (wd (i.val + 1)) 0#32))) = wd (i.val + 2) := by
  revert i; decide +kernel
theorem w_bound (t : T) : Scalar.addi (wd t.val) 10#32 = wd (t.val + 10) := by revert t; decide +kernel
theorem w_go (t : T) (h : t.val + 9 < 128) : Scalar.cmpi .ult (wd (t.val + 9)) (wd (t.val + 10)) = 1#1 := by revert t; decide +kernel
theorem w_stop (t : T) : Scalar.cmpi .ult (wd (t.val + 10)) (wd (t.val + 10)) = 0#1 := by revert t; decide +kernel

/-- The next block to look ahead to, after the last one sent for. -/
abbrev ahead (t : ℕ) : ℕ := min (t + 8) 127
/-- How many blocks have been sent for. -/
abbrev sent (t : ℕ) : ℕ := min (t + 9) 128
/-- The grid index, which wraps at the end. -/
abbrev gridIx (t : ℕ) : ℕ := if t = 128 then 0 else t
theorem w_after (t : T) : Scalar.select 0#1 0#32 (Scalar.select 1#1 (Scalar.addi (wd (ahead t.val)) 1#32) (wd (ahead t.val))) = wd (ahead t.val + 1) := by
  revert t; decide +kernel
theorem w_end (t : T) (h : ¬ t.val + 9 < 128) : Scalar.cmpi .slt (wd (ahead t.val + 1)) 128#32 = 0#1 := by revert t; decide +kernel

/-! ## A trip's transfers -/

theorem w_gridIx (t : T) : gridIx t.val = t.val := if_neg (lt_trips t).ne
theorem w_chk22 (t : T) : k0_chk22 (wd t.val) := by revert t; decide +kernel
theorem w_chk21 (t : T) : k0_chk21 (wd t.val) := by revert t; decide +kernel
theorem w_chk20 (t : T) : k0_chk20 (wd t.val) := by revert t; decide +kernel
theorem w_chk19 (t : T) : k0_chk19 t (wd t.val) (wd t.val) (wd (t.val - 1)) (wd t.val) (wd (t.val - 1)) (wd t.val) := by revert t; decide +kernel
theorem w_cond10 (t : T) : k0_cond10 t (wd t.val) = 1#1 := by revert t; decide +kernel
theorem w_cond14 (t : T) : k0_cond14 t (wd t.val) = 1#1 := by revert t; decide +kernel
theorem w_cond15 (t : T) : k0_cond15 t (wd t.val) = 1#1 := by revert t; decide +kernel
theorem w_cond17 (t : T) : k0_cond17 t (wd t.val) = 1#1 ↔ t.val ≠ 0 := by revert t; decide +kernel
theorem w_cond18 (t : T) : k0_cond18 t (wd t.val) = 1#1 ↔ t.val ≠ 0 := by revert t; decide +kernel
theorem w_off31 (t : T) : k0_off31 (wd t.val) = cellOff (sl 10 t.val) := by revert t; decide +kernel
theorem w_off32 (t : T) : k0_off32 (wd t.val) = slotOff (sl 10 t.val) := by revert t; decide +kernel
theorem w_off33 (t : T) : k0_off33 (wd t.val) = blkOff (bk 128 t.val) := by revert t; decide +kernel
theorem w_off34 (t : T) : k0_off34 (wd t.val) = slotOff (sl 10 t.val) := by revert t; decide +kernel
theorem w_off35 (t : T) : k0_off35 (wd t.val) = slotOff (sl 2 t.val) := by revert t; decide +kernel
theorem w_off36 (t : T) : k0_off36 (wd t.val) = slotOff (sl 2 t.val) := by revert t; decide +kernel
theorem w_off37 (t : T) : k0_off37 (wd t.val) = cellOff (sl 2 t.val) := by revert t; decide +kernel
theorem w_off38 (t : T) : k0_off38 (wd t.val) = blkOff (bk 128 t.val) := by revert t; decide +kernel
theorem w_off39 (t : T) : k0_off39 (wd t.val) = slotOff (sl 2 t.val) := by revert t; decide +kernel
theorem w_off40 (t : T) : k0_off40 (wd t.val) = cellOff (sl 2 t.val) := by revert t; decide +kernel
theorem w_off41 (t : T) : k0_off41 (wd t.val) = blkOff (bk 128 t.val) := by revert t; decide +kernel
theorem w_off42 (t : T) : k0_off42 (wd t.val) = slotOff (sl 2 t.val) := by revert t; decide +kernel
theorem w_off43 (t : T) : k0_off43 (wd (t.val - 1)) = cellOff (sl 2 (t.val - 1)) := by revert t; decide +kernel
theorem w_off44 (t : T) (h : t.val ≠ 0) : k0_off44 (wd t.val) = blkOff (bk 128 (t.val - 1)) := by revert t; decide +kernel
theorem w_off45 (t : T) : k0_off45 (wd (t.val - 1)) = slotOff (sl 2 (t.val - 1)) := by revert t; decide +kernel
theorem w_off46 (t : T) : k0_off46 (wd (t.val - 1)) = cellOff (sl 2 (t.val - 1)) := by revert t; decide +kernel
theorem w_off47 (t : T) (h : t.val ≠ 0) : k0_off47 (wd t.val) = blkOff (bk 128 (t.val - 1)) := by revert t; decide +kernel
theorem w_off48 (t : T) : k0_off48 (wd (t.val - 1)) = slotOff (sl 2 (t.val - 1)) := by revert t; decide +kernel

/-! ## After the loop: the last block's results -/

theorem w_chk25 : k0_chk25 (wd 127) := by decide +kernel
theorem w_chk24 : k0_chk24 (wd 0) := by decide +kernel
theorem w_chk23 : k0_chk23 (wd 127) := by decide +kernel
theorem w_off49 : k0_off49 (wd 127) = cellOff (sl 2 127) := by decide +kernel
theorem w_off50 : k0_off50 (wd 0) = blkOff (bk 128 127) := by decide +kernel
theorem w_off51 : k0_off51 (wd 127) = slotOff (sl 2 127) := by decide +kernel
theorem w_off52 : k0_off52 (wd 127) = cellOff (sl 2 127) := by decide +kernel
theorem w_off53 : k0_off53 (wd 0) = blkOff (bk 128 127) := by decide +kernel
theorem w_off54 : k0_off54 (wd 127) = slotOff (sl 2 127) := by decide +kernel

/-! ## Before the loop: block 0 -/

theorem w_off1 : k0_off1 = cellOff (sl 10 0) := by decide +kernel
theorem w_off2 : k0_off2 = slotOff (sl 10 0) := by decide +kernel
theorem w_off3 : k0_off3 = blkOff (bk 128 0) := by decide +kernel

end Cert.Proof.K1

end
-- ==== Proof.K1.Whiles.lean ====
/-
  The nine look-ahead loops. Each sends for the block after the last one sent for, at most once, into the next free slot.
  One program text, `look`, says all nine bodies; a call of any of them, with the counters in step, puts one block in
  flight, and past the last block does nothing.
-/
module

public import proofs.«01_k».proof.Proof.K1.Words

@[expose] public section

noncomputable section

namespace Cert.Proof.K1

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

open Idealize.ShloMosaic.Ring (sl bk)

local notation "𝕄" => MT nD τ sig Unit (Elt F) ℕ (UU nD τ) ℕ

/-- The words a look-ahead loop carries: the last block sent for, the block to send for, how many were sent. -/
abbrev W3 : Type := BitVec 32 × BitVec 32 × BitVec 32
local notation "P3" => Prog (TpuEff nD τ sig (Elt F) (Λ₀ F) Proc.tc) W3

/-- The body of a look-ahead loop whose next round is `again` and which stops at `lim` blocks sent. -/
def look (again : BitVec 32 → BitVec 32 → BitVec 32 → P3) (lim a b n : BitVec 32) : P3 := do
  if Scalar.andi (Scalar.andi 1#1 (Scalar.cmpi .ult n lim)) (Scalar.andi 1#1 (Scalar.cmpi .slt b 128#32)) = 1#1 then do
    have hw18 : k0_chk18 a b := (← Prog.lift (TpuEff.assume (k0_chk18 a b) (k0_chk18.dec a b))).down
    have hw17 : k0_chk17 a b n := (← Prog.lift (TpuEff.assume (k0_chk17 a b n) (k0_chk17.dec a b n))).down
    if h9 : k0_cond9 a b = 1#1 then do
      Prog.lift (.enqueueDma (xM.slice (Rect.unit (s := S32768x4096) (k0_off30 b) S256x4096.size (k0_off30_inb a b hw18 h9)) (fun _ => rfl))
        (.here ((xbM.slice (Rect.unit (s := S10x256x4096) (k0_off29 n) S1x256x4096.size (k0_off29_inb a b n hw17 h9)) (fun _ => rfl)).squeeze S256x4096 squeezes_S1x256x4096_S256x4096))
        (.dma ((cc0_scoped1.slice (Rect.unit (s := S10) (k0_off28 n) S1.size (k0_off28_inb a b n hw17 h9))).squeeze S_ squeezes_S1_S_).sem)
        (View.wordExact_bits rfl) ((View.wordExact_bits rfl).reshape _ _) ⟨Or.inl rfl, trivial⟩)
      pure ⟨⟩
    else do
      pure ⟨⟩
    again b (Scalar.select 0#1 0#32 (Scalar.select 1#1 (Scalar.addi b 1#32) b))
      (Scalar.addi n (Scalar.extui (Scalar.cmpi .ne (Scalar.addi a 0#32) (Scalar.addi b 0#32))))
  else pure (a, b, n)

variable (c : Dev nD) (X : Buf (Elt F) (xM.view.loc (c : Thread nD τ)))

/-- With room below the bound and a block left, one round sends for block `i + 1`. -/
theorem look_send (again : BitVec 32 → BitVec 32 → BitVec 32 → P3) (bd : Option 𝒱₀.V) (i : Fin 127) (lim : BitVec 32)
    (h : Scalar.cmpi .ult (wd (i.val + 1)) lim = 1#1) {Q : W3 → sProp 𝕄} :
    iprop(xfree c (sl 10 (i.val + 1)) ∗ xhome c X (bk 128 (i.val + 1)))
      ⊢ iprop((xflight c X (sl 10 (i.val + 1)) (bk 128 (i.val + 1))
          -∗ wp frame (wpE (defs₀ (F := F)) 𝒱₀ (c : Thread nD τ) bd) Set.univ (again (wd (i.val + 1)) (wd (i.val + 2)) (wd (i.val + 2))) Q)
        -∗ wp frame (wpE (defs₀ (F := F)) 𝒱₀ (c : Thread nD τ) bd) Set.univ (look again lim (wd i.val) (wd (i.val + 1)) (wd (i.val + 1))) Q) := by
  unfold look
  rw [h, w_test i, w_next i, w_count i]
  simp only [show Scalar.andi (Scalar.andi 1#1 1#1) (Scalar.andi 1#1 1#1) = (1#1 : BitVec 1) from by decide, ↓reduceIte,
    Prog.lift, Prog.bind_op, Prog.bind_ret, Prog.pure_eq_ret]
  iintro H Hk
  iapply (wp_assume 𝒱₀ (c : Thread nD τ) bd Set.univ (w_chk18 i))
  iapply (wp_assume 𝒱₀ (c : Thread nD τ) bd Set.univ (w_chk17 i))
  rw [dif_pos (w_cond9 i)]
  simp only [Prog.bind_op, Prog.bind_ret]
  iapply (x_issue c X bd (sl 10 (i.val + 1)) (bk 128 (i.val + 1)) (w_off28 i) (w_off29 i) (w_off30 i)) $$ H
  iintro Hf
  iapply Hk $$ Hf

/-- With the bound reached, or no block left, a round does nothing. -/
theorem look_stop (again : BitVec 32 → BitVec 32 → BitVec 32 → P3) (lim a b n : BitVec 32)
    (h : Scalar.cmpi .ult n lim = 0#1 ∨ Scalar.cmpi .slt b 128#32 = 0#1) :
    look again lim a b n = pure (a, b, n) := by
  unfold look
  refine if_neg ?_
  have key : ∀ p q : BitVec 1, (p = 0#1 ∨ q = 0#1) → ¬ Scalar.andi (Scalar.andi 1#1 p) (Scalar.andi 1#1 q) = 1#1 := by decide
  exact key _ _ h

/-- Look-ahead loop 1 is `look`. -/
theorem loop1_eq (a b n : BitVec 32) :
    defs₀ (F := F) .tc 1 ⟨cc0_scoped1, xbM, Memref.isWhole_whole _, xM, Memref.isWhole_whole _, a, b, n⟩
      = look (fun a b n => (Prog.op (.call (1 : (Λ₀ F).Label) ⟨cc0_scoped1, xbM, Memref.isWhole_whole _, xM, Memref.isWhole_whole _, a, b, n⟩) Prog.ret : P3)) (Scalar.select (Scalar.cmpi .ult (Scalar.addi 0#32 10#32) (Scalar.addi 1#32 1#32)) (Scalar.addi 0#32 10#32) (Scalar.addi 1#32 1#32)) a b n := rfl

/-- Look-ahead loop 2 is `look`. -/
theorem loop2_eq (lim a b n : BitVec 32) :
    defs₀ (F := F) .tc 2 ⟨lim, cc0_scoped1, xbM, Memref.isWhole_whole _, xM, Memref.isWhole_whole _, a, b, n⟩
      = look (fun a b n => (Prog.op (.call (2 : (Λ₀ F).Label) ⟨lim, cc0_scoped1, xbM, Memref.isWhole_whole _, xM, Memref.isWhole_whole _, a, b, n⟩) Prog.ret : P3)) lim a b n := rfl

/-- Look-ahead loop 3 is `look`. -/
theorem loop3_eq (lim a b n : BitVec 32) :
    defs₀ (F := F) .tc 3 ⟨lim, cc0_scoped1, xbM, Memref.isWhole_whole _, xM, Memref.isWhole_whole _, a, b, n⟩
      = look (fun a b n => (Prog.op (.call (3 : (Λ₀ F).Label) ⟨lim, cc0_scoped1, xbM, Memref.isWhole_whole _, xM, Memref.isWhole_whole _, a, b, n⟩) Prog.ret : P3)) lim a b n := rfl

/-- Look-ahead loop 4 is `look`. -/
theorem loop4_eq (lim a b n : BitVec 32) :
    defs₀ (F := F) .tc 4 ⟨lim, cc0_scoped1, xbM, Memref.isWhole_whole _, xM, Memref.isWhole_whole _, a, b, n⟩
      = look (fun a b n => (Prog.op (.call (4 : (Λ₀ F).Label) ⟨lim, cc0_scoped1, xbM, Memref.isWhole_whole _, xM, Memref.isWhole_whole _, a, b, n⟩) Prog.ret : P3)) lim a b n := rfl

/-- Look-ahead loop 5 is `look`. -/
theorem loop5_eq (lim a b n : BitVec 32) :
    defs₀ (F := F) .tc 5 ⟨lim, cc0_scoped1, xbM, Memref.isWhole_whole _, xM, Memref.isWhole_whole _, a, b, n⟩
      = look (fun a b n => (Prog.op (.call (5 : (Λ₀ F).Label) ⟨lim, cc0_scoped1, xbM, Memref.isWhole_whole _, xM, Memref.isWhole_whole _, a, b, n⟩) Prog.ret : P3)) lim a b n := rfl

/-- Look-ahead loop 6 is `look`. -/
theorem loop6_eq (lim a b n : BitVec 32) :
    defs₀ (F := F) .tc 6 ⟨lim, cc0_scoped1, xbM, Memref.isWhole_whole _, xM, Memref.isWhole_whole _, a, b, n⟩
      = look (fun a b n => (Prog.op (.call (6 : (Λ₀ F).Label) ⟨lim, cc0_scoped1, xbM, Memref.isWhole_whole _, xM, Memref.isWhole_whole _, a, b, n⟩) Prog.ret : P3)) lim a b n := rfl

/-- Look-ahead loop 7 is `look`. -/
theorem loop7_eq (lim a b n : BitVec 32) :
    defs₀ (F := F) .tc 7 ⟨lim, cc0_scoped1, xbM, Memref.isWhole_whole _, xM, Memref.isWhole_whole _, a, b, n⟩
      = look (fun a b n => (Prog.op (.call (7 : (Λ₀ F).Label) ⟨lim, cc0_scoped1, xbM, Memref.isWhole_whole _, xM, Memref.isWhole_whole _, a, b, n⟩) Prog.ret : P3)) lim a b n := rfl

/-- Look-ahead loop 8 is `look`. -/
theorem loop8_eq (lim a b n : BitVec 32) :
    defs₀ (F := F) .tc 8 ⟨lim, cc0_scoped1, xbM, Memref.isWhole_whole _, xM, Memref.isWhole_whole _, a, b, n⟩
      = look (fun a b n => (Prog.op (.call (8 : (Λ₀ F).Label) ⟨lim, cc0_scoped1, xbM, Memref.isWhole_whole _, xM, Memref.isWhole_whole _, a, b, n⟩) Prog.ret : P3)) lim a b n := rfl

/-- Look-ahead loop 9 is `look`. -/
theorem loop9_eq (t : T) (lim a b n : BitVec 32) :
    defs₀ (F := F) .tc 9 ⟨t, lim, cc0_scoped1, xbM, Memref.isWhole_whole _, xM, Memref.isWhole_whole _, a, b, n⟩
      = look (fun a b n => (Prog.op (.call (9 : (Λ₀ F).Label) ⟨t, lim, cc0_scoped1, xbM, Memref.isWhole_whole _, xM, Memref.isWhole_whole _, a, b, n⟩) Prog.ret : P3)) lim a b n := rfl

/-- Calling loop 1 with the counters in step sends for block `i + 1`. -/
theorem send1 (i : Fin 127) (hi : i.val = 0) {α : Type} {Q : α → sProp 𝕄}
    {k : W3 → Prog (TpuEff nD τ sig (Elt F) (Λ₀ F) .tc) α} :
    iprop(xfree c (sl 10 (i.val + 1)) ∗ xhome c X (bk 128 (i.val + 1)))
      ⊢ iprop((xflight c X (sl 10 (i.val + 1)) (bk 128 (i.val + 1))
          -∗ wp frame (wpE (defs₀ (F := F)) 𝒱₀ (c : Thread nD τ) none) Set.univ (k (wd (i.val + 1), wd (i.val + 2), wd (i.val + 2))) Q)
        -∗ wp frame (wpE (defs₀ (F := F)) 𝒱₀ (c : Thread nD τ) none) Set.univ
          (.op (.call (1 : (Λ₀ F).Label) ⟨cc0_scoped1, xbM, Memref.isWhole_whole _, xM, Memref.isWhole_whole _, wd i.val, wd (i.val + 1), wd (i.val + 1)⟩) k) Q) := by
  iintro H Hk
  iapply (wp_call 𝒱₀ (c : Thread nD τ) none Set.univ (1 : ℕ) (fun u hu => nomatch hu))
  rw [loop1_eq]
  iapply (look_send c X _ (some (1 : ℕ)) i _ (by rw [hi]; decide)) $$ H
  iintro Hf
  iapply (wp_call 𝒱₀ (c : Thread nD τ) (some (1 : ℕ)) Set.univ (0 : ℕ) (fun u hu => by cases hu; exact Nat.lt_succ_self 0))
  rw [loop1_eq, look_stop _ _ _ _ _ (.inl (by rw [hi]; decide)), Prog.pure_eq_ret, wp_ret]
  imodintro
  rw [wp_ret]; imodintro
  iapply Hk $$ Hf

/-- Calling loop 2 with the counters in step sends for block `i + 1`. -/
theorem send2 (lim : BitVec 32) (i : Fin 127)
    (h : Scalar.cmpi .ult (wd (i.val + 1)) lim = 1#1) (h' : Scalar.cmpi .ult (wd (i.val + 2)) lim = 0#1) {α : Type} {Q : α → sProp 𝕄}
    {k : W3 → Prog (TpuEff nD τ sig (Elt F) (Λ₀ F) .tc) α} :
    iprop(xfree c (sl 10 (i.val + 1)) ∗ xhome c X (bk 128 (i.val + 1)))
      ⊢ iprop((xflight c X (sl 10 (i.val + 1)) (bk 128 (i.val + 1))
          -∗ wp frame (wpE (defs₀ (F := F)) 𝒱₀ (c : Thread nD τ) none) Set.univ (k (wd (i.val + 1), wd (i.val + 2), wd (i.val + 2))) Q)
        -∗ wp frame (wpE (defs₀ (F := F)) 𝒱₀ (c : Thread nD τ) none) Set.univ
          (.op (.call (2 : (Λ₀ F).Label) ⟨lim, cc0_scoped1, xbM, Memref.isWhole_whole _, xM, Memref.isWhole_whole _, wd i.val, wd (i.val + 1), wd (i.val + 1)⟩) k) Q) := by
  iintro H Hk
  iapply (wp_call 𝒱₀ (c : Thread nD τ) none Set.univ (1 : ℕ) (fun u hu => nomatch hu))
  rw [loop2_eq]
  iapply (look_send c X _ (some (1 : ℕ)) i _ h) $$ H
  iintro Hf
  iapply (wp_call 𝒱₀ (c : Thread nD τ) (some (1 : ℕ)) Set.univ (0 : ℕ) (fun u hu => by cases hu; exact Nat.lt_succ_self 0))
  rw [loop2_eq, look_stop _ _ _ _ _ (.inl h'), Prog.pure_eq_ret, wp_ret]
  imodintro
  rw [wp_ret]; imodintro
  iapply Hk $$ Hf

/-- Calling loop 3 with the counters in step sends for block `i + 1`. -/
theorem send3 (lim : BitVec 32) (i : Fin 127)
    (h : Scalar.cmpi .ult (wd (i.val + 1)) lim = 1#1) (h' : Scalar.cmpi .ult (wd (i.val + 2)) lim = 0#1) {α : Type} {Q : α → sProp 𝕄}
    {k : W3 → Prog (TpuEff nD τ sig (Elt F) (Λ₀ F) .tc) α} :
    iprop(xfree c (sl 10 (i.val + 1)) ∗ xhome c X (bk 128 (i.val + 1)))
      ⊢ iprop((xflight c X (sl 10 (i.val + 1)) (bk 128 (i.val + 1))
          -∗ wp frame (wpE (defs₀ (F := F)) 𝒱₀ (c : Thread nD τ) none) Set.univ (k (wd (i.val + 1), wd (i.val + 2), wd (i.val + 2))) Q)
        -∗ wp frame (wpE (defs₀ (F := F)) 𝒱₀ (c : Thread nD τ) none) Set.univ
          (.op (.call (3 : (Λ₀ F).Label) ⟨lim, cc0_scoped1, xbM, Memref.isWhole_whole _, xM, Memref.isWhole_whole _, wd i.val, wd (i.val + 1), wd (i.val + 1)⟩) k) Q) := by
  iintro H Hk
  iapply (wp_call 𝒱₀ (c : Thread nD τ) none Set.univ (1 : ℕ) (fun u hu => nomatch hu))
  rw [loop3_eq]
  iapply (look_send c X _ (some (1 : ℕ)) i _ h) $$ H
  iintro Hf
  iapply (wp_call 𝒱₀ (c : Thread nD τ) (some (1 : ℕ)) Set.univ (0 : ℕ) (fun u hu => by cases hu; exact Nat.lt_succ_self 0))
  rw [loop3_eq, look_stop _ _ _ _ _ (.inl h'), Prog.pure_eq_ret, wp_ret]
  imodintro
  rw [wp_ret]; imodintro
  iapply Hk $$ Hf

/-- Calling loop 4 with the counters in step sends for block `i + 1`. -/
theorem send4 (lim : BitVec 32) (i : Fin 127)
    (h : Scalar.cmpi .ult (wd (i.val + 1)) lim = 1#1) (h' : Scalar.cmpi .ult (wd (i.val + 2)) lim = 0#1) {α : Type} {Q : α → sProp 𝕄}
    {k : W3 → Prog (TpuEff nD τ sig (Elt F) (Λ₀ F) .tc) α} :
    iprop(xfree c (sl 10 (i.val + 1)) ∗ xhome c X (bk 128 (i.val + 1)))
      ⊢ iprop((xflight c X (sl 10 (i.val + 1)) (bk 128 (i.val + 1))
          -∗ wp frame (wpE (defs₀ (F := F)) 𝒱₀ (c : Thread nD τ) none) Set.univ (k (wd (i.val + 1), wd (i.val + 2), wd (i.val + 2))) Q)
        -∗ wp frame (wpE (defs₀ (F := F)) 𝒱₀ (c : Thread nD τ) none) Set.univ
          (.op (.call (4 : (Λ₀ F).Label) ⟨lim, cc0_scoped1, xbM, Memref.isWhole_whole _, xM, Memref.isWhole_whole _, wd i.val, wd (i.val + 1), wd (i.val + 1)⟩) k) Q) := by
  iintro H Hk
  iapply (wp_call 𝒱₀ (c : Thread nD τ) none Set.univ (1 : ℕ) (fun u hu => nomatch hu))
  rw [loop4_eq]
  iapply (look_send c X _ (some (1 : ℕ)) i _ h) $$ H
  iintro Hf
  iapply (wp_call 𝒱₀ (c : Thread nD τ) (some (1 : ℕ)) Set.univ (0 : ℕ) (fun u hu => by cases hu; exact Nat.lt_succ_self 0))
  rw [loop4_eq, look_stop _ _ _ _ _ (.inl h'), Prog.pure_eq_ret, wp_ret]
  imodintro
  rw [wp_ret]; imodintro
  iapply Hk $$ Hf

/-- Calling loop 5 with the counters in step sends for block `i + 1`. -/
theorem send5 (lim : BitVec 32) (i : Fin 127)
    (h : Scalar.cmpi .ult (wd (i.val + 1)) lim = 1#1) (h' : Scalar.cmpi .ult (wd (i.val + 2)) lim = 0#1) {α : Type} {Q : α → sProp 𝕄}
    {k : W3 → Prog (TpuEff nD τ sig (Elt F) (Λ₀ F) .tc) α} :
    iprop(xfree c (sl 10 (i.val + 1)) ∗ xhome c X (bk 128 (i.val + 1)))
      ⊢ iprop((xflight c X (sl 10 (i.val + 1)) (bk 128 (i.val + 1))
          -∗ wp frame (wpE (defs₀ (F := F)) 𝒱₀ (c : Thread nD τ) none) Set.univ (k (wd (i.val + 1), wd (i.val + 2), wd (i.val + 2))) Q)
        -∗ wp frame (wpE (defs₀ (F := F)) 𝒱₀ (c : Thread nD τ) none) Set.univ
          (.op (.call (5 : (Λ₀ F).Label) ⟨lim, cc0_scoped1, xbM, Memref.isWhole_whole _, xM, Memref.isWhole_whole _, wd i.val, wd (i.val + 1), wd (i.val + 1)⟩) k) Q) := by
  iintro H Hk
  iapply (wp_call 𝒱₀ (c : Thread nD τ) none Set.univ (1 : ℕ) (fun u hu => nomatch hu))
  rw [loop5_eq]
  iapply (look_send c X _ (some (1 : ℕ)) i _ h) $$ H
  iintro Hf
  iapply (wp_call 𝒱₀ (c : Thread nD τ) (some (1 : ℕ)) Set.univ (0 : ℕ) (fun u hu => by cases hu; exact Nat.lt_succ_self 0))
  rw [loop5_eq, look_stop _ _ _ _ _ (.inl h'), Prog.pure_eq_ret, wp_ret]
  imodintro
  rw [wp_ret]; imodintro
  iapply Hk $$ Hf

/-- Calling loop 6 with the counters in step sends for block `i + 1`. -/
theorem send6 (lim : BitVec 32) (i : Fin 127)
    (h : Scalar.cmpi .ult (wd (i.val + 1)) lim = 1#1) (h' : Scalar.cmpi .ult (wd (i.val + 2)) lim = 0#1) {α : Type} {Q : α → sProp 𝕄}
    {k : W3 → Prog (TpuEff nD τ sig (Elt F) (Λ₀ F) .tc) α} :
    iprop(xfree c (sl 10 (i.val + 1)) ∗ xhome c X (bk 128 (i.val + 1)))
      ⊢ iprop((xflight c X (sl 10 (i.val + 1)) (bk 128 (i.val + 1))
          -∗ wp frame (wpE (defs₀ (F := F)) 𝒱₀ (c : Thread nD τ) none) Set.univ (k (wd (i.val + 1), wd (i.val + 2), wd (i.val + 2))) Q)
        -∗ wp frame (wpE (defs₀ (F := F)) 𝒱₀ (c : Thread nD τ) none) Set.univ
          (.op (.call (6 : (Λ₀ F).Label) ⟨lim, cc0_scoped1, xbM, Memref.isWhole_whole _, xM, Memref.isWhole_whole _, wd i.val, wd (i.val + 1), wd (i.val + 1)⟩) k) Q) := by
  iintro H Hk
  iapply (wp_call 𝒱₀ (c : Thread nD τ) none Set.univ (1 : ℕ) (fun u hu => nomatch hu))
  rw [loop6_eq]
  iapply (look_send c X _ (some (1 : ℕ)) i _ h) $$ H
  iintro Hf
  iapply (wp_call 𝒱₀ (c : Thread nD τ) (some (1 : ℕ)) Set.univ (0 : ℕ) (fun u hu => by cases hu; exact Nat.lt_succ_self 0))
  rw [loop6_eq, look_stop _ _ _ _ _ (.inl h'), Prog.pure_eq_ret, wp_ret]
  imodintro
  rw [wp_ret]; imodintro
  iapply Hk $$ Hf

/-- Calling loop 7 with the counters in step sends for block `i + 1`. -/
theorem send7 (lim : BitVec 32) (i : Fin 127)
    (h : Scalar.cmpi .ult (wd (i.val + 1)) lim = 1#1) (h' : Scalar.cmpi .ult (wd (i.val + 2)) lim = 0#1) {α : Type} {Q : α → sProp 𝕄}
    {k : W3 → Prog (TpuEff nD τ sig (Elt F) (Λ₀ F) .tc) α} :
    iprop(xfree c (sl 10 (i.val + 1)) ∗ xhome c X (bk 128 (i.val + 1)))
      ⊢ iprop((xflight c X (sl 10 (i.val + 1)) (bk 128 (i.val + 1))
          -∗ wp frame (wpE (defs₀ (F := F)) 𝒱₀ (c : Thread nD τ) none) Set.univ (k (wd (i.val + 1), wd (i.val + 2), wd (i.val + 2))) Q)
        -∗ wp frame (wpE (defs₀ (F := F)) 𝒱₀ (c : Thread nD τ) none) Set.univ
          (.op (.call (7 : (Λ₀ F).Label) ⟨lim, cc0_scoped1, xbM, Memref.isWhole_whole _, xM, Memref.isWhole_whole _, wd i.val, wd (i.val + 1), wd (i.val + 1)⟩) k) Q) := by
  iintro H Hk
  iapply (wp_call 𝒱₀ (c : Thread nD τ) none Set.univ (1 : ℕ) (fun u hu => nomatch hu))
  rw [loop7_eq]
  iapply (look_send c X _ (some (1 : ℕ)) i _ h) $$ H
  iintro Hf
  iapply (wp_call 𝒱₀ (c : Thread nD τ) (some (1 : ℕ)) Set.univ (0 : ℕ) (fun u hu => by cases hu; exact Nat.lt_succ_self 0))
  rw [loop7_eq, look_stop _ _ _ _ _ (.inl h'), Prog.pure_eq_ret, wp_ret]
  imodintro
  rw [wp_ret]; imodintro
  iapply Hk $$ Hf

/-- Calling loop 8 with the counters in step sends for block `i + 1`. -/
theorem send8 (lim : BitVec 32) (i : Fin 127)
    (h : Scalar.cmpi .ult (wd (i.val + 1)) lim = 1#1) (h' : Scalar.cmpi .ult (wd (i.val + 2)) lim = 0#1) {α : Type} {Q : α → sProp 𝕄}
    {k : W3 → Prog (TpuEff nD τ sig (Elt F) (Λ₀ F) .tc) α} :
    iprop(xfree c (sl 10 (i.val + 1)) ∗ xhome c X (bk 128 (i.val + 1)))
      ⊢ iprop((xflight c X (sl 10 (i.val + 1)) (bk 128 (i.val + 1))
          -∗ wp frame (wpE (defs₀ (F := F)) 𝒱₀ (c : Thread nD τ) none) Set.univ (k (wd (i.val + 1), wd (i.val + 2), wd (i.val + 2))) Q)
        -∗ wp frame (wpE (defs₀ (F := F)) 𝒱₀ (c : Thread nD τ) none) Set.univ
          (.op (.call (8 : (Λ₀ F).Label) ⟨lim, cc0_scoped1, xbM, Memref.isWhole_whole _, xM, Memref.isWhole_whole _, wd i.val, wd (i.val + 1), wd (i.val + 1)⟩) k) Q) := by
  iintro H Hk
  iapply (wp_call 𝒱₀ (c : Thread nD τ) none Set.univ (1 : ℕ) (fun u hu => nomatch hu))
  rw [loop8_eq]
  iapply (look_send c X _ (some (1 : ℕ)) i _ h) $$ H
  iintro Hf
  iapply (wp_call 𝒱₀ (c : Thread nD τ) (some (1 : ℕ)) Set.univ (0 : ℕ) (fun u hu => by cases hu; exact Nat.lt_succ_self 0))
  rw [loop8_eq, look_stop _ _ _ _ _ (.inl h'), Prog.pure_eq_ret, wp_ret]
  imodintro
  rw [wp_ret]; imodintro
  iapply Hk $$ Hf

/-- Calling loop 9 with the counters in step sends for block `i + 1`. -/
theorem send9 (t : T) (lim : BitVec 32) (i : Fin 127)
    (h : Scalar.cmpi .ult (wd (i.val + 1)) lim = 1#1) (h' : Scalar.cmpi .ult (wd (i.val + 2)) lim = 0#1) {α : Type} {Q : α → sProp 𝕄}
    {k : W3 → Prog (TpuEff nD τ sig (Elt F) (Λ₀ F) .tc) α} :
    iprop(xfree c (sl 10 (i.val + 1)) ∗ xhome c X (bk 128 (i.val + 1)))
      ⊢ iprop((xflight c X (sl 10 (i.val + 1)) (bk 128 (i.val + 1))
          -∗ wp frame (wpE (defs₀ (F := F)) 𝒱₀ (c : Thread nD τ) none) Set.univ (k (wd (i.val + 1), wd (i.val + 2), wd (i.val + 2))) Q)
        -∗ wp frame (wpE (defs₀ (F := F)) 𝒱₀ (c : Thread nD τ) none) Set.univ
          (.op (.call (9 : (Λ₀ F).Label) ⟨t, lim, cc0_scoped1, xbM, Memref.isWhole_whole _, xM, Memref.isWhole_whole _, wd i.val, wd (i.val + 1), wd (i.val + 1)⟩) k) Q) := by
  iintro H Hk
  iapply (wp_call 𝒱₀ (c : Thread nD τ) none Set.univ (1 : ℕ) (fun u hu => nomatch hu))
  rw [loop9_eq]
  iapply (look_send c X _ (some (1 : ℕ)) i _ h) $$ H
  iintro Hf
  iapply (wp_call 𝒱₀ (c : Thread nD τ) (some (1 : ℕ)) Set.univ (0 : ℕ) (fun u hu => by cases hu; exact Nat.lt_succ_self 0))
  rw [loop9_eq, look_stop _ _ _ _ _ (.inl h'), Prog.pure_eq_ret, wp_ret]
  imodintro
  rw [wp_ret]; imodintro
  iapply Hk $$ Hf

/-- Past the last block loop 9 sends for nothing. -/
theorem idle9 (t : T) (lim a b n : BitVec 32) (h : Scalar.cmpi .slt b 128#32 = 0#1) {α : Type} {Q : α → sProp 𝕄}
    {k : W3 → Prog (TpuEff nD τ sig (Elt F) (Λ₀ F) .tc) α} :
    wp frame (wpE (defs₀ (F := F)) 𝒱₀ (c : Thread nD τ) none) Set.univ (k (a, b, n)) Q
      ⊢ wp frame (wpE (defs₀ (F := F)) 𝒱₀ (c : Thread nD τ) none) Set.univ
          (.op (.call (9 : (Λ₀ F).Label) ⟨t, lim, cc0_scoped1, xbM, Memref.isWhole_whole _, xM, Memref.isWhole_whole _, a, b, n⟩) k) Q := by
  iintro Hk
  iapply (wp_call 𝒱₀ (c : Thread nD τ) none Set.univ (0 : ℕ) (fun u hu => nomatch hu))
  rw [loop9_eq, look_stop _ _ _ _ _ (.inr h), Prog.pure_eq_ret, wp_ret]
  imodintro
  iexact Hk

end Cert.Proof.K1

end

end
-- ==== Proof.K1.Parts.lean ====
/-
  One trip of the pipeline, stretch by stretch: what each stretch of the body consumes and leaves, at the words and the
  resources of trip `t`.
-/
module

public import proofs.«01_k».proof.Proof.K1.Whiles
public import Idealize.ShloMosaic.Lib.VecWindow

@[expose] public section

noncomputable section

namespace Cert.Proof.K1

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

open Idealize.ShloMosaic.Ring (sl bk)

local notation "𝕄" => MT nD τ sig Unit (Elt F) ℕ (UU nD τ) ℕ

/-! ## The words of trip `t` -/

abbrev u6 (t : T) : BitVec 32 := Scf.iv 0#32 1#32 t
abbrev u205 (t : T) : BitVec 1 := Scalar.cmpi .eq (u6 t) 0#32
abbrev u206 (t : T) : BitVec 1 := Scalar.cmpi .eq (u6 t) 127#32
abbrev u207 (t : T) : BitVec 32 := Scalar.addi (wd t.val) 0#32
abbrev u212 (t : T) : BitVec 32 :=
  Scalar.addi (Scalar.select (Scalar.cmpi .eq (Scalar.select 1#1 (Scalar.subi (wd t.val) 1#32) (wd t.val)) 4294967295#32) 127#32
    (Scalar.select 1#1 (Scalar.subi (wd t.val) 1#32) (wd t.val))) 0#32
abbrev u217 (t : T) : BitVec 32 :=
  Scalar.addi (Scalar.select (Scalar.cmpi .eq (Scalar.select 1#1 (Scalar.addi (wd t.val) 1#32) (wd t.val)) 128#32) 0#32
    (Scalar.select 1#1 (Scalar.addi (wd t.val) 1#32) (wd t.val))) 0#32

/-- The block changes after every trip, so the output counters step. -/
theorem y_last (t : T) : Scalar.ori (Scalar.cmpi .ne (u207 t) (u217 t)) (u206 t) = 1#1 := by revert t; decide +kernel
theorem y_one : Scalar.andi (1#1 : BitVec 1) 1#1 = 1#1 := by decide
theorem y_up (t : T) : Scalar.select 1#1 (Scalar.addi (wd t.val) 1#32) (wd t.val) = wd (t.val + 1) := by revert t; decide +kernel
/-- The counters of what has been waited for step after every trip but the first. -/
theorem y_prev (t : T) :
    Scalar.select (Scalar.andi (Scalar.andi (Scalar.cmpi .ne (u207 t) (u212 t)) (Scalar.xori (u205 t) 1#1)) 1#1)
      (Scalar.addi (wd (t.val - 1)) 1#32) (wd (t.val - 1)) = wd t.val := by revert t; decide +kernel
/-- The grid index steps, and wraps after the last trip. -/
theorem y_grid (t : T) : Scalar.select (Scalar.cmpi .eq (wd (t.val + 1)) 128#32) 0#32 (wd (t.val + 1)) = wd (gridIx (t.val + 1)) := by
  revert t; decide +kernel

variable (c : Dev nD)
  (X : Buf (Elt F) (xM.view.loc (c : Thread nD τ))) (W : Buf (Elt F) (wM.view.loc (c : Thread nD τ)))

/-! ## The values of a block -/

/-- The indices a block stores, of the weights and the block of `x`. -/
def tv (w : Vec F S64x4096 .f32) (x : Vec F S1x256x4096 .f32) : S1x256x8.Idx → Elt F .i32 :=
  k0_pay12 (k0_pay2 w x) (k0_pay4 w x) (k0_pay6 w x) (k0_pay8 w x) (k0_pay9 w x) (k0_pay10 w x)
/-- The weights a block stores. -/
def ov (w : Vec F S64x4096 .f32) (x : Vec F S1x256x4096 .f32) : S1x256x8.Idx → Elt F .f32 :=
  k0_pay14 (k0_pay13 (k0_pay2 w x) (k0_pay4 w x) (k0_pay6 w x) (k0_pay8 w x) (k0_pay9 w x) (k0_pay10 w x))
/-- The weight matrix, as its buffer in VMEM is read. -/
def wv : Vec F S64x4096 .f32 := wM.view.read (Elt F) W
/-- The indices of block `b`, as the transfer moves them. -/
def tB (b : Fin 128) : S256x8.Idx → Elt F .i32 := fun i => tv (wv c W) (xv c X b) (Shape.reshapeEquiv numel_r i)
/-- The weights of block `b`, as the transfer moves them. -/
def oB (b : Fin 128) : S256x8.Idx → Elt F .f32 := fun i => ov (wv c W) (xv c X b) (Shape.reshapeEquiv numel_r i)

/-- The buffer in VMEM, holding the weight matrix. -/
def wfull : sProp 𝕄 := iprop(∃ f, ⌜wbM.view.read (Elt F) f = wv c W⌝ ∗ (wbM.view.loc (c : Thread nD τ) ↦[wbM.view.set]{fullShare} f))

/-- The stretches of the body, at the launch's buffers. -/
abbrev P1 := k0_part1 (F := F) xM (Memref.isWhole_whole _) wM (Memref.isWhole_whole _) tM (Memref.isWhole_whole _) oM (Memref.isWhole_whole _) wbM (Memref.isWhole_whole _) cc0_scratch1 xbM (Memref.isWhole_whole _) cc0_scoped1 tbM (Memref.isWhole_whole _) cc0_scoped3 obM (Memref.isWhole_whole _) cc0_scoped5
abbrev P2 := k0_part2 (F := F) xM (Memref.isWhole_whole _) wM (Memref.isWhole_whole _) tM (Memref.isWhole_whole _) oM (Memref.isWhole_whole _) wbM (Memref.isWhole_whole _) cc0_scratch1 xbM (Memref.isWhole_whole _) cc0_scoped1 tbM (Memref.isWhole_whole _) cc0_scoped3 obM (Memref.isWhole_whole _) cc0_scoped5
abbrev P3 := k0_part3 (F := F) xM (Memref.isWhole_whole _) wM (Memref.isWhole_whole _) tM (Memref.isWhole_whole _) oM (Memref.isWhole_whole _) wbM (Memref.isWhole_whole _) cc0_scratch1 xbM (Memref.isWhole_whole _) cc0_scoped1 tbM (Memref.isWhole_whole _) cc0_scoped3 obM (Memref.isWhole_whole _) cc0_scoped5
abbrev P4 := k0_part4 (F := F) xM (Memref.isWhole_whole _) wM (Memref.isWhole_whole _) tM (Memref.isWhole_whole _) oM (Memref.isWhole_whole _) wbM (Memref.isWhole_whole _) cc0_scratch1 xbM (Memref.isWhole_whole _) cc0_scoped1 tbM (Memref.isWhole_whole _) cc0_scoped3 obM (Memref.isWhole_whole _) cc0_scoped5
abbrev P5 := k0_part5 (F := F) xM (Memref.isWhole_whole _) wM (Memref.isWhole_whole _) tM (Memref.isWhole_whole _) oM (Memref.isWhole_whole _) wbM (Memref.isWhole_whole _) cc0_scratch1 xbM (Memref.isWhole_whole _) cc0_scoped1 tbM (Memref.isWhole_whole _) cc0_scoped3 obM (Memref.isWhole_whole _) cc0_scoped5
abbrev P6 := k0_part6 (F := F) xM (Memref.isWhole_whole _) wM (Memref.isWhole_whole _) tM (Memref.isWhole_whole _) oM (Memref.isWhole_whole _) wbM (Memref.isWhole_whole _) cc0_scratch1 xbM (Memref.isWhole_whole _) cc0_scoped1 tbM (Memref.isWhole_whole _) cc0_scoped3 obM (Memref.isWhole_whole _) cc0_scoped5
abbrev P7 := k0_part7 (F := F) xM (Memref.isWhole_whole _) wM (Memref.isWhole_whole _) tM (Memref.isWhole_whole _) oM (Memref.isWhole_whole _) wbM (Memref.isWhole_whole _) cc0_scratch1 xbM (Memref.isWhole_whole _) cc0_scoped1 tbM (Memref.isWhole_whole _) cc0_scoped3 obM (Memref.isWhole_whole _) cc0_scoped5
abbrev P8 := k0_part8 (F := F) xM (Memref.isWhole_whole _) wM (Memref.isWhole_whole _) tM (Memref.isWhole_whole _) oM (Memref.isWhole_whole _) wbM (Memref.isWhole_whole _) cc0_scratch1 xbM (Memref.isWhole_whole _) cc0_scoped1 tbM (Memref.isWhole_whole _) cc0_scoped3 obM (Memref.isWhole_whole _) cc0_scoped5
abbrev P9 := k0_part9 (F := F) xM (Memref.isWhole_whole _) wM (Memref.isWhole_whole _) tM (Memref.isWhole_whole _) oM (Memref.isWhole_whole _) wbM (Memref.isWhole_whole _) cc0_scratch1 xbM (Memref.isWhole_whole _) cc0_scoped1 tbM (Memref.isWhole_whole _) cc0_scoped3 obM (Memref.isWhole_whole _) cc0_scoped5
abbrev P10 := k0_part10 (F := F) xM (Memref.isWhole_whole _) wM (Memref.isWhole_whole _) tM (Memref.isWhole_whole _) oM (Memref.isWhole_whole _) wbM (Memref.isWhole_whole _) cc0_scratch1 xbM (Memref.isWhole_whole _) cc0_scoped1 tbM (Memref.isWhole_whole _) cc0_scoped3 obM (Memref.isWhole_whole _) cc0_scoped5
abbrev P11 := k0_part11 (F := F) xM (Memref.isWhole_whole _) wM (Memref.isWhole_whole _) tM (Memref.isWhole_whole _) oM (Memref.isWhole_whole _) wbM (Memref.isWhole_whole _) cc0_scratch1 xbM (Memref.isWhole_whole _) cc0_scoped1 tbM (Memref.isWhole_whole _) cc0_scoped3 obM (Memref.isWhole_whole _) cc0_scoped5
abbrev P12 := k0_part12 (F := F) xM (Memref.isWhole_whole _) wM (Memref.isWhole_whole _) tM (Memref.isWhole_whole _) oM (Memref.isWhole_whole _) wbM (Memref.isWhole_whole _) cc0_scratch1 xbM (Memref.isWhole_whole _) cc0_scoped1 tbM (Memref.isWhole_whole _) cc0_scoped3 obM (Memref.isWhole_whole _) cc0_scoped5
abbrev P13 := k0_part13 (F := F) xM (Memref.isWhole_whole _) wM (Memref.isWhole_whole _) tM (Memref.isWhole_whole _) oM (Memref.isWhole_whole _) wbM (Memref.isWhole_whole _) cc0_scratch1 xbM (Memref.isWhole_whole _) cc0_scoped1 tbM (Memref.isWhole_whole _) cc0_scoped3 obM (Memref.isWhole_whole _) cc0_scoped5

/-- Stretch 1 checks the trip's offsets. -/
theorem part1 (t : T) {Q : _ → sProp 𝕄} :
    iprop(∀ v, Q ⟨w_chk22 t, w_chk21 t, w_chk20 t, w_chk19 t, u6 t, u205 t, u206 t, u207 t, u212 t, u217 t, v, 0#32⟩)
      ⊢ wp frame (wpE (defs₀ (F := F)) 𝒱₀ (c : Thread nD τ) none) Set.univ (P1 (F := F) 0#32 1#32 t (wd t.val) (wd t.val) (wd (t.val - 1)) (wd t.val) (wd (t.val - 1)) (wd t.val)) Q := by
  unfold P1
  rw [k0_part1_eq_skeleton]
  unfold k0_part1_skel
  simp only [Prog.lift, Prog.bind_op, Prog.bind_ret, Prog.pure_eq_ret]
  iintro Hk
  iapply (wp_assume 𝒱₀ (c : Thread nD τ) none Set.univ (w_chk22 t))
  iapply (wp_assume 𝒱₀ (c : Thread nD τ) none Set.univ (w_chk21 t))
  iapply (wp_assume 𝒱₀ (c : Thread nD τ) none Set.univ (w_chk20 t))
  iapply (wp_assume 𝒱₀ (c : Thread nD τ) none Set.univ (w_chk19 t))
  rw [wp_ret]; imodintro
  iapply Hk $$ %_

/-- Stretch 2 computes words that nothing depends on. -/
theorem part2 (v z : BitVec 32) {Q : _ → sProp 𝕄} :
    iprop(∀ r, Q r) ⊢ wp frame (wpE (defs₀ (F := F)) 𝒱₀ (c : Thread nD τ) none) Set.univ (P2 (F := F) v z) Q := by
  unfold P2
  rw [k0_part2_eq_skeleton]
  unfold k0_part2_skel
  simp only [Prog.pure_eq_ret]
  iintro Hk
  rw [wp_ret]; imodintro
  iapply Hk $$ %_

/-- Stretch 3 sends for the block nine ahead, while there is one, and waits for this trip's block. -/
theorem part3_go (t : T) (h : t.val + 9 < 128) (a1 a2 a3 a4 : BitVec 32) {Q : _ → sProp 𝕄} :
    iprop((xfree c (sl 10 (t.val + 9)) ∗ xhome c X (bk 128 (t.val + 9))) ∗ xflight c X (sl 10 t.val) (bk 128 t.val) ∗ owesP (F := F) c)
      ⊢ iprop((iprop(xflight c X (sl 10 (t.val + 9)) (bk 128 (t.val + 9)) ∗ xfull c X (sl 10 t.val) (bk 128 t.val) ∗ xcellP (F := F) c (sl 10 t.val) ∗ xhome c X (bk 128 t.val) ∗ owesP (F := F) c) -∗ Q ⟨wd (t.val + 9), wd (t.val + 10), Scalar.remui (wd t.val) 10#32, Scalar.remui (wd t.val) 2#32⟩)
        -∗ wp frame (wpE (defs₀ (F := F)) 𝒱₀ (c : Thread nD τ) none) Set.univ (P3 (F := F) t (wd (t.val + 9)) (wd t.val) (wd (t.val + 8)) (wd t.val) (wd (t.val - 1)) (wd t.val) (wd (t.val - 1)) (wd t.val) (w_chk19 t) (u6 t) (u205 t) (u207 t) (u212 t) (u217 t) a1 a2 a3 a4) Q) := by
  unfold P3
  rw [k0_part3_eq_skeleton]
  unfold k0_part3_skel
  simp only [Prog.lift, Prog.bind_op, Prog.bind_ret, Prog.pure_eq_ret, ite_self]
  have e := w_after t
  rw [show ahead t.val = t.val + 8 from by show min _ _ = _; omega] at e
  rw [w_bound t, e]
  iintro ⟨Hx, Hw⟩ Hk
  iapply (send9 c X t (wd (t.val + 10)) ⟨t.val + 8, by omega⟩ (w_go t h) (w_stop t)) $$ Hx
  iintro Hf
  rw [dif_pos (w_cond10 t)]
  simp only [Prog.bind_op, Prog.bind_ret]
  iapply (x_wait c X none (sl 10 t.val) (bk 128 t.val) (w_off31 t) (w_off32 t) (w_off33 t)) $$ Hw
  iintro Hd
  rw [wp_ret]; imodintro
  iapply Hk
  isplitl [Hf] <;> iassumption

/-- Past the last block stretch 3 only waits. -/
theorem part3_end (t : T) (h : ¬ t.val + 9 < 128) (s : BitVec 32) (a1 a2 a3 a4 : BitVec 32) {Q : _ → sProp 𝕄} :
    iprop(xflight c X (sl 10 t.val) (bk 128 t.val) ∗ owesP (F := F) c)
      ⊢ iprop((iprop(xfull c X (sl 10 t.val) (bk 128 t.val) ∗ xcellP (F := F) c (sl 10 t.val) ∗ xhome c X (bk 128 t.val) ∗ owesP (F := F) c) -∗ Q ⟨wd (ahead t.val), s, Scalar.remui (wd t.val) 10#32, Scalar.remui (wd t.val) 2#32⟩)
        -∗ wp frame (wpE (defs₀ (F := F)) 𝒱₀ (c : Thread nD τ) none) Set.univ (P3 (F := F) t s (wd t.val) (wd (ahead t.val)) (wd t.val) (wd (t.val - 1)) (wd t.val) (wd (t.val - 1)) (wd t.val) (w_chk19 t) (u6 t) (u205 t) (u207 t) (u212 t) (u217 t) a1 a2 a3 a4) Q) := by
  unfold P3
  rw [k0_part3_eq_skeleton]
  unfold k0_part3_skel
  simp only [Prog.lift, Prog.bind_op, Prog.bind_ret, Prog.pure_eq_ret, ite_self]
  rw [w_bound t, w_after t]
  iintro Hw Hk
  iapply (idle9 c t (wd (t.val + 10)) _ _ _ (w_end t h))
  rw [dif_pos (w_cond10 t)]
  simp only [Prog.bind_op, Prog.bind_ret]
  iapply (x_wait c X none (sl 10 t.val) (bk 128 t.val) (w_off31 t) (w_off32 t) (w_off33 t)) $$ Hw
  iintro Hd
  rw [wp_ret]; imodintro
  iapply Hk $$ Hd

/-- Stretch 4 loads the weight matrix and the block, and begins the rounds. -/
theorem part4 (t : T) (b : Fin 128) (z : BitVec 32) {Q : _ → sProp 𝕄} :
    iprop(wfull c W ∗ xfull c X (sl 10 t.val) b)
      ⊢ iprop((iprop(wfull c W ∗ xfull c X (sl 10 t.val) b) -∗ Q ⟨Scalar.remui (wd t.val) 2#32, k0_pay2 (wv c W) (xv c X b), k0_pay4 (wv c W) (xv c X b), k0_pay6 (wv c W) (xv c X b), k0_pay8 (wv c W) (xv c X b), k0_pay9 (wv c W) (xv c X b), k0_pay10 (wv c W) (xv c X b)⟩)
        -∗ wp frame (wpE (defs₀ (F := F)) 𝒱₀ (c : Thread nD τ) none) Set.univ (P4 (F := F) (wd t.val) (wd t.val) (w_chk20 t) z) Q) := by
  unfold P4
  rw [k0_part4_eq_skeleton]
  unfold k0_part4_skel
  simp only [Prog.lift, Prog.bind_op, Prog.bind_ret, Prog.pure_eq_ret, ite_self]
  unfold wfull
  iintro ⟨⟨%f, %hf, Hw⟩, Hx⟩ Hk
  iapply (wp_load 𝒱₀ (c : Thread nD τ) none Set.univ (m := wbM) (S := wbM.view.set) (f := f) (View.setOn_subset_set _ _)) $$ Hw
  iintro Hw
  iapply (x_load c X none (sl 10 t.val) b (w_off34 t)) $$ Hx
  iintro Hx
  rw [show wbM.view.readAt (Elt F) (Rect.unit (s := S64x4096) ![0, 0] S64x4096.size inb_S64x4096_S64x4096_0_0).toLoadRect f = wv c W from
    (View.readAt_full _ _ _).trans hf]
  rw [wp_ret]; imodintro
  iapply Hk
  isplitl [Hw]
  · iexists f; isplitr
    · ipureintro; exact hf
    · iexact Hw
  · iexact Hx

/-- Stretch 5 finishes the rounds and stores the block's indices. -/
theorem part5 (t : T) (y z : BitVec 32) (v318 v324 v330 v336 : FVec F S1x256 .f32) (v340 : FVec F S64x256 .f32) (v341 : FVec F S256 .f32) {Q : _ → sProp 𝕄} :
    iprop(∃ f, tslotP (F := F) c (sl 2 t.val) f)
      ⊢ iprop((iprop(∃ f, ⌜(tslot (sl 2 t.val)).view.read (Elt F) f = fun i => k0_pay12 v318 v324 v330 v336 v340 v341 (Shape.reshapeEquiv numel_r i)⌝ ∗ tslotP (F := F) c (sl 2 t.val) f) -∗ Q (k0_pay13 v318 v324 v330 v336 v340 v341))
        -∗ wp frame (wpE (defs₀ (F := F)) 𝒱₀ (c : Thread nD τ) none) Set.univ (P5 (F := F) (wd t.val) (w_chk21 t) y z v318 v324 v330 v336 v340 v341) Q) := by
  unfold P5
  rw [k0_part5_eq_skeleton]
  unfold k0_part5_skel
  simp only [Prog.lift, Prog.bind_op, Prog.bind_ret, Prog.pure_eq_ret, ite_self]
  iintro Ht Hk
  iapply (t_load c none (sl 2 t.val) (w_off35 t)) $$ Ht
  iintro %_ Ht
  iapply (t_store c none (sl 2 t.val) _ (w_off35 t)) $$ Ht
  iintro Ht
  rw [wp_ret]; imodintro
  iapply Hk $$ Ht

/-- Stretch 6 stores the block's weights and sends both results out; in the first trip nothing is waited for. -/
theorem part6_first (t : T) (h : t.val = 0) (v : S256x8.Idx → Elt F .i32) (u : FVec F S256x8 .f32) {Q : _ → sProp 𝕄} :
    iprop(((∃ f, ⌜(tslot (sl 2 t.val)).view.read (Elt F) f = v⌝ ∗ tslotP (F := F) c (sl 2 t.val) f) ∗ tcellP (F := F) c (sl 2 t.val) ∗ ∃ f, tblkP (F := F) c (bk 128 t.val) f) ∗ ((∃ f, oslotP (F := F) c (sl 2 t.val) f) ∗ ocellP (F := F) c (sl 2 t.val) ∗ ∃ f, oblkP (F := F) c (bk 128 t.val) f))
      ⊢ iprop((iprop(tflight c (sl 2 t.val) (bk 128 t.val) v ∗ oflight c (sl 2 t.val) (bk 128 t.val) (fun i => k0_pay14 (F := F) u (Shape.reshapeEquiv numel_r i))) -∗ Q ⟨wd (t.val + 1), wd (t.val + 1), wd t.val, Scalar.cmpi .ne (u207 t) (u212 t)⟩)
        -∗ wp frame (wpE (defs₀ (F := F)) 𝒱₀ (c : Thread nD τ) none) Set.univ (P6 (F := F) t (wd t.val) (wd t.val) (wd (t.val - 1)) (wd t.val) (wd (t.val - 1)) (wd t.val) (w_chk22 t) (w_chk19 t) (u205 t) (u206 t) (u207 t) (u212 t) (u217 t) u) Q) := by
  unfold P6
  rw [k0_part6_eq_skeleton]
  unfold k0_part6_skel
  simp only [Prog.lift, Prog.bind_op, Prog.bind_ret, Prog.pure_eq_ret, ite_self]
  iintro ⟨Ht, ⟨Ho, Hoc⟩⟩ Hk
  iapply (o_load c none (sl 2 t.val) (w_off36 t)) $$ Ho
  iintro %_ Ho
  iapply (o_store c none (sl 2 t.val) _ (w_off36 t)) $$ Ho
  iintro Ho
  rw [dif_pos (w_cond14 t)]
  simp only [Prog.bind_op, Prog.bind_ret]
  iapply (t_issue c none (sl 2 t.val) (bk 128 t.val) v (w_off37 t) (w_off38 t) (w_off39 t)) $$ Ht
  iintro Htf
  rw [dif_pos (w_cond15 t)]
  simp only [Prog.bind_op, Prog.bind_ret]
  iapply (o_issue c none (sl 2 t.val) (bk 128 t.val) _ (w_off40 t) (w_off41 t) (w_off42 t)) $$ [Ho Hoc]
  · isplitl [Ho]; · iexact Ho
    iexact Hoc
  iintro Hof
  rw [dif_neg (fun e => (w_cond17 t).1 e h)]
  try simp only [Prog.bind_op, Prog.bind_ret]
  rw [y_last t, y_one, y_up t, y_prev t]
  rw [wp_ret]; imodintro
  iapply Hk
  isplitl [Htf] <;> iassumption

/-- In a later trip the indices of the block before are waited for. -/
theorem part6_next (t : T) (h : t.val ≠ 0) (v : S256x8.Idx → Elt F .i32) (u : FVec F S256x8 .f32) (v' : S256x8.Idx → Elt F .i32) {Q : _ → sProp 𝕄} :
    iprop(((∃ f, ⌜(tslot (sl 2 t.val)).view.read (Elt F) f = v⌝ ∗ tslotP (F := F) c (sl 2 t.val) f) ∗ tcellP (F := F) c (sl 2 t.val) ∗ ∃ f, tblkP (F := F) c (bk 128 t.val) f) ∗ ((∃ f, oslotP (F := F) c (sl 2 t.val) f) ∗ ocellP (F := F) c (sl 2 t.val) ∗ ∃ f, oblkP (F := F) c (bk 128 t.val) f) ∗ tflight c (sl 2 (t.val - 1)) (bk 128 (t.val - 1)) v' ∗ owesP (F := F) c)
      ⊢ iprop((iprop((tflight c (sl 2 t.val) (bk 128 t.val) v ∗ oflight c (sl 2 t.val) (bk 128 t.val) (fun i => k0_pay14 (F := F) u (Shape.reshapeEquiv numel_r i))) ∗ (tdone c (bk 128 (t.val - 1)) v' ∗ tfree (F := F) c (sl 2 (t.val - 1))) ∗ owesP (F := F) c) -∗ Q ⟨wd (t.val + 1), wd (t.val + 1), wd t.val, Scalar.cmpi .ne (u207 t) (u212 t)⟩)
        -∗ wp frame (wpE (defs₀ (F := F)) 𝒱₀ (c : Thread nD τ) none) Set.univ (P6 (F := F) t (wd t.val) (wd t.val) (wd (t.val - 1)) (wd t.val) (wd (t.val - 1)) (wd t.val) (w_chk22 t) (w_chk19 t) (u205 t) (u206 t) (u207 t) (u212 t) (u217 t) u) Q) := by
  unfold P6
  rw [k0_part6_eq_skeleton]
  unfold k0_part6_skel
  simp only [Prog.lift, Prog.bind_op, Prog.bind_ret, Prog.pure_eq_ret, ite_self]
  iintro ⟨Ht, ⟨Ho, Hoc⟩, Hp, HO⟩ Hk
  iapply (o_load c none (sl 2 t.val) (w_off36 t)) $$ Ho
  iintro %_ Ho
  iapply (o_store c none (sl 2 t.val) _ (w_off36 t)) $$ Ho
  iintro Ho
  rw [dif_pos (w_cond14 t)]
  simp only [Prog.bind_op, Prog.bind_ret]
  iapply (t_issue c none (sl 2 t.val) (bk 128 t.val) v (w_off37 t) (w_off38 t) (w_off39 t)) $$ Ht
  iintro Htf
  rw [dif_pos (w_cond15 t)]
  simp only [Prog.bind_op, Prog.bind_ret]
  iapply (o_issue c none (sl 2 t.val) (bk 128 t.val) _ (w_off40 t) (w_off41 t) (w_off42 t)) $$ [Ho Hoc]
  · isplitl [Ho]; · iexact Ho
    iexact Hoc
  iintro Hof
  rw [dif_pos ((w_cond17 t).2 h)]
  simp only [Prog.bind_op, Prog.bind_ret]
  iapply (t_wait c none (sl 2 (t.val - 1)) (bk 128 (t.val - 1)) v' (w_off43 t) (w_off44 t h) (w_off45 t)) $$ [Hp HO]
  · isplitl [Hp] <;> iassumption
  iintro ⟨Htd, Htr, HO⟩
  rw [y_last t, y_one, y_up t, y_prev t]
  rw [wp_ret]; imodintro
  iapply Hk
  isplitl [Htf Hof]
  · isplitl [Htf] <;> iassumption
  isplitl [Htd Htr]
  · isplitl [Htd] <;> iassumption
  · iexact HO

end Cert.Proof.K1

end
-- ==== Proof.K1.Trip.lean ====
/-
  The invariant of the pipeline's loop, and that a trip keeps it. Before trip `t` blocks `t … t + 8` of `x` are in flight, each
  in its slot; the results of the block before are on their way out; those of all blocks before that have landed.
-/
module

public import proofs.«01_k».proof.Proof.K1.Parts

@[expose] public section

noncomputable section

namespace Cert.Proof.K1

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

open Idealize.ShloMosaic.Ring (sl bk)

local notation "𝕄" => MT nD τ sig Unit (Elt F) ℕ (UU nD τ) ℕ

variable (c : Dev nD)
  (X : Buf (Elt F) (xM.view.loc (c : Thread nD τ))) (W : Buf (Elt F) (wM.view.loc (c : Thread nD τ)))

omit [BitOps F] in
/-- A set with one more index. -/
theorem bs_insert {I : Type} [DecidableEq I] {s : Finset I} {i : I} (hi : i ∉ s) {Φ : I → sProp 𝕄} :
    bigSep (insert i s) Φ = iprop(Φ i ∗ bigSep s Φ) := BI.bigSep_insert hi
omit [BitOps F] in
/-- A set without one of its indices. -/
theorem bs_erase {I : Type} [DecidableEq I] {s : Finset I} {i : I} (hi : i ∈ s) {Φ : I → sProp 𝕄} :
    bigSep s Φ = iprop(Φ i ∗ bigSep (s.erase i) Φ) := BI.bigSep_erase hi

/-! ## The ring of `x` blocks -/

/-- Slot `i` of the ring's unrolled row: block `i` in flight, or, past the last block, free. -/
def slotAt (i : ℕ) : sProp 𝕄 := if i < 128 then xflight c X (sl 10 i) (bk 128 i) else xfree c (sl 10 i)
/-- The ring before trip `t`. -/
def ringAt (t : ℕ) : sProp 𝕄 :=
  iprop(bigSep (Finset.Ico t (t + 9)) (slotAt c X) ∗ xfree c (sl 10 (t + 9)) ∗ bigSep (Ring.homeSet (NB := 128) 9 t) (xhome c X))
/-- The ring inside trip `t`, without its slot and block. -/
def ringIn (t : ℕ) : sProp 𝕄 :=
  iprop(slotAt c X (t + 9) ∗ bigSep (Finset.Ico (t + 1) (t + 9)) (slotAt c X)
    ∗ bigSep ((Ring.homeSet (NB := 128) 9 (t + 1)).erase (bk 128 t)) (xhome c X))

theorem ringAt_peel (t : ℕ) (ht : t < 128) :
    ringAt c X t ⊢ iprop(xflight c X (sl 10 t) (bk 128 t) ∗ bigSep (Finset.Ico (t + 1) (t + 9)) (slotAt c X)
      ∗ xfree c (sl 10 (t + 9)) ∗ bigSep (Ring.homeSet (NB := 128) 9 t) (xhome c X)) := by
  unfold ringAt
  rw [Ring.Ico_eq_insert (show t < t + 9 by omega), bs_insert (by simp)]
  have e : slotAt c X t = xflight c X (sl 10 t) (bk 128 t) := if_pos ht
  rw [e]
  iintro ⟨⟨H1, H2⟩, H3, H4⟩
  isplitl [H1]; · iexact H1
  isplitl [H2]; · iexact H2
  isplitl [H3] <;> iassumption

theorem homes_go (t : ℕ) (h : t + 9 < 128) :
    (bigSep (Ring.homeSet (NB := 128) 9 t) (xhome c X) : sProp 𝕄)
      ⊢ iprop(xhome c X (bk 128 (t + 9)) ∗ bigSep ((Ring.homeSet (NB := 128) 9 (t + 1)).erase (bk 128 t)) (xhome c X)) := by
  rw [Ring.homeSet_succ 9 t h, Finset.erase_insert (Ring.bk_not_mem_erase 9 t (by omega) (by decide))]
  conv_lhs => rw [Ring.homeSet_out 9 t h, bs_insert (Ring.bkL_not_mem_erase 9 t)]

theorem homes_end (t : ℕ) (ht : t < 128) (h : ¬ t + 9 < 128) :
    (bigSep (Ring.homeSet (NB := 128) 9 t) (xhome c X) : sProp 𝕄)
      ⊢ bigSep ((Ring.homeSet (NB := 128) 9 (t + 1)).erase (bk 128 t)) (xhome c X) := by
  rw [Ring.homeSet_succ_tail 9 t (by omega) ht, Finset.erase_insert (Ring.bk_not_mem_homeSet 9 t ht (by decide))]

/-- With its slot and block back, the ring is at the next trip. -/
theorem ringIn_close (t : ℕ) (ht : t < 128) :
    iprop(xfree c (sl 10 t) ∗ xhome c X (bk 128 t) ∗ ringIn c X t) ⊢ ringAt c X (t + 1) := by
  unfold ringAt ringIn
  rw [show t + 1 + 9 = (t + 9) + 1 from rfl,
    show Finset.Ico (t + 1) (t + 9 + 1) = insert (t + 9) (Finset.Ico (t + 1) (t + 9)) from by ext i; simp only [Finset.mem_insert, Finset.mem_Ico]; omega,
    bs_insert (by simp), show t + 9 + 1 = t + 10 from rfl, Ring.sl_add 10 t,
    bs_erase (s := Ring.homeSet (NB := 128) 9 (t + 1)) (i := bk 128 t)
      ((Ring.mem_homeSet 9 (t + 1) (bk 128 t)).2 (.inl (by rw [Ring.bk_val ht]; exact Nat.lt_succ_self t)))]
  iintro ⟨H1, H2, H3, H4, H5⟩
  isplitl [H3 H4]
  · isplitl [H3] <;> iassumption
  isplitl [H1]; · iexact H1
  isplitl [H2] <;> iassumption

/-- Stretch 3, on the ring. -/
theorem part3_ring (t : T) (a1 a2 a3 a4 : BitVec 32) {Q : _ → sProp 𝕄} :
    iprop(ringAt c X t.val ∗ owesP (F := F) c)
      ⊢ iprop((iprop(ringIn c X t.val ∗ xfull c X (sl 10 t.val) (bk 128 t.val) ∗ xcellP (F := F) c (sl 10 t.val) ∗ xhome c X (bk 128 t.val) ∗ owesP (F := F) c)
            -∗ Q ⟨wd (ahead (t.val + 1)), wd (sent (t.val + 1)), Scalar.remui (wd t.val) 10#32, Scalar.remui (wd t.val) 2#32⟩)
        -∗ wp frame (wpE (defs₀ (F := F)) 𝒱₀ (c : Thread nD τ) none) Set.univ (P3 (F := F) t (wd (sent t.val)) (wd t.val) (wd (ahead t.val)) (wd t.val) (wd (t.val - 1)) (wd t.val) (wd (t.val - 1)) (wd t.val) (w_chk19 t) (u6 t) (u205 t) (u207 t) (u212 t) (u217 t) a1 a2 a3 a4) Q) := by
  have ht := lt_trips t
  iintro ⟨HR, HO⟩ Hk
  ihave HR := (ringAt_peel c X t.val ht) $$ HR
  icases HR with ⟨Hf, Hs, Hfree, Hh⟩
  by_cases h : t.val + 9 < 128
  · rw [show ahead t.val = t.val + 8 from by show min _ _ = _; omega, show sent t.val = t.val + 9 from by show min _ _ = _; omega,
      show ahead (t.val + 1) = t.val + 9 from by show min _ _ = _; omega, show sent (t.val + 1) = t.val + 10 from by show min _ _ = _; omega]
    ihave Hh := (homes_go c X t.val h) $$ Hh
    icases Hh with ⟨Hb, Hh⟩
    iapply (part3_go c X t h a1 a2 a3 a4) $$ [Hf HO Hfree Hb]
    · isplitl [Hfree Hb]
      · isplitl [Hfree] <;> iassumption
      · isplitl [Hf] <;> iassumption
    iintro ⟨Hn, Hd⟩
    iapply Hk
    isplitl [Hn Hs Hh]
    · unfold ringIn
      isplitl [Hn]
      · have e : slotAt c X (t.val + 9) = xflight c X (sl 10 (t.val + 9)) (bk 128 (t.val + 9)) := if_pos h
        rw [e]; iexact Hn
      isplitl [Hs] <;> iassumption
    · iexact Hd
  · rw [show ahead (t.val + 1) = ahead t.val from by show min _ _ = min _ _; omega, show sent (t.val + 1) = sent t.val from by show min _ _ = min _ _; omega]
    ihave Hh := (homes_end c X t.val ht h) $$ Hh
    iapply (part3_end c X t h _ a1 a2 a3 a4) $$ [Hf HO]
    · isplitl [Hf] <;> iassumption
    iintro Hd
    iapply Hk
    isplitl [Hfree Hs Hh]
    · unfold ringIn
      isplitl [Hfree]
      · have e : slotAt c X (t.val + 9) = xfree c (sl 10 (t.val + 9)) := if_neg h
        rw [e]; iexact Hfree
      isplitl [Hs] <;> iassumption
    · iexact Hd

/-! ## The rings of results -/

/-- The other slot of the ring of index blocks before trip `t`: the block before on its way out, if there is one. -/
def tprev (t : ℕ) : sProp 𝕄 :=
  if t = 0 then tfree (F := F) c (sl 2 (t + 1)) else tflight c (sl 2 (t - 1)) (bk 128 (t - 1)) (tB c X W (bk 128 (t - 1)))
/-- The index blocks that have landed before trip `t`. -/
def tdones (t : ℕ) : sProp 𝕄 := bigSep (Finset.range (t - 1)) (fun i => tdone c (bk 128 i) (tB c X W (bk 128 i)))
/-- The index blocks not yet written before trip `t`. -/
def ttodo (t : ℕ) : sProp 𝕄 := bigSep (Finset.Ico t 128) (fun i => iprop(∃ f, tblkP (F := F) c (bk 128 i) f))
/-- The index result before trip `t`. -/
def tring (t : ℕ) : sProp 𝕄 := iprop(tfree (F := F) c (sl 2 t) ∗ tprev c X W t ∗ tdones c X W t ∗ ttodo (F := F) c t)

theorem ttodo_peel (t : ℕ) (ht : t < 128) :
    ttodo (F := F) c t ⊢ iprop((∃ f, tblkP (F := F) c (bk 128 t) f) ∗ ttodo (F := F) c (t + 1)) := by
  unfold ttodo
  rw [Ring.Ico_eq_insert ht, bs_insert (by simp)]
theorem tdones_succ (t : ℕ) (h : t ≠ 0) :
    iprop(tdone c (bk 128 (t - 1)) (tB c X W (bk 128 (t - 1))) ∗ tdones c X W t) ⊢ tdones c X W (t + 1) := by
  unfold tdones
  obtain ⟨s, rfl⟩ : ∃ s, t = s + 1 := ⟨t - 1, by omega⟩
  rw [show s + 1 + 1 - 1 = s + 1 from rfl, show s + 1 - 1 = s from rfl, Finset.range_add_one, bs_insert Finset.notMem_range_self]
theorem tdones_first : tdones c X W 0 = tdones c X W 1 := rfl
theorem tprev_succ (t : ℕ) : tprev c X W (t + 1) = tflight c (sl 2 t) (bk 128 t) (tB c X W (bk 128 t)) := if_neg (Nat.succ_ne_zero t)

/-- The other slot of the ring of weight blocks before trip `t`: the block before on its way out, if there is one. -/
def oprev (t : ℕ) : sProp 𝕄 :=
  if t = 0 then ofree (F := F) c (sl 2 (t + 1)) else oflight c (sl 2 (t - 1)) (bk 128 (t - 1)) (oB c X W (bk 128 (t - 1)))
/-- The weight blocks that have landed before trip `t`. -/
def odones (t : ℕ) : sProp 𝕄 := bigSep (Finset.range (t - 1)) (fun i => odone c (bk 128 i) (oB c X W (bk 128 i)))
/-- The weight blocks not yet written before trip `t`. -/
def otodo (t : ℕ) : sProp 𝕄 := bigSep (Finset.Ico t 128) (fun i => iprop(∃ f, oblkP (F := F) c (bk 128 i) f))
/-- The weight result before trip `t`. -/
def oring (t : ℕ) : sProp 𝕄 := iprop(ofree (F := F) c (sl 2 t) ∗ oprev c X W t ∗ odones c X W t ∗ otodo (F := F) c t)

theorem otodo_peel (t : ℕ) (ht : t < 128) :
    otodo (F := F) c t ⊢ iprop((∃ f, oblkP (F := F) c (bk 128 t) f) ∗ otodo (F := F) c (t + 1)) := by
  unfold otodo
  rw [Ring.Ico_eq_insert ht, bs_insert (by simp)]
theorem odones_succ (t : ℕ) (h : t ≠ 0) :
    iprop(odone c (bk 128 (t - 1)) (oB c X W (bk 128 (t - 1))) ∗ odones c X W t) ⊢ odones c X W (t + 1) := by
  unfold odones
  obtain ⟨s, rfl⟩ : ∃ s, t = s + 1 := ⟨t - 1, by omega⟩
  rw [show s + 1 + 1 - 1 = s + 1 from rfl, show s + 1 - 1 = s from rfl, Finset.range_add_one, bs_insert Finset.notMem_range_self]
theorem odones_first : odones c X W 0 = odones c X W 1 := rfl
theorem oprev_succ (t : ℕ) : oprev c X W (t + 1) = oflight c (sl 2 t) (bk 128 t) (oB c X W (bk 128 t)) := if_neg (Nat.succ_ne_zero t)

theorem sl_prev (t : ℕ) (h : t ≠ 0) : sl 2 (t - 1) = sl 2 (t + 1) := by
  obtain ⟨s, rfl⟩ : ∃ s, t = s + 1 := ⟨t - 1, by omega⟩
  exact (Ring.sl_add 2 s).symm

/-- Stretch 6, on the ring of index blocks. -/
theorem part6_ring (t : T) {Q : _ → sProp 𝕄} :
    iprop(((∃ f, ⌜(tslot (sl 2 t.val)).view.read (Elt F) f = tB c X W (bk 128 t.val)⌝ ∗ tslotP (F := F) c (sl 2 t.val) f) ∗ tcellP (F := F) c (sl 2 t.val) ∗ ∃ f, tblkP (F := F) c (bk 128 t.val) f) ∗ ((∃ f, oslotP (F := F) c (sl 2 t.val) f) ∗ ocellP (F := F) c (sl 2 t.val) ∗ ∃ f, oblkP (F := F) c (bk 128 t.val) f) ∗ (tprev c X W t.val ∗ tdones c X W t.val) ∗ owesP (F := F) c)
      ⊢ iprop((iprop((tflight c (sl 2 t.val) (bk 128 t.val) (tB c X W (bk 128 t.val)) ∗ oflight c (sl 2 t.val) (bk 128 t.val) (oB c X W (bk 128 t.val))) ∗ (tfree (F := F) c (sl 2 (t.val + 1)) ∗ tdones c X W (t.val + 1)) ∗ owesP (F := F) c) -∗ Q ⟨wd (t.val + 1), wd (t.val + 1), wd t.val, Scalar.cmpi .ne (u207 t) (u212 t)⟩)
        -∗ wp frame (wpE (defs₀ (F := F)) 𝒱₀ (c : Thread nD τ) none) Set.univ (P6 (F := F) t (wd t.val) (wd t.val) (wd (t.val - 1)) (wd t.val) (wd (t.val - 1)) (wd t.val) (w_chk22 t) (w_chk19 t) (u205 t) (u206 t) (u207 t) (u212 t) (u217 t) (k0_pay13 (k0_pay2 (wv c W) (xv c X (bk 128 t.val))) (k0_pay4 (wv c W) (xv c X (bk 128 t.val))) (k0_pay6 (wv c W) (xv c X (bk 128 t.val))) (k0_pay8 (wv c W) (xv c X (bk 128 t.val))) (k0_pay9 (wv c W) (xv c X (bk 128 t.val))) (k0_pay10 (wv c W) (xv c X (bk 128 t.val))))) Q) := by
  by_cases h : t.val = 0
  · have e1 : tprev c X W t.val = tfree (F := F) c (sl 2 (t.val + 1)) := if_pos h
    have e3 : tdones c X W t.val = tdones c X W (t.val + 1) := by rw [h]; exact tdones_first c X W
    rw [e1, e3]
    iintro ⟨Ht, Ho, Hp, HO⟩ Hk
    iapply (part6_first c t h (tB c X W (bk 128 t.val)) _) $$ [Ht Ho]
    · isplitl [Ht]; · iexact Ht
      iexact Ho
    iintro Hf
    iapply Hk
    isplitl [Hf]; · iexact Hf
    isplitl [Hp]; · iexact Hp
    iexact HO
  · have e1 : tprev c X W t.val = tflight c (sl 2 (t.val - 1)) (bk 128 (t.val - 1)) (tB c X W (bk 128 (t.val - 1))) := if_neg h
    rw [e1]
    iintro ⟨Ht, Ho, ⟨Hp, Hd⟩, HO⟩ Hk
    iapply (part6_next c t h (tB c X W (bk 128 t.val)) _ (tB c X W (bk 128 (t.val - 1)))) $$ [Ht Ho Hp HO]
    · isplitl [Ht]; · iexact Ht
      isplitl [Ho]; · iexact Ho
      isplitl [Hp] <;> iassumption
    rw [sl_prev t.val h]
    iintro ⟨Hf, ⟨H1, H2⟩, HO⟩
    iapply Hk
    isplitl [Hf]; · iexact Hf
    isplitl [Hd H1 H2]
    · isplitl [H2]; · iexact H2
      iapply (tdones_succ c X W t.val h) $$ [H1 Hd]
      isplitl [H1] <;> iassumption
    · iexact HO

/-! ## The invariant -/

/-- The words carried into trip `t`. -/
def accAt (t : ℕ) : BitVec 32 × BitVec 32 × BitVec 32 × BitVec 32 × BitVec 32 × BitVec 32 × BitVec 32 × BitVec 32 :=
  (wd (sent t), wd t, wd (ahead t), wd t, wd (t - 1), wd t, wd (t - 1), wd (gridIx t))
/-- What the core holds before trip `t`. -/
def resAt (t : ℕ) : sProp 𝕄 :=
  iprop(wfull c W ∗ ringAt c X t ∗ tring c X W t ∗ oring c X W t ∗ owesP (F := F) c)

theorem tfree_open (s : Fin 2) : tfree (F := F) c s ⊢ iprop((∃ f, tslotP (F := F) c s f) ∗ tcellP (F := F) c s) := .rfl
theorem ofree_open (s : Fin 2) : ofree (F := F) c s ⊢ iprop((∃ f, oslotP (F := F) c s f) ∗ ocellP (F := F) c s) := .rfl

/-- The loop's body, at the launch's buffers. -/
abbrev tripBody (v w : BitVec 32) := k0_t1_body (F := F) xM (Memref.isWhole_whole _) wM (Memref.isWhole_whole _) tM (Memref.isWhole_whole _) oM (Memref.isWhole_whole _) wbM (Memref.isWhole_whole _) cc0_scratch1 xbM (Memref.isWhole_whole _) cc0_scoped1 tbM (Memref.isWhole_whole _) cc0_scoped3 obM (Memref.isWhole_whole _) cc0_scoped5 v w

/-- The end of a trip: the weights of the block before are waited for, and the words step. -/
theorem tail (t : T) (s a : ℕ) {Q : _ → sProp 𝕄} :
    iprop((oprev c X W t.val ∗ odones c X W t.val) ∗ owesP (F := F) c)
      ⊢ iprop((iprop((ofree (F := F) c (sl 2 (t.val + 1)) ∗ odones c X W (t.val + 1)) ∗ owesP (F := F) c)
            -∗ Q (wd s, wd (t.val + 1), wd a, wd (t.val + 1), wd t.val, wd (t.val + 1), wd t.val, wd (gridIx (t.val + 1))))
        -∗ wp frame (wpE (defs₀ (F := F)) 𝒱₀ (c : Thread nD τ) none) Set.univ (do
    if k0_h18 : k0_cond18 t (wd t.val) = 1#1 then do
      Prog.lift (.waitDma2 ((cc0_scoped5.slice (Rect.unit (s := S2) (k0_off46 (wd (t.val - 1))) S1.size (k0_off46_inb t (wd t.val) (wd t.val) (wd (t.val - 1)) (wd t.val) (wd (t.val - 1)) (wd t.val) (w_chk19 t) k0_h18))).squeeze S_ squeezes_S1_S_).sem
        ((obM.slice (Rect.unit (s := S2x256x8) (k0_off48 (wd (t.val - 1))) S1x256x8.size (k0_off48_inb t (wd t.val) (wd t.val) (wd (t.val - 1)) (wd t.val) (wd (t.val - 1)) (wd t.val) (w_chk19 t) k0_h18)) (fun _ => rfl)).squeeze S256x8 squeezes_S1x256x8_S256x8)
        (oM.slice (Rect.unit (s := S32768x8) (k0_off47 (wd t.val)) S256x8.size (k0_off47_inb t (wd t.val) (wd t.val) (wd (t.val - 1)) (wd t.val) (wd (t.val - 1)) (wd t.val) (w_chk19 t) k0_h18)) (fun _ => rfl)) ((View.wordExact_bits rfl).reshape _ _) (View.wordExact_bits rfl))
      pure ⟨⟩
    else do
      pure ⟨⟩
    pure (wd s, Scalar.select (Scalar.ori (Scalar.cmpi .ne (u207 t) (u217 t)) (u206 t)) (Scalar.addi (wd t.val) 1#32) (wd t.val), wd a, wd (t.val + 1), wd t.val, wd (t.val + 1),
      Scalar.select (Scalar.andi (Scalar.andi (Scalar.cmpi .ne (u207 t) (u212 t)) (Scalar.xori (u205 t) 1#1)) 1#1) (Scalar.addi (wd (t.val - 1)) 1#32) (wd (t.val - 1)),
      Scalar.select (Scalar.cmpi .eq (Scalar.select 1#1 (Scalar.addi (wd t.val) 1#32) (wd t.val)) 128#32) 0#32 (Scalar.select 1#1 (Scalar.addi (wd t.val) 1#32) (wd t.val)))
    : Prog (TpuEff nD τ sig (Elt F) (Λ₀ F) .tc) (BitVec 32 × BitVec 32 × BitVec 32 × BitVec 32 × BitVec 32 × BitVec 32 × BitVec 32 × BitVec 32)) Q) := by
  by_cases h : t.val = 0
  · have e2 : oprev c X W t.val = ofree (F := F) c (sl 2 (t.val + 1)) := if_pos h
    have e4 : odones c X W t.val = odones c X W (t.val + 1) := by rw [h]; exact odones_first c X W
    rw [e2, e4, dif_neg (fun e => (w_cond18 t).1 e h)]
    try simp only [Prog.lift, Prog.bind_op, Prog.bind_ret, Prog.pure_eq_ret]
    rw [y_last t, y_up t, y_prev t, y_grid t]
    iintro H Hk
    rw [wp_ret]; imodintro
    iapply Hk $$ H
  · have e2 : oprev c X W t.val = oflight c (sl 2 (t.val - 1)) (bk 128 (t.val - 1)) (oB c X W (bk 128 (t.val - 1))) := if_neg h
    rw [e2, dif_pos ((w_cond18 t).2 h)]
    simp only [Prog.lift, Prog.bind_op, Prog.bind_ret, Prog.pure_eq_ret]
    rw [y_last t, y_up t, y_prev t, y_grid t]
    iintro ⟨⟨Hp, Hd⟩, HO⟩ Hk
    iapply (o_wait c none (sl 2 (t.val - 1)) (bk 128 (t.val - 1)) (oB c X W (bk 128 (t.val - 1))) (w_off46 t) (w_off47 t h) (w_off48 t)) $$ [Hp HO]
    · isplitl [Hp] <;> iassumption
    rw [sl_prev t.val h]
    iintro ⟨H1, H2, HO⟩
    rw [wp_ret]; imodintro
    iapply Hk
    isplitl [Hd H1 H2]
    · isplitl [H2]; · iexact H2
      iapply (odones_succ c X W t.val h) $$ [H1 Hd]
      isplitl [H1] <;> iassumption
    · iexact HO

/-- A trip keeps the invariant. -/
theorem trip (v w : BitVec 32) (t : T) :
    resAt c X W t.val ⊢ wp frame (wpE (defs₀ (F := F)) 𝒱₀ (c : Thread nD τ) none) Set.univ (tripBody (F := F) v w t (accAt t.val))
      (fun a => iprop(⌜a = accAt (t.val + 1)⌝ ∗ resAt c X W (t.val + 1))) := by
  have ht := lt_trips t
  unfold tripBody k0_t1_body accAt
  rw [w_gridIx t]
  simp only [Prog.bind_op, Prog.bind_ret]
  unfold resAt tring oring
  iintro ⟨Hw, HR, ⟨Htf, Htp, Htd, Htt⟩, ⟨Hof, Hop, Hod, Hot⟩, HO⟩
  rw [wp_bind]
  iapply (part1 c t)
  iintro %v1
  try dsimp only
  rw [wp_bind]
  iapply (part2 c v1 0#32)
  iintro %r2
  try dsimp only
  rw [wp_bind]
  iapply (part3_ring c X t _ _ _ _) $$ [HR HO]
  · isplitl [HR] <;> iassumption
  iintro ⟨HR, Hxf, Hxc, Hxh, HO⟩
  try dsimp only
  rw [wp_bind]
  iapply (part4 c X W t (bk 128 t.val) _) $$ [Hw Hxf]
  · isplitl [Hw] <;> iassumption
  iintro ⟨Hw, Hxf⟩
  try dsimp only
  ihave Htf := (tfree_open c _) $$ Htf
  ihave Hof := (ofree_open c _) $$ Hof
  icases Htf with ⟨Hts, Htc⟩
  icases Hof with ⟨Hos, Hoc⟩
  ihave Htt := (ttodo_peel c t.val ht) $$ Htt
  icases Htt with ⟨Htb, Htt⟩
  ihave Hot := (otodo_peel c t.val ht) $$ Hot
  icases Hot with ⟨Hob, Hot⟩
  rw [wp_bind]
  iapply (part5 c t _ _ _ _ _ _ _ _) $$ Hts
  iintro Hts
  try dsimp only
  rw [wp_bind]
  iapply (part6_ring c X W t) $$ [Hts Htc Htb Hos Hoc Hob Htp Htd HO]
  · isplitl [Hts Htc Htb]
    · isplitl [Hts]; · iexact Hts
      isplitl [Htc] <;> iassumption
    isplitl [Hos Hoc Hob]
    · isplitl [Hos]; · iexact Hos
      isplitl [Hoc] <;> iassumption
    isplitl [Htp Htd]
    · isplitl [Htp] <;> iassumption
    · iexact HO
  iintro ⟨⟨Htfl, Hofl⟩, ⟨Htf, Htd⟩, HO⟩
  try dsimp only
  iapply (tail c X W t (sent (t.val + 1)) (ahead (t.val + 1))) $$ [Hop Hod HO]
  · isplitl [Hop Hod]
    · isplitl [Hop] <;> iassumption
    · iexact HO
  iintro ⟨⟨Hof, Hod⟩, HO⟩
  isplitr
  · ipureintro; rfl
  isplitl [Hw]; · iexact Hw
  isplitl [HR Hxf Hxc Hxh]
  · iapply (ringIn_close c X t.val ht) $$ [HR Hxf Hxc Hxh]
    isplitl [Hxf Hxc]
    · unfold xfree xfull
      icases Hxf with ⟨%f, %hf, Hxf⟩
      isplitl [Hxf]
      · iexists f; iexact Hxf
      · iexact Hxc
    isplitl [Hxh] <;> iassumption
  isplitl [Htf Htfl Htd Htt]
  · isplitl [Htf]; · iexact Htf
    isplitl [Htfl]
    · rw [tprev_succ]; iexact Htfl
    isplitl [Htd] <;> iassumption
  isplitl [Hof Hofl Hod Hot]
  · isplitl [Hof]; · iexact Hof
    isplitl [Hofl]
    · rw [oprev_succ]; iexact Hofl
    isplitl [Hod] <;> iassumption
  · iexact HO

end Cert.Proof.K1

end
-- ==== Proof.K1.Body.lean ====
/-
  The body of the kernel: the weight matrix is fetched, blocks 0 to 8 of `x` are sent for, the loop runs, and the last
  block's results are waited for.
-/
module

public import proofs.«01_k».proof.Proof.K1.Trip

@[expose] public section

noncomputable section

namespace Cert.Proof.K1

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

open Idealize.ShloMosaic.Ring (sl bk)

local notation "𝕄" => MT nD τ sig Unit (Elt F) ℕ (UU nD τ) ℕ

variable (c : Dev nD)
  (X : Buf (Elt F) (xM.view.loc (c : Thread nD τ))) (W : Buf (Elt F) (wM.view.loc (c : Thread nD τ)))

/-! ## The weight matrix -/

abbrev wsrcP : sProp 𝕄 := wM.view.loc (c : Thread nD τ) ↦[wM.view.set]{fullShare} W
abbrev wbufP (f : Buf (Elt F) (wbM.view.loc (c : Thread nD τ))) : sProp 𝕄 := wbM.view.loc (c : Thread nD τ) ↦[wbM.view.set]{fullShare} f
abbrev wcellP : sProp 𝕄 := semVal ((c : Thread nD τ), SemLoc.dma cc0_scratch1.sem) 0

theorem wamount_pos : 0 < wbM.view.amount (SemLoc.dma cc0_scratch1.sem) := by decide
theorem wcredit : wbM.view.dmaCredit = wbM.view.amount (SemLoc.dma cc0_scratch1.sem) := rfl

theorem wfull_intro (f : Buf (Elt F) (wbM.view.loc (c : Thread nD τ))) :
    wbufP (F := F) c (wbM.view.write (Elt F) f (ReadAs.same.apply (wM.view.read (Elt F) W)) Finset.univ) ⊢ wfull c W := by
  unfold wfull
  iintro H
  iexists _
  isplitr
  rotate_left
  · iexact H
  · ipureintro; exact View.read_write_univ _ _

/-- Stretch 7 fetches the weight matrix. -/
theorem part7 {Q : _ → sProp 𝕄} :
    iprop((wsrcP c W ∗ (∃ f, wbufP (F := F) c f) ∗ wcellP (F := F) c) ∗ owesP (F := F) c)
      ⊢ iprop((∀ v, iprop(wsrcP c W ∗ wfull c W ∗ wcellP (F := F) c ∗ owesP (F := F) c) -∗ Q v)
        -∗ wp frame (wpE (defs₀ (F := F)) 𝒱₀ (c : Thread nD τ) none) Set.univ (P7 (F := F)) Q) := by
  unfold P7
  rw [k0_part7_eq_skeleton]
  unfold k0_part7_skel owesP
  simp only [Prog.lift, Prog.bind_op, Prog.bind_ret, Prog.pure_eq_ret]
  iintro ⟨⟨Hs, ⟨%f, Hd⟩, Hc⟩, ⟨%Ws, HO⟩⟩ Hk
  iapply (Transfers.wp_dmaLocal countersEmb 𝒱₀ (c : Thread nD τ) none () _ rfl wamount_pos (Finset.Subset.refl _)) $$ [Hs Hd Hc]
  · isplitl [Hs]; · iexact Hs
    isplitl [Hd] <;> iassumption
  iintro Hf
  iapply (Transfers.wp_waitLocal countersEmb 𝒱₀ (c : Thread nD τ) none () wcredit) $$ [Hf HO]
  · isplitl [Hf] <;> iassumption
  iintro ⟨⟨Hd, Hs⟩, Hc, HO⟩
  rw [wp_ret]; imodintro
  iapply Hk $$ %_
  isplitl [Hs]; · iexact Hs
  isplitl [Hd]
  · iapply (wfull_intro c W f) $$ Hd
  isplitl [Hc]; · iexact Hc
  iexists _; iexact HO

/-- Stretch 8 is empty. -/
theorem part8 (v : BitVec 32) {Q : _ → sProp 𝕄} : Q ⟨⟩ ⊢ wp frame (wpE (defs₀ (F := F)) 𝒱₀ (c : Thread nD τ) none) Set.univ (P8 (F := F) v) Q := by
  unfold P8
  rw [k0_part8_eq_skeleton]
  unfold k0_part8_skel
  simp only [Prog.pure_eq_ret]
  iintro Hk
  rw [wp_ret]; imodintro
  iexact Hk

/-! ## Blocks 0 to 8 -/

/-- Look-ahead loop 1 sends for block 1. -/
theorem go1 {α : Type} {Q : α → sProp 𝕄} {k : W3 → Prog (TpuEff nD τ sig (Elt F) (Λ₀ F) .tc) α} :
    iprop(xfree c (sl 10 1) ∗ xhome c X (bk 128 1))
      ⊢ iprop((xflight c X (sl 10 1) (bk 128 1) -∗ wp frame (wpE (defs₀ (F := F)) 𝒱₀ (c : Thread nD τ) none) Set.univ (k (wd 1, wd 2, wd 2)) Q)
        -∗ wp frame (wpE (defs₀ (F := F)) 𝒱₀ (c : Thread nD τ) none) Set.univ (.op (.call (1 : (Λ₀ F).Label) ⟨cc0_scoped1, xbM, Memref.isWhole_whole _, xM, Memref.isWhole_whole _, 0#32, (Scalar.select 0#1 0#32 (Scalar.select 1#1 (Scalar.addi 0#32 1#32) 0#32)), (Scalar.addi 0#32 1#32)⟩) k) Q) := by
  rw [show (Scalar.select 0#1 0#32 (Scalar.select 1#1 (Scalar.addi 0#32 1#32) 0#32) : BitVec 32) = wd 1 from by decide, show (Scalar.addi 0#32 1#32 : BitVec 32) = wd 1 from by decide]
  exact send1 c X ⟨0, by decide⟩ rfl

/-- Look-ahead loop 2 sends for block 2. -/
theorem go2 {α : Type} {Q : α → sProp 𝕄} {k : W3 → Prog (TpuEff nD τ sig (Elt F) (Λ₀ F) .tc) α} :
    iprop(xfree c (sl 10 2) ∗ xhome c X (bk 128 2))
      ⊢ iprop((xflight c X (sl 10 2) (bk 128 2) -∗ wp frame (wpE (defs₀ (F := F)) 𝒱₀ (c : Thread nD τ) none) Set.univ (k (wd 2, wd 3, wd 3)) Q)
        -∗ wp frame (wpE (defs₀ (F := F)) 𝒱₀ (c : Thread nD τ) none) Set.univ (.op (.call (2 : (Λ₀ F).Label) ⟨(Scalar.select (Scalar.cmpi .ult (Scalar.addi 0#32 10#32) (Scalar.addi (wd 2) 1#32)) (Scalar.addi 0#32 10#32) (Scalar.addi (wd 2) 1#32)), cc0_scoped1, xbM, Memref.isWhole_whole _, xM, Memref.isWhole_whole _, wd 1, (Scalar.select 0#1 0#32 (Scalar.select 1#1 (Scalar.addi (wd 1) 1#32) (wd 1))), wd 2⟩) k) Q) := by
  rw [show (Scalar.select (Scalar.cmpi .ult (Scalar.addi 0#32 10#32) (Scalar.addi (wd 2) 1#32)) (Scalar.addi 0#32 10#32) (Scalar.addi (wd 2) 1#32)) = wd 3 from by decide, show (Scalar.select 0#1 0#32 (Scalar.select 1#1 (Scalar.addi (wd 1) 1#32) (wd 1))) = wd 2 from by decide]
  exact send2 c X (wd 3) ⟨1, by decide⟩ (by decide) (by decide)

/-- Look-ahead loop 3 sends for block 3. -/
theorem go3 {α : Type} {Q : α → sProp 𝕄} {k : W3 → Prog (TpuEff nD τ sig (Elt F) (Λ₀ F) .tc) α} :
    iprop(xfree c (sl 10 3) ∗ xhome c X (bk 128 3))
      ⊢ iprop((xflight c X (sl 10 3) (bk 128 3) -∗ wp frame (wpE (defs₀ (F := F)) 𝒱₀ (c : Thread nD τ) none) Set.univ (k (wd 3, wd 4, wd 4)) Q)
        -∗ wp frame (wpE (defs₀ (F := F)) 𝒱₀ (c : Thread nD τ) none) Set.univ (.op (.call (3 : (Λ₀ F).Label) ⟨(Scalar.select (Scalar.cmpi .ult (Scalar.addi 0#32 10#32) (Scalar.addi (wd 3) 1#32)) (Scalar.addi 0#32 10#32) (Scalar.addi (wd 3) 1#32)), cc0_scoped1, xbM, Memref.isWhole_whole _, xM, Memref.isWhole_whole _, wd 2, (Scalar.select 0#1 0#32 (Scalar.select 1#1 (Scalar.addi (wd 2) 1#32) (wd 2))), wd 3⟩) k) Q) := by
  rw [show (Scalar.select (Scalar.cmpi .ult (Scalar.addi 0#32 10#32) (Scalar.addi (wd 3) 1#32)) (Scalar.addi 0#32 10#32) (Scalar.addi (wd 3) 1#32)) = wd 4 from by decide, show (Scalar.select 0#1 0#32 (Scalar.select 1#1 (Scalar.addi (wd 2) 1#32) (wd 2))) = wd 3 from by decide]
  exact send3 c X (wd 4) ⟨2, by decide⟩ (by decide) (by decide)

/-- Look-ahead loop 4 sends for block 4. -/
theorem go4 {α : Type} {Q : α → sProp 𝕄} {k : W3 → Prog (TpuEff nD τ sig (Elt F) (Λ₀ F) .tc) α} :
    iprop(xfree c (sl 10 4) ∗ xhome c X (bk 128 4))
      ⊢ iprop((xflight c X (sl 10 4) (bk 128 4) -∗ wp frame (wpE (defs₀ (F := F)) 𝒱₀ (c : Thread nD τ) none) Set.univ (k (wd 4, wd 5, wd 5)) Q)
        -∗ wp frame (wpE (defs₀ (F := F)) 𝒱₀ (c : Thread nD τ) none) Set.univ (.op (.call (4 : (Λ₀ F).Label) ⟨(Scalar.select (Scalar.cmpi .ult (Scalar.addi 0#32 10#32) (Scalar.addi (wd 4) 1#32)) (Scalar.addi 0#32 10#32) (Scalar.addi (wd 4) 1#32)), cc0_scoped1, xbM, Memref.isWhole_whole _, xM, Memref.isWhole_whole _, wd 3, (Scalar.select 0#1 0#32 (Scalar.select 1#1 (Scalar.addi (wd 3) 1#32) (wd 3))), wd 4⟩) k) Q) := by
  rw [show (Scalar.select (Scalar.cmpi .ult (Scalar.addi 0#32 10#32) (Scalar.addi (wd 4) 1#32)) (Scalar.addi 0#32 10#32) (Scalar.addi (wd 4) 1#32)) = wd 5 from by decide, show (Scalar.select 0#1 0#32 (Scalar.select 1#1 (Scalar.addi (wd 3) 1#32) (wd 3))) = wd 4 from by decide]
  exact send4 c X (wd 5) ⟨3, by decide⟩ (by decide) (by decide)

/-- Look-ahead loop 5 sends for block 5. -/
theorem go5 {α : Type} {Q : α → sProp 𝕄} {k : W3 → Prog (TpuEff nD τ sig (Elt F) (Λ₀ F) .tc) α} :
    iprop(xfree c (sl 10 5) ∗ xhome c X (bk 128 5))
      ⊢ iprop((xflight c X (sl 10 5) (bk 128 5) -∗ wp frame (wpE (defs₀ (F := F)) 𝒱₀ (c : Thread nD τ) none) Set.univ (k (wd 5, wd 6, wd 6)) Q)
        -∗ wp frame (wpE (defs₀ (F := F)) 𝒱₀ (c : Thread nD τ) none) Set.univ (.op (.call (5 : (Λ₀ F).Label) ⟨(Scalar.select (Scalar.cmpi .ult (Scalar.addi 0#32 10#32) (Scalar.addi (wd 5) 1#32)) (Scalar.addi 0#32 10#32) (Scalar.addi (wd 5) 1#32)), cc0_scoped1, xbM, Memref.isWhole_whole _, xM, Memref.isWhole_whole _, wd 4, (Scalar.select 0#1 0#32 (Scalar.select 1#1 (Scalar.addi (wd 4) 1#32) (wd 4))), wd 5⟩) k) Q) := by
  rw [show (Scalar.select (Scalar.cmpi .ult (Scalar.addi 0#32 10#32) (Scalar.addi (wd 5) 1#32)) (Scalar.addi 0#32 10#32) (Scalar.addi (wd 5) 1#32)) = wd 6 from by decide, show (Scalar.select 0#1 0#32 (Scalar.select 1#1 (Scalar.addi (wd 4) 1#32) (wd 4))) = wd 5 from by decide]
  exact send5 c X (wd 6) ⟨4, by decide⟩ (by decide) (by decide)

/-- Look-ahead loop 6 sends for block 6. -/
theorem go6 {α : Type} {Q : α → sProp 𝕄} {k : W3 → Prog (TpuEff nD τ sig (Elt F) (Λ₀ F) .tc) α} :
    iprop(xfree c (sl 10 6) ∗ xhome c X (bk 128 6))
      ⊢ iprop((xflight c X (sl 10 6) (bk 128 6) -∗ wp frame (wpE (defs₀ (F := F)) 𝒱₀ (c : Thread nD τ) none) Set.univ (k (wd 6, wd 7, wd 7)) Q)
        -∗ wp frame (wpE (defs₀ (F := F)) 𝒱₀ (c : Thread nD τ) none) Set.univ (.op (.call (6 : (Λ₀ F).Label) ⟨(Scalar.select (Scalar.cmpi .ult (Scalar.addi 0#32 10#32) (Scalar.addi (wd 6) 1#32)) (Scalar.addi 0#32 10#32) (Scalar.addi (wd 6) 1#32)), cc0_scoped1, xbM, Memref.isWhole_whole _, xM, Memref.isWhole_whole _, wd 5, (Scalar.select 0#1 0#32 (Scalar.select 1#1 (Scalar.addi (wd 5) 1#32) (wd 5))), wd 6⟩) k) Q) := by
  rw [show (Scalar.select (Scalar.cmpi .ult (Scalar.addi 0#32 10#32) (Scalar.addi (wd 6) 1#32)) (Scalar.addi 0#32 10#32) (Scalar.addi (wd 6) 1#32)) = wd 7 from by decide, show (Scalar.select 0#1 0#32 (Scalar.select 1#1 (Scalar.addi (wd 5) 1#32) (wd 5))) = wd 6 from by decide]
  exact send6 c X (wd 7) ⟨5, by decide⟩ (by decide) (by decide)

/-- Look-ahead loop 7 sends for block 7. -/
theorem go7 {α : Type} {Q : α → sProp 𝕄} {k : W3 → Prog (TpuEff nD τ sig (Elt F) (Λ₀ F) .tc) α} :
    iprop(xfree c (sl 10 7) ∗ xhome c X (bk 128 7))
      ⊢ iprop((xflight c X (sl 10 7) (bk 128 7) -∗ wp frame (wpE (defs₀ (F := F)) 𝒱₀ (c : Thread nD τ) none) Set.univ (k (wd 7, wd 8, wd 8)) Q)
        -∗ wp frame (wpE (defs₀ (F := F)) 𝒱₀ (c : Thread nD τ) none) Set.univ (.op (.call (7 : (Λ₀ F).Label) ⟨(Scalar.select (Scalar.cmpi .ult (Scalar.addi 0#32 10#32) (Scalar.addi (wd 7) 1#32)) (Scalar.addi 0#32 10#32) (Scalar.addi (wd 7) 1#32)), cc0_scoped1, xbM, Memref.isWhole_whole _, xM, Memref.isWhole_whole _, wd 6, (Scalar.select 0#1 0#32 (Scalar.select 1#1 (Scalar.addi (wd 6) 1#32) (wd 6))), wd 7⟩) k) Q) := by
  rw [show (Scalar.select (Scalar.cmpi .ult (Scalar.addi 0#32 10#32) (Scalar.addi (wd 7) 1#32)) (Scalar.addi 0#32 10#32) (Scalar.addi (wd 7) 1#32)) = wd 8 from by decide, show (Scalar.select 0#1 0#32 (Scalar.select 1#1 (Scalar.addi (wd 6) 1#32) (wd 6))) = wd 7 from by decide]
  exact send7 c X (wd 8) ⟨6, by decide⟩ (by decide) (by decide)

/-- Look-ahead loop 8 sends for block 8. -/
theorem go8 {α : Type} {Q : α → sProp 𝕄} {k : W3 → Prog (TpuEff nD τ sig (Elt F) (Λ₀ F) .tc) α} :
    iprop(xfree c (sl 10 8) ∗ xhome c X (bk 128 8))
      ⊢ iprop((xflight c X (sl 10 8) (bk 128 8) -∗ wp frame (wpE (defs₀ (F := F)) 𝒱₀ (c : Thread nD τ) none) Set.univ (k (wd 8, wd 9, wd 9)) Q)
        -∗ wp frame (wpE (defs₀ (F := F)) 𝒱₀ (c : Thread nD τ) none) Set.univ (.op (.call (8 : (Λ₀ F).Label) ⟨(Scalar.select (Scalar.cmpi .ult (Scalar.addi 0#32 10#32) (Scalar.addi (wd 8) 1#32)) (Scalar.addi 0#32 10#32) (Scalar.addi (wd 8) 1#32)), cc0_scoped1, xbM, Memref.isWhole_whole _, xM, Memref.isWhole_whole _, wd 7, (Scalar.select 0#1 0#32 (Scalar.select 1#1 (Scalar.addi (wd 7) 1#32) (wd 7))), wd 8⟩) k) Q) := by
  rw [show (Scalar.select (Scalar.cmpi .ult (Scalar.addi 0#32 10#32) (Scalar.addi (wd 8) 1#32)) (Scalar.addi 0#32 10#32) (Scalar.addi (wd 8) 1#32)) = wd 9 from by decide, show (Scalar.select 0#1 0#32 (Scalar.select 1#1 (Scalar.addi (wd 7) 1#32) (wd 7))) = wd 8 from by decide]
  exact send8 c X (wd 9) ⟨7, by decide⟩ (by decide) (by decide)

/-- Stretch 9 sends for blocks 0 to 3. -/
theorem part9 {Q : _ → sProp 𝕄} :
    iprop((xfree c (sl 10 0) ∗ xhome c X (bk 128 0)) ∗ (xfree c (sl 10 1) ∗ xhome c X (bk 128 1)) ∗ (xfree c (sl 10 2) ∗ xhome c X (bk 128 2)) ∗ (xfree c (sl 10 3) ∗ xhome c X (bk 128 3)))
      ⊢ iprop((iprop(xflight c X (sl 10 0) (bk 128 0) ∗ xflight c X (sl 10 1) (bk 128 1) ∗ xflight c X (sl 10 2) (bk 128 2) ∗ xflight c X (sl 10 3) (bk 128 3)) -∗ Q ⟨wd 3, wd 4⟩) -∗ wp frame (wpE (defs₀ (F := F)) 𝒱₀ (c : Thread nD τ) none) Set.univ (P9 (F := F)) Q) := by
  unfold P9
  rw [k0_part9_eq_skeleton]
  unfold k0_part9_skel
  simp only [Prog.lift, Prog.bind_op, Prog.bind_ret, Prog.pure_eq_ret]
  iintro ⟨H0, H1, H2, H3⟩ Hk
  iapply (x_issue c X none (sl 10 0) (bk 128 0) w_off1 w_off2 w_off3) $$ H0
  iintro H0
  iapply (go1 c X) $$ H1
  iintro H1
  iapply (go2 c X) $$ H2
  iintro H2
  iapply (go3 c X) $$ H3
  iintro H3
  rw [wp_ret]; imodintro
  iapply Hk
  isplitl [H0]; · iexact H0
  isplitl [H1]; · iexact H1
  isplitl [H2]; · iexact H2
  iexact H3

/-- Stretch 10 sends for blocks 4 to 7. -/
theorem part10 {Q : _ → sProp 𝕄} :
    iprop((xfree c (sl 10 4) ∗ xhome c X (bk 128 4)) ∗ (xfree c (sl 10 5) ∗ xhome c X (bk 128 5)) ∗ (xfree c (sl 10 6) ∗ xhome c X (bk 128 6)) ∗ (xfree c (sl 10 7) ∗ xhome c X (bk 128 7)))
      ⊢ iprop((iprop(xflight c X (sl 10 4) (bk 128 4) ∗ xflight c X (sl 10 5) (bk 128 5) ∗ xflight c X (sl 10 6) (bk 128 6) ∗ xflight c X (sl 10 7) (bk 128 7)) -∗ Q ⟨wd 7, wd 8⟩) -∗ wp frame (wpE (defs₀ (F := F)) 𝒱₀ (c : Thread nD τ) none) Set.univ (P10 (F := F) (wd 3) (wd 4)) Q) := by
  unfold P10
  rw [k0_part10_eq_skeleton]
  unfold k0_part10_skel
  simp only [Prog.lift, Prog.bind_op, Prog.bind_ret, Prog.pure_eq_ret]
  iintro ⟨H0, H1, H2, H3⟩ Hk
  iapply (go4 c X) $$ H0
  iintro H0
  iapply (go5 c X) $$ H1
  iintro H1
  iapply (go6 c X) $$ H2
  iintro H2
  iapply (go7 c X) $$ H3
  iintro H3
  rw [wp_ret]; imodintro
  iapply Hk
  isplitl [H0]; · iexact H0
  isplitl [H1]; · iexact H1
  isplitl [H2]; · iexact H2
  iexact H3

/-- With blocks 0 to 8 in flight, the ring is at trip 0. -/
theorem ring_start :
    iprop((xflight c X (sl 10 0) (bk 128 0) ∗ xflight c X (sl 10 1) (bk 128 1) ∗ xflight c X (sl 10 2) (bk 128 2) ∗ xflight c X (sl 10 3) (bk 128 3) ∗ xflight c X (sl 10 4) (bk 128 4) ∗ xflight c X (sl 10 5) (bk 128 5) ∗ xflight c X (sl 10 6) (bk 128 6) ∗ xflight c X (sl 10 7) (bk 128 7) ∗ xflight c X (sl 10 8) (bk 128 8)) ∗ xfree c (sl 10 9) ∗ bigSep (Ring.homeSet (NB := 128) 9 0) (xhome c X)) ⊢ ringAt c X 0 := by
  unfold ringAt
  rw [BI.bigSep_eq_bigSepL_of_eq (S := Finset.Ico 0 (0 + 9)) [0, 1, 2, 3, 4, 5, 6, 7, 8] (by decide) (by decide)]
  exact .rfl

theorem acc_start : ((wd 9, 0#32, wd 8, 0#32, 0#32, 0#32, 0#32, 0#32) : BitVec 32 × BitVec 32 × BitVec 32 × BitVec 32 × BitVec 32 × BitVec 32 × BitVec 32 × BitVec 32) = accAt 0 :=
  Prod.ext (by decide) (Prod.ext (by decide) (Prod.ext (by decide) (Prod.ext (by decide) (Prod.ext (by decide) (Prod.ext (by decide) (Prod.ext (by decide) (by decide)))))))

/-- A trip keeps the invariant, whatever words come with it. -/
theorem loop_step (k : Fin (Scf.trips k0_t1_loop.lb k0_t1_loop.ub k0_t1_loop.st)) (a : BitVec 32 × BitVec 32 × BitVec 32 × BitVec 32 × BitVec 32 × BitVec 32 × BitVec 32 × BitVec 32) :
    iprop(⌜a = accAt k.val⌝ ∗ resAt c X W k.val)
      ⊢ wp frame (wpE (defs₀ (F := F)) 𝒱₀ (c : Thread nD τ) none) Set.univ (tripBody (F := F) (wd 7) (wd 8) k a) (fun a => iprop(⌜a = accAt (k.val + 1)⌝ ∗ resAt c X W (k.val + 1))) := by
  iintro ⟨%ha, H⟩
  subst ha
  iapply (trip c X W (wd 7) (wd 8) k) $$ H

/-- Stretch 11 sends for block 8 and runs the loop. -/
theorem part11 {Q : _ → sProp 𝕄} :
    iprop((xfree c (sl 10 8) ∗ xhome c X (bk 128 8)) ∗ (xflight c X (sl 10 8) (bk 128 8) -∗ resAt c X W 0))
      ⊢ iprop((∀ v w, resAt c X W 128 -∗ Q ⟨wd 127, wd 127, wd 0, w_chk25, w_chk24, w_chk23, v, w⟩) -∗ wp frame (wpE (defs₀ (F := F)) 𝒱₀ (c : Thread nD τ) none) Set.univ (P11 (F := F) (wd 7) (wd 8)) Q) := by
  unfold P11
  rw [k0_part11_eq_skeleton]
  unfold k0_part11_skel
  simp only [Prog.lift, Prog.bind_op, Prog.bind_ret, Prog.pure_eq_ret]
  iintro ⟨H8, HR⟩ Hk
  iapply (go8 c X) $$ H8
  iintro H8
  ihave HR := HR $$ H8
  iapply (Scf.wp_for_bind frame (wpE (defs₀ (F := F)) 𝒱₀ (c : Thread nD τ) none) Set.univ k0_t1_loop.lb k0_t1_loop.ub k0_t1_loop.st k0_t1_ok
    _ (tripBody (F := F) (wd 7) (wd 8)) (fun t a => iprop(⌜a = accAt t⌝ ∗ resAt c X W t)) (loop_step c X W)) $$ [HR]
  · isplitr
    · ipureintro; exact acc_start
    · iexact HR
  iintro %a ⟨%ha, HR⟩
  rw [show Scf.trips k0_t1_loop.lb k0_t1_loop.ub k0_t1_loop.st = 128 from trips_eq] at ha ⊢
  have ha' : a = (wd (sent 128), wd 128, wd (ahead 128), wd 128, wd 127, wd 128, wd 127, wd 0) := ha
  subst ha'
  iapply (wp_assume 𝒱₀ (c : Thread nD τ) none Set.univ w_chk25)
  iapply (wp_assume 𝒱₀ (c : Thread nD τ) none Set.univ w_chk24)
  iapply (wp_assume 𝒱₀ (c : Thread nD τ) none Set.univ w_chk23)
  rw [wp_ret]; imodintro
  iapply Hk $$ %_ %_ HR

/-- Stretch 12 computes a word that nothing depends on. -/
theorem part12 (v : BitVec 32) {Q : _ → sProp 𝕄} :
    iprop(∀ r, Q r) ⊢ wp frame (wpE (defs₀ (F := F)) 𝒱₀ (c : Thread nD τ) none) Set.univ (P12 (F := F) v) Q := by
  unfold P12
  rw [k0_part12_eq_skeleton]
  unfold k0_part12_skel
  simp only [Prog.pure_eq_ret]
  iintro Hk
  rw [wp_ret]; imodintro
  iapply Hk $$ %_

/-! ## The whole body -/

/-- What the core holds as the body starts, beside what it owes. -/
def startP : sProp 𝕄 :=
  iprop((wsrcP c W ∗ (∃ f, wbufP (F := F) c f) ∗ wcellP (F := F) c)
    ∗ bigSep Finset.univ (fun s => xfree (F := F) c s) ∗ bigSep Finset.univ (xhome c X)
    ∗ (tfree (F := F) c 0 ∗ tfree (F := F) c 1) ∗ (ofree (F := F) c 0 ∗ ofree (F := F) c 1)
    ∗ bigSep Finset.univ (fun b => iprop(∃ f, tblkP (F := F) c b f)) ∗ bigSep Finset.univ (fun b => iprop(∃ f, oblkP (F := F) c b f)))
/-- What it holds as the body ends: every block of the results at its values. -/
def endP : sProp 𝕄 :=
  iprop((wsrcP c W ∗ (∃ f, wbufP (F := F) c f) ∗ wcellP (F := F) c)
    ∗ bigSep Finset.univ (fun s => xfree (F := F) c s) ∗ bigSep Finset.univ (xhome c X)
    ∗ (tfree (F := F) c 0 ∗ tfree (F := F) c 1) ∗ (ofree (F := F) c 0 ∗ ofree (F := F) c 1)
    ∗ bigSep Finset.univ (fun b => tdone c b (tB c X W b)) ∗ bigSep Finset.univ (fun b => odone c b (oB c X W b)))

omit [BitOps F] in
/-- Over the blocks, or over their numbers. -/
theorem bigSep_blocks (Φ : Fin 128 → sProp 𝕄) : bigSep (Finset.range 128) (fun i => Φ (bk 128 i)) = bigSep Finset.univ Φ := by
  rw [← show (Finset.univ : Finset (Fin 128)).map Fin.valEmbedding = Finset.range 128 from Fin.map_valEmbedding_univ.trans (by rw [Nat.Iio_eq_range]),
    BI.bigSep_map]
  exact BI.bigSep_congr fun b _ => congrArg Φ (Fin.ext (Ring.bk_val b.isLt))

theorem ttodo_start : (bigSep Finset.univ (fun b => iprop(∃ f, tblkP (F := F) c b f)) : sProp 𝕄) ⊢ ttodo (F := F) c 0 := by
  unfold ttodo
  rw [← bigSep_blocks, Finset.range_eq_Ico]
theorem tdones_end : tdones c X W 129 ⊢ bigSep Finset.univ (fun b => tdone c b (tB c X W b)) := by
  unfold tdones
  rw [← bigSep_blocks]
theorem tring_start : iprop((tfree (F := F) c 0 ∗ tfree (F := F) c 1) ∗ ttodo (F := F) c 0) ⊢ tring c X W 0 := by
  unfold tring
  have e1 : tprev c X W 0 = tfree (F := F) c 1 := if_pos rfl
  have e2 : tdones c X W 0 = BI.emp := rfl
  rw [e1, e2]
  iintro ⟨⟨H0, H1⟩, H2⟩
  isplitl [H0]; · iexact H0
  isplitl [H1]; · iexact H1
  isplitr
  · iempintro
  · iexact H2
theorem tring_end : tring c X W 128 ⊢ iprop(tfree (F := F) c 0 ∗ tflight c (sl 2 127) (bk 128 127) (tB c X W (bk 128 127)) ∗ tdones c X W 128) := by
  unfold tring
  have e1 : tprev c X W 128 = tflight c (sl 2 127) (bk 128 127) (tB c X W (bk 128 127)) := if_neg (by decide)
  rw [e1]
  iintro ⟨H0, H1, H2, H3⟩
  isplitl [H0]; · iexact H0
  isplitl [H1] <;> iassumption
theorem otodo_start : (bigSep Finset.univ (fun b => iprop(∃ f, oblkP (F := F) c b f)) : sProp 𝕄) ⊢ otodo (F := F) c 0 := by
  unfold otodo
  rw [← bigSep_blocks, Finset.range_eq_Ico]
theorem odones_end : odones c X W 129 ⊢ bigSep Finset.univ (fun b => odone c b (oB c X W b)) := by
  unfold odones
  rw [← bigSep_blocks]
theorem oring_start : iprop((ofree (F := F) c 0 ∗ ofree (F := F) c 1) ∗ otodo (F := F) c 0) ⊢ oring c X W 0 := by
  unfold oring
  have e1 : oprev c X W 0 = ofree (F := F) c 1 := if_pos rfl
  have e2 : odones c X W 0 = BI.emp := rfl
  rw [e1, e2]
  iintro ⟨⟨H0, H1⟩, H2⟩
  isplitl [H0]; · iexact H0
  isplitl [H1]; · iexact H1
  isplitr
  · iempintro
  · iexact H2
theorem oring_end : oring c X W 128 ⊢ iprop(ofree (F := F) c 0 ∗ oflight c (sl 2 127) (bk 128 127) (oB c X W (bk 128 127)) ∗ odones c X W 128) := by
  unfold oring
  have e1 : oprev c X W 128 = oflight c (sl 2 127) (bk 128 127) (oB c X W (bk 128 127)) := if_neg (by decide)
  rw [e1]
  iintro ⟨H0, H1, H2, H3⟩
  isplitl [H0]; · iexact H0
  isplitl [H1] <;> iassumption

theorem slots_start : (bigSep Finset.univ (fun s => xfree (F := F) c s) : sProp 𝕄) ⊢ iprop(xfree (F := F) c (sl 10 0) ∗ xfree (F := F) c (sl 10 1) ∗ xfree (F := F) c (sl 10 2) ∗ xfree (F := F) c (sl 10 3) ∗ xfree (F := F) c (sl 10 4) ∗ xfree (F := F) c (sl 10 5) ∗ xfree (F := F) c (sl 10 6) ∗ xfree (F := F) c (sl 10 7) ∗ xfree (F := F) c (sl 10 8) ∗ xfree (F := F) c (sl 10 9)) := by
  rw [BI.bigSep_univ_eq_bigSepL [0, 1, 2, 3, 4, 5, 6, 7, 8, 9] (by decide) (by decide)]
  exact .rfl
theorem slots_end : iprop(xfree (F := F) c (sl 10 0) ∗ xfree (F := F) c (sl 10 1) ∗ xfree (F := F) c (sl 10 2) ∗ xfree (F := F) c (sl 10 3) ∗ xfree (F := F) c (sl 10 4) ∗ xfree (F := F) c (sl 10 5) ∗ xfree (F := F) c (sl 10 6) ∗ xfree (F := F) c (sl 10 7) ∗ xfree (F := F) c (sl 10 8) ∗ xfree (F := F) c (sl 10 9)) ⊢ (bigSep Finset.univ (fun s => xfree (F := F) c s) : sProp 𝕄) := by
  rw [BI.bigSep_univ_eq_bigSepL [0, 1, 2, 3, 4, 5, 6, 7, 8, 9] (by decide) (by decide)]
  exact .rfl
theorem homes_start : (bigSep Finset.univ (xhome c X) : sProp 𝕄)
    ⊢ iprop((xhome c X (bk 128 0) ∗ xhome c X (bk 128 1) ∗ xhome c X (bk 128 2) ∗ xhome c X (bk 128 3) ∗ xhome c X (bk 128 4) ∗ xhome c X (bk 128 5) ∗ xhome c X (bk 128 6) ∗ xhome c X (bk 128 7) ∗ xhome c X (bk 128 8)) ∗ bigSep (Ring.homeSet (NB := 128) 9 0) (xhome c X)) := by
  rw [BI.bigSep_sdiff_split (s := (Finset.univ : Finset (Fin 128))) (t := [0, 1, 2, 3, 4, 5, 6, 7, 8].toFinset) (Finset.subset_univ _),
    BI.bigSep_eq_bigSepL _ (by decide),
    show (Finset.univ : Finset (Fin 128)) \ ([0, 1, 2, 3, 4, 5, 6, 7, 8] : List (Fin 128)).toFinset = Ring.homeSet (NB := 128) 9 0 from by decide]
  exact .rfl
/-- After the last trip every slot is free and every block of `x` is home. -/
theorem ring_end : ringAt c X 128 ⊢ iprop((bigSep Finset.univ (fun s => xfree (F := F) c s)) ∗ bigSep Finset.univ (xhome c X)) := by
  unfold ringAt
  have e : (bigSep (Finset.Ico 128 (128 + 9)) (slotAt c X) : sProp 𝕄) = bigSep (Finset.Ico 128 (128 + 9)) (fun i => xfree (F := F) c (sl 10 i)) :=
    BI.bigSep_congr fun i hi => if_neg (by have := (Finset.mem_Ico.1 hi).1; omega)
  have e' : (bigSep (Finset.Ico 128 (128 + 9)) (fun i => xfree (F := F) c (sl 10 i)) : sProp 𝕄) = iprop(xfree (F := F) c (sl 10 128) ∗ xfree (F := F) c (sl 10 129) ∗ xfree (F := F) c (sl 10 130) ∗ xfree (F := F) c (sl 10 131) ∗ xfree (F := F) c (sl 10 132) ∗ xfree (F := F) c (sl 10 133) ∗ xfree (F := F) c (sl 10 134) ∗ xfree (F := F) c (sl 10 135) ∗ xfree (F := F) c (sl 10 136)) :=
    BI.bigSep_eq_bigSepL_of_eq (S := Finset.Ico 128 (128 + 9)) [128, 129, 130, 131, 132, 133, 134, 135, 136] (by decide) (by decide) _
  rw [e, e', Ring.homeSet_last 9 128 le_rfl]
  iintro ⟨⟨H8, H9, H0, H1, H2, H3, H4, H5, H6⟩, H7, Hh⟩
  isplitr [Hh]
  · iapply (slots_end c) $$ [H0 H1 H2 H3 H4 H5 H6 H7 H8 H9]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iexact Hh

/-- The body, up to the last wait. -/
theorem part13 {Q : _ → sProp 𝕄} :
    iprop(startP c X W ∗ owesP (F := F) c)
      ⊢ iprop((iprop((wsrcP c W ∗ (∃ f, wbufP (F := F) c f) ∗ wcellP (F := F) c)
            ∗ ((bigSep Finset.univ (fun s => xfree (F := F) c s)) ∗ bigSep Finset.univ (xhome c X))
            ∗ ((tfree (F := F) c 0 ∗ tfree (F := F) c 1) ∗ bigSep Finset.univ (fun b => tdone c b (tB c X W b)))
            ∗ oring c X W 128 ∗ owesP (F := F) c) -∗ Q ⟨wd 127, wd 0, w_chk25, w_chk24⟩) -∗ wp frame (wpE (defs₀ (F := F)) 𝒱₀ (c : Thread nD τ) none) Set.univ (P13 (F := F)) Q) := by
  unfold P13
  rw [k0_part13_eq_skeleton]
  unfold k0_part13_skel startP
  simp only [Prog.lift, Prog.pure_eq_ret]
  iintro ⟨⟨Hw, Hs, Hh, Ht, Ho, Htt, Hot⟩, HO⟩ Hk
  ihave Hs := (slots_start c) $$ Hs
  icases Hs with ⟨S0, S1, S2, S3, S4, S5, S6, S7, S8, S9⟩
  ihave Hh := (homes_start c X) $$ Hh
  icases Hh with ⟨⟨h0, h1, h2, h3, h4, h5, h6, h7, h8⟩, Hh⟩
  ihave Htt := (ttodo_start c) $$ Htt
  ihave Hot := (otodo_start c) $$ Hot
  ihave Ht := (tring_start c X W) $$ [Ht Htt]
  · isplitl [Ht] <;> iassumption
  ihave Ho := (oring_start c X W) $$ [Ho Hot]
  · isplitl [Ho] <;> iassumption
  rw [wp_bind]
  iapply (part7 c W) $$ [Hw HO]
  · isplitl [Hw] <;> iassumption
  iintro %v ⟨Hws, Hwf, Hwc, HO⟩
  rw [wp_bind]
  iapply (part8 c v)
  rw [wp_bind]
  iapply (part9 c X) $$ [S0 S1 S2 S3 h0 h1 h2 h3]
  · isplitl [S0 h0]
    · isplitl [S0] <;> iassumption
    isplitl [S1 h1]
    · isplitl [S1] <;> iassumption
    isplitl [S2 h2]
    · isplitl [S2] <;> iassumption
    isplitl [S3] <;> iassumption
  iintro ⟨f0, f1, f2, f3⟩
  try dsimp only
  rw [wp_bind]
  iapply (part10 c X) $$ [S4 S5 S6 S7 h4 h5 h6 h7]
  · isplitl [S4 h4]
    · isplitl [S4] <;> iassumption
    isplitl [S5 h5]
    · isplitl [S5] <;> iassumption
    isplitl [S6 h6]
    · isplitl [S6] <;> iassumption
    isplitl [S7] <;> iassumption
  iintro ⟨f4, f5, f6, f7⟩
  try dsimp only
  rw [wp_bind]
  iapply (part11 c X W) $$ [S8 h8 S9 Hh Ht Ho HO Hwf f0 f1 f2 f3 f4 f5 f6 f7]
  · isplitl [S8 h8]
    · isplitl [S8] <;> iassumption
    iintro f8
    unfold resAt
    isplitl [Hwf]; · iexact Hwf
    isplitr [Ht Ho HO]
    · iapply (ring_start c X) $$ [S9 Hh f0 f1 f2 f3 f4 f5 f6 f7 f8]
      isplitr [S9 Hh]
      · isplitl [f0]; · iexact f0
        isplitl [f1]; · iexact f1
        isplitl [f2]; · iexact f2
        isplitl [f3]; · iexact f3
        isplitl [f4]; · iexact f4
        isplitl [f5]; · iexact f5
        isplitl [f6]; · iexact f6
        isplitl [f7]; · iexact f7
        iexact f8
      · isplitl [S9] <;> iassumption
    isplitl [Ht]; · iexact Ht
    isplitl [Ho] <;> iassumption
  unfold resAt
  iintro %v1 %v2 ⟨Hwf, HR, Ht, Ho, HO⟩
  try dsimp only
  rw [wp_bind]
  iapply (part12 c v2)
  iintro %v3
  try simp only [Prog.bind_op, Prog.bind_ret]
  ihave Ht := (tring_end c X W) $$ Ht
  icases Ht with ⟨Ht0, Htf, Htd⟩
  iapply (t_wait c none (sl 2 127) (bk 128 127) (tB c X W (bk 128 127)) w_off49 w_off50 w_off51) $$ [Htf HO]
  · isplitl [Htf] <;> iassumption
  iintro ⟨Htl, Ht1, HO⟩
  rw [wp_ret]; imodintro
  iapply Hk
  isplitl [Hws Hwf Hwc]
  · isplitl [Hws]; · iexact Hws
    isplitl [Hwf]
    · unfold wfull
      icases Hwf with ⟨%f, %hf, Hwf⟩
      iexists f; iexact Hwf
    · iexact Hwc
  isplitl [HR]
  · iapply (ring_end c X) $$ HR
  isplitl [Ht0 Ht1 Htl Htd]
  · isplitl [Ht0 Ht1]
    · isplitl [Ht0]; · iexact Ht0
      iexact Ht1
    · iapply (tdones_end c X W)
      iapply (tdones_succ c X W 128 (by decide)) $$ [Htl Htd]
      isplitl [Htl] <;> iassumption
  isplitl [Ho] <;> iassumption

/-- The kernel's body, from `startP` to `endP`. -/
theorem body (t : Fin (cfg0 (F := F)).N) :
    iprop(startP c X W ∗ owesP (F := F) c)
      ⊢ wp frame (wpE (defs₀ (F := F)) 𝒱₀ (c : Thread nD τ) none) Set.univ (bodyAt0 (F := F) t) (fun _ => iprop(endP c X W ∗ owesP (F := F) c)) := by
  unfold bodyAt0
  rw [cc0__router_body_eq_skeleton]
  unfold cc0__router_body_skel endP
  simp only [Prog.lift, Prog.pure_eq_ret]
  rw [wp_bind]
  iintro H
  iapply (part13 c X W) $$ H
  iintro ⟨Hw, ⟨Hs, Hh⟩, ⟨Ht, Htd⟩, Ho, HO⟩
  ihave Ho := (oring_end c X W) $$ Ho
  icases Ho with ⟨Ho0, Hof, Hod⟩
  try simp only [Prog.bind_op, Prog.bind_ret]
  iapply (o_wait c none (sl 2 127) (bk 128 127) (oB c X W (bk 128 127)) w_off52 w_off53 w_off54) $$ [Hof HO]
  · isplitl [Hof] <;> iassumption
  iintro ⟨Hol, Ho1, HO⟩
  rw [wp_ret]; imodintro
  isplitr [HO]
  · isplitl [Hw]; · iexact Hw
    isplitl [Hs]; · iexact Hs
    isplitl [Hh]; · iexact Hh
    isplitl [Ht]; · iexact Ht
    isplitl [Ho0 Ho1]
    · isplitl [Ho0]; · iexact Ho0
      iexact Ho1
    isplitl [Htd]; · iexact Htd
    iapply (odones_end c X W)
    iapply (odones_succ c X W 128 (by decide)) $$ [Hol Hod]
    isplitl [Hol] <;> iassumption
  · iexact HO

end Cert.Proof.K1

end
-- ==== Proof.K1.Run.lean ====
/-
  The launch of the router: the three arrays and the three rings are cut into blocks and slots, the body runs on the one
  point, and the pieces are joined back. Each result ends, block by block, at the values the body computed.
-/
module

public import proofs.«01_k».proof.Proof.K1.Body

@[expose] public section

noncomputable section

namespace Cert.Proof.K1

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

open Idealize.ShloMosaic.Ring (sl bk)

local notation "𝕄" => MT nD τ sig Unit (Elt F) ℕ (UU nD τ) ℕ

open Idealize.ShloMosaic.Pipeline (Dat Cfg Window BodyObligation cellOf)

variable (m : (ℓ : Loc nD τ sig) → Buf (Elt F) ℓ) (ρ : Dev nD → PrngReg)

/-! ## The kernel's own semaphores -/

/-- The weight matrix's cell, the ten cells of the ring of `x` blocks, and the two of each result ring. -/
abbrev osem : Fin 15 → SemLoc sig
  | ⟨0, _⟩ => .dma cc0_scratch1.sem
  | ⟨1, _⟩ => .dma (xcell 0) | ⟨2, _⟩ => .dma (xcell 1) | ⟨3, _⟩ => .dma (xcell 2) | ⟨4, _⟩ => .dma (xcell 3) | ⟨5, _⟩ => .dma (xcell 4)
  | ⟨6, _⟩ => .dma (xcell 5) | ⟨7, _⟩ => .dma (xcell 6) | ⟨8, _⟩ => .dma (xcell 7) | ⟨9, _⟩ => .dma (xcell 8) | ⟨10, _⟩ => .dma (xcell 9)
  | ⟨11, _⟩ => .dma (tcell 0) | ⟨12, _⟩ => .dma (tcell 1) | ⟨13, _⟩ => .dma (ocell 0) | ⟨_ + 14, _⟩ => .dma (ocell 1)
theorem ownSemFacts : Pipeline.OwnSemFacts (cfg0 (F := F)).spec osem := ⟨by decide, by decide, fun _ w => w.elim0⟩

/-! ## Blocks and slots cover what they are cut from -/

theorem xblk_set (b : Fin 128) : (xblk b).view.set = (xblkR b).set := View.set_slice_whole _ _
theorem xblk_disjoint : ∀ b b' : Fin 128, b ≠ b' → Disjoint (xblkR b).set (xblkR b').set := fun b b' h =>
  Ring.lead_disjoint (s := S32768x4096) (0 : Fin 2) 256 (fun b : Fin 128 => blkOff b) S256x4096.size xOff_inb (fun b => by simp) rfl b b' h
theorem xblk_cover : (Finset.univ : Finset (Fin 128)).biUnion (fun b => (xblkR b).set) = Finset.univ :=
  Ring.lead_cover (s := S32768x4096) (0 : Fin 2) 256 (fun b : Fin 128 => blkOff b) S256x4096.size xOff_inb (fun b => by simp)
    (fun b a h => by fin_cases a <;> simp_all) rfl (fun a h => by fin_cases a <;> simp_all) rfl

theorem rblk_set (b : Fin 128) : (tblk b).view.set = (rblkR b).set := View.set_slice_whole _ _
theorem rblk_disjoint : ∀ b b' : Fin 128, b ≠ b' → Disjoint (rblkR b).set (rblkR b').set := fun b b' h =>
  Ring.lead_disjoint (s := S32768x8) (0 : Fin 2) 256 (fun b : Fin 128 => blkOff b) S256x8.size rOff_inb (fun b => by simp) rfl b b' h
theorem rblk_cover : (Finset.univ : Finset (Fin 128)).biUnion (fun b => (rblkR b).set) = Finset.univ :=
  Ring.lead_cover (s := S32768x8) (0 : Fin 2) 256 (fun b : Fin 128 => blkOff b) S256x8.size rOff_inb (fun b => by simp)
    (fun b a h => by fin_cases a <;> simp_all) rfl (fun a h => by fin_cases a <;> simp_all) rfl
theorem oblk_set (b : Fin 128) : (oblk b).view.set = (rblkR b).set := View.set_slice_whole _ _

theorem xsl_set (b : Fin 10) : (xslot b).view.set = (xslotR b).set := (View.set_reshape _ _).trans (View.set_slice_whole _ _)
theorem xsl_disjoint : ∀ b b' : Fin 10, b ≠ b' → Disjoint (xslotR b).set (xslotR b').set := fun b b' h =>
  Ring.lead_disjoint (s := S10x256x4096) (0 : Fin 3) 1 (fun b : Fin 10 => slotOff b) S1x256x4096.size xsOff_inb (fun b => by simp) rfl b b' h
theorem xsl_cover : (Finset.univ : Finset (Fin 10)).biUnion (fun b => (xslotR b).set) = Finset.univ :=
  Ring.lead_cover (s := S10x256x4096) (0 : Fin 3) 1 (fun b : Fin 10 => slotOff b) S1x256x4096.size xsOff_inb (fun b => by simp)
    (fun b a h => by fin_cases a <;> simp_all) rfl (fun a h => by fin_cases a <;> simp_all) rfl

theorem rsl_set (b : Fin 2) : (tslot b).view.set = (rslotR b).set := (View.set_reshape _ _).trans (View.set_slice_whole _ _)
theorem rsl_disjoint : ∀ b b' : Fin 2, b ≠ b' → Disjoint (rslotR b).set (rslotR b').set := fun b b' h =>
  Ring.lead_disjoint (s := S2x256x8) (0 : Fin 3) 1 (fun b : Fin 2 => slotOff b) S1x256x8.size rsOff_inb (fun b => by simp) rfl b b' h
theorem rsl_cover : (Finset.univ : Finset (Fin 2)).biUnion (fun b => (rslotR b).set) = Finset.univ :=
  Ring.lead_cover (s := S2x256x8) (0 : Fin 3) 1 (fun b : Fin 2 => slotOff b) S1x256x8.size rsOff_inb (fun b => by simp)
    (fun b a h => by fin_cases a <;> simp_all) rfl (fun a h => by fin_cases a <;> simp_all) rfl
theorem osl_set (s : Fin 2) : (oslot s).view.set = (rslotR s).set := (View.set_reshape _ _).trans (View.set_slice_whole _ _)

section Pieces
variable (c : Dev nD)

/-- `x` whole is its 128 blocks. -/
theorem x_eq (X : Buf (Elt F) (xM.view.loc (c : Thread nD τ))) :
    (((c : Thread nD τ).loc main_arg0) ↦{fullShare} X : sProp 𝕄) = bigSep Finset.univ (xhome c X) := by
  rw [Ring.pointsTo_blocks (ℓ := (c : Thread nD τ).loc main_arg0) (fun b => (xblkR b).set) xblk_disjoint xblk_cover]
  exact BI.bigSep_congr fun b _ => by rw [← xblk_set]
theorem w_eq (W : Buf (Elt F) (wM.view.loc (c : Thread nD τ))) :
    (((c : Thread nD τ).loc main_arg1) ↦{fullShare} W : sProp 𝕄) = wsrcP c W := by
  unfold wsrcP; rw [show wM.view.set = Finset.univ from View.set_whole _]
theorem wbuf_eq (f : Buf (Elt F) (wbM.view.loc (c : Thread nD τ))) :
    (((c : Thread nD τ).loc cc0_scratch0) ↦{fullShare} f : sProp 𝕄) = wbufP c f := by
  unfold wbufP; rw [show wbM.view.set = Finset.univ from View.set_whole _]

theorem tblk_some (b : Fin 128) (f : Buf (Elt F) (tM.view.loc (c : Thread nD τ))) :
    tblkP (F := F) c b f ⊢ iprop(∃ f, tblkP (F := F) c b f) := by
  iintro H
  iexists f; iexact H
theorem t_split (f : Buf (Elt F) (tM.view.loc (c : Thread nD τ))) :
    (((c : Thread nD τ).loc main_v0_0) ↦{fullShare} f : sProp 𝕄) ⊢ bigSep Finset.univ (fun b => iprop(∃ f, tblkP (F := F) c b f)) := by
  rw [Ring.pointsTo_blocks (ℓ := (c : Thread nD τ).loc main_v0_0) (fun b => (rblkR b).set) rblk_disjoint rblk_cover]
  exact BI.bigSep_mono fun b _ => by rw [← rblk_set b]; exact tblk_some c b f
/-- The blocks done, joined: the whole result, each block of it at its values. -/
theorem t_join (f₀ : Buf (Elt F) ((c : Thread nD τ).loc main_v0_0)) (v : Fin 128 → S256x8.Idx → Elt F .i32) :
    (bigSep Finset.univ (fun b => tdone (F := F) c b (v b)) : sProp 𝕄)
      ⊢ iprop(∃ g : Buf (Elt F) ((c : Thread nD τ).loc main_v0_0), ⌜∀ b, (tblk b).view.read (Elt F) g = v b⌝ ∗ ((c : Thread nD τ).loc main_v0_0) ↦{fullShare} g) := by
  have : Nonempty (Buf (Elt F) ((c : Thread nD τ).loc main_v0_0)) := ⟨f₀⟩
  unfold tdone
  refine (BI.bigSep_exists_pi Finset.univ (fun b (f : Buf (Elt F) ((c : Thread nD τ).loc main_v0_0)) =>
    iprop(⌜(tblk b).view.read (Elt F) f = v b⌝ ∗ tblkP (F := F) c b f))).trans ?_
  iintro ⟨%fs, H⟩
  ihave H := (BI.bigSep_pure_sep Finset.univ _ _) $$ H
  icases H with ⟨%hv, H⟩
  ihave H := (pointsTo_biUnion_join (Ix := Unit) (Name := ℕ) (U := UU nD τ) (Lvl := ℕ) (q := fullShare) (ℓ := (c : Thread nD τ).loc main_v0_0) Finset.univ (fun b => (tblk b).view.set) fs f₀
    (fun b _ b' _ h => by rw [rblk_set, rblk_set]; exact rblk_disjoint b b' h)) $$ H
  icases H with ⟨%g, %hg, H⟩
  iexists g
  isplitr
  · ipureintro
    intro b
    exact (View.read_congr fun i hi => hg b (Finset.mem_univ _) i hi).trans (hv b (Finset.mem_univ _))
  · rw [show (Finset.univ : Finset (Fin 128)).biUnion (fun b => (tblk b).view.set) = Finset.univ from
      (Finset.biUnion_congr rfl fun b _ => rblk_set b).trans rblk_cover]
    iexact H

theorem oblk_some (b : Fin 128) (f : Buf (Elt F) (oM.view.loc (c : Thread nD τ))) :
    oblkP (F := F) c b f ⊢ iprop(∃ f, oblkP (F := F) c b f) := by
  iintro H
  iexists f; iexact H
theorem o_split (f : Buf (Elt F) (oM.view.loc (c : Thread nD τ))) :
    (((c : Thread nD τ).loc main_v0_1) ↦{fullShare} f : sProp 𝕄) ⊢ bigSep Finset.univ (fun b => iprop(∃ f, oblkP (F := F) c b f)) := by
  rw [Ring.pointsTo_blocks (ℓ := (c : Thread nD τ).loc main_v0_1) (fun b => (rblkR b).set) rblk_disjoint rblk_cover]
  exact BI.bigSep_mono fun b _ => by rw [← oblk_set b]; exact oblk_some c b f
/-- The blocks done, joined: the whole result, each block of it at its values. -/
theorem o_join (f₀ : Buf (Elt F) ((c : Thread nD τ).loc main_v0_1)) (v : Fin 128 → S256x8.Idx → Elt F .f32) :
    (bigSep Finset.univ (fun b => odone (F := F) c b (v b)) : sProp 𝕄)
      ⊢ iprop(∃ g : Buf (Elt F) ((c : Thread nD τ).loc main_v0_1), ⌜∀ b, (oblk b).view.read (Elt F) g = v b⌝ ∗ ((c : Thread nD τ).loc main_v0_1) ↦{fullShare} g) := by
  have : Nonempty (Buf (Elt F) ((c : Thread nD τ).loc main_v0_1)) := ⟨f₀⟩
  unfold odone
  refine (BI.bigSep_exists_pi Finset.univ (fun b (f : Buf (Elt F) ((c : Thread nD τ).loc main_v0_1)) =>
    iprop(⌜(oblk b).view.read (Elt F) f = v b⌝ ∗ oblkP (F := F) c b f))).trans ?_
  iintro ⟨%fs, H⟩
  ihave H := (BI.bigSep_pure_sep Finset.univ _ _) $$ H
  icases H with ⟨%hv, H⟩
  ihave H := (pointsTo_biUnion_join (Ix := Unit) (Name := ℕ) (U := UU nD τ) (Lvl := ℕ) (q := fullShare) (ℓ := (c : Thread nD τ).loc main_v0_1) Finset.univ (fun b => (oblk b).view.set) fs f₀
    (fun b _ b' _ h => by rw [oblk_set, oblk_set]; exact rblk_disjoint b b' h)) $$ H
  icases H with ⟨%g, %hg, H⟩
  iexists g
  isplitr
  · ipureintro
    intro b
    exact (View.read_congr fun i hi => hg b (Finset.mem_univ _) i hi).trans (hv b (Finset.mem_univ _))
  · rw [show (Finset.univ : Finset (Fin 128)).biUnion (fun b => (oblk b).view.set) = Finset.univ from
      (Finset.biUnion_congr rfl fun b _ => oblk_set b).trans rblk_cover]
    iexact H

theorem xslot_some (s : Fin 10) (f : Buf (Elt F) (xbM.view.loc (c : Thread nD τ))) :
    xslotP (F := F) c s f ⊢ iprop(∃ f, xslotP (F := F) c s f) := by
  iintro H
  iexists f; iexact H
theorem xring_split : iprop(∃ f : Buf (Elt F) ((c : Thread nD τ).loc cc0_scoped0), ((c : Thread nD τ).loc cc0_scoped0) ↦{fullShare} f)
    ⊢ (bigSep Finset.univ (fun s => iprop(∃ f, xslotP (F := F) c s f)) : sProp 𝕄) := by
  iintro ⟨%f, H⟩
  ihave H := (entails_of_eq (Ring.pointsTo_blocks (Ix := Unit) (Name := ℕ) (U := UU nD τ) (Lvl := ℕ) (q := fullShare) (ℓ := (c : Thread nD τ).loc cc0_scoped0) (fun s => (xslotR s).set) xsl_disjoint xsl_cover f)) $$ H
  have h : (bigSep Finset.univ (fun s => (((c : Thread nD τ).loc cc0_scoped0) ↦[(xslotR s).set]{fullShare} f : sProp 𝕄)))
      ⊢ bigSep Finset.univ (fun s => iprop(∃ f, xslotP (F := F) c s f)) :=
    BI.bigSep_mono fun s _ => by rw [← xsl_set s]; exact xslot_some c s f
  iapply h $$ H
theorem xring_join (f₀ : Buf (Elt F) ((c : Thread nD τ).loc cc0_scoped0)) : (bigSep Finset.univ (fun s => iprop(∃ f, xslotP (F := F) c s f)) : sProp 𝕄)
    ⊢ iprop(∃ f : Buf (Elt F) ((c : Thread nD τ).loc cc0_scoped0), ((c : Thread nD τ).loc cc0_scoped0) ↦{fullShare} f) := by
  have h : ∀ s, (iprop(∃ f, xslotP (F := F) c s f) : sProp 𝕄) ⊢ iprop(∃ f, ((c : Thread nD τ).loc cc0_scoped0) ↦[(xslotR s).set]{fullShare} f) := fun s => by
    rw [← xsl_set s]
  exact BIBase.Entails.trans (BI.bigSep_mono fun s _ => h s)
    (Ring.pointsTo_blocks_join_exists (ℓ := (c : Thread nD τ).loc cc0_scoped0) (fun s => (xslotR s).set) xsl_disjoint xsl_cover f₀)

theorem tslot_some (s : Fin 2) (f : Buf (Elt F) (tbM.view.loc (c : Thread nD τ))) :
    tslotP (F := F) c s f ⊢ iprop(∃ f, tslotP (F := F) c s f) := by
  iintro H
  iexists f; iexact H
theorem tring_split : iprop(∃ f : Buf (Elt F) ((c : Thread nD τ).loc cc0_scoped2), ((c : Thread nD τ).loc cc0_scoped2) ↦{fullShare} f)
    ⊢ (bigSep Finset.univ (fun s => iprop(∃ f, tslotP (F := F) c s f)) : sProp 𝕄) := by
  iintro ⟨%f, H⟩
  ihave H := (entails_of_eq (Ring.pointsTo_blocks (Ix := Unit) (Name := ℕ) (U := UU nD τ) (Lvl := ℕ) (q := fullShare) (ℓ := (c : Thread nD τ).loc cc0_scoped2) (fun s => (rslotR s).set) rsl_disjoint rsl_cover f)) $$ H
  have h : (bigSep Finset.univ (fun s => (((c : Thread nD τ).loc cc0_scoped2) ↦[(rslotR s).set]{fullShare} f : sProp 𝕄)))
      ⊢ bigSep Finset.univ (fun s => iprop(∃ f, tslotP (F := F) c s f)) :=
    BI.bigSep_mono fun s _ => by rw [← rsl_set s]; exact tslot_some c s f
  iapply h $$ H
theorem tring_join (f₀ : Buf (Elt F) ((c : Thread nD τ).loc cc0_scoped2)) : (bigSep Finset.univ (fun s => iprop(∃ f, tslotP (F := F) c s f)) : sProp 𝕄)
    ⊢ iprop(∃ f : Buf (Elt F) ((c : Thread nD τ).loc cc0_scoped2), ((c : Thread nD τ).loc cc0_scoped2) ↦{fullShare} f) := by
  have h : ∀ s, (iprop(∃ f, tslotP (F := F) c s f) : sProp 𝕄) ⊢ iprop(∃ f, ((c : Thread nD τ).loc cc0_scoped2) ↦[(rslotR s).set]{fullShare} f) := fun s => by
    rw [← rsl_set s]
  exact BIBase.Entails.trans (BI.bigSep_mono fun s _ => h s)
    (Ring.pointsTo_blocks_join_exists (ℓ := (c : Thread nD τ).loc cc0_scoped2) (fun s => (rslotR s).set) rsl_disjoint rsl_cover f₀)

theorem oslot_some (s : Fin 2) (f : Buf (Elt F) (obM.view.loc (c : Thread nD τ))) :
    oslotP (F := F) c s f ⊢ iprop(∃ f, oslotP (F := F) c s f) := by
  iintro H
  iexists f; iexact H
theorem oring_split : iprop(∃ f : Buf (Elt F) ((c : Thread nD τ).loc cc0_scoped4), ((c : Thread nD τ).loc cc0_scoped4) ↦{fullShare} f)
    ⊢ (bigSep Finset.univ (fun s => iprop(∃ f, oslotP (F := F) c s f)) : sProp 𝕄) := by
  iintro ⟨%f, H⟩
  ihave H := (entails_of_eq (Ring.pointsTo_blocks (Ix := Unit) (Name := ℕ) (U := UU nD τ) (Lvl := ℕ) (q := fullShare) (ℓ := (c : Thread nD τ).loc cc0_scoped4) (fun s => (rslotR s).set) rsl_disjoint rsl_cover f)) $$ H
  have h : (bigSep Finset.univ (fun s => (((c : Thread nD τ).loc cc0_scoped4) ↦[(rslotR s).set]{fullShare} f : sProp 𝕄)))
      ⊢ bigSep Finset.univ (fun s => iprop(∃ f, oslotP (F := F) c s f)) :=
    BI.bigSep_mono fun s _ => by rw [← osl_set s]; exact oslot_some c s f
  iapply h $$ H
theorem oring_join (f₀ : Buf (Elt F) ((c : Thread nD τ).loc cc0_scoped4)) : (bigSep Finset.univ (fun s => iprop(∃ f, oslotP (F := F) c s f)) : sProp 𝕄)
    ⊢ iprop(∃ f : Buf (Elt F) ((c : Thread nD τ).loc cc0_scoped4), ((c : Thread nD τ).loc cc0_scoped4) ↦{fullShare} f) := by
  have h : ∀ s, (iprop(∃ f, oslotP (F := F) c s f) : sProp 𝕄) ⊢ iprop(∃ f, ((c : Thread nD τ).loc cc0_scoped4) ↦[(rslotR s).set]{fullShare} f) := fun s => by
    rw [← osl_set s]
  exact BIBase.Entails.trans (BI.bigSep_mono fun s _ => h s)
    (Ring.pointsTo_blocks_join_exists (ℓ := (c : Thread nD τ).loc cc0_scoped4) (fun s => (rslotR s).set) rsl_disjoint rsl_cover f₀)

/-- The kernel's own cells at zero, by name. -/
theorem ownSems0_eq : (Pipeline.ownSems0 (Ix := Unit) (Name := ℕ) (U := UU nD τ) (Lvl := ℕ) (Val := Elt F) (τ := τ) osem c : sProp 𝕄)
    = iprop(wcellP (F := F) c ∗ xcellP (F := F) c 0 ∗ xcellP (F := F) c 1 ∗ xcellP (F := F) c 2 ∗ xcellP (F := F) c 3 ∗ xcellP (F := F) c 4 ∗ xcellP (F := F) c 5 ∗ xcellP (F := F) c 6 ∗ xcellP (F := F) c 7 ∗ xcellP (F := F) c 8 ∗ xcellP (F := F) c 9 ∗ tcellP (F := F) c 0 ∗ tcellP (F := F) c 1 ∗ ocellP (F := F) c 0 ∗ ocellP (F := F) c 1) := by
  unfold Pipeline.ownSems0
  exact BI.bigSep_univ_eq_bigSepL ([0, 1, 2, 3, 4, 5, 6, 7, 8, 9, 10, 11, 12, 13, 14] : List (Fin 15)) (by decide) (by decide) _
theorem xcells_eq : (bigSep Finset.univ (fun s => xcellP (F := F) c s) : sProp 𝕄) = iprop(xcellP (F := F) c 0 ∗ xcellP (F := F) c 1 ∗ xcellP (F := F) c 2 ∗ xcellP (F := F) c 3 ∗ xcellP (F := F) c 4 ∗ xcellP (F := F) c 5 ∗ xcellP (F := F) c 6 ∗ xcellP (F := F) c 7 ∗ xcellP (F := F) c 8 ∗ xcellP (F := F) c 9) :=
  BI.bigSep_univ_eq_bigSepL [0, 1, 2, 3, 4, 5, 6, 7, 8, 9] (by decide) (by decide) _
theorem xfree_eq : (bigSep Finset.univ (fun s => xfree (F := F) c s) : sProp 𝕄)
    = iprop((bigSep Finset.univ (fun s => iprop(∃ f, xslotP (F := F) c s f))) ∗ bigSep Finset.univ (fun s => xcellP (F := F) c s)) :=
  BI.bigSep_sep' _ _ _
theorem tfree_eq : iprop((bigSep Finset.univ (fun s => iprop(∃ f, tslotP (F := F) c s f))) ∗ (tcellP (F := F) c 0 ∗ tcellP (F := F) c 1))
    = (iprop(tfree (F := F) c 0 ∗ tfree (F := F) c 1) : sProp 𝕄) := by
  rw [← show (bigSep Finset.univ (fun s => tcellP (F := F) c s) : sProp 𝕄) = iprop(tcellP (F := F) c 0 ∗ tcellP (F := F) c 1) from
      BI.bigSep_univ_eq_bigSepL [0, 1] (by decide) (by decide) _,
    ← show (bigSep Finset.univ (fun s => tfree (F := F) c s) : sProp 𝕄) = iprop(tfree (F := F) c 0 ∗ tfree (F := F) c 1) from
      BI.bigSep_univ_eq_bigSepL [0, 1] (by decide) (by decide) _]
  exact (BI.bigSep_sep' _ _ _).symm
theorem ofree_eq : iprop((bigSep Finset.univ (fun s => iprop(∃ f, oslotP (F := F) c s f))) ∗ (ocellP (F := F) c 0 ∗ ocellP (F := F) c 1))
    = (iprop(ofree (F := F) c 0 ∗ ofree (F := F) c 1) : sProp 𝕄) := by
  rw [← show (bigSep Finset.univ (fun s => ocellP (F := F) c s) : sProp 𝕄) = iprop(ocellP (F := F) c 0 ∗ ocellP (F := F) c 1) from
      BI.bigSep_univ_eq_bigSepL [0, 1] (by decide) (by decide) _,
    ← show (bigSep Finset.univ (fun s => ofree (F := F) c s) : sProp 𝕄) = iprop(ofree (F := F) c 0 ∗ ofree (F := F) c 1) from
      BI.bigSep_univ_eq_bigSepL [0, 1] (by decide) (by decide) _]
  exact (BI.bigSep_sep' _ _ _).symm

end Pieces

/-! ## The pipeline's proof data -/

abbrev XV (c : Dev nD) : Buf (Elt F) (xM.view.loc (c : Thread nD τ)) := (s₀ m ρ).mem _
abbrev WV (c : Dev nD) : Buf (Elt F) (wM.view.loc (c : Thread nD τ)) := (s₀ m ρ).mem _

/-- Before the one point, what the body starts from; after it, what it leaves. -/
def Φ (c : Dev nD) (t : Fin ((cfg0 (F := F)).N + 1)) : sProp 𝕄 :=
  if t.val = 0 then startP c (XV m ρ c) (WV m ρ c) else endP c (XV m ρ c) (WV m ρ c)
def dats (_ : Fin 1) (c : Dev nD) : Dat τ (Elt F) Unit ℕ (UU nD τ) ℕ (cfg0 (F := F)) c where
  A w := w.elim0
  after w t := w.elim0
  Φ t := Φ m ρ c t
  q _ := fullShare
  owed _ := 0

theorem Φ_first (c : Dev nD) (t : Fin (cfg0 (F := F)).N) : (dats m ρ 0 c).Φ t.castSucc = startP c (XV m ρ c) (WV m ρ c) := by
  show Φ m ρ c t.castSucc = _
  unfold Φ
  exact if_pos (by have := fin_N0 t; subst this; rfl)
theorem Φ_last (c : Dev nD) (t : Fin (cfg0 (F := F)).N) : (dats m ρ 0 c).Φ t.succ = endP c (XV m ρ c) (WV m ρ c) := by
  show Φ m ρ c t.succ = _
  unfold Φ
  exact if_neg (by simp)

/-- The body table's entry is the kernel on its whole arrays. -/
theorem defs_tc (t : Fin (cfg0 (F := F)).N) : (defs₀ (F := F)) .tc (cfg0 (F := F)).body = fun _ => bodyAt0 (F := F) t := rfl
theorem prog_eq (t : Fin (cfg0 (F := F)).N) :
    (defs₀ (F := F)) .tc (cfg0 (F := F)).body ((cfg0 (F := F)).bodyArgs t ((cfg0 (F := F)).slots t)) = bodyAt0 (F := F) t :=
  (congrFun (defs_tc t) _).trans rfl

set_option backward.isDefEq.respectTransparency.types false in
/-- The body meets what the pipeline asks of it. -/
theorem body_obligation (c : Dev nD) : BodyObligation (dats (F := F) m ρ 0 c) (defs₀ (F := F)) 𝒱₀ () Set.univ := fun t => by
  rw [Φ_first, Φ_last]
  unfold Dat.owesAt Pipeline.owesWithin
  rw [show (dats m ρ 0 c).owed t.castSucc = 0 from rfl, show (dats m ρ 0 c).owed t.succ = 0 from rfl]
  rw [show (Finset.univ : Finset (Fin (cfg0 (F := F)).W)) = ∅ from rfl]
  simp only [bigSep_empty]
  sl_rw [prog_eq t]
  refine BIBase.Entails.trans ?_ ((body c (XV m ρ c) (WV m ρ c) t).trans (wp_mono _ _ _ fun _ => ?_))
  · unfold owesP
    iintro ⟨HS, ⟨%Ws, -, HO⟩, -⟩
    isplitl [HS]; · iexact HS
    iexists Ws; iexact HO
  · unfold owesP
    iintro ⟨HS, ⟨%Ws, HO⟩⟩
    isplitl [HS]; · iexact HS
    isplitl [HO]
    · iexists Ws; isplitr; · ipureintro; exact fun _ _ => Or.inl trivial
      iexact HO
    iempintro

/-! ## The run -/

/-- What the run leaves on core `c`: the arguments as they were, each result block at its values. -/
def Final (c : Dev nD) (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ (∀ b, (tblk b).view.read (Elt F) (s.mem ((c : Thread nD τ).loc main_v0_0)) = tB c (XV m ρ c) (WV m ρ c) b)
  ∧ (∀ b, (oblk b).view.read (Elt F) (s.mem ((c : Thread nD τ).loc main_v0_1)) = oB c (XV m ρ c) (WV m ρ c) b)

def intoΦ (c : Dev nD) : sProp 𝕄 :=
  iprop((bigSep Finset.univ (xhome c (XV m ρ c)) ∗ wsrcP c (WV m ρ c)
    ∗ bigSep Finset.univ (fun b => iprop(∃ f, tblkP (F := F) c b f)) ∗ bigSep Finset.univ (fun b => iprop(∃ f, oblkP (F := F) c b f)))
    ∗ Pipeline.ownSems0 osem c)
def outOfΦ (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (∃ g : Buf (Elt F) ((c : Thread nD τ).loc main_v0_0), ⌜∀ b, (tblk b).view.read (Elt F) g = tB c (XV m ρ c) (WV m ρ c) b⌝ ∗ ((c : Thread nD τ).loc main_v0_0) ↦{fullShare} g)
    ∗ (∃ g : Buf (Elt F) ((c : Thread nD τ).loc main_v0_1), ⌜∀ b, (oblk b).view.read (Elt F) g = oB c (XV m ρ c) (WV m ρ c) b⌝ ∗ ((c : Thread nD τ).loc main_v0_1) ↦{fullShare} g))
def u₀ : UU nD τ := (initOf (Pipeline.cells (cfgs (F := F)) cellOf_inj) (Pipeline.launchToks (cfgs (F := F)) cellOf_inj), 1)

/-- What the launch hands the region is what the body starts from. -/
theorem enter (c : Dev nD) : iprop(intoΦ m ρ c ∗ Pipeline.scopedRest (cfg0 (F := F)).spec c) ⊢ startP c (XV m ρ c) (WV m ρ c) := by
  rw [scopedRest0_eq]
  unfold intoΦ startP
  rw [ownSems0_eq, xfree_eq, xcells_eq, ← tfree_eq, ← ofree_eq]
  iintro ⟨⟨⟨Hx, Hw, Ht, Ho⟩, Hwc, C0, C1, C2, C3, C4, C5, C6, C7, C8, C9, T0, T1, O0, O1⟩, ⟨%fw, Hwb⟩, Hxr, Htr, Hor⟩
  isplitl [Hw Hwb Hwc]
  · isplitl [Hw]; · iexact Hw
    isplitl [Hwb]
    · iexists fw
      iapply (entails_of_eq (wbuf_eq c fw)) $$ Hwb
    · iexact Hwc
  isplitl [Hxr C0 C1 C2 C3 C4 C5 C6 C7 C8 C9]
  · isplitl [Hxr]
    · iapply (xring_split c) $$ Hxr
    isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    iexact C9
  isplitl [Hx]; · iexact Hx
  isplitl [Htr T0 T1]
  · isplitl [Htr]
    · iapply (tring_split c) $$ Htr
    isplitl [T0]; · iexact T0
    iexact T1
  isplitl [Hor O0 O1]
  · isplitl [Hor]
    · iapply (oring_split c) $$ Hor
    isplitl [O0]; · iexact O0
    iexact O1
  isplitl [Ht]; · iexact Ht
  iexact Ho

/-- What the body leaves is what the region hands back. -/
theorem leave (c : Dev nD) : endP c (XV m ρ c) (WV m ρ c)
    ⊢ iprop(outOfΦ m ρ c ∗ Pipeline.ownSems0 osem c ∗ Pipeline.scopedRest (cfg0 (F := F)).spec c) := by
  rw [scopedRest0_eq, ownSems0_eq]
  unfold outOfΦ endP
  rw [xfree_eq, xcells_eq, ← tfree_eq, ← ofree_eq]
  iintro ⟨⟨Hw, ⟨%fw, Hwb⟩, Hwc⟩, ⟨Hxr, C0, C1, C2, C3, C4, C5, C6, C7, C8, C9⟩, Hx, ⟨Htr, T0, T1⟩, ⟨Hor, O0, O1⟩, Ht, Ho⟩
  isplitl [Hx Hw Ht Ho]
  · isplitl [Hx]
    · iapply (entails_of_eq (x_eq c (XV m ρ c)).symm) $$ Hx
    isplitl [Hw]
    · iapply (entails_of_eq (w_eq c (WV m ρ c)).symm) $$ Hw
    isplitl [Ht]
    · iapply (t_join c ((s₀ m ρ).mem _) _) $$ Ht
    · iapply (o_join c ((s₀ m ρ).mem _) _) $$ Ho
  isplitl [Hwc C0 C1 C2 C3 C4 C5 C6 C7 C8 C9 T0 T1 O0 O1]
  · isplitl [Hwc]; · iexact Hwc
    isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [T0]; · iexact T0
    isplitl [T1]; · iexact T1
    isplitl [O0]; · iexact O0
    iexact O1
  isplitl [Hwb]
  · iexists fw
    iapply (entails_of_eq (wbuf_eq c fw).symm) $$ Hwb
  isplitl [Hxr]
  · iapply (xring_join c ((s₀ m ρ).mem _)) $$ Hxr
  isplitl [Htr]
  · iapply (tring_join c ((s₀ m ρ).mem _)) $$ Htr
  · iapply (oring_join c ((s₀ m ρ).mem _)) $$ Hor

set_option backward.isDefEq.respectTransparency.types false in
/-- From any memory with zero counters every weakly fair execution terminates without fault; every final state has the
    arguments unchanged, each result block at its values, and every counter at zero. -/
theorem run_main : θ_run defs (onTc (τ := τ) (main (F := F))) (s₀ m ρ) (fun r => (∀ c, Final m ρ c r.2) ∧ r.2.sem = fun _ => 0) :=
  Pipeline.θ_run_region_kit_quiescent (cfgs (F := F)) (dats m ρ) () (0 : Fin 1) launch0 ownSemFacts EP defs₀ 𝒱₀ m ρ main
    (hbody := fun c => (body_obligation m ρ c).loose) (hshare := fun c => (dats m ρ 0 c).share_full fun _ => rfl)
    (howed := fun _ _ => rfl)
    (G := fun _ => iprop(emp)) (u₀ := u₀ (F := F))
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, fn_kernel.body, Prog.lift, Prog.bind_op, Prog.bind_ret]
      iintro ⟨Hk, Hb⟩; iapply Hk; iexact Hb)
    (hA := fun _ w => w.elim0)
    (X := intoΦ m ρ) (Y := outOfΦ m ρ) (Z := fun _ => iprop(emp))
    (hX := fun c => by
      rw [unscopedRest0_eq, x_eq c (XV m ρ c), w_eq c (WV m ρ c)]
      unfold intoΦ
      iintro ⟨⟨H0, H1, H2, H3⟩, HS, -, -, -⟩; imodintro
      isplitl [H0 H1 H2 H3 HS]
      · isplitl [H0 H1 H2 H3]
        · isplitl [H0]; · iexact H0
          isplitl [H1]; · iexact H1
          isplitl [H2]
          · iapply (t_split c _) $$ H2
          · iapply (o_split c _) $$ H3
        · iexact HS
      iempintro)
    (hin := fun c => enter m ρ c)
    (hout := fun c => leave m ρ c)
    (QY := Final m ρ)
    (hY := fun c s' => by
      unfold outOfΦ
      iintro ⟨⟨H0, H1, ⟨%gt, %ht, H2⟩, ⟨%go, %ho, H3⟩⟩, -, HSI⟩
      icombine HSI H0 gives %h0
      icombine HSI H1 gives %h1
      icombine HSI H2 gives %h2
      icombine HSI H3 gives %h3
      imodintro
      isplitr
      · ipureintro
        refine ⟨Buf.eq_of_forall_mem_univ h0, Buf.eq_of_forall_mem_univ h1, fun b => ?_, fun b => ?_⟩
        · rw [← ht b]; exact congrArg _ (Buf.eq_of_forall_mem_univ h2)
        · rw [← ho b]; exact congrArg _ (Buf.eq_of_forall_mem_univ h3)
      iexact HSI)
    (hQ := fun _ hh hz => ⟨fun c => (hh c).2, hz⟩)

end Cert.Proof.K1

end
-- ==== Proof.K2.Names.lean ====
/-
  The names of the router's run: the blocks of the three HBM arrays that move, the slots of the three VMEM rings, the
  cells their transfers complete on, and one rule per transfer the body issues or waits for. Every rule is stated over
  the offsets as the body computes them, with the equation that says which block, slot or cell they are.
-/
module

public import proofs.«01_k».proof.Defs
public import proofs.«01_k».proof.Proof.Gen.Kernel2Ideal.Launch
public import proofs.«01_k».proof.Proof.Gen.Kernel2Ideal.Skeleton
public import proofs.«01_k».proof.Proof.Gen.Kernel2Ideal.Loops
public import proofs.«01_k».proof.Proof.Gen.Kernel2Ideal.Points
public import Idealize.ShloMosaic.Lib.Pipeline.KitQuiescent
public import Idealize.ShloMosaic.Lib.Ring
public import Idealize.ShloMosaic.Lib.Tactic

@[expose] public section

noncomputable section

namespace Cert.Proof.K2

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's, beside the counters the kernel's own transfers ride on -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
/-- The counting loops call themselves under a natural number that falls. -/
abbrev 𝒱₀ : Variants := Variants.nat

omit [FloatOps F] in
/-- An equation of resources, as an entailment. -/
theorem entails_of_eq {P Q : sProp 𝕄} (e : P = Q) : P ⊢ Q := e ▸ .rfl

/-! ## Blocks, slots, cells -/

abbrev xM : Memref sig .tc .hbm S32768x4096 .f32 := Memref.whole main_arg0
abbrev wM : Memref sig .tc .hbm S64x4096 .f32 := Memref.whole main_arg1
abbrev tM : Memref sig .tc .hbm S32768x8 .i32 := Memref.whole main_v0_0
abbrev oM : Memref sig .tc .hbm S32768x8 .f32 := Memref.whole main_v0_1
abbrev wbM : Memref sig .tc .vmem S64x4096 .f32 := Memref.whole cc0_scratch0
abbrev xbM : Memref sig .tc .vmem S10x256x4096 .f32 := Memref.whole cc0_scoped0
abbrev tbM : Memref sig .tc .vmem S2x256x8 .i32 := Memref.whole cc0_scoped2
abbrev obM : Memref sig .tc .vmem S2x256x8 .f32 := Memref.whole cc0_scoped4

/-- Where block `b` of 256 rows begins. -/
abbrev blkOff (b : Fin 128) : Fin 2 → Nat := ![256 * b.val, 0]
/-- Where slot `s` of a ring of `n` begins. -/
abbrev slotOff {n : ℕ} (s : Fin n) : Fin 3 → Nat := ![s.val, 0, 0]
/-- Where cell `s` of a ring of `n` begins. -/
abbrev cellOff {n : ℕ} (s : Fin n) : Fin 1 → Nat := ![s.val]

theorem xOff_inb (b : Fin 128) : ∀ a, blkOff b a + S256x4096.size a ≤ S32768x4096.size a := by
  have := b.isLt; intro a; fin_cases a
  · show 256 * b.val + 256 ≤ 32768; omega
  · show 0 + 4096 ≤ 4096; omega
theorem rOff_inb (b : Fin 128) : ∀ a, blkOff b a + S256x8.size a ≤ S32768x8.size a := by
  have := b.isLt; intro a; fin_cases a
  · show 256 * b.val + 256 ≤ 32768; omega
  · show 0 + 8 ≤ 8; omega
theorem xsOff_inb (s : Fin 10) : ∀ a, slotOff s a + S1x256x4096.size a ≤ S10x256x4096.size a := by
  have := s.isLt; intro a; fin_cases a
  · show s.val + 1 ≤ 10; omega
  · show 0 + 256 ≤ 256; omega
  · show 0 + 4096 ≤ 4096; omega
theorem rsOff_inb (s : Fin 2) : ∀ a, slotOff s a + S1x256x8.size a ≤ S2x256x8.size a := by
  have := s.isLt; intro a; fin_cases a
  · show s.val + 1 ≤ 2; omega
  · show 0 + 256 ≤ 256; omega
  · show 0 + 8 ≤ 8; omega
theorem xcOff_inb (s : Fin 10) : ∀ a, cellOff s a + S1.size a ≤ S10.size a := by
  have := s.isLt; intro a; fin_cases a; show s.val + 1 ≤ 10; omega
theorem rcOff_inb (s : Fin 2) : ∀ a, cellOff s a + S1.size a ≤ S2.size a := by
  have := s.isLt; intro a; fin_cases a; show s.val + 1 ≤ 2; omega

abbrev xblkR (b : Fin 128) : Rect S32768x4096 := Rect.unit (s := S32768x4096) (blkOff b) S256x4096.size (xOff_inb b)
abbrev rblkR (b : Fin 128) : Rect S32768x8 := Rect.unit (s := S32768x8) (blkOff b) S256x8.size (rOff_inb b)
abbrev xslotR (s : Fin 10) : Rect S10x256x4096 := Rect.unit (s := S10x256x4096) (slotOff s) S1x256x4096.size (xsOff_inb s)
abbrev rslotR (s : Fin 2) : Rect S2x256x8 := Rect.unit (s := S2x256x8) (slotOff s) S1x256x8.size (rsOff_inb s)

/-- Block `b` of `x`; of the index result; of the weight result. -/
abbrev xblk (b : Fin 128) : Memref sig .tc .hbm S256x4096 .f32 := xM.slice (xblkR b) (fun _ => rfl)
abbrev tblk (b : Fin 128) : Memref sig .tc .hbm S256x8 .i32 := tM.slice (rblkR b) (fun _ => rfl)
abbrev oblk (b : Fin 128) : Memref sig .tc .hbm S256x8 .f32 := oM.slice (rblkR b) (fun _ => rfl)
/-- Slot `s` of the ring of `x` blocks; of the ring of index blocks; of the ring of weight blocks. -/
abbrev xslot (s : Fin 10) : Memref sig .tc .vmem S256x4096 .f32 :=
  (xbM.slice (xslotR s) (fun _ => rfl)).squeeze S256x4096 squeezes_S1x256x4096_S256x4096
abbrev tslot (s : Fin 2) : Memref sig .tc .vmem S256x8 .i32 :=
  (tbM.slice (rslotR s) (fun _ => rfl)).squeeze S256x8 squeezes_S1x256x8_S256x8
abbrev oslot (s : Fin 2) : Memref sig .tc .vmem S256x8 .f32 :=
  (obM.slice (rslotR s) (fun _ => rfl)).squeeze S256x8 squeezes_S1x256x8_S256x8
/-- The cell of slot `s` in each ring. -/
abbrev xcell (s : Fin 10) : DmaSem sig := ((cc0_scoped1.slice (Rect.unit (s := S10) (cellOff s) S1.size (xcOff_inb s))).squeeze S_ squeezes_S1_S_).sem
abbrev tcell (s : Fin 2) : DmaSem sig := ((cc0_scoped3.slice (Rect.unit (s := S2) (cellOff s) S1.size (rcOff_inb s))).squeeze S_ squeezes_S1_S_).sem
abbrev ocell (s : Fin 2) : DmaSem sig := ((cc0_scoped5.slice (Rect.unit (s := S2) (cellOff s) S1.size (rcOff_inb s))).squeeze S_ squeezes_S1_S_).sem

/-! ## Values -/

/-- Squeezing away the leading axis of a block of 256 rows, on indices. -/
theorem numel_x : S256x4096.numel = S1x256x4096.numel := squeezes_S1x256x4096_S256x4096.numel_eq
theorem numel_r : S256x8.numel = S1x256x8.numel := squeezes_S1x256x8_S256x8.numel_eq

section Run

variable (c : Dev nD)
  (X : Buf (Elt F) (xM.view.loc (c : Thread nD τ))) (W : Buf (Elt F) (wM.view.loc (c : Thread nD τ)))

/-- Block `b` of `x` as a slot of the ring holds it. -/
def xv (b : Fin 128) : S1x256x4096.Idx → Elt F .f32 := fun i => (xblk b).view.read (Elt F) X ((Shape.reshapeEquiv numel_x).symm i)

/-! ## What the core holds of a slot, a block, a transfer -/

abbrev xhome (b : Fin 128) : sProp 𝕄 := (xblk b).view.loc (c : Thread nD τ) ↦[(xblk b).view.set]{fullShare} X
abbrev xslotP (s : Fin 10) (f : Buf (Elt F) ((xslot s).view.loc (c : Thread nD τ))) : sProp 𝕄 :=
  (xslot s).view.loc (c : Thread nD τ) ↦[(xslot s).view.set]{fullShare} f
abbrev xcellP (s : Fin 10) : sProp 𝕄 := semVal ((c : Thread nD τ), SemLoc.dma (xcell s)) 0
/-- A free slot of the ring of `x` blocks, its cell at zero. -/
def xfree (s : Fin 10) : sProp 𝕄 := iprop((∃ f, xslotP (F := F) c s f) ∗ xcellP (F := F) c s)
/-- Slot `s` holding block `b`. -/
def xfull (s : Fin 10) (b : Fin 128) : sProp 𝕄 :=
  iprop(∃ f, ⌜(xslot s).view.read (Elt F) f = (xblk b).view.read (Elt F) X⌝ ∗ xslotP (F := F) c s f)
/-- Block `b` on its way into slot `s`. -/
def xflight (s : Fin 10) (b : Fin 128) : sProp 𝕄 :=
  Transfers.Flight countersEmb (c : Thread nD τ) (SemLoc.dma (xcell s)) () ((xslot s).view.amount (SemLoc.dma (xcell s)))
    iprop(xfull c X s b ∗ xhome c X b)

abbrev tslotP (s : Fin 2) (f : Buf (Elt F) ((tslot s).view.loc (c : Thread nD τ))) : sProp 𝕄 :=
  (tslot s).view.loc (c : Thread nD τ) ↦[(tslot s).view.set]{fullShare} f
abbrev tcellP (s : Fin 2) : sProp 𝕄 := semVal ((c : Thread nD τ), SemLoc.dma (tcell s)) 0
abbrev tblkP (b : Fin 128) (f : Buf (Elt F) ((tblk b).view.loc (c : Thread nD τ))) : sProp 𝕄 :=
  (tblk b).view.loc (c : Thread nD τ) ↦[(tblk b).view.set]{fullShare} f
def tfree (s : Fin 2) : sProp 𝕄 := iprop((∃ f, tslotP (F := F) c s f) ∗ tcellP (F := F) c s)
/-- Block `b` of the index result holding `v`. -/
def tdone (b : Fin 128) (v : S256x8.Idx → Elt F .i32) : sProp 𝕄 :=
  iprop(∃ f, ⌜(tblk b).view.read (Elt F) f = v⌝ ∗ tblkP (F := F) c b f)
/-- Slot `s` on its way out to block `b` of the index result, with `v`. -/
def tflight (s : Fin 2) (b : Fin 128) (v : S256x8.Idx → Elt F .i32) : sProp 𝕄 :=
  Transfers.Flight countersEmb (c : Thread nD τ) (SemLoc.dma (tcell s)) () ((tblk b).view.amount (SemLoc.dma (tcell s)))
    iprop(tdone c b v ∗ ∃ f, tslotP (F := F) c s f)

abbrev oslotP (s : Fin 2) (f : Buf (Elt F) ((oslot s).view.loc (c : Thread nD τ))) : sProp 𝕄 :=
  (oslot s).view.loc (c : Thread nD τ) ↦[(oslot s).view.set]{fullShare} f
abbrev ocellP (s : Fin 2) : sProp 𝕄 := semVal ((c : Thread nD τ), SemLoc.dma (ocell s)) 0
abbrev oblkP (b : Fin 128) (f : Buf (Elt F) ((oblk b).view.loc (c : Thread nD τ))) : sProp 𝕄 :=
  (oblk b).view.loc (c : Thread nD τ) ↦[(oblk b).view.set]{fullShare} f
def ofree (s : Fin 2) : sProp 𝕄 := iprop((∃ f, oslotP (F := F) c s f) ∗ ocellP (F := F) c s)
/-- Block `b` of the weight result holding `v`. -/
def odone (b : Fin 128) (v : S256x8.Idx → Elt F .f32) : sProp 𝕄 :=
  iprop(∃ f, ⌜(oblk b).view.read (Elt F) f = v⌝ ∗ oblkP (F := F) c b f)
/-- Slot `s` on its way out to block `b` of the weight result, with `v`. -/
def oflight (s : Fin 2) (b : Fin 128) (v : S256x8.Idx → Elt F .f32) : sProp 𝕄 :=
  Transfers.Flight countersEmb (c : Thread nD τ) (SemLoc.dma (ocell s)) () ((oblk b).view.amount (SemLoc.dma (ocell s)))
    iprop(odone c b v ∗ ∃ f, oslotP (F := F) c s f)

/-- What the core owes: nothing, whatever it has waited for. -/
def owesP : sProp 𝕄 := iprop(∃ Ws, owes (c : Thread nD τ) 0 Ws)

theorem xamount_pos : ∀ s : Fin 10, 0 < (xslot s).view.amount (SemLoc.dma (xcell s)) := by decide
theorem tamount_pos : ∀ (s : Fin 2) (b : Fin 128), 0 < (tblk b).view.amount (SemLoc.dma (tcell s)) := by decide
theorem oamount_pos : ∀ (s : Fin 2) (b : Fin 128), 0 < (oblk b).view.amount (SemLoc.dma (ocell s)) := by decide

/-! ## The transfers -/

/-- The transfer as it is issued, the slot at what it held, is the block on its way. -/
theorem xflight_intro (s : Fin 10) (b : Fin 128) (f : Buf (Elt F) ((xslot s).view.loc (c : Thread nD τ))) :
    (Transfers.Flight countersEmb (c : Thread nD τ) (SemLoc.dma (xcell s)) () ((xslot s).view.amount (SemLoc.dma (xcell s)))
      iprop(xslotP (F := F) c s ((xslot s).view.write (Elt F) f (ReadAs.same.apply ((xblk b).view.read (Elt F) X)) Finset.univ) ∗ xhome c X b) : sProp 𝕄)
      ⊢ xflight c X s b := by
  unfold xflight
  refine Transfers.Flight_mono countersEmb (c : Thread nD τ) ?_
  iintro ⟨Hs, Hx⟩
  isplitl [Hs]
  · unfold xfull
    iexists _
    isplitr
    rotate_left
    · iexact Hs
    · ipureintro; exact View.read_write_univ _ _
  · iexact Hx
theorem xcredit (s : Fin 10) : (xslot s).view.dmaCredit = (xslot s).view.amount (SemLoc.dma (xcell s)) := rfl

/-- The same for a slot on its way out. -/
theorem tflight_intro (s : Fin 2) (b : Fin 128) (v : S256x8.Idx → Elt F .i32) (fs : Buf (Elt F) ((tslot s).view.loc (c : Thread nD τ)))
    (f : Buf (Elt F) ((tblk b).view.loc (c : Thread nD τ))) (hf : (tslot s).view.read (Elt F) fs = v) :
    (Transfers.Flight countersEmb (c : Thread nD τ) (SemLoc.dma (tcell s)) () ((tblk b).view.amount (SemLoc.dma (tcell s)))
      iprop(tblkP (F := F) c b ((tblk b).view.write (Elt F) f (ReadAs.same.apply ((tslot s).view.read (Elt F) fs)) Finset.univ) ∗ tslotP (F := F) c s fs) : sProp 𝕄)
      ⊢ tflight c s b v := by
  unfold tflight
  refine Transfers.Flight_mono countersEmb (c : Thread nD τ) ?_
  iintro ⟨Hb, Hs⟩
  isplitl [Hb]
  · unfold tdone
    iexists _
    isplitr
    rotate_left
    · iexact Hb
    · ipureintro; exact (View.read_write_univ _ _).trans hf
  · iexists _; iexact Hs
theorem tcredit (s : Fin 2) (b : Fin 128) : (tblk b).view.dmaCredit = (tblk b).view.amount (SemLoc.dma (tcell s)) := rfl

/-- The same for a slot on its way out. -/
theorem oflight_intro (s : Fin 2) (b : Fin 128) (v : S256x8.Idx → Elt F .f32) (fs : Buf (Elt F) ((oslot s).view.loc (c : Thread nD τ)))
    (f : Buf (Elt F) ((oblk b).view.loc (c : Thread nD τ))) (hf : (oslot s).view.read (Elt F) fs = v) :
    (Transfers.Flight countersEmb (c : Thread nD τ) (SemLoc.dma (ocell s)) () ((oblk b).view.amount (SemLoc.dma (ocell s)))
      iprop(oblkP (F := F) c b ((oblk b).view.write (Elt F) f (ReadAs.same.apply ((oslot s).view.read (Elt F) fs)) Finset.univ) ∗ oslotP (F := F) c s fs) : sProp 𝕄)
      ⊢ oflight c s b v := by
  unfold oflight
  refine Transfers.Flight_mono countersEmb (c : Thread nD τ) ?_
  iintro ⟨Hb, Hs⟩
  isplitl [Hb]
  · unfold odone
    iexists _
    isplitr
    rotate_left
    · iexact Hb
    · ipureintro; exact (View.read_write_univ _ _).trans hf
  · iexists _; iexact Hs
theorem ocredit (s : Fin 2) (b : Fin 128) : (oblk b).view.dmaCredit = (oblk b).view.amount (SemLoc.dma (ocell s)) := rfl

section Rules
variable {α : Type} (bd : Option 𝒱₀.V)

/-- Issuing block `b` of `x` into the free slot `s`. -/
theorem x_issue (s : Fin 10) (b : Fin 128) {o1 : Fin 1 → Nat} {o2 : Fin 3 → Nat} {o3 : Fin 2 → Nat}
    (h1 : o1 = cellOff s) (h2 : o2 = slotOff s) (h3 : o3 = blkOff b) {i1 i2 i3 p1 p2 p3 p4 p5}
    {Q : α → sProp 𝕄}
    {k : PUnit → Prog (TpuEff nD τ sig (Elt F) (Λ₀ F) .tc) α} :
    iprop(xfree c s ∗ xhome c X b)
      ⊢ iprop((xflight c X s b -∗ wp frame (wpE (defs₀ (F := F)) 𝒱₀ (c : Thread nD τ) bd) Set.univ (k ⟨⟩) Q)
        -∗ wp frame (wpE (defs₀ (F := F)) 𝒱₀ (c : Thread nD τ) bd) Set.univ
            (.op (.enqueueDma (xM.slice (Rect.unit (s := S32768x4096) o3 S256x4096.size i3) p1)
              (.here ((xbM.slice (Rect.unit (s := S10x256x4096) o2 S1x256x4096.size i2) p2).squeeze S256x4096 squeezes_S1x256x4096_S256x4096))
              (.dma ((cc0_scoped1.slice (Rect.unit (s := S10) o1 S1.size i1)).squeeze S_ squeezes_S1_S_).sem) p3 p4 p5) k) Q) := by
  subst h1 h2 h3
  unfold xfree
  iintro ⟨⟨⟨%f, Hs⟩, Hc⟩, Hx⟩ Hk
  iapply (Transfers.wp_dmaLocal countersEmb 𝒱₀ (c : Thread nD τ) bd () _ rfl (xamount_pos s) (Finset.Subset.refl _)) $$ [Hs Hc Hx]
  · isplitl [Hx]; · iexact Hx
    isplitl [Hs] <;> iassumption
  iintro Hf
  iapply Hk
  iapply (xflight_intro c X s b f) $$ Hf

/-- Waiting for block `b` of `x` in slot `s`. -/
theorem x_wait (s : Fin 10) (b : Fin 128) {o1 : Fin 1 → Nat} {o2 : Fin 3 → Nat} {o3 : Fin 2 → Nat}
    (h1 : o1 = cellOff s) (h2 : o2 = slotOff s) (h3 : o3 = blkOff b) {i1 i2 i3 p1 p2 p3 p4}
    {Q : α → sProp 𝕄}
    {k : PUnit → Prog (TpuEff nD τ sig (Elt F) (Λ₀ F) .tc) α} :
    iprop(xflight c X s b ∗ owesP (F := F) c)
      ⊢ iprop((iprop(xfull c X s b ∗ xcellP (F := F) c s ∗ xhome c X b ∗ owesP (F := F) c) -∗ wp frame (wpE (defs₀ (F := F)) 𝒱₀ (c : Thread nD τ) bd) Set.univ (k ⟨⟩) Q)
        -∗ wp frame (wpE (defs₀ (F := F)) 𝒱₀ (c : Thread nD τ) bd) Set.univ
            (.op (.waitDma2 ((cc0_scoped1.slice (Rect.unit (s := S10) o1 S1.size i1)).squeeze S_ squeezes_S1_S_).sem
              (xM.slice (Rect.unit (s := S32768x4096) o3 S256x4096.size i3) p1)
              ((xbM.slice (Rect.unit (s := S10x256x4096) o2 S1x256x4096.size i2) p2).squeeze S256x4096 squeezes_S1x256x4096_S256x4096) p3 p4) k) Q) := by
  subst h1 h2 h3
  unfold xflight owesP
  iintro ⟨Hf, ⟨%Ws, HW⟩⟩ Hk
  iapply (Transfers.wp_waitLocal countersEmb 𝒱₀ (c : Thread nD τ) bd () (xcredit s)) $$ [Hf HW]
  · isplitl [Hf] <;> iassumption
  iintro ⟨⟨Hd, Hs⟩, Hc, HW⟩
  iapply Hk
  isplitl [Hd]; · iexact Hd
  isplitl [Hc]; · iexact Hc
  isplitl [Hs]; · iexact Hs
  iexists _; iexact HW

/-- Sending the filled slot `s` out to block `b` of the index result. -/
theorem t_issue (s : Fin 2) (b : Fin 128) (v : S256x8.Idx → Elt F .i32) {o1 : Fin 1 → Nat} {o2 : Fin 2 → Nat} {o3 : Fin 3 → Nat}
    (h1 : o1 = cellOff s) (h2 : o2 = blkOff b) (h3 : o3 = slotOff s) {i1 i2 i3 p1 p2 p3 p4 p5}
    {Q : α → sProp 𝕄}
    {k : PUnit → Prog (TpuEff nD τ sig (Elt F) (Λ₀ F) .tc) α} :
    iprop((∃ f, ⌜(tslot s).view.read (Elt F) f = v⌝ ∗ tslotP (F := F) c s f) ∗ tcellP (F := F) c s ∗ ∃ f, tblkP (F := F) c b f)
      ⊢ iprop((tflight c s b v -∗ wp frame (wpE (defs₀ (F := F)) 𝒱₀ (c : Thread nD τ) bd) Set.univ (k ⟨⟩) Q)
        -∗ wp frame (wpE (defs₀ (F := F)) 𝒱₀ (c : Thread nD τ) bd) Set.univ
            (.op (.enqueueDma ((tbM.slice (Rect.unit (s := S2x256x8) o3 S1x256x8.size i3) p2).squeeze S256x8 squeezes_S1x256x8_S256x8)
              (.here (tM.slice (Rect.unit (s := S32768x8) o2 S256x8.size i2) p1))
              (.dma ((cc0_scoped3.slice (Rect.unit (s := S2) o1 S1.size i1)).squeeze S_ squeezes_S1_S_).sem) p3 p4 p5) k) Q) := by
  subst h1 h2 h3
  iintro ⟨⟨%fs, %hf, Hs⟩, Hc, ⟨%f, Hb⟩⟩ Hk
  iapply (Transfers.wp_dmaLocal countersEmb 𝒱₀ (c : Thread nD τ) bd () _ rfl (tamount_pos s b) (Finset.Subset.refl _)) $$ [Hs Hc Hb]
  · isplitl [Hs]; · iexact Hs
    isplitl [Hb] <;> iassumption
  iintro Hf
  iapply Hk
  iapply (tflight_intro c s b v fs f hf) $$ Hf

/-- Waiting for slot `s` to reach block `b` of the index result. -/
theorem t_wait (s : Fin 2) (b : Fin 128) (v : S256x8.Idx → Elt F .i32) {o1 : Fin 1 → Nat} {o2 : Fin 2 → Nat} {o3 : Fin 3 → Nat}
    (h1 : o1 = cellOff s) (h2 : o2 = blkOff b) (h3 : o3 = slotOff s) {i1 i2 i3 p1 p2 p3 p4}
    {Q : α → sProp 𝕄}
    {k : PUnit → Prog (TpuEff nD τ sig (Elt F) (Λ₀ F) .tc) α} :
    iprop(tflight c s b v ∗ owesP (F := F) c)
      ⊢ iprop((iprop(tdone c b v ∗ tfree (F := F) c s ∗ owesP (F := F) c) -∗ wp frame (wpE (defs₀ (F := F)) 𝒱₀ (c : Thread nD τ) bd) Set.univ (k ⟨⟩) Q)
        -∗ wp frame (wpE (defs₀ (F := F)) 𝒱₀ (c : Thread nD τ) bd) Set.univ
            (.op (.waitDma2 ((cc0_scoped3.slice (Rect.unit (s := S2) o1 S1.size i1)).squeeze S_ squeezes_S1_S_).sem
              ((tbM.slice (Rect.unit (s := S2x256x8) o3 S1x256x8.size i3) p2).squeeze S256x8 squeezes_S1x256x8_S256x8)
              (tM.slice (Rect.unit (s := S32768x8) o2 S256x8.size i2) p1) p3 p4) k) Q) := by
  subst h1 h2 h3
  unfold tflight owesP
  iintro ⟨Hf, ⟨%Ws, HW⟩⟩ Hk
  iapply (Transfers.wp_waitLocal countersEmb 𝒱₀ (c : Thread nD τ) bd () (tcredit s b)) $$ [Hf HW]
  · isplitl [Hf] <;> iassumption
  iintro ⟨⟨Hd, Hs⟩, Hc, HW⟩
  iapply Hk
  isplitl [Hd]; · iexact Hd
  isplitl [Hs Hc]
  · unfold tfree
    isplitl [Hs]; · iexact Hs
    iexact Hc
  · iexists _; iexact HW

/-- Sending the filled slot `s` out to block `b` of the weight result. -/
theorem o_issue (s : Fin 2) (b : Fin 128) (v : S256x8.Idx → Elt F .f32) {o1 : Fin 1 → Nat} {o2 : Fin 2 → Nat} {o3 : Fin 3 → Nat}
    (h1 : o1 = cellOff s) (h2 : o2 = blkOff b) (h3 : o3 = slotOff s) {i1 i2 i3 p1 p2 p3 p4 p5}
    {Q : α → sProp 𝕄}
    {k : PUnit → Prog (TpuEff nD τ sig (Elt F) (Λ₀ F) .tc) α} :
    iprop((∃ f, ⌜(oslot s).view.read (Elt F) f = v⌝ ∗ oslotP (F := F) c s f) ∗ ocellP (F := F) c s ∗ ∃ f, oblkP (F := F) c b f)
      ⊢ iprop((oflight c s b v -∗ wp frame (wpE (defs₀ (F := F)) 𝒱₀ (c : Thread nD τ) bd) Set.univ (k ⟨⟩) Q)
        -∗ wp frame (wpE (defs₀ (F := F)) 𝒱₀ (c : Thread nD τ) bd) Set.univ
            (.op (.enqueueDma ((obM.slice (Rect.unit (s := S2x256x8) o3 S1x256x8.size i3) p2).squeeze S256x8 squeezes_S1x256x8_S256x8)
              (.here (oM.slice (Rect.unit (s := S32768x8) o2 S256x8.size i2) p1))
              (.dma ((cc0_scoped5.slice (Rect.unit (s := S2) o1 S1.size i1)).squeeze S_ squeezes_S1_S_).sem) p3 p4 p5) k) Q) := by
  subst h1 h2 h3
  iintro ⟨⟨%fs, %hf, Hs⟩, Hc, ⟨%f, Hb⟩⟩ Hk
  iapply (Transfers.wp_dmaLocal countersEmb 𝒱₀ (c : Thread nD τ) bd () _ rfl (oamount_pos s b) (Finset.Subset.refl _)) $$ [Hs Hc Hb]
  · isplitl [Hs]; · iexact Hs
    isplitl [Hb] <;> iassumption
  iintro Hf
  iapply Hk
  iapply (oflight_intro c s b v fs f hf) $$ Hf

/-- Waiting for slot `s` to reach block `b` of the weight result. -/
theorem o_wait (s : Fin 2) (b : Fin 128) (v : S256x8.Idx → Elt F .f32) {o1 : Fin 1 → Nat} {o2 : Fin 2 → Nat} {o3 : Fin 3 → Nat}
    (h1 : o1 = cellOff s) (h2 : o2 = blkOff b) (h3 : o3 = slotOff s) {i1 i2 i3 p1 p2 p3 p4}
    {Q : α → sProp 𝕄}
    {k : PUnit → Prog (TpuEff nD τ sig (Elt F) (Λ₀ F) .tc) α} :
    iprop(oflight c s b v ∗ owesP (F := F) c)
      ⊢ iprop((iprop(odone c b v ∗ ofree (F := F) c s ∗ owesP (F := F) c) -∗ wp frame (wpE (defs₀ (F := F)) 𝒱₀ (c : Thread nD τ) bd) Set.univ (k ⟨⟩) Q)
        -∗ wp frame (wpE (defs₀ (F := F)) 𝒱₀ (c : Thread nD τ) bd) Set.univ
            (.op (.waitDma2 ((cc0_scoped5.slice (Rect.unit (s := S2) o1 S1.size i1)).squeeze S_ squeezes_S1_S_).sem
              ((obM.slice (Rect.unit (s := S2x256x8) o3 S1x256x8.size i3) p2).squeeze S256x8 squeezes_S1x256x8_S256x8)
              (oM.slice (Rect.unit (s := S32768x8) o2 S256x8.size i2) p1) p3 p4) k) Q) := by
  subst h1 h2 h3
  unfold oflight owesP
  iintro ⟨Hf, ⟨%Ws, HW⟩⟩ Hk
  iapply (Transfers.wp_waitLocal countersEmb 𝒱₀ (c : Thread nD τ) bd () (ocredit s b)) $$ [Hf HW]
  · isplitl [Hf] <;> iassumption
  iintro ⟨⟨Hd, Hs⟩, Hc, HW⟩
  iapply Hk
  isplitl [Hd]; · iexact Hd
  isplitl [Hs Hc]
  · unfold ofree
    isplitl [Hs]; · iexact Hs
    iexact Hc
  · iexists _; iexact HW

/-! ## The accesses -/

theorem xslot_set (s : Fin 10) : (xbM.access (xslotR s)).set ⊆ (xslot s).view.set :=
  Finset.subset_of_eq (View.set_reshape (v := xbM.access (xslotR s)) numel_x).symm

theorem tslot_set (s : Fin 2) : (tbM.access (rslotR s)).set ⊆ (tslot s).view.set :=
  Finset.subset_of_eq (View.set_reshape (v := tbM.access (rslotR s)) numel_r).symm
theorem tslot_setOn (s : Fin 2) : (tbM.access (rslotR s)).setOn Finset.univ ⊆ (tslot s).view.set := tslot_set s

theorem oslot_set (s : Fin 2) : (obM.access (rslotR s)).set ⊆ (oslot s).view.set :=
  Finset.subset_of_eq (View.set_reshape (v := obM.access (rslotR s)) numel_r).symm
theorem oslot_setOn (s : Fin 2) : (obM.access (rslotR s)).setOn Finset.univ ⊆ (oslot s).view.set := oslot_set s

omit [FloatOps F] in
/-- The window of slot `s`, read before its leading axis is squeezed away. -/
theorem xv_of_full (s : Fin 10) (b : Fin 128) (f : Buf (Elt F) ((xslot s).view.loc (c : Thread nD τ)))
    (h : (xslot s).view.read (Elt F) f = (xblk b).view.read (Elt F) X) :
    (xbM.access (xslotR s)).read (Elt F) f = xv c X b := by
  funext i
  have e := congrFun h ((Shape.reshapeEquiv numel_x).symm i)
  unfold xv
  rw [← e]
  show (xbM.access (xslotR s)).read (Elt F) f i = (xbM.access (xslotR s)).read (Elt F) f (Shape.reshapeEquiv numel_x ((Shape.reshapeEquiv numel_x).symm i))
  rw [Equiv.apply_symm_apply]

/-- Loading slot `s`, which holds block `b`. -/
theorem x_load (s : Fin 10) (b : Fin 128) {o : Fin 3 → Nat} (h : o = slotOff s) {i1 p1}
    {Q : α → sProp 𝕄}
    {k : (S1x256x4096.Idx → Elt F .f32) → Prog (TpuEff nD τ sig (Elt F) (Λ₀ F) .tc) α} :
    xfull c X s b
      ⊢ iprop((xfull c X s b -∗ wp frame (wpE (defs₀ (F := F)) 𝒱₀ (c : Thread nD τ) bd) Set.univ (k (xv c X b)) Q)
        -∗ wp frame (wpE (defs₀ (F := F)) 𝒱₀ (c : Thread nD τ) bd) Set.univ
            (.op (.load xbM (Rect.unit (s := S10x256x4096) o S1x256x4096.size i1).toLoadRect p1) k) Q) := by
  subst h
  unfold xfull
  iintro ⟨%f, %hf, Hs⟩ Hk
  iapply (wp_load_rect 𝒱₀ (c : Thread nD τ) bd Set.univ (m := xbM) (r := xslotR s) (S := (xslot s).view.set) (f := f)
    (xslot_set s)) $$ Hs
  iintro Hs
  rw [xv_of_full c X s b f hf]
  iapply Hk
  iexists f
  isplitr
  · ipureintro; exact hf
  · iexact Hs

/-- Loading the index slot `s`: some contents, not looked at. -/
theorem t_load (s : Fin 2) {o : Fin 3 → Nat} (h : o = slotOff s) {i1 p1}
    {Q : α → sProp 𝕄}
    {k : (S1x256x8.Idx → Elt F .i32) → Prog (TpuEff nD τ sig (Elt F) (Λ₀ F) .tc) α} :
    iprop(∃ f, tslotP (F := F) c s f)
      ⊢ iprop((∀ w, (∃ f, tslotP (F := F) c s f) -∗ wp frame (wpE (defs₀ (F := F)) 𝒱₀ (c : Thread nD τ) bd) Set.univ (k w) Q)
        -∗ wp frame (wpE (defs₀ (F := F)) 𝒱₀ (c : Thread nD τ) bd) Set.univ
            (.op (.load tbM (Rect.unit (s := S2x256x8) o S1x256x8.size i1).toLoadRect p1) k) Q) := by
  subst h
  iintro ⟨%f, Hs⟩ Hk
  iapply (wp_load_rect 𝒱₀ (c : Thread nD τ) bd Set.univ (m := tbM) (r := rslotR s) (S := (tslot s).view.set) (f := f)
    (tslot_set s)) $$ Hs
  iintro Hs
  iapply Hk $$ %_
  iexists f; iexact Hs

/-- Storing `w` over the index slot `s`. -/
theorem t_store (s : Fin 2) (w : S1x256x8.Idx → Elt F .i32) {o : Fin 3 → Nat} (h : o = slotOff s) {i1 p1 p2}
    {Q : α → sProp 𝕄}
    {k : PUnit → Prog (TpuEff nD τ sig (Elt F) (Λ₀ F) .tc) α} :
    iprop(∃ f, tslotP (F := F) c s f)
      ⊢ iprop(((∃ f, ⌜(tslot s).view.read (Elt F) f = fun i => w (Shape.reshapeEquiv numel_r i)⌝ ∗ tslotP (F := F) c s f)
            -∗ wp frame (wpE (defs₀ (F := F)) 𝒱₀ (c : Thread nD τ) bd) Set.univ (k ⟨⟩) Q)
        -∗ wp frame (wpE (defs₀ (F := F)) 𝒱₀ (c : Thread nD τ) bd) Set.univ
            (.op (.store tbM (Rect.unit (s := S2x256x8) o S1x256x8.size i1) w Finset.univ p1 p2) k) Q) := by
  subst h
  iintro ⟨%f, Hs⟩ Hk
  iapply (wp_store 𝒱₀ (c : Thread nD τ) bd Set.univ (m := tbM) (r := rslotR s) (S := (tslot s).view.set) (f := f)
    (tslot_setOn s)) $$ Hs
  iintro Hs
  iapply Hk
  iexists _
  isplitr
  · ipureintro
    funext i
    exact congrFun (View.read_write_univ (v := tbM.access (rslotR s)) f w) (Shape.reshapeEquiv numel_r i)
  · iexact Hs

/-- Loading the weight slot `s`: some contents, not looked at. -/
theorem o_load (s : Fin 2) {o : Fin 3 → Nat} (h : o = slotOff s) {i1 p1}
    {Q : α → sProp 𝕄}
    {k : (S1x256x8.Idx → Elt F .f32) → Prog (TpuEff nD τ sig (Elt F) (Λ₀ F) .tc) α} :
    iprop(∃ f, oslotP (F := F) c s f)
      ⊢ iprop((∀ w, (∃ f, oslotP (F := F) c s f) -∗ wp frame (wpE (defs₀ (F := F)) 𝒱₀ (c : Thread nD τ) bd) Set.univ (k w) Q)
        -∗ wp frame (wpE (defs₀ (F := F)) 𝒱₀ (c : Thread nD τ) bd) Set.univ
            (.op (.load obM (Rect.unit (s := S2x256x8) o S1x256x8.size i1).toLoadRect p1) k) Q) := by
  subst h
  iintro ⟨%f, Hs⟩ Hk
  iapply (wp_load_rect 𝒱₀ (c : Thread nD τ) bd Set.univ (m := obM) (r := rslotR s) (S := (oslot s).view.set) (f := f)
    (oslot_set s)) $$ Hs
  iintro Hs
  iapply Hk $$ %_
  iexists f; iexact Hs

/-- Storing `w` over the weight slot `s`. -/
theorem o_store (s : Fin 2) (w : S1x256x8.Idx → Elt F .f32) {o : Fin 3 → Nat} (h : o = slotOff s) {i1 p1 p2}
    {Q : α → sProp 𝕄}
    {k : PUnit → Prog (TpuEff nD τ sig (Elt F) (Λ₀ F) .tc) α} :
    iprop(∃ f, oslotP (F := F) c s f)
      ⊢ iprop(((∃ f, ⌜(oslot s).view.read (Elt F) f = fun i => w (Shape.reshapeEquiv numel_r i)⌝ ∗ oslotP (F := F) c s f)
            -∗ wp frame (wpE (defs₀ (F := F)) 𝒱₀ (c : Thread nD τ) bd) Set.univ (k ⟨⟩) Q)
        -∗ wp frame (wpE (defs₀ (F := F)) 𝒱₀ (c : Thread nD τ) bd) Set.univ
            (.op (.store obM (Rect.unit (s := S2x256x8) o S1x256x8.size i1) w Finset.univ p1 p2) k) Q) := by
  subst h
  iintro ⟨%f, Hs⟩ Hk
  iapply (wp_store 𝒱₀ (c : Thread nD τ) bd Set.univ (m := obM) (r := rslotR s) (S := (oslot s).view.set) (f := f)
    (oslot_setOn s)) $$ Hs
  iintro Hs
  iapply Hk
  iexists _
  isplitr
  · ipureintro
    funext i
    exact congrFun (View.read_write_univ (v := obM.access (rslotR s)) f w) (Shape.reshapeEquiv numel_r i)
  · iexact Hs

end Rules
end Run

end Cert.Proof.K2

end
-- ==== Proof.K2.Words.lean ====
/-
  The index arithmetic of the router's pipeline, word by word: which block, slot and cell each transfer names at each trip,
  which tests pass, and what the counters carried round the loop become. Every fact is over a bounded range of trips and
  is decided.
-/
module

public import proofs.«01_k».proof.Proof.K2.Names

@[expose] public section

namespace Cert.Proof.K2

open Cert.Kernel2Ideal Cert.Kernel2Ideal.Gen
open Idealize.ShloMosaic
open Idealize.ShloMosaic.Ring (sl bk)

/-- The word of a counter. -/
abbrev wd (n : ℕ) : BitVec 32 := BitVec.ofNat 32 n

/-- The trips of the pipeline's loop. -/
abbrev T := Fin k0_t1_loop.trips

theorem trips_eq : k0_t1_loop.trips = 128 := by decide +kernel
theorem lt_trips (t : T) : t.val < 128 := trips_eq ▸ t.isLt

/-! ## Looking ahead: block `i + 1` after block `i` -/

theorem w_test (i : Fin 127) : Scalar.cmpi .slt (wd (i.val + 1)) 128#32 = 1#1 := by revert i; decide +kernel
theorem w_chk18 (i : Fin 127) : k0_chk18 (wd i.val) (wd (i.val + 1)) := by revert i; decide +kernel
theorem w_chk17 (i : Fin 127) : k0_chk17 (wd i.val) (wd (i.val + 1)) (wd (i.val + 1)) := by revert i; decide +kernel
theorem w_cond9 (i : Fin 127) : k0_cond9 (wd i.val) (wd (i.val + 1)) = 1#1 := by revert i; decide +kernel
theorem w_off28 (i : Fin 127) : k0_off28 (wd (i.val + 1)) = cellOff (sl 10 (i.val + 1)) := by revert i; decide +kernel
theorem w_off29 (i : Fin 127) : k0_off29 (wd (i.val + 1)) = slotOff (sl 10 (i.val + 1)) := by revert i; decide +kernel
theorem w_off30 (i : Fin 127) : k0_off30 (wd (i.val + 1)) = blkOff (bk 128 (i.val + 1)) := by revert i; decide +kernel
theorem w_next (i : Fin 127) : Scalar.select 0#1 0#32 (Scalar.select 1#1 (Scalar.addi (wd (i.val + 1)) 1#32) (wd (i.val + 1))) = wd (i.val + 2) := by
  revert i; decide +kernel
theorem w_count (i : Fin 127) :
    Scalar.addi (wd (i.val + 1)) (Scalar.extui (Scalar.cmpi .ne (Scalar.addi (wd i.val) 0#32) (Scalar.addi (wd (i.val + 1)) 0#32))) = wd (i.val + 2) := by
  revert i; decide +kernel
theorem w_bound (t : T) : Scalar.addi (wd t.val) 10#32 = wd (t.val + 10) := by revert t; decide +kernel
theorem w_go (t : T) (h : t.val + 9 < 128) : Scalar.cmpi .ult (wd (t.val + 9)) (wd (t.val + 10)) = 1#1 := by revert t; decide +kernel
theorem w_stop (t : T) : Scalar.cmpi .ult (wd (t.val + 10)) (wd (t.val + 10)) = 0#1 := by revert t; decide +kernel

/-- The next block to look ahead to, after the last one sent for. -/
abbrev ahead (t : ℕ) : ℕ := min (t + 8) 127
/-- How many blocks have been sent for. -/
abbrev sent (t : ℕ) : ℕ := min (t + 9) 128
/-- The grid index, which wraps at the end. -/
abbrev gridIx (t : ℕ) : ℕ := if t = 128 then 0 else t
theorem w_after (t : T) : Scalar.select 0#1 0#32 (Scalar.select 1#1 (Scalar.addi (wd (ahead t.val)) 1#32) (wd (ahead t.val))) = wd (ahead t.val + 1) := by
  revert t; decide +kernel
theorem w_end (t : T) (h : ¬ t.val + 9 < 128) : Scalar.cmpi .slt (wd (ahead t.val + 1)) 128#32 = 0#1 := by revert t; decide +kernel

/-! ## A trip's transfers -/

theorem w_gridIx (t : T) : gridIx t.val = t.val := if_neg (lt_trips t).ne
theorem w_chk22 (t : T) : k0_chk22 (wd t.val) := by revert t; decide +kernel
theorem w_chk21 (t : T) : k0_chk21 (wd t.val) := by revert t; decide +kernel
theorem w_chk20 (t : T) : k0_chk20 (wd t.val) := by revert t; decide +kernel
theorem w_chk19 (t : T) : k0_chk19 t (wd t.val) (wd t.val) (wd (t.val - 1)) (wd t.val) (wd (t.val - 1)) (wd t.val) := by revert t; decide +kernel
theorem w_cond10 (t : T) : k0_cond10 t (wd t.val) = 1#1 := by revert t; decide +kernel
theorem w_cond14 (t : T) : k0_cond14 t (wd t.val) = 1#1 := by revert t; decide +kernel
theorem w_cond15 (t : T) : k0_cond15 t (wd t.val) = 1#1 := by revert t; decide +kernel
theorem w_cond17 (t : T) : k0_cond17 t (wd t.val) = 1#1 ↔ t.val ≠ 0 := by revert t; decide +kernel
theorem w_cond18 (t : T) : k0_cond18 t (wd t.val) = 1#1 ↔ t.val ≠ 0 := by revert t; decide +kernel
theorem w_off31 (t : T) : k0_off31 (wd t.val) = cellOff (sl 10 t.val) := by revert t; decide +kernel
theorem w_off32 (t : T) : k0_off32 (wd t.val) = slotOff (sl 10 t.val) := by revert t; decide +kernel
theorem w_off33 (t : T) : k0_off33 (wd t.val) = blkOff (bk 128 t.val) := by revert t; decide +kernel
theorem w_off34 (t : T) : k0_off34 (wd t.val) = slotOff (sl 10 t.val) := by revert t; decide +kernel
theorem w_off35 (t : T) : k0_off35 (wd t.val) = slotOff (sl 2 t.val) := by revert t; decide +kernel
theorem w_off36 (t : T) : k0_off36 (wd t.val) = slotOff (sl 2 t.val) := by revert t; decide +kernel
theorem w_off37 (t : T) : k0_off37 (wd t.val) = cellOff (sl 2 t.val) := by revert t; decide +kernel
theorem w_off38 (t : T) : k0_off38 (wd t.val) = blkOff (bk 128 t.val) := by revert t; decide +kernel
theorem w_off39 (t : T) : k0_off39 (wd t.val) = slotOff (sl 2 t.val) := by revert t; decide +kernel
theorem w_off40 (t : T) : k0_off40 (wd t.val) = cellOff (sl 2 t.val) := by revert t; decide +kernel
theorem w_off41 (t : T) : k0_off41 (wd t.val) = blkOff (bk 128 t.val) := by revert t; decide +kernel
theorem w_off42 (t : T) : k0_off42 (wd t.val) = slotOff (sl 2 t.val) := by revert t; decide +kernel
theorem w_off43 (t : T) : k0_off43 (wd (t.val - 1)) = cellOff (sl 2 (t.val - 1)) := by revert t; decide +kernel
theorem w_off44 (t : T) (h : t.val ≠ 0) : k0_off44 (wd t.val) = blkOff (bk 128 (t.val - 1)) := by revert t; decide +kernel
theorem w_off45 (t : T) : k0_off45 (wd (t.val - 1)) = slotOff (sl 2 (t.val - 1)) := by revert t; decide +kernel
theorem w_off46 (t : T) : k0_off46 (wd (t.val - 1)) = cellOff (sl 2 (t.val - 1)) := by revert t; decide +kernel
theorem w_off47 (t : T) (h : t.val ≠ 0) : k0_off47 (wd t.val) = blkOff (bk 128 (t.val - 1)) := by revert t; decide +kernel
theorem w_off48 (t : T) : k0_off48 (wd (t.val - 1)) = slotOff (sl 2 (t.val - 1)) := by revert t; decide +kernel

/-! ## After the loop: the last block's results -/

theorem w_chk25 : k0_chk25 (wd 127) := by decide +kernel
theorem w_chk24 : k0_chk24 (wd 0) := by decide +kernel
theorem w_chk23 : k0_chk23 (wd 127) := by decide +kernel
theorem w_off49 : k0_off49 (wd 127) = cellOff (sl 2 127) := by decide +kernel
theorem w_off50 : k0_off50 (wd 0) = blkOff (bk 128 127) := by decide +kernel
theorem w_off51 : k0_off51 (wd 127) = slotOff (sl 2 127) := by decide +kernel
theorem w_off52 : k0_off52 (wd 127) = cellOff (sl 2 127) := by decide +kernel
theorem w_off53 : k0_off53 (wd 0) = blkOff (bk 128 127) := by decide +kernel
theorem w_off54 : k0_off54 (wd 127) = slotOff (sl 2 127) := by decide +kernel

/-! ## Before the loop: block 0 -/

theorem w_off1 : k0_off1 = cellOff (sl 10 0) := by decide +kernel
theorem w_off2 : k0_off2 = slotOff (sl 10 0) := by decide +kernel
theorem w_off3 : k0_off3 = blkOff (bk 128 0) := by decide +kernel

end Cert.Proof.K2

end
-- ==== Proof.K2.Whiles.lean ====
/-
  The nine look-ahead loops. Each sends for the block after the last one sent for, at most once, into the next free slot.
  One program text, `look`, says all nine bodies; a call of any of them, with the counters in step, puts one block in
  flight, and past the last block does nothing.
-/
module

public import proofs.«01_k».proof.Proof.K2.Words

@[expose] public section

noncomputable section

namespace Cert.Proof.K2

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Ring (sl bk)

local notation "𝕄" => MT nD τ sig Unit (Elt F) ℕ (UU nD τ) ℕ

/-- The words a look-ahead loop carries: the last block sent for, the block to send for, how many were sent. -/
abbrev W3 : Type := BitVec 32 × BitVec 32 × BitVec 32
local notation "P3" => Prog (TpuEff nD τ sig (Elt F) (Λ₀ F) Proc.tc) W3

/-- The body of a look-ahead loop whose next round is `again` and which stops at `lim` blocks sent. -/
def look (again : BitVec 32 → BitVec 32 → BitVec 32 → P3) (lim a b n : BitVec 32) : P3 := do
  if Scalar.andi (Scalar.andi 1#1 (Scalar.cmpi .ult n lim)) (Scalar.andi 1#1 (Scalar.cmpi .slt b 128#32)) = 1#1 then do
    have hw18 : k0_chk18 a b := (← Prog.lift (TpuEff.assume (k0_chk18 a b) (k0_chk18.dec a b))).down
    have hw17 : k0_chk17 a b n := (← Prog.lift (TpuEff.assume (k0_chk17 a b n) (k0_chk17.dec a b n))).down
    if h9 : k0_cond9 a b = 1#1 then do
      Prog.lift (.enqueueDma (xM.slice (Rect.unit (s := S32768x4096) (k0_off30 b) S256x4096.size (k0_off30_inb a b hw18 h9)) (fun _ => rfl))
        (.here ((xbM.slice (Rect.unit (s := S10x256x4096) (k0_off29 n) S1x256x4096.size (k0_off29_inb a b n hw17 h9)) (fun _ => rfl)).squeeze S256x4096 squeezes_S1x256x4096_S256x4096))
        (.dma ((cc0_scoped1.slice (Rect.unit (s := S10) (k0_off28 n) S1.size (k0_off28_inb a b n hw17 h9))).squeeze S_ squeezes_S1_S_).sem)
        (View.wordExact_bits rfl) ((View.wordExact_bits rfl).reshape _ _) ⟨Or.inl rfl, trivial⟩)
      pure ⟨⟩
    else do
      pure ⟨⟩
    again b (Scalar.select 0#1 0#32 (Scalar.select 1#1 (Scalar.addi b 1#32) b))
      (Scalar.addi n (Scalar.extui (Scalar.cmpi .ne (Scalar.addi a 0#32) (Scalar.addi b 0#32))))
  else pure (a, b, n)

variable (c : Dev nD) (X : Buf (Elt F) (xM.view.loc (c : Thread nD τ)))

/-- With room below the bound and a block left, one round sends for block `i + 1`. -/
theorem look_send (again : BitVec 32 → BitVec 32 → BitVec 32 → P3) (bd : Option 𝒱₀.V) (i : Fin 127) (lim : BitVec 32)
    (h : Scalar.cmpi .ult (wd (i.val + 1)) lim = 1#1) {Q : W3 → sProp 𝕄} :
    iprop(xfree c (sl 10 (i.val + 1)) ∗ xhome c X (bk 128 (i.val + 1)))
      ⊢ iprop((xflight c X (sl 10 (i.val + 1)) (bk 128 (i.val + 1))
          -∗ wp frame (wpE (defs₀ (F := F)) 𝒱₀ (c : Thread nD τ) bd) Set.univ (again (wd (i.val + 1)) (wd (i.val + 2)) (wd (i.val + 2))) Q)
        -∗ wp frame (wpE (defs₀ (F := F)) 𝒱₀ (c : Thread nD τ) bd) Set.univ (look again lim (wd i.val) (wd (i.val + 1)) (wd (i.val + 1))) Q) := by
  unfold look
  rw [h, w_test i, w_next i, w_count i]
  simp only [show Scalar.andi (Scalar.andi 1#1 1#1) (Scalar.andi 1#1 1#1) = (1#1 : BitVec 1) from by decide, ↓reduceIte,
    Prog.lift, Prog.bind_op, Prog.bind_ret, Prog.pure_eq_ret]
  iintro H Hk
  iapply (wp_assume 𝒱₀ (c : Thread nD τ) bd Set.univ (w_chk18 i))
  iapply (wp_assume 𝒱₀ (c : Thread nD τ) bd Set.univ (w_chk17 i))
  rw [dif_pos (w_cond9 i)]
  simp only [Prog.bind_op, Prog.bind_ret]
  iapply (x_issue c X bd (sl 10 (i.val + 1)) (bk 128 (i.val + 1)) (w_off28 i) (w_off29 i) (w_off30 i)) $$ H
  iintro Hf
  iapply Hk $$ Hf

/-- With the bound reached, or no block left, a round does nothing. -/
theorem look_stop (again : BitVec 32 → BitVec 32 → BitVec 32 → P3) (lim a b n : BitVec 32)
    (h : Scalar.cmpi .ult n lim = 0#1 ∨ Scalar.cmpi .slt b 128#32 = 0#1) :
    look again lim a b n = pure (a, b, n) := by
  unfold look
  refine if_neg ?_
  have key : ∀ p q : BitVec 1, (p = 0#1 ∨ q = 0#1) → ¬ Scalar.andi (Scalar.andi 1#1 p) (Scalar.andi 1#1 q) = 1#1 := by decide
  exact key _ _ h

/-- Look-ahead loop 1 is `look`. -/
theorem loop1_eq (a b n : BitVec 32) :
    defs₀ (F := F) .tc 1 ⟨cc0_scoped1, xbM, Memref.isWhole_whole _, xM, Memref.isWhole_whole _, a, b, n⟩
      = look (fun a b n => (Prog.op (.call (1 : (Λ₀ F).Label) ⟨cc0_scoped1, xbM, Memref.isWhole_whole _, xM, Memref.isWhole_whole _, a, b, n⟩) Prog.ret : P3)) (Scalar.select (Scalar.cmpi .ult (Scalar.addi 0#32 10#32) (Scalar.addi 1#32 1#32)) (Scalar.addi 0#32 10#32) (Scalar.addi 1#32 1#32)) a b n := rfl

/-- Look-ahead loop 2 is `look`. -/
theorem loop2_eq (lim a b n : BitVec 32) :
    defs₀ (F := F) .tc 2 ⟨lim, cc0_scoped1, xbM, Memref.isWhole_whole _, xM, Memref.isWhole_whole _, a, b, n⟩
      = look (fun a b n => (Prog.op (.call (2 : (Λ₀ F).Label) ⟨lim, cc0_scoped1, xbM, Memref.isWhole_whole _, xM, Memref.isWhole_whole _, a, b, n⟩) Prog.ret : P3)) lim a b n := rfl

/-- Look-ahead loop 3 is `look`. -/
theorem loop3_eq (lim a b n : BitVec 32) :
    defs₀ (F := F) .tc 3 ⟨lim, cc0_scoped1, xbM, Memref.isWhole_whole _, xM, Memref.isWhole_whole _, a, b, n⟩
      = look (fun a b n => (Prog.op (.call (3 : (Λ₀ F).Label) ⟨lim, cc0_scoped1, xbM, Memref.isWhole_whole _, xM, Memref.isWhole_whole _, a, b, n⟩) Prog.ret : P3)) lim a b n := rfl

/-- Look-ahead loop 4 is `look`. -/
theorem loop4_eq (lim a b n : BitVec 32) :
    defs₀ (F := F) .tc 4 ⟨lim, cc0_scoped1, xbM, Memref.isWhole_whole _, xM, Memref.isWhole_whole _, a, b, n⟩
      = look (fun a b n => (Prog.op (.call (4 : (Λ₀ F).Label) ⟨lim, cc0_scoped1, xbM, Memref.isWhole_whole _, xM, Memref.isWhole_whole _, a, b, n⟩) Prog.ret : P3)) lim a b n := rfl

/-- Look-ahead loop 5 is `look`. -/
theorem loop5_eq (lim a b n : BitVec 32) :
    defs₀ (F := F) .tc 5 ⟨lim, cc0_scoped1, xbM, Memref.isWhole_whole _, xM, Memref.isWhole_whole _, a, b, n⟩
      = look (fun a b n => (Prog.op (.call (5 : (Λ₀ F).Label) ⟨lim, cc0_scoped1, xbM, Memref.isWhole_whole _, xM, Memref.isWhole_whole _, a, b, n⟩) Prog.ret : P3)) lim a b n := rfl

/-- Look-ahead loop 6 is `look`. -/
theorem loop6_eq (lim a b n : BitVec 32) :
    defs₀ (F := F) .tc 6 ⟨lim, cc0_scoped1, xbM, Memref.isWhole_whole _, xM, Memref.isWhole_whole _, a, b, n⟩
      = look (fun a b n => (Prog.op (.call (6 : (Λ₀ F).Label) ⟨lim, cc0_scoped1, xbM, Memref.isWhole_whole _, xM, Memref.isWhole_whole _, a, b, n⟩) Prog.ret : P3)) lim a b n := rfl

/-- Look-ahead loop 7 is `look`. -/
theorem loop7_eq (lim a b n : BitVec 32) :
    defs₀ (F := F) .tc 7 ⟨lim, cc0_scoped1, xbM, Memref.isWhole_whole _, xM, Memref.isWhole_whole _, a, b, n⟩
      = look (fun a b n => (Prog.op (.call (7 : (Λ₀ F).Label) ⟨lim, cc0_scoped1, xbM, Memref.isWhole_whole _, xM, Memref.isWhole_whole _, a, b, n⟩) Prog.ret : P3)) lim a b n := rfl

/-- Look-ahead loop 8 is `look`. -/
theorem loop8_eq (lim a b n : BitVec 32) :
    defs₀ (F := F) .tc 8 ⟨lim, cc0_scoped1, xbM, Memref.isWhole_whole _, xM, Memref.isWhole_whole _, a, b, n⟩
      = look (fun a b n => (Prog.op (.call (8 : (Λ₀ F).Label) ⟨lim, cc0_scoped1, xbM, Memref.isWhole_whole _, xM, Memref.isWhole_whole _, a, b, n⟩) Prog.ret : P3)) lim a b n := rfl

/-- Look-ahead loop 9 is `look`. -/
theorem loop9_eq (t : T) (lim a b n : BitVec 32) :
    defs₀ (F := F) .tc 9 ⟨t, lim, cc0_scoped1, xbM, Memref.isWhole_whole _, xM, Memref.isWhole_whole _, a, b, n⟩
      = look (fun a b n => (Prog.op (.call (9 : (Λ₀ F).Label) ⟨t, lim, cc0_scoped1, xbM, Memref.isWhole_whole _, xM, Memref.isWhole_whole _, a, b, n⟩) Prog.ret : P3)) lim a b n := rfl

/-- Calling loop 1 with the counters in step sends for block `i + 1`. -/
theorem send1 (i : Fin 127) (hi : i.val = 0) {α : Type} {Q : α → sProp 𝕄}
    {k : W3 → Prog (TpuEff nD τ sig (Elt F) (Λ₀ F) .tc) α} :
    iprop(xfree c (sl 10 (i.val + 1)) ∗ xhome c X (bk 128 (i.val + 1)))
      ⊢ iprop((xflight c X (sl 10 (i.val + 1)) (bk 128 (i.val + 1))
          -∗ wp frame (wpE (defs₀ (F := F)) 𝒱₀ (c : Thread nD τ) none) Set.univ (k (wd (i.val + 1), wd (i.val + 2), wd (i.val + 2))) Q)
        -∗ wp frame (wpE (defs₀ (F := F)) 𝒱₀ (c : Thread nD τ) none) Set.univ
          (.op (.call (1 : (Λ₀ F).Label) ⟨cc0_scoped1, xbM, Memref.isWhole_whole _, xM, Memref.isWhole_whole _, wd i.val, wd (i.val + 1), wd (i.val + 1)⟩) k) Q) := by
  iintro H Hk
  iapply (wp_call 𝒱₀ (c : Thread nD τ) none Set.univ (1 : ℕ) (fun u hu => nomatch hu))
  rw [loop1_eq]
  iapply (look_send c X _ (some (1 : ℕ)) i _ (by rw [hi]; decide)) $$ H
  iintro Hf
  iapply (wp_call 𝒱₀ (c : Thread nD τ) (some (1 : ℕ)) Set.univ (0 : ℕ) (fun u hu => by cases hu; exact Nat.lt_succ_self 0))
  rw [loop1_eq, look_stop _ _ _ _ _ (.inl (by rw [hi]; decide)), Prog.pure_eq_ret, wp_ret]
  imodintro
  rw [wp_ret]; imodintro
  iapply Hk $$ Hf

/-- Calling loop 2 with the counters in step sends for block `i + 1`. -/
theorem send2 (lim : BitVec 32) (i : Fin 127)
    (h : Scalar.cmpi .ult (wd (i.val + 1)) lim = 1#1) (h' : Scalar.cmpi .ult (wd (i.val + 2)) lim = 0#1) {α : Type} {Q : α → sProp 𝕄}
    {k : W3 → Prog (TpuEff nD τ sig (Elt F) (Λ₀ F) .tc) α} :
    iprop(xfree c (sl 10 (i.val + 1)) ∗ xhome c X (bk 128 (i.val + 1)))
      ⊢ iprop((xflight c X (sl 10 (i.val + 1)) (bk 128 (i.val + 1))
          -∗ wp frame (wpE (defs₀ (F := F)) 𝒱₀ (c : Thread nD τ) none) Set.univ (k (wd (i.val + 1), wd (i.val + 2), wd (i.val + 2))) Q)
        -∗ wp frame (wpE (defs₀ (F := F)) 𝒱₀ (c : Thread nD τ) none) Set.univ
          (.op (.call (2 : (Λ₀ F).Label) ⟨lim, cc0_scoped1, xbM, Memref.isWhole_whole _, xM, Memref.isWhole_whole _, wd i.val, wd (i.val + 1), wd (i.val + 1)⟩) k) Q) := by
  iintro H Hk
  iapply (wp_call 𝒱₀ (c : Thread nD τ) none Set.univ (1 : ℕ) (fun u hu => nomatch hu))
  rw [loop2_eq]
  iapply (look_send c X _ (some (1 : ℕ)) i _ h) $$ H
  iintro Hf
  iapply (wp_call 𝒱₀ (c : Thread nD τ) (some (1 : ℕ)) Set.univ (0 : ℕ) (fun u hu => by cases hu; exact Nat.lt_succ_self 0))
  rw [loop2_eq, look_stop _ _ _ _ _ (.inl h'), Prog.pure_eq_ret, wp_ret]
  imodintro
  rw [wp_ret]; imodintro
  iapply Hk $$ Hf

/-- Calling loop 3 with the counters in step sends for block `i + 1`. -/
theorem send3 (lim : BitVec 32) (i : Fin 127)
    (h : Scalar.cmpi .ult (wd (i.val + 1)) lim = 1#1) (h' : Scalar.cmpi .ult (wd (i.val + 2)) lim = 0#1) {α : Type} {Q : α → sProp 𝕄}
    {k : W3 → Prog (TpuEff nD τ sig (Elt F) (Λ₀ F) .tc) α} :
    iprop(xfree c (sl 10 (i.val + 1)) ∗ xhome c X (bk 128 (i.val + 1)))
      ⊢ iprop((xflight c X (sl 10 (i.val + 1)) (bk 128 (i.val + 1))
          -∗ wp frame (wpE (defs₀ (F := F)) 𝒱₀ (c : Thread nD τ) none) Set.univ (k (wd (i.val + 1), wd (i.val + 2), wd (i.val + 2))) Q)
        -∗ wp frame (wpE (defs₀ (F := F)) 𝒱₀ (c : Thread nD τ) none) Set.univ
          (.op (.call (3 : (Λ₀ F).Label) ⟨lim, cc0_scoped1, xbM, Memref.isWhole_whole _, xM, Memref.isWhole_whole _, wd i.val, wd (i.val + 1), wd (i.val + 1)⟩) k) Q) := by
  iintro H Hk
  iapply (wp_call 𝒱₀ (c : Thread nD τ) none Set.univ (1 : ℕ) (fun u hu => nomatch hu))
  rw [loop3_eq]
  iapply (look_send c X _ (some (1 : ℕ)) i _ h) $$ H
  iintro Hf
  iapply (wp_call 𝒱₀ (c : Thread nD τ) (some (1 : ℕ)) Set.univ (0 : ℕ) (fun u hu => by cases hu; exact Nat.lt_succ_self 0))
  rw [loop3_eq, look_stop _ _ _ _ _ (.inl h'), Prog.pure_eq_ret, wp_ret]
  imodintro
  rw [wp_ret]; imodintro
  iapply Hk $$ Hf

/-- Calling loop 4 with the counters in step sends for block `i + 1`. -/
theorem send4 (lim : BitVec 32) (i : Fin 127)
    (h : Scalar.cmpi .ult (wd (i.val + 1)) lim = 1#1) (h' : Scalar.cmpi .ult (wd (i.val + 2)) lim = 0#1) {α : Type} {Q : α → sProp 𝕄}
    {k : W3 → Prog (TpuEff nD τ sig (Elt F) (Λ₀ F) .tc) α} :
    iprop(xfree c (sl 10 (i.val + 1)) ∗ xhome c X (bk 128 (i.val + 1)))
      ⊢ iprop((xflight c X (sl 10 (i.val + 1)) (bk 128 (i.val + 1))
          -∗ wp frame (wpE (defs₀ (F := F)) 𝒱₀ (c : Thread nD τ) none) Set.univ (k (wd (i.val + 1), wd (i.val + 2), wd (i.val + 2))) Q)
        -∗ wp frame (wpE (defs₀ (F := F)) 𝒱₀ (c : Thread nD τ) none) Set.univ
          (.op (.call (4 : (Λ₀ F).Label) ⟨lim, cc0_scoped1, xbM, Memref.isWhole_whole _, xM, Memref.isWhole_whole _, wd i.val, wd (i.val + 1), wd (i.val + 1)⟩) k) Q) := by
  iintro H Hk
  iapply (wp_call 𝒱₀ (c : Thread nD τ) none Set.univ (1 : ℕ) (fun u hu => nomatch hu))
  rw [loop4_eq]
  iapply (look_send c X _ (some (1 : ℕ)) i _ h) $$ H
  iintro Hf
  iapply (wp_call 𝒱₀ (c : Thread nD τ) (some (1 : ℕ)) Set.univ (0 : ℕ) (fun u hu => by cases hu; exact Nat.lt_succ_self 0))
  rw [loop4_eq, look_stop _ _ _ _ _ (.inl h'), Prog.pure_eq_ret, wp_ret]
  imodintro
  rw [wp_ret]; imodintro
  iapply Hk $$ Hf

/-- Calling loop 5 with the counters in step sends for block `i + 1`. -/
theorem send5 (lim : BitVec 32) (i : Fin 127)
    (h : Scalar.cmpi .ult (wd (i.val + 1)) lim = 1#1) (h' : Scalar.cmpi .ult (wd (i.val + 2)) lim = 0#1) {α : Type} {Q : α → sProp 𝕄}
    {k : W3 → Prog (TpuEff nD τ sig (Elt F) (Λ₀ F) .tc) α} :
    iprop(xfree c (sl 10 (i.val + 1)) ∗ xhome c X (bk 128 (i.val + 1)))
      ⊢ iprop((xflight c X (sl 10 (i.val + 1)) (bk 128 (i.val + 1))
          -∗ wp frame (wpE (defs₀ (F := F)) 𝒱₀ (c : Thread nD τ) none) Set.univ (k (wd (i.val + 1), wd (i.val + 2), wd (i.val + 2))) Q)
        -∗ wp frame (wpE (defs₀ (F := F)) 𝒱₀ (c : Thread nD τ) none) Set.univ
          (.op (.call (5 : (Λ₀ F).Label) ⟨lim, cc0_scoped1, xbM, Memref.isWhole_whole _, xM, Memref.isWhole_whole _, wd i.val, wd (i.val + 1), wd (i.val + 1)⟩) k) Q) := by
  iintro H Hk
  iapply (wp_call 𝒱₀ (c : Thread nD τ) none Set.univ (1 : ℕ) (fun u hu => nomatch hu))
  rw [loop5_eq]
  iapply (look_send c X _ (some (1 : ℕ)) i _ h) $$ H
  iintro Hf
  iapply (wp_call 𝒱₀ (c : Thread nD τ) (some (1 : ℕ)) Set.univ (0 : ℕ) (fun u hu => by cases hu; exact Nat.lt_succ_self 0))
  rw [loop5_eq, look_stop _ _ _ _ _ (.inl h'), Prog.pure_eq_ret, wp_ret]
  imodintro
  rw [wp_ret]; imodintro
  iapply Hk $$ Hf

/-- Calling loop 6 with the counters in step sends for block `i + 1`. -/
theorem send6 (lim : BitVec 32) (i : Fin 127)
    (h : Scalar.cmpi .ult (wd (i.val + 1)) lim = 1#1) (h' : Scalar.cmpi .ult (wd (i.val + 2)) lim = 0#1) {α : Type} {Q : α → sProp 𝕄}
    {k : W3 → Prog (TpuEff nD τ sig (Elt F) (Λ₀ F) .tc) α} :
    iprop(xfree c (sl 10 (i.val + 1)) ∗ xhome c X (bk 128 (i.val + 1)))
      ⊢ iprop((xflight c X (sl 10 (i.val + 1)) (bk 128 (i.val + 1))
          -∗ wp frame (wpE (defs₀ (F := F)) 𝒱₀ (c : Thread nD τ) none) Set.univ (k (wd (i.val + 1), wd (i.val + 2), wd (i.val + 2))) Q)
        -∗ wp frame (wpE (defs₀ (F := F)) 𝒱₀ (c : Thread nD τ) none) Set.univ
          (.op (.call (6 : (Λ₀ F).Label) ⟨lim, cc0_scoped1, xbM, Memref.isWhole_whole _, xM, Memref.isWhole_whole _, wd i.val, wd (i.val + 1), wd (i.val + 1)⟩) k) Q) := by
  iintro H Hk
  iapply (wp_call 𝒱₀ (c : Thread nD τ) none Set.univ (1 : ℕ) (fun u hu => nomatch hu))
  rw [loop6_eq]
  iapply (look_send c X _ (some (1 : ℕ)) i _ h) $$ H
  iintro Hf
  iapply (wp_call 𝒱₀ (c : Thread nD τ) (some (1 : ℕ)) Set.univ (0 : ℕ) (fun u hu => by cases hu; exact Nat.lt_succ_self 0))
  rw [loop6_eq, look_stop _ _ _ _ _ (.inl h'), Prog.pure_eq_ret, wp_ret]
  imodintro
  rw [wp_ret]; imodintro
  iapply Hk $$ Hf

/-- Calling loop 7 with the counters in step sends for block `i + 1`. -/
theorem send7 (lim : BitVec 32) (i : Fin 127)
    (h : Scalar.cmpi .ult (wd (i.val + 1)) lim = 1#1) (h' : Scalar.cmpi .ult (wd (i.val + 2)) lim = 0#1) {α : Type} {Q : α → sProp 𝕄}
    {k : W3 → Prog (TpuEff nD τ sig (Elt F) (Λ₀ F) .tc) α} :
    iprop(xfree c (sl 10 (i.val + 1)) ∗ xhome c X (bk 128 (i.val + 1)))
      ⊢ iprop((xflight c X (sl 10 (i.val + 1)) (bk 128 (i.val + 1))
          -∗ wp frame (wpE (defs₀ (F := F)) 𝒱₀ (c : Thread nD τ) none) Set.univ (k (wd (i.val + 1), wd (i.val + 2), wd (i.val + 2))) Q)
        -∗ wp frame (wpE (defs₀ (F := F)) 𝒱₀ (c : Thread nD τ) none) Set.univ
          (.op (.call (7 : (Λ₀ F).Label) ⟨lim, cc0_scoped1, xbM, Memref.isWhole_whole _, xM, Memref.isWhole_whole _, wd i.val, wd (i.val + 1), wd (i.val + 1)⟩) k) Q) := by
  iintro H Hk
  iapply (wp_call 𝒱₀ (c : Thread nD τ) none Set.univ (1 : ℕ) (fun u hu => nomatch hu))
  rw [loop7_eq]
  iapply (look_send c X _ (some (1 : ℕ)) i _ h) $$ H
  iintro Hf
  iapply (wp_call 𝒱₀ (c : Thread nD τ) (some (1 : ℕ)) Set.univ (0 : ℕ) (fun u hu => by cases hu; exact Nat.lt_succ_self 0))
  rw [loop7_eq, look_stop _ _ _ _ _ (.inl h'), Prog.pure_eq_ret, wp_ret]
  imodintro
  rw [wp_ret]; imodintro
  iapply Hk $$ Hf

/-- Calling loop 8 with the counters in step sends for block `i + 1`. -/
theorem send8 (lim : BitVec 32) (i : Fin 127)
    (h : Scalar.cmpi .ult (wd (i.val + 1)) lim = 1#1) (h' : Scalar.cmpi .ult (wd (i.val + 2)) lim = 0#1) {α : Type} {Q : α → sProp 𝕄}
    {k : W3 → Prog (TpuEff nD τ sig (Elt F) (Λ₀ F) .tc) α} :
    iprop(xfree c (sl 10 (i.val + 1)) ∗ xhome c X (bk 128 (i.val + 1)))
      ⊢ iprop((xflight c X (sl 10 (i.val + 1)) (bk 128 (i.val + 1))
          -∗ wp frame (wpE (defs₀ (F := F)) 𝒱₀ (c : Thread nD τ) none) Set.univ (k (wd (i.val + 1), wd (i.val + 2), wd (i.val + 2))) Q)
        -∗ wp frame (wpE (defs₀ (F := F)) 𝒱₀ (c : Thread nD τ) none) Set.univ
          (.op (.call (8 : (Λ₀ F).Label) ⟨lim, cc0_scoped1, xbM, Memref.isWhole_whole _, xM, Memref.isWhole_whole _, wd i.val, wd (i.val + 1), wd (i.val + 1)⟩) k) Q) := by
  iintro H Hk
  iapply (wp_call 𝒱₀ (c : Thread nD τ) none Set.univ (1 : ℕ) (fun u hu => nomatch hu))
  rw [loop8_eq]
  iapply (look_send c X _ (some (1 : ℕ)) i _ h) $$ H
  iintro Hf
  iapply (wp_call 𝒱₀ (c : Thread nD τ) (some (1 : ℕ)) Set.univ (0 : ℕ) (fun u hu => by cases hu; exact Nat.lt_succ_self 0))
  rw [loop8_eq, look_stop _ _ _ _ _ (.inl h'), Prog.pure_eq_ret, wp_ret]
  imodintro
  rw [wp_ret]; imodintro
  iapply Hk $$ Hf

/-- Calling loop 9 with the counters in step sends for block `i + 1`. -/
theorem send9 (t : T) (lim : BitVec 32) (i : Fin 127)
    (h : Scalar.cmpi .ult (wd (i.val + 1)) lim = 1#1) (h' : Scalar.cmpi .ult (wd (i.val + 2)) lim = 0#1) {α : Type} {Q : α → sProp 𝕄}
    {k : W3 → Prog (TpuEff nD τ sig (Elt F) (Λ₀ F) .tc) α} :
    iprop(xfree c (sl 10 (i.val + 1)) ∗ xhome c X (bk 128 (i.val + 1)))
      ⊢ iprop((xflight c X (sl 10 (i.val + 1)) (bk 128 (i.val + 1))
          -∗ wp frame (wpE (defs₀ (F := F)) 𝒱₀ (c : Thread nD τ) none) Set.univ (k (wd (i.val + 1), wd (i.val + 2), wd (i.val + 2))) Q)
        -∗ wp frame (wpE (defs₀ (F := F)) 𝒱₀ (c : Thread nD τ) none) Set.univ
          (.op (.call (9 : (Λ₀ F).Label) ⟨t, lim, cc0_scoped1, xbM, Memref.isWhole_whole _, xM, Memref.isWhole_whole _, wd i.val, wd (i.val + 1), wd (i.val + 1)⟩) k) Q) := by
  iintro H Hk
  iapply (wp_call 𝒱₀ (c : Thread nD τ) none Set.univ (1 : ℕ) (fun u hu => nomatch hu))
  rw [loop9_eq]
  iapply (look_send c X _ (some (1 : ℕ)) i _ h) $$ H
  iintro Hf
  iapply (wp_call 𝒱₀ (c : Thread nD τ) (some (1 : ℕ)) Set.univ (0 : ℕ) (fun u hu => by cases hu; exact Nat.lt_succ_self 0))
  rw [loop9_eq, look_stop _ _ _ _ _ (.inl h'), Prog.pure_eq_ret, wp_ret]
  imodintro
  rw [wp_ret]; imodintro
  iapply Hk $$ Hf

/-- Past the last block loop 9 sends for nothing. -/
theorem idle9 (t : T) (lim a b n : BitVec 32) (h : Scalar.cmpi .slt b 128#32 = 0#1) {α : Type} {Q : α → sProp 𝕄}
    {k : W3 → Prog (TpuEff nD τ sig (Elt F) (Λ₀ F) .tc) α} :
    wp frame (wpE (defs₀ (F := F)) 𝒱₀ (c : Thread nD τ) none) Set.univ (k (a, b, n)) Q
      ⊢ wp frame (wpE (defs₀ (F := F)) 𝒱₀ (c : Thread nD τ) none) Set.univ
          (.op (.call (9 : (Λ₀ F).Label) ⟨t, lim, cc0_scoped1, xbM, Memref.isWhole_whole _, xM, Memref.isWhole_whole _, a, b, n⟩) k) Q := by
  iintro Hk
  iapply (wp_call 𝒱₀ (c : Thread nD τ) none Set.univ (0 : ℕ) (fun u hu => nomatch hu))
  rw [loop9_eq, look_stop _ _ _ _ _ (.inr h), Prog.pure_eq_ret, wp_ret]
  imodintro
  iexact Hk

end Cert.Proof.K2

end

end
-- ==== Proof.K2.Parts.lean ====
/-
  One trip of the pipeline, stretch by stretch: what each stretch of the body consumes and leaves, at the words and the
  resources of trip `t`.
-/
module

public import proofs.«01_k».proof.Proof.K2.Whiles
public import Idealize.ShloMosaic.Lib.VecWindow

@[expose] public section

noncomputable section

namespace Cert.Proof.K2

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Ring (sl bk)

local notation "𝕄" => MT nD τ sig Unit (Elt F) ℕ (UU nD τ) ℕ

/-! ## The words of trip `t` -/

abbrev u6 (t : T) : BitVec 32 := Scf.iv 0#32 1#32 t
abbrev u205 (t : T) : BitVec 1 := Scalar.cmpi .eq (u6 t) 0#32
abbrev u206 (t : T) : BitVec 1 := Scalar.cmpi .eq (u6 t) 127#32
abbrev u207 (t : T) : BitVec 32 := Scalar.addi (wd t.val) 0#32
abbrev u212 (t : T) : BitVec 32 :=
  Scalar.addi (Scalar.select (Scalar.cmpi .eq (Scalar.select 1#1 (Scalar.subi (wd t.val) 1#32) (wd t.val)) 4294967295#32) 127#32
    (Scalar.select 1#1 (Scalar.subi (wd t.val) 1#32) (wd t.val))) 0#32
abbrev u217 (t : T) : BitVec 32 :=
  Scalar.addi (Scalar.select (Scalar.cmpi .eq (Scalar.select 1#1 (Scalar.addi (wd t.val) 1#32) (wd t.val)) 128#32) 0#32
    (Scalar.select 1#1 (Scalar.addi (wd t.val) 1#32) (wd t.val))) 0#32

/-- The block changes after every trip, so the output counters step. -/
theorem y_last (t : T) : Scalar.ori (Scalar.cmpi .ne (u207 t) (u217 t)) (u206 t) = 1#1 := by revert t; decide +kernel
theorem y_one : Scalar.andi (1#1 : BitVec 1) 1#1 = 1#1 := by decide
theorem y_up (t : T) : Scalar.select 1#1 (Scalar.addi (wd t.val) 1#32) (wd t.val) = wd (t.val + 1) := by revert t; decide +kernel
/-- The counters of what has been waited for step after every trip but the first. -/
theorem y_prev (t : T) :
    Scalar.select (Scalar.andi (Scalar.andi (Scalar.cmpi .ne (u207 t) (u212 t)) (Scalar.xori (u205 t) 1#1)) 1#1)
      (Scalar.addi (wd (t.val - 1)) 1#32) (wd (t.val - 1)) = wd t.val := by revert t; decide +kernel
/-- The grid index steps, and wraps after the last trip. -/
theorem y_grid (t : T) : Scalar.select (Scalar.cmpi .eq (wd (t.val + 1)) 128#32) 0#32 (wd (t.val + 1)) = wd (gridIx (t.val + 1)) := by
  revert t; decide +kernel

variable (c : Dev nD)
  (X : Buf (Elt F) (xM.view.loc (c : Thread nD τ))) (W : Buf (Elt F) (wM.view.loc (c : Thread nD τ)))

/-! ## The values of a block -/

/-- The indices a block stores, of the weights and the block of `x`. -/
def tv (w : Vec F S64x4096 .f32) (x : Vec F S1x256x4096 .f32) : S1x256x8.Idx → Elt F .i32 :=
  k0_pay26 (iota .tc S64x256 32 [0] iota_S64x256_d0_w32) (k0_pay3 w x) (k0_pay6 w x) (k0_pay9 w x) (k0_pay14 (iota .tc S64x256 32 [0] iota_S64x256_d0_w32) (k0_pay7 w x) (k0_pay10 w x) (k0_pay11 (F := F))) (k0_pay17 (iota .tc S64x256 32 [0] iota_S64x256_d0_w32) (k0_pay7 w x) (k0_pay10 w x) (k0_pay11 (F := F))) (k0_pay20 (iota .tc S64x256 32 [0] iota_S64x256_d0_w32) (k0_pay7 w x) (k0_pay10 w x) (k0_pay11 (F := F))) (k0_pay21 (iota .tc S64x256 32 [0] iota_S64x256_d0_w32) (k0_pay7 w x) (k0_pay10 w x) (k0_pay11 (F := F))) (k0_pay23 (iota .tc S64x256 32 [0] iota_S64x256_d0_w32) (k0_pay7 w x) (k0_pay10 w x) (k0_pay11 (F := F)))
/-- The weights a block stores. -/
def ov (w : Vec F S64x4096 .f32) (x : Vec F S1x256x4096 .f32) : S1x256x8.Idx → Elt F .f32 :=
  k0_pay27 (iota .tc S64x256 32 [0] iota_S64x256_d0_w32) (k0_pay2 w x) (k0_pay5 w x) (k0_pay8 w x) (k0_pay13 (k0_pay7 w x) (k0_pay10 w x) (k0_pay11 (F := F))) (k0_pay16 (iota .tc S64x256 32 [0] iota_S64x256_d0_w32) (k0_pay7 w x) (k0_pay10 w x) (k0_pay11 (F := F))) (k0_pay19 (iota .tc S64x256 32 [0] iota_S64x256_d0_w32) (k0_pay7 w x) (k0_pay10 w x) (k0_pay11 (F := F))) (k0_pay21 (iota .tc S64x256 32 [0] iota_S64x256_d0_w32) (k0_pay7 w x) (k0_pay10 w x) (k0_pay11 (F := F))) (k0_pay22 (iota .tc S64x256 32 [0] iota_S64x256_d0_w32) (k0_pay7 w x) (k0_pay10 w x) (k0_pay11 (F := F))) (k0_pay23 (iota .tc S64x256 32 [0] iota_S64x256_d0_w32) (k0_pay7 w x) (k0_pay10 w x) (k0_pay11 (F := F)))
/-- The weight matrix, as its buffer in VMEM is read. -/
def wv : Vec F S64x4096 .f32 := wM.view.read (Elt F) W
/-- The indices of block `b`, as the transfer moves them. -/
def tB (b : Fin 128) : S256x8.Idx → Elt F .i32 := fun i => tv (wv c W) (xv c X b) (Shape.reshapeEquiv numel_r i)
/-- The weights of block `b`, as the transfer moves them. -/
def oB (b : Fin 128) : S256x8.Idx → Elt F .f32 := fun i => ov (wv c W) (xv c X b) (Shape.reshapeEquiv numel_r i)

/-- The buffer in VMEM, holding the weight matrix. -/
def wfull : sProp 𝕄 := iprop(∃ f, ⌜wbM.view.read (Elt F) f = wv c W⌝ ∗ (wbM.view.loc (c : Thread nD τ) ↦[wbM.view.set]{fullShare} f))

/-- The stretches of the body, at the launch's buffers. -/
abbrev P1 := k0_part1 (F := F) xM (Memref.isWhole_whole _) wM (Memref.isWhole_whole _) tM (Memref.isWhole_whole _) oM (Memref.isWhole_whole _) wbM (Memref.isWhole_whole _) cc0_scratch1 xbM (Memref.isWhole_whole _) cc0_scoped1 tbM (Memref.isWhole_whole _) cc0_scoped3 obM (Memref.isWhole_whole _) cc0_scoped5
abbrev P2 := k0_part2 (F := F) xM (Memref.isWhole_whole _) wM (Memref.isWhole_whole _) tM (Memref.isWhole_whole _) oM (Memref.isWhole_whole _) wbM (Memref.isWhole_whole _) cc0_scratch1 xbM (Memref.isWhole_whole _) cc0_scoped1 tbM (Memref.isWhole_whole _) cc0_scoped3 obM (Memref.isWhole_whole _) cc0_scoped5
abbrev P3 := k0_part3 (F := F) xM (Memref.isWhole_whole _) wM (Memref.isWhole_whole _) tM (Memref.isWhole_whole _) oM (Memref.isWhole_whole _) wbM (Memref.isWhole_whole _) cc0_scratch1 xbM (Memref.isWhole_whole _) cc0_scoped1 tbM (Memref.isWhole_whole _) cc0_scoped3 obM (Memref.isWhole_whole _) cc0_scoped5
abbrev P4 := k0_part4 (F := F) xM (Memref.isWhole_whole _) wM (Memref.isWhole_whole _) tM (Memref.isWhole_whole _) oM (Memref.isWhole_whole _) wbM (Memref.isWhole_whole _) cc0_scratch1 xbM (Memref.isWhole_whole _) cc0_scoped1 tbM (Memref.isWhole_whole _) cc0_scoped3 obM (Memref.isWhole_whole _) cc0_scoped5
abbrev P5 := k0_part5 (F := F) xM (Memref.isWhole_whole _) wM (Memref.isWhole_whole _) tM (Memref.isWhole_whole _) oM (Memref.isWhole_whole _) wbM (Memref.isWhole_whole _) cc0_scratch1 xbM (Memref.isWhole_whole _) cc0_scoped1 tbM (Memref.isWhole_whole _) cc0_scoped3 obM (Memref.isWhole_whole _) cc0_scoped5
abbrev P6 := k0_part6 (F := F) xM (Memref.isWhole_whole _) wM (Memref.isWhole_whole _) tM (Memref.isWhole_whole _) oM (Memref.isWhole_whole _) wbM (Memref.isWhole_whole _) cc0_scratch1 xbM (Memref.isWhole_whole _) cc0_scoped1 tbM (Memref.isWhole_whole _) cc0_scoped3 obM (Memref.isWhole_whole _) cc0_scoped5
abbrev P7 := k0_part7 (F := F) xM (Memref.isWhole_whole _) wM (Memref.isWhole_whole _) tM (Memref.isWhole_whole _) oM (Memref.isWhole_whole _) wbM (Memref.isWhole_whole _) cc0_scratch1 xbM (Memref.isWhole_whole _) cc0_scoped1 tbM (Memref.isWhole_whole _) cc0_scoped3 obM (Memref.isWhole_whole _) cc0_scoped5
abbrev P8 := k0_part8 (F := F) xM (Memref.isWhole_whole _) wM (Memref.isWhole_whole _) tM (Memref.isWhole_whole _) oM (Memref.isWhole_whole _) wbM (Memref.isWhole_whole _) cc0_scratch1 xbM (Memref.isWhole_whole _) cc0_scoped1 tbM (Memref.isWhole_whole _) cc0_scoped3 obM (Memref.isWhole_whole _) cc0_scoped5
abbrev P9 := k0_part9 (F := F) xM (Memref.isWhole_whole _) wM (Memref.isWhole_whole _) tM (Memref.isWhole_whole _) oM (Memref.isWhole_whole _) wbM (Memref.isWhole_whole _) cc0_scratch1 xbM (Memref.isWhole_whole _) cc0_scoped1 tbM (Memref.isWhole_whole _) cc0_scoped3 obM (Memref.isWhole_whole _) cc0_scoped5
abbrev P10 := k0_part10 (F := F) xM (Memref.isWhole_whole _) wM (Memref.isWhole_whole _) tM (Memref.isWhole_whole _) oM (Memref.isWhole_whole _) wbM (Memref.isWhole_whole _) cc0_scratch1 xbM (Memref.isWhole_whole _) cc0_scoped1 tbM (Memref.isWhole_whole _) cc0_scoped3 obM (Memref.isWhole_whole _) cc0_scoped5
abbrev P11 := k0_part11 (F := F) xM (Memref.isWhole_whole _) wM (Memref.isWhole_whole _) tM (Memref.isWhole_whole _) oM (Memref.isWhole_whole _) wbM (Memref.isWhole_whole _) cc0_scratch1 xbM (Memref.isWhole_whole _) cc0_scoped1 tbM (Memref.isWhole_whole _) cc0_scoped3 obM (Memref.isWhole_whole _) cc0_scoped5
abbrev P12 := k0_part12 (F := F) xM (Memref.isWhole_whole _) wM (Memref.isWhole_whole _) tM (Memref.isWhole_whole _) oM (Memref.isWhole_whole _) wbM (Memref.isWhole_whole _) cc0_scratch1 xbM (Memref.isWhole_whole _) cc0_scoped1 tbM (Memref.isWhole_whole _) cc0_scoped3 obM (Memref.isWhole_whole _) cc0_scoped5
abbrev P13 := k0_part13 (F := F) xM (Memref.isWhole_whole _) wM (Memref.isWhole_whole _) tM (Memref.isWhole_whole _) oM (Memref.isWhole_whole _) wbM (Memref.isWhole_whole _) cc0_scratch1 xbM (Memref.isWhole_whole _) cc0_scoped1 tbM (Memref.isWhole_whole _) cc0_scoped3 obM (Memref.isWhole_whole _) cc0_scoped5
abbrev P14 := k0_part14 (F := F) xM (Memref.isWhole_whole _) wM (Memref.isWhole_whole _) tM (Memref.isWhole_whole _) oM (Memref.isWhole_whole _) wbM (Memref.isWhole_whole _) cc0_scratch1 xbM (Memref.isWhole_whole _) cc0_scoped1 tbM (Memref.isWhole_whole _) cc0_scoped3 obM (Memref.isWhole_whole _) cc0_scoped5

/-- Stretch 1 checks the trip's offsets. -/
theorem part1 (t : T) {Q : _ → sProp 𝕄} :
    iprop(∀ v, Q ⟨w_chk22 t, w_chk21 t, w_chk20 t, w_chk19 t, u6 t, u205 t, u206 t, u207 t, u212 t, u217 t, v, 0#32⟩)
      ⊢ wp frame (wpE (defs₀ (F := F)) 𝒱₀ (c : Thread nD τ) none) Set.univ (P1 (F := F) 0#32 1#32 t (wd t.val) (wd t.val) (wd (t.val - 1)) (wd t.val) (wd (t.val - 1)) (wd t.val)) Q := by
  unfold P1
  rw [k0_part1_eq_skeleton]
  unfold k0_part1_skel
  simp only [Prog.lift, Prog.bind_op, Prog.bind_ret, Prog.pure_eq_ret]
  iintro Hk
  iapply (wp_assume 𝒱₀ (c : Thread nD τ) none Set.univ (w_chk22 t))
  iapply (wp_assume 𝒱₀ (c : Thread nD τ) none Set.univ (w_chk21 t))
  iapply (wp_assume 𝒱₀ (c : Thread nD τ) none Set.univ (w_chk20 t))
  iapply (wp_assume 𝒱₀ (c : Thread nD τ) none Set.univ (w_chk19 t))
  rw [wp_ret]; imodintro
  iapply Hk $$ %_

/-- Stretch 2 computes words that nothing depends on. -/
theorem part2 (v z : BitVec 32) {Q : _ → sProp 𝕄} :
    iprop(∀ r, Q r) ⊢ wp frame (wpE (defs₀ (F := F)) 𝒱₀ (c : Thread nD τ) none) Set.univ (P2 (F := F) v z) Q := by
  unfold P2
  rw [k0_part2_eq_skeleton]
  unfold k0_part2_skel
  simp only [Prog.pure_eq_ret]
  iintro Hk
  rw [wp_ret]; imodintro
  iapply Hk $$ %_

/-- Stretch 3 sends for the block nine ahead, while there is one, and waits for this trip's block. -/
theorem part3_go (t : T) (h : t.val + 9 < 128) (a1 a2 a3 a4 : BitVec 32) {Q : _ → sProp 𝕄} :
    iprop((xfree c (sl 10 (t.val + 9)) ∗ xhome c X (bk 128 (t.val + 9))) ∗ xflight c X (sl 10 t.val) (bk 128 t.val) ∗ owesP (F := F) c)
      ⊢ iprop((iprop(xflight c X (sl 10 (t.val + 9)) (bk 128 (t.val + 9)) ∗ xfull c X (sl 10 t.val) (bk 128 t.val) ∗ xcellP (F := F) c (sl 10 t.val) ∗ xhome c X (bk 128 t.val) ∗ owesP (F := F) c) -∗ Q ⟨wd (t.val + 9), wd (t.val + 10), Scalar.remui (wd t.val) 10#32, Scalar.remui (wd t.val) 2#32⟩)
        -∗ wp frame (wpE (defs₀ (F := F)) 𝒱₀ (c : Thread nD τ) none) Set.univ (P3 (F := F) t (wd (t.val + 9)) (wd t.val) (wd (t.val + 8)) (wd t.val) (wd (t.val - 1)) (wd t.val) (wd (t.val - 1)) (wd t.val) (w_chk19 t) (u6 t) (u205 t) (u207 t) (u212 t) (u217 t) a1 a2 a3 a4) Q) := by
  unfold P3
  rw [k0_part3_eq_skeleton]
  unfold k0_part3_skel
  simp only [Prog.lift, Prog.bind_op, Prog.bind_ret, Prog.pure_eq_ret, ite_self]
  have e := w_after t
  rw [show ahead t.val = t.val + 8 from by show min _ _ = _; omega] at e
  rw [w_bound t, e]
  iintro ⟨Hx, Hw⟩ Hk
  iapply (send9 c X t (wd (t.val + 10)) ⟨t.val + 8, by omega⟩ (w_go t h) (w_stop t)) $$ Hx
  iintro Hf
  rw [dif_pos (w_cond10 t)]
  simp only [Prog.bind_op, Prog.bind_ret]
  iapply (x_wait c X none (sl 10 t.val) (bk 128 t.val) (w_off31 t) (w_off32 t) (w_off33 t)) $$ Hw
  iintro Hd
  rw [wp_ret]; imodintro
  iapply Hk
  isplitl [Hf] <;> iassumption

/-- Past the last block stretch 3 only waits. -/
theorem part3_end (t : T) (h : ¬ t.val + 9 < 128) (s : BitVec 32) (a1 a2 a3 a4 : BitVec 32) {Q : _ → sProp 𝕄} :
    iprop(xflight c X (sl 10 t.val) (bk 128 t.val) ∗ owesP (F := F) c)
      ⊢ iprop((iprop(xfull c X (sl 10 t.val) (bk 128 t.val) ∗ xcellP (F := F) c (sl 10 t.val) ∗ xhome c X (bk 128 t.val) ∗ owesP (F := F) c) -∗ Q ⟨wd (ahead t.val), s, Scalar.remui (wd t.val) 10#32, Scalar.remui (wd t.val) 2#32⟩)
        -∗ wp frame (wpE (defs₀ (F := F)) 𝒱₀ (c : Thread nD τ) none) Set.univ (P3 (F := F) t s (wd t.val) (wd (ahead t.val)) (wd t.val) (wd (t.val - 1)) (wd t.val) (wd (t.val - 1)) (wd t.val) (w_chk19 t) (u6 t) (u205 t) (u207 t) (u212 t) (u217 t) a1 a2 a3 a4) Q) := by
  unfold P3
  rw [k0_part3_eq_skeleton]
  unfold k0_part3_skel
  simp only [Prog.lift, Prog.bind_op, Prog.bind_ret, Prog.pure_eq_ret, ite_self]
  rw [w_bound t, w_after t]
  iintro Hw Hk
  iapply (idle9 c t (wd (t.val + 10)) _ _ _ (w_end t h))
  rw [dif_pos (w_cond10 t)]
  simp only [Prog.bind_op, Prog.bind_ret]
  iapply (x_wait c X none (sl 10 t.val) (bk 128 t.val) (w_off31 t) (w_off32 t) (w_off33 t)) $$ Hw
  iintro Hd
  rw [wp_ret]; imodintro
  iapply Hk $$ Hd

/-- Stretch 4 loads the weight matrix and the block, and begins the rounds. -/
theorem part4 (t : T) (b : Fin 128) (z : BitVec 32) {Q : _ → sProp 𝕄} :
    iprop(wfull c W ∗ xfull c X (sl 10 t.val) b)
      ⊢ iprop((iprop(wfull c W ∗ xfull c X (sl 10 t.val) b) -∗ Q ⟨Scalar.remui (wd t.val) 2#32, iota .tc S64x256 32 [0] iota_S64x256_d0_w32, k0_pay2 (wv c W) (xv c X b), k0_pay3 (wv c W) (xv c X b), k0_pay5 (wv c W) (xv c X b), k0_pay6 (wv c W) (xv c X b), k0_pay7 (wv c W) (xv c X b), k0_pay8 (wv c W) (xv c X b), k0_pay9 (wv c W) (xv c X b), k0_pay10 (wv c W) (xv c X b), k0_pay11 (F := F)⟩)
        -∗ wp frame (wpE (defs₀ (F := F)) 𝒱₀ (c : Thread nD τ) none) Set.univ (P4 (F := F) (wd t.val) (wd t.val) (w_chk20 t) z) Q) := by
  unfold P4
  rw [k0_part4_eq_skeleton]
  unfold k0_part4_skel
  simp only [Prog.lift, Prog.bind_op, Prog.bind_ret, Prog.pure_eq_ret, ite_self]
  unfold wfull
  iintro ⟨⟨%f, %hf, Hw⟩, Hx⟩ Hk
  iapply (wp_load 𝒱₀ (c : Thread nD τ) none Set.univ (m := wbM) (S := wbM.view.set) (f := f) (View.setOn_subset_set _ _)) $$ Hw
  iintro Hw
  iapply (x_load c X none (sl 10 t.val) b (w_off34 t)) $$ Hx
  iintro Hx
  rw [show wbM.view.readAt (Elt F) (Rect.unit (s := S64x4096) ![0, 0] S64x4096.size inb_S64x4096_S64x4096_0_0).toLoadRect f = wv c W from
    (View.readAt_full _ _ _).trans hf]
  rw [wp_ret]; imodintro
  iapply Hk
  isplitl [Hw]
  · iexists f; isplitr
    · ipureintro; exact hf
    · iexact Hw
  · iexact Hx

/-- Stretch 5 goes on with the rounds. -/
theorem part5 (a : IVec S64x256 32) (b : FVec F S64x256 .f32) (m : IVec S64x256 1) (d : FVec F S64x256 .f32) {Q : _ → sProp 𝕄} :
    Q ⟨k0_pay13 b m d, k0_pay14 a b m d, k0_pay16 a b m d, k0_pay17 a b m d, k0_pay19 a b m d, k0_pay20 a b m d, k0_pay21 a b m d, k0_pay22 a b m d, k0_pay23 a b m d⟩ ⊢ wp frame (wpE (defs₀ (F := F)) 𝒱₀ (c : Thread nD τ) none) Set.univ (P5 (F := F) a b m d) Q := by
  unfold P5
  rw [k0_part5_eq_skeleton]
  unfold k0_part5_skel
  simp only [Prog.pure_eq_ret]
  iintro Hk
  rw [wp_ret]; imodintro
  iexact Hk

/-- Stretch 6 stores the block's indices and weights and sends the indices out. -/
theorem part6 (t : T) (y z : BitVec 32) (v306 : IVec S64x256 32) (v308 : FVec F S1x256 .f32) (v314 : IVec S1x256 32) (v320 : FVec F S1x256 .f32) (v326 : IVec S1x256 32) (v332 : FVec F S1x256 .f32) (v338 : IVec S1x256 32) (v344 : FVec F S1x256 .f32) (v350 : IVec S1x256 32) (v356 : FVec F S1x256 .f32) (v362 : IVec S1x256 32) (v368 : FVec F S1x256 .f32) (v374 : IVec S1x256 32) (v378 : FVec F S64x256 .f32) (v380 : FVec F S1x256 .f32) (v386 : IVec S1x256 32) {Q : _ → sProp 𝕄} :
    iprop((∃ f, tslotP (F := F) c (sl 2 t.val) f) ∗ tcellP (F := F) c (sl 2 t.val) ∗ (∃ f, tblkP (F := F) c (bk 128 t.val) f) ∗ ∃ f, oslotP (F := F) c (sl 2 t.val) f)
      ⊢ iprop((iprop(tflight c (sl 2 t.val) (bk 128 t.val) (fun i => k0_pay26 v306 v314 v326 v338 v350 v362 v374 v378 v386 (Shape.reshapeEquiv numel_r i)) ∗ ∃ f, ⌜(oslot (sl 2 t.val)).view.read (Elt F) f = fun i => k0_pay27 v306 v308 v320 v332 v344 v356 v368 v378 v380 v386 (Shape.reshapeEquiv numel_r i)⌝ ∗ oslotP (F := F) c (sl 2 t.val) f) -∗ Q ⟨1#1, 1#32⟩)
        -∗ wp frame (wpE (defs₀ (F := F)) 𝒱₀ (c : Thread nD τ) none) Set.univ (P6 (F := F) t (wd t.val) (wd t.val) (wd (t.val - 1)) (wd t.val) (wd (t.val - 1)) (wd t.val) (w_chk22 t) (w_chk21 t) (w_chk19 t) (u206 t) (u207 t) (u217 t) y z v306 v308 v314 v320 v326 v332 v338 v344 v350 v356 v362 v368 v374 v378 v380 v386) Q) := by
  unfold P6
  rw [k0_part6_eq_skeleton]
  unfold k0_part6_skel
  simp only [Prog.lift, Prog.bind_op, Prog.bind_ret, Prog.pure_eq_ret, ite_self]
  iintro ⟨Ht, Hc, Hb, Ho⟩ Hk
  iapply (t_load c none (sl 2 t.val) (w_off35 t)) $$ Ht
  iintro %_ Ht
  iapply (t_store c none (sl 2 t.val) _ (w_off35 t)) $$ Ht
  iintro Ht
  iapply (o_load c none (sl 2 t.val) (w_off36 t)) $$ Ho
  iintro %_ Ho
  iapply (o_store c none (sl 2 t.val) _ (w_off36 t)) $$ Ho
  iintro Ho
  rw [dif_pos (w_cond14 t)]
  simp only [Prog.bind_op, Prog.bind_ret]
  iapply (t_issue c none (sl 2 t.val) (bk 128 t.val) _ (w_off37 t) (w_off38 t) (w_off39 t)) $$ [Ht Hc Hb]
  · isplitl [Ht]; · iexact Ht
    isplitl [Hc] <;> iassumption
  iintro Hf
  rw [y_last t, y_one]
  rw [wp_ret]; imodintro
  iapply Hk
  isplitl [Hf] <;> iassumption

/-- Stretch 7 sends the weights out; in the first trip nothing is waited for. -/
theorem part7_first (t : T) (h : t.val = 0) (v : S256x8.Idx → Elt F .f32) {Q : _ → sProp 𝕄} :
    iprop((∃ f, ⌜(oslot (sl 2 t.val)).view.read (Elt F) f = v⌝ ∗ oslotP (F := F) c (sl 2 t.val) f) ∗ ocellP (F := F) c (sl 2 t.val) ∗ ∃ f, oblkP (F := F) c (bk 128 t.val) f)
      ⊢ iprop((oflight c (sl 2 t.val) (bk 128 t.val) v -∗ Q ⟨wd (t.val + 1), wd (t.val + 1), wd t.val, wd t.val, wd (t.val + 1), wd (t.val + 1), Scalar.cmpi .eq (wd (t.val + 1)) 128#32⟩)
        -∗ wp frame (wpE (defs₀ (F := F)) 𝒱₀ (c : Thread nD τ) none) Set.univ (P7 (F := F) t (wd t.val) (wd t.val) (wd (t.val - 1)) (wd t.val) (wd (t.val - 1)) (wd t.val) (w_chk19 t) (u205 t) (u206 t) (u207 t) (u212 t) (u217 t) 1#1 1#32) Q) := by
  unfold P7
  rw [k0_part7_eq_skeleton]
  unfold k0_part7_skel
  simp only [Prog.lift, Prog.bind_op, Prog.bind_ret, Prog.pure_eq_ret, ite_self]
  iintro Ho Hk
  rw [dif_pos (w_cond15 t)]
  iapply (o_issue c none (sl 2 t.val) (bk 128 t.val) v (w_off40 t) (w_off41 t) (w_off42 t)) $$ Ho
  iintro Hf
  rw [dif_neg (fun e => (w_cond17 t).1 e h), dif_neg (fun e => (w_cond18 t).1 e h)]
  simp only [Prog.bind_op, Prog.bind_ret]
  rw [y_last t, y_one, y_up t, y_prev t]
  rw [wp_ret]; imodintro
  iapply Hk $$ Hf

/-- In a later trip the transfers of the block before are waited for. -/
theorem part7_next (t : T) (h : t.val ≠ 0) (v : S256x8.Idx → Elt F .f32) (v' : S256x8.Idx → Elt F .i32) (v'' : S256x8.Idx → Elt F .f32) {Q : _ → sProp 𝕄} :
    iprop(((∃ f, ⌜(oslot (sl 2 t.val)).view.read (Elt F) f = v⌝ ∗ oslotP (F := F) c (sl 2 t.val) f) ∗ ocellP (F := F) c (sl 2 t.val) ∗ ∃ f, oblkP (F := F) c (bk 128 t.val) f) ∗ tflight c (sl 2 (t.val - 1)) (bk 128 (t.val - 1)) v' ∗ oflight c (sl 2 (t.val - 1)) (bk 128 (t.val - 1)) v'' ∗ owesP (F := F) c)
      ⊢ iprop((iprop(oflight c (sl 2 t.val) (bk 128 t.val) v ∗ (tdone c (bk 128 (t.val - 1)) v' ∗ tfree (F := F) c (sl 2 (t.val - 1))) ∗ (odone c (bk 128 (t.val - 1)) v'' ∗ ofree (F := F) c (sl 2 (t.val - 1))) ∗ owesP (F := F) c) -∗ Q ⟨wd (t.val + 1), wd (t.val + 1), wd t.val, wd t.val, wd (t.val + 1), wd (t.val + 1), Scalar.cmpi .eq (wd (t.val + 1)) 128#32⟩)
        -∗ wp frame (wpE (defs₀ (F := F)) 𝒱₀ (c : Thread nD τ) none) Set.univ (P7 (F := F) t (wd t.val) (wd t.val) (wd (t.val - 1)) (wd t.val) (wd (t.val - 1)) (wd t.val) (w_chk19 t) (u205 t) (u206 t) (u207 t) (u212 t) (u217 t) 1#1 1#32) Q) := by
  unfold P7
  rw [k0_part7_eq_skeleton]
  unfold k0_part7_skel
  simp only [Prog.lift, Prog.bind_op, Prog.bind_ret, Prog.pure_eq_ret, ite_self]
  iintro ⟨Ho, Ht, Hp, HO⟩ Hk
  rw [dif_pos (w_cond15 t)]
  iapply (o_issue c none (sl 2 t.val) (bk 128 t.val) v (w_off40 t) (w_off41 t) (w_off42 t)) $$ Ho
  iintro Hf
  rw [dif_pos ((w_cond17 t).2 h)]
  simp only [Prog.bind_op, Prog.bind_ret]
  iapply (t_wait c none (sl 2 (t.val - 1)) (bk 128 (t.val - 1)) v' (w_off43 t) (w_off44 t h) (w_off45 t)) $$ [Ht HO]
  · isplitl [Ht] <;> iassumption
  iintro ⟨Htd, Htf, HO⟩
  rw [dif_pos ((w_cond18 t).2 h)]
  simp only [Prog.bind_op, Prog.bind_ret]
  iapply (o_wait c none (sl 2 (t.val - 1)) (bk 128 (t.val - 1)) v'' (w_off46 t) (w_off47 t h) (w_off48 t)) $$ [Hp HO]
  · isplitl [Hp] <;> iassumption
  iintro ⟨Hod, Hof, HO⟩
  rw [y_last t, y_one, y_up t, y_prev t]
  rw [wp_ret]; imodintro
  iapply Hk
  isplitl [Hf]; · iexact Hf
  isplitl [Htd Htf]
  · isplitl [Htd] <;> iassumption
  isplitl [Hod Hof]
  · isplitl [Hod] <;> iassumption
  · iexact HO

end Cert.Proof.K2

end
-- ==== Proof.K2.Trip.lean ====
/-
  The invariant of the pipeline's loop, and that a trip keeps it. Before trip `t` blocks `t … t + 8` of `x` are in flight, each
  in its slot; the results of the block before are on their way out; those of all blocks before that have landed.
-/
module

public import proofs.«01_k».proof.Proof.K2.Parts

@[expose] public section

noncomputable section

namespace Cert.Proof.K2

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Ring (sl bk)

local notation "𝕄" => MT nD τ sig Unit (Elt F) ℕ (UU nD τ) ℕ

variable (c : Dev nD)
  (X : Buf (Elt F) (xM.view.loc (c : Thread nD τ))) (W : Buf (Elt F) (wM.view.loc (c : Thread nD τ)))

omit [FloatOps F] in
/-- A set with one more index. -/
theorem bs_insert {I : Type} [DecidableEq I] {s : Finset I} {i : I} (hi : i ∉ s) {Φ : I → sProp 𝕄} :
    bigSep (insert i s) Φ = iprop(Φ i ∗ bigSep s Φ) := BI.bigSep_insert hi
omit [FloatOps F] in
/-- A set without one of its indices. -/
theorem bs_erase {I : Type} [DecidableEq I] {s : Finset I} {i : I} (hi : i ∈ s) {Φ : I → sProp 𝕄} :
    bigSep s Φ = iprop(Φ i ∗ bigSep (s.erase i) Φ) := BI.bigSep_erase hi

/-! ## The ring of `x` blocks -/

/-- Slot `i` of the ring's unrolled row: block `i` in flight, or, past the last block, free. -/
def slotAt (i : ℕ) : sProp 𝕄 := if i < 128 then xflight c X (sl 10 i) (bk 128 i) else xfree c (sl 10 i)
/-- The ring before trip `t`. -/
def ringAt (t : ℕ) : sProp 𝕄 :=
  iprop(bigSep (Finset.Ico t (t + 9)) (slotAt c X) ∗ xfree c (sl 10 (t + 9)) ∗ bigSep (Ring.homeSet (NB := 128) 9 t) (xhome c X))
/-- The ring inside trip `t`, without its slot and block. -/
def ringIn (t : ℕ) : sProp 𝕄 :=
  iprop(slotAt c X (t + 9) ∗ bigSep (Finset.Ico (t + 1) (t + 9)) (slotAt c X)
    ∗ bigSep ((Ring.homeSet (NB := 128) 9 (t + 1)).erase (bk 128 t)) (xhome c X))

theorem ringAt_peel (t : ℕ) (ht : t < 128) :
    ringAt c X t ⊢ iprop(xflight c X (sl 10 t) (bk 128 t) ∗ bigSep (Finset.Ico (t + 1) (t + 9)) (slotAt c X)
      ∗ xfree c (sl 10 (t + 9)) ∗ bigSep (Ring.homeSet (NB := 128) 9 t) (xhome c X)) := by
  unfold ringAt
  rw [Ring.Ico_eq_insert (show t < t + 9 by omega), bs_insert (by simp)]
  have e : slotAt c X t = xflight c X (sl 10 t) (bk 128 t) := if_pos ht
  rw [e]
  iintro ⟨⟨H1, H2⟩, H3, H4⟩
  isplitl [H1]; · iexact H1
  isplitl [H2]; · iexact H2
  isplitl [H3] <;> iassumption

theorem homes_go (t : ℕ) (h : t + 9 < 128) :
    (bigSep (Ring.homeSet (NB := 128) 9 t) (xhome c X) : sProp 𝕄)
      ⊢ iprop(xhome c X (bk 128 (t + 9)) ∗ bigSep ((Ring.homeSet (NB := 128) 9 (t + 1)).erase (bk 128 t)) (xhome c X)) := by
  rw [Ring.homeSet_succ 9 t h, Finset.erase_insert (Ring.bk_not_mem_erase 9 t (by omega) (by decide))]
  conv_lhs => rw [Ring.homeSet_out 9 t h, bs_insert (Ring.bkL_not_mem_erase 9 t)]

theorem homes_end (t : ℕ) (ht : t < 128) (h : ¬ t + 9 < 128) :
    (bigSep (Ring.homeSet (NB := 128) 9 t) (xhome c X) : sProp 𝕄)
      ⊢ bigSep ((Ring.homeSet (NB := 128) 9 (t + 1)).erase (bk 128 t)) (xhome c X) := by
  rw [Ring.homeSet_succ_tail 9 t (by omega) ht, Finset.erase_insert (Ring.bk_not_mem_homeSet 9 t ht (by decide))]

/-- With its slot and block back, the ring is at the next trip. -/
theorem ringIn_close (t : ℕ) (ht : t < 128) :
    iprop(xfree c (sl 10 t) ∗ xhome c X (bk 128 t) ∗ ringIn c X t) ⊢ ringAt c X (t + 1) := by
  unfold ringAt ringIn
  rw [show t + 1 + 9 = (t + 9) + 1 from rfl,
    show Finset.Ico (t + 1) (t + 9 + 1) = insert (t + 9) (Finset.Ico (t + 1) (t + 9)) from by ext i; simp only [Finset.mem_insert, Finset.mem_Ico]; omega,
    bs_insert (by simp), show t + 9 + 1 = t + 10 from rfl, Ring.sl_add 10 t,
    bs_erase (s := Ring.homeSet (NB := 128) 9 (t + 1)) (i := bk 128 t)
      ((Ring.mem_homeSet 9 (t + 1) (bk 128 t)).2 (.inl (by rw [Ring.bk_val ht]; exact Nat.lt_succ_self t)))]
  iintro ⟨H1, H2, H3, H4, H5⟩
  isplitl [H3 H4]
  · isplitl [H3] <;> iassumption
  isplitl [H1]; · iexact H1
  isplitl [H2] <;> iassumption

/-- Stretch 3, on the ring. -/
theorem part3_ring (t : T) (a1 a2 a3 a4 : BitVec 32) {Q : _ → sProp 𝕄} :
    iprop(ringAt c X t.val ∗ owesP (F := F) c)
      ⊢ iprop((iprop(ringIn c X t.val ∗ xfull c X (sl 10 t.val) (bk 128 t.val) ∗ xcellP (F := F) c (sl 10 t.val) ∗ xhome c X (bk 128 t.val) ∗ owesP (F := F) c)
            -∗ Q ⟨wd (ahead (t.val + 1)), wd (sent (t.val + 1)), Scalar.remui (wd t.val) 10#32, Scalar.remui (wd t.val) 2#32⟩)
        -∗ wp frame (wpE (defs₀ (F := F)) 𝒱₀ (c : Thread nD τ) none) Set.univ (P3 (F := F) t (wd (sent t.val)) (wd t.val) (wd (ahead t.val)) (wd t.val) (wd (t.val - 1)) (wd t.val) (wd (t.val - 1)) (wd t.val) (w_chk19 t) (u6 t) (u205 t) (u207 t) (u212 t) (u217 t) a1 a2 a3 a4) Q) := by
  have ht := lt_trips t
  iintro ⟨HR, HO⟩ Hk
  ihave HR := (ringAt_peel c X t.val ht) $$ HR
  icases HR with ⟨Hf, Hs, Hfree, Hh⟩
  by_cases h : t.val + 9 < 128
  · rw [show ahead t.val = t.val + 8 from by show min _ _ = _; omega, show sent t.val = t.val + 9 from by show min _ _ = _; omega,
      show ahead (t.val + 1) = t.val + 9 from by show min _ _ = _; omega, show sent (t.val + 1) = t.val + 10 from by show min _ _ = _; omega]
    ihave Hh := (homes_go c X t.val h) $$ Hh
    icases Hh with ⟨Hb, Hh⟩
    iapply (part3_go c X t h a1 a2 a3 a4) $$ [Hf HO Hfree Hb]
    · isplitl [Hfree Hb]
      · isplitl [Hfree] <;> iassumption
      · isplitl [Hf] <;> iassumption
    iintro ⟨Hn, Hd⟩
    iapply Hk
    isplitl [Hn Hs Hh]
    · unfold ringIn
      isplitl [Hn]
      · have e : slotAt c X (t.val + 9) = xflight c X (sl 10 (t.val + 9)) (bk 128 (t.val + 9)) := if_pos h
        rw [e]; iexact Hn
      isplitl [Hs] <;> iassumption
    · iexact Hd
  · rw [show ahead (t.val + 1) = ahead t.val from by show min _ _ = min _ _; omega, show sent (t.val + 1) = sent t.val from by show min _ _ = min _ _; omega]
    ihave Hh := (homes_end c X t.val ht h) $$ Hh
    iapply (part3_end c X t h _ a1 a2 a3 a4) $$ [Hf HO]
    · isplitl [Hf] <;> iassumption
    iintro Hd
    iapply Hk
    isplitl [Hfree Hs Hh]
    · unfold ringIn
      isplitl [Hfree]
      · have e : slotAt c X (t.val + 9) = xfree c (sl 10 (t.val + 9)) := if_neg h
        rw [e]; iexact Hfree
      isplitl [Hs] <;> iassumption
    · iexact Hd

/-! ## The rings of results -/

/-- The other slot of the ring of index blocks before trip `t`: the block before on its way out, if there is one. -/
def tprev (t : ℕ) : sProp 𝕄 :=
  if t = 0 then tfree (F := F) c (sl 2 (t + 1)) else tflight c (sl 2 (t - 1)) (bk 128 (t - 1)) (tB c X W (bk 128 (t - 1)))
/-- The index blocks that have landed before trip `t`. -/
def tdones (t : ℕ) : sProp 𝕄 := bigSep (Finset.range (t - 1)) (fun i => tdone c (bk 128 i) (tB c X W (bk 128 i)))
/-- The index blocks not yet written before trip `t`. -/
def ttodo (t : ℕ) : sProp 𝕄 := bigSep (Finset.Ico t 128) (fun i => iprop(∃ f, tblkP (F := F) c (bk 128 i) f))
/-- The index result before trip `t`. -/
def tring (t : ℕ) : sProp 𝕄 := iprop(tfree (F := F) c (sl 2 t) ∗ tprev c X W t ∗ tdones c X W t ∗ ttodo (F := F) c t)

theorem ttodo_peel (t : ℕ) (ht : t < 128) :
    ttodo (F := F) c t ⊢ iprop((∃ f, tblkP (F := F) c (bk 128 t) f) ∗ ttodo (F := F) c (t + 1)) := by
  unfold ttodo
  rw [Ring.Ico_eq_insert ht, bs_insert (by simp)]
theorem tdones_succ (t : ℕ) (h : t ≠ 0) :
    iprop(tdone c (bk 128 (t - 1)) (tB c X W (bk 128 (t - 1))) ∗ tdones c X W t) ⊢ tdones c X W (t + 1) := by
  unfold tdones
  obtain ⟨s, rfl⟩ : ∃ s, t = s + 1 := ⟨t - 1, by omega⟩
  rw [show s + 1 + 1 - 1 = s + 1 from rfl, show s + 1 - 1 = s from rfl, Finset.range_add_one, bs_insert Finset.notMem_range_self]
theorem tdones_first : tdones c X W 0 = tdones c X W 1 := rfl
theorem tprev_succ (t : ℕ) : tprev c X W (t + 1) = tflight c (sl 2 t) (bk 128 t) (tB c X W (bk 128 t)) := if_neg (Nat.succ_ne_zero t)

/-- The other slot of the ring of weight blocks before trip `t`: the block before on its way out, if there is one. -/
def oprev (t : ℕ) : sProp 𝕄 :=
  if t = 0 then ofree (F := F) c (sl 2 (t + 1)) else oflight c (sl 2 (t - 1)) (bk 128 (t - 1)) (oB c X W (bk 128 (t - 1)))
/-- The weight blocks that have landed before trip `t`. -/
def odones (t : ℕ) : sProp 𝕄 := bigSep (Finset.range (t - 1)) (fun i => odone c (bk 128 i) (oB c X W (bk 128 i)))
/-- The weight blocks not yet written before trip `t`. -/
def otodo (t : ℕ) : sProp 𝕄 := bigSep (Finset.Ico t 128) (fun i => iprop(∃ f, oblkP (F := F) c (bk 128 i) f))
/-- The weight result before trip `t`. -/
def oring (t : ℕ) : sProp 𝕄 := iprop(ofree (F := F) c (sl 2 t) ∗ oprev c X W t ∗ odones c X W t ∗ otodo (F := F) c t)

theorem otodo_peel (t : ℕ) (ht : t < 128) :
    otodo (F := F) c t ⊢ iprop((∃ f, oblkP (F := F) c (bk 128 t) f) ∗ otodo (F := F) c (t + 1)) := by
  unfold otodo
  rw [Ring.Ico_eq_insert ht, bs_insert (by simp)]
theorem odones_succ (t : ℕ) (h : t ≠ 0) :
    iprop(odone c (bk 128 (t - 1)) (oB c X W (bk 128 (t - 1))) ∗ odones c X W t) ⊢ odones c X W (t + 1) := by
  unfold odones
  obtain ⟨s, rfl⟩ : ∃ s, t = s + 1 := ⟨t - 1, by omega⟩
  rw [show s + 1 + 1 - 1 = s + 1 from rfl, show s + 1 - 1 = s from rfl, Finset.range_add_one, bs_insert Finset.notMem_range_self]
theorem odones_first : odones c X W 0 = odones c X W 1 := rfl
theorem oprev_succ (t : ℕ) : oprev c X W (t + 1) = oflight c (sl 2 t) (bk 128 t) (oB c X W (bk 128 t)) := if_neg (Nat.succ_ne_zero t)

theorem sl_prev (t : ℕ) (h : t ≠ 0) : sl 2 (t - 1) = sl 2 (t + 1) := by
  obtain ⟨s, rfl⟩ : ∃ s, t = s + 1 := ⟨t - 1, by omega⟩
  exact (Ring.sl_add 2 s).symm

/-- Stretch 7, on the rings of results. -/
theorem part7_ring (t : T) {Q : _ → sProp 𝕄} :
    iprop(((∃ f, ⌜(oslot (sl 2 t.val)).view.read (Elt F) f = oB c X W (bk 128 t.val)⌝ ∗ oslotP (F := F) c (sl 2 t.val) f) ∗ ocellP (F := F) c (sl 2 t.val) ∗ ∃ f, oblkP (F := F) c (bk 128 t.val) f) ∗ (tprev c X W t.val ∗ tdones c X W t.val) ∗ (oprev c X W t.val ∗ odones c X W t.val) ∗ owesP (F := F) c)
      ⊢ iprop((iprop(oflight c (sl 2 t.val) (bk 128 t.val) (oB c X W (bk 128 t.val)) ∗ (tfree (F := F) c (sl 2 (t.val + 1)) ∗ tdones c X W (t.val + 1))
            ∗ (ofree (F := F) c (sl 2 (t.val + 1)) ∗ odones c X W (t.val + 1)) ∗ owesP (F := F) c) -∗ Q ⟨wd (t.val + 1), wd (t.val + 1), wd t.val, wd t.val, wd (t.val + 1), wd (t.val + 1), Scalar.cmpi .eq (wd (t.val + 1)) 128#32⟩)
        -∗ wp frame (wpE (defs₀ (F := F)) 𝒱₀ (c : Thread nD τ) none) Set.univ (P7 (F := F) t (wd t.val) (wd t.val) (wd (t.val - 1)) (wd t.val) (wd (t.val - 1)) (wd t.val) (w_chk19 t) (u205 t) (u206 t) (u207 t) (u212 t) (u217 t) 1#1 1#32) Q) := by
  by_cases h : t.val = 0
  · have e1 : tprev c X W t.val = tfree (F := F) c (sl 2 (t.val + 1)) := if_pos h
    have e2 : oprev c X W t.val = ofree (F := F) c (sl 2 (t.val + 1)) := if_pos h
    have e3 : tdones c X W t.val = tdones c X W (t.val + 1) := by rw [h]; exact tdones_first c X W
    have e4 : odones c X W t.val = odones c X W (t.val + 1) := by rw [h]; exact odones_first c X W
    rw [e1, e2, e3, e4]
    iintro ⟨Ho, ⟨Htp, Htd⟩, ⟨Hop, Hod⟩, HO⟩ Hk
    iapply (part7_first c t h (oB c X W (bk 128 t.val))) $$ Ho
    iintro Hf
    iapply Hk
    isplitl [Hf]; · iexact Hf
    isplitl [Htp Htd]
    · isplitl [Htp] <;> iassumption
    isplitl [Hop Hod]
    · isplitl [Hop] <;> iassumption
    · iexact HO
  · have e1 : tprev c X W t.val = tflight c (sl 2 (t.val - 1)) (bk 128 (t.val - 1)) (tB c X W (bk 128 (t.val - 1))) := if_neg h
    have e2 : oprev c X W t.val = oflight c (sl 2 (t.val - 1)) (bk 128 (t.val - 1)) (oB c X W (bk 128 (t.val - 1))) := if_neg h
    rw [e1, e2]
    iintro ⟨Ho, ⟨Htp, Htd⟩, ⟨Hop, Hod⟩, HO⟩ Hk
    iapply (part7_next c t h (oB c X W (bk 128 t.val)) (tB c X W (bk 128 (t.val - 1))) (oB c X W (bk 128 (t.val - 1)))) $$ [Ho Htp Hop HO]
    · isplitl [Ho]; · iexact Ho
      isplitl [Htp]; · iexact Htp
      isplitl [Hop] <;> iassumption
    rw [sl_prev t.val h]
    iintro ⟨Hf, ⟨H1, H2⟩, ⟨H3, H4⟩, HO⟩
    iapply Hk
    isplitl [Hf]; · iexact Hf
    isplitl [Htd H1 H2]
    · isplitl [H2]; · iexact H2
      iapply (tdones_succ c X W t.val h) $$ [H1 Htd]
      isplitl [H1] <;> iassumption
    isplitl [Hod H3 H4]
    · isplitl [H4]; · iexact H4
      iapply (odones_succ c X W t.val h) $$ [H3 Hod]
      isplitl [H3] <;> iassumption
    · iexact HO

/-! ## The invariant -/

/-- The words carried into trip `t`. -/
def accAt (t : ℕ) : BitVec 32 × BitVec 32 × BitVec 32 × BitVec 32 × BitVec 32 × BitVec 32 × BitVec 32 × BitVec 32 :=
  (wd (sent t), wd t, wd (ahead t), wd t, wd (t - 1), wd t, wd (t - 1), wd (gridIx t))
/-- What the core holds before trip `t`. -/
def resAt (t : ℕ) : sProp 𝕄 :=
  iprop(wfull c W ∗ ringAt c X t ∗ tring c X W t ∗ oring c X W t ∗ owesP (F := F) c)

theorem tfree_open (s : Fin 2) : tfree (F := F) c s ⊢ iprop((∃ f, tslotP (F := F) c s f) ∗ tcellP (F := F) c s) := .rfl
theorem ofree_open (s : Fin 2) : ofree (F := F) c s ⊢ iprop((∃ f, oslotP (F := F) c s f) ∗ ocellP (F := F) c s) := .rfl

/-- The loop's body, at the launch's buffers. -/
abbrev tripBody (v w : BitVec 32) := k0_t1_body (F := F) xM (Memref.isWhole_whole _) wM (Memref.isWhole_whole _) tM (Memref.isWhole_whole _) oM (Memref.isWhole_whole _) wbM (Memref.isWhole_whole _) cc0_scratch1 xbM (Memref.isWhole_whole _) cc0_scoped1 tbM (Memref.isWhole_whole _) cc0_scoped3 obM (Memref.isWhole_whole _) cc0_scoped5 v w

/-- A trip keeps the invariant. -/
theorem trip (v w : BitVec 32) (t : T) :
    resAt c X W t.val ⊢ wp frame (wpE (defs₀ (F := F)) 𝒱₀ (c : Thread nD τ) none) Set.univ (tripBody (F := F) v w t (accAt t.val))
      (fun a => iprop(⌜a = accAt (t.val + 1)⌝ ∗ resAt c X W (t.val + 1))) := by
  have ht := lt_trips t
  unfold tripBody k0_t1_body accAt
  rw [w_gridIx t]
  simp only [Prog.bind_op, Prog.bind_ret]
  unfold resAt tring oring
  iintro ⟨Hw, HR, ⟨Htf, Htp, Htd, Htt⟩, ⟨Hof, Hop, Hod, Hot⟩, HO⟩
  rw [wp_bind]
  iapply (part1 c t)
  iintro %v1
  try dsimp only
  rw [wp_bind]
  iapply (part2 c v1 0#32)
  iintro %r2
  try dsimp only
  rw [wp_bind]
  iapply (part3_ring c X t _ _ _ _) $$ [HR HO]
  · isplitl [HR] <;> iassumption
  iintro ⟨HR, Hxf, Hxc, Hxh, HO⟩
  try dsimp only
  rw [wp_bind]
  iapply (part4 c X W t (bk 128 t.val) _) $$ [Hw Hxf]
  · isplitl [Hw] <;> iassumption
  iintro ⟨Hw, Hxf⟩
  try dsimp only
  rw [wp_bind]
  iapply (part5 c)
  try dsimp only
  rw [wp_bind]
  ihave Htf := (tfree_open c _) $$ Htf
  ihave Hof := (ofree_open c _) $$ Hof
  icases Htf with ⟨Hts, Htc⟩
  icases Hof with ⟨Hos, Hoc⟩
  ihave Htt := (ttodo_peel c t.val ht) $$ Htt
  icases Htt with ⟨Htb, Htt⟩
  ihave Hot := (otodo_peel c t.val ht) $$ Hot
  icases Hot with ⟨Hob, Hot⟩
  iapply (part6 c t _ _ _ _ _ _ _ _ _ _ _ _ _ _ _ _ _ _) $$ [Hts Htc Htb Hos]
  · isplitl [Hts]; · iexact Hts
    isplitl [Htc]; · iexact Htc
    isplitl [Htb] <;> iassumption
  iintro ⟨Htfl, Hos⟩
  try dsimp only
  rw [wp_bind]
  iapply (part7_ring c X W t) $$ [Hos Hoc Hob Htp Htd Hop Hod HO]
  · isplitl [Hos Hoc Hob]
    · isplitl [Hos]; · iexact Hos
      isplitl [Hoc] <;> iassumption
    isplitl [Htp Htd]
    · isplitl [Htp] <;> iassumption
    isplitl [Hop Hod]
    · isplitl [Hop] <;> iassumption
    · iexact HO
  iintro ⟨Hofl, ⟨Htf, Htd⟩, ⟨Hof, Hod⟩, HO⟩
  try dsimp only
  rw [y_grid t, Prog.pure_eq_ret, wp_ret]
  imodintro
  isplitr
  · ipureintro; rfl
  isplitl [Hw]; · iexact Hw
  isplitl [HR Hxf Hxc Hxh]
  · iapply (ringIn_close c X t.val ht) $$ [HR Hxf Hxc Hxh]
    isplitl [Hxf Hxc]
    · unfold xfree xfull
      icases Hxf with ⟨%f, %hf, Hxf⟩
      isplitl [Hxf]
      · iexists f; iexact Hxf
      · iexact Hxc
    isplitl [Hxh] <;> iassumption
  isplitl [Htf Htfl Htd Htt]
  · isplitl [Htf]; · iexact Htf
    isplitl [Htfl]
    · rw [tprev_succ]; iexact Htfl
    isplitl [Htd] <;> iassumption
  isplitl [Hof Hofl Hod Hot]
  · isplitl [Hof]; · iexact Hof
    isplitl [Hofl]
    · rw [oprev_succ]; iexact Hofl
    isplitl [Hod] <;> iassumption
  · iexact HO

end Cert.Proof.K2

end
-- ==== Proof.K2.Body.lean ====
/-
  The body of the kernel: the weight matrix is fetched, blocks 0 to 8 of `x` are sent for, the loop runs, and the last
  block's results are waited for.
-/
module

public import proofs.«01_k».proof.Proof.K2.Trip

@[expose] public section

noncomputable section

namespace Cert.Proof.K2

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Ring (sl bk)

local notation "𝕄" => MT nD τ sig Unit (Elt F) ℕ (UU nD τ) ℕ

variable (c : Dev nD)
  (X : Buf (Elt F) (xM.view.loc (c : Thread nD τ))) (W : Buf (Elt F) (wM.view.loc (c : Thread nD τ)))

/-! ## The weight matrix -/

abbrev wsrcP : sProp 𝕄 := wM.view.loc (c : Thread nD τ) ↦[wM.view.set]{fullShare} W
abbrev wbufP (f : Buf (Elt F) (wbM.view.loc (c : Thread nD τ))) : sProp 𝕄 := wbM.view.loc (c : Thread nD τ) ↦[wbM.view.set]{fullShare} f
abbrev wcellP : sProp 𝕄 := semVal ((c : Thread nD τ), SemLoc.dma cc0_scratch1.sem) 0

theorem wamount_pos : 0 < wbM.view.amount (SemLoc.dma cc0_scratch1.sem) := by decide
theorem wcredit : wbM.view.dmaCredit = wbM.view.amount (SemLoc.dma cc0_scratch1.sem) := rfl

theorem wfull_intro (f : Buf (Elt F) (wbM.view.loc (c : Thread nD τ))) :
    wbufP (F := F) c (wbM.view.write (Elt F) f (ReadAs.same.apply (wM.view.read (Elt F) W)) Finset.univ) ⊢ wfull c W := by
  unfold wfull
  iintro H
  iexists _
  isplitr
  rotate_left
  · iexact H
  · ipureintro; exact View.read_write_univ _ _

/-- Stretch 8 fetches the weight matrix. -/
theorem part8 {Q : _ → sProp 𝕄} :
    iprop((wsrcP c W ∗ (∃ f, wbufP (F := F) c f) ∗ wcellP (F := F) c) ∗ owesP (F := F) c)
      ⊢ iprop((∀ v, iprop(wsrcP c W ∗ wfull c W ∗ wcellP (F := F) c ∗ owesP (F := F) c) -∗ Q v)
        -∗ wp frame (wpE (defs₀ (F := F)) 𝒱₀ (c : Thread nD τ) none) Set.univ (P8 (F := F)) Q) := by
  unfold P8
  rw [k0_part8_eq_skeleton]
  unfold k0_part8_skel owesP
  simp only [Prog.lift, Prog.bind_op, Prog.bind_ret, Prog.pure_eq_ret]
  iintro ⟨⟨Hs, ⟨%f, Hd⟩, Hc⟩, ⟨%Ws, HO⟩⟩ Hk
  iapply (Transfers.wp_dmaLocal countersEmb 𝒱₀ (c : Thread nD τ) none () _ rfl wamount_pos (Finset.Subset.refl _)) $$ [Hs Hd Hc]
  · isplitl [Hs]; · iexact Hs
    isplitl [Hd] <;> iassumption
  iintro Hf
  iapply (Transfers.wp_waitLocal countersEmb 𝒱₀ (c : Thread nD τ) none () wcredit) $$ [Hf HO]
  · isplitl [Hf] <;> iassumption
  iintro ⟨⟨Hd, Hs⟩, Hc, HO⟩
  rw [wp_ret]; imodintro
  iapply Hk $$ %_
  isplitl [Hs]; · iexact Hs
  isplitl [Hd]
  · iapply (wfull_intro c W f) $$ Hd
  isplitl [Hc]; · iexact Hc
  iexists _; iexact HO

/-- Stretch 9 is empty. -/
theorem part9 (v : BitVec 32) {Q : _ → sProp 𝕄} : Q ⟨⟩ ⊢ wp frame (wpE (defs₀ (F := F)) 𝒱₀ (c : Thread nD τ) none) Set.univ (P9 (F := F) v) Q := by
  unfold P9
  rw [k0_part9_eq_skeleton]
  unfold k0_part9_skel
  simp only [Prog.pure_eq_ret]
  iintro Hk
  rw [wp_ret]; imodintro
  iexact Hk

/-! ## Blocks 0 to 8 -/

/-- Look-ahead loop 1 sends for block 1. -/
theorem go1 {α : Type} {Q : α → sProp 𝕄} {k : W3 → Prog (TpuEff nD τ sig (Elt F) (Λ₀ F) .tc) α} :
    iprop(xfree c (sl 10 1) ∗ xhome c X (bk 128 1))
      ⊢ iprop((xflight c X (sl 10 1) (bk 128 1) -∗ wp frame (wpE (defs₀ (F := F)) 𝒱₀ (c : Thread nD τ) none) Set.univ (k (wd 1, wd 2, wd 2)) Q)
        -∗ wp frame (wpE (defs₀ (F := F)) 𝒱₀ (c : Thread nD τ) none) Set.univ (.op (.call (1 : (Λ₀ F).Label) ⟨cc0_scoped1, xbM, Memref.isWhole_whole _, xM, Memref.isWhole_whole _, 0#32, (Scalar.select 0#1 0#32 (Scalar.select 1#1 (Scalar.addi 0#32 1#32) 0#32)), (Scalar.addi 0#32 1#32)⟩) k) Q) := by
  rw [show (Scalar.select 0#1 0#32 (Scalar.select 1#1 (Scalar.addi 0#32 1#32) 0#32) : BitVec 32) = wd 1 from by decide, show (Scalar.addi 0#32 1#32 : BitVec 32) = wd 1 from by decide]
  exact send1 c X ⟨0, by decide⟩ rfl

/-- Look-ahead loop 2 sends for block 2. -/
theorem go2 {α : Type} {Q : α → sProp 𝕄} {k : W3 → Prog (TpuEff nD τ sig (Elt F) (Λ₀ F) .tc) α} :
    iprop(xfree c (sl 10 2) ∗ xhome c X (bk 128 2))
      ⊢ iprop((xflight c X (sl 10 2) (bk 128 2) -∗ wp frame (wpE (defs₀ (F := F)) 𝒱₀ (c : Thread nD τ) none) Set.univ (k (wd 2, wd 3, wd 3)) Q)
        -∗ wp frame (wpE (defs₀ (F := F)) 𝒱₀ (c : Thread nD τ) none) Set.univ (.op (.call (2 : (Λ₀ F).Label) ⟨(Scalar.select (Scalar.cmpi .ult (Scalar.addi 0#32 10#32) (Scalar.addi (wd 2) 1#32)) (Scalar.addi 0#32 10#32) (Scalar.addi (wd 2) 1#32)), cc0_scoped1, xbM, Memref.isWhole_whole _, xM, Memref.isWhole_whole _, wd 1, (Scalar.select 0#1 0#32 (Scalar.select 1#1 (Scalar.addi (wd 1) 1#32) (wd 1))), wd 2⟩) k) Q) := by
  rw [show (Scalar.select (Scalar.cmpi .ult (Scalar.addi 0#32 10#32) (Scalar.addi (wd 2) 1#32)) (Scalar.addi 0#32 10#32) (Scalar.addi (wd 2) 1#32)) = wd 3 from by decide, show (Scalar.select 0#1 0#32 (Scalar.select 1#1 (Scalar.addi (wd 1) 1#32) (wd 1))) = wd 2 from by decide]
  exact send2 c X (wd 3) ⟨1, by decide⟩ (by decide) (by decide)

/-- Look-ahead loop 3 sends for block 3. -/
theorem go3 {α : Type} {Q : α → sProp 𝕄} {k : W3 → Prog (TpuEff nD τ sig (Elt F) (Λ₀ F) .tc) α} :
    iprop(xfree c (sl 10 3) ∗ xhome c X (bk 128 3))
      ⊢ iprop((xflight c X (sl 10 3) (bk 128 3) -∗ wp frame (wpE (defs₀ (F := F)) 𝒱₀ (c : Thread nD τ) none) Set.univ (k (wd 3, wd 4, wd 4)) Q)
        -∗ wp frame (wpE (defs₀ (F := F)) 𝒱₀ (c : Thread nD τ) none) Set.univ (.op (.call (3 : (Λ₀ F).Label) ⟨(Scalar.select (Scalar.cmpi .ult (Scalar.addi 0#32 10#32) (Scalar.addi (wd 3) 1#32)) (Scalar.addi 0#32 10#32) (Scalar.addi (wd 3) 1#32)), cc0_scoped1, xbM, Memref.isWhole_whole _, xM, Memref.isWhole_whole _, wd 2, (Scalar.select 0#1 0#32 (Scalar.select 1#1 (Scalar.addi (wd 2) 1#32) (wd 2))), wd 3⟩) k) Q) := by
  rw [show (Scalar.select (Scalar.cmpi .ult (Scalar.addi 0#32 10#32) (Scalar.addi (wd 3) 1#32)) (Scalar.addi 0#32 10#32) (Scalar.addi (wd 3) 1#32)) = wd 4 from by decide, show (Scalar.select 0#1 0#32 (Scalar.select 1#1 (Scalar.addi (wd 2) 1#32) (wd 2))) = wd 3 from by decide]
  exact send3 c X (wd 4) ⟨2, by decide⟩ (by decide) (by decide)

/-- Look-ahead loop 4 sends for block 4. -/
theorem go4 {α : Type} {Q : α → sProp 𝕄} {k : W3 → Prog (TpuEff nD τ sig (Elt F) (Λ₀ F) .tc) α} :
    iprop(xfree c (sl 10 4) ∗ xhome c X (bk 128 4))
      ⊢ iprop((xflight c X (sl 10 4) (bk 128 4) -∗ wp frame (wpE (defs₀ (F := F)) 𝒱₀ (c : Thread nD τ) none) Set.univ (k (wd 4, wd 5, wd 5)) Q)
        -∗ wp frame (wpE (defs₀ (F := F)) 𝒱₀ (c : Thread nD τ) none) Set.univ (.op (.call (4 : (Λ₀ F).Label) ⟨(Scalar.select (Scalar.cmpi .ult (Scalar.addi 0#32 10#32) (Scalar.addi (wd 4) 1#32)) (Scalar.addi 0#32 10#32) (Scalar.addi (wd 4) 1#32)), cc0_scoped1, xbM, Memref.isWhole_whole _, xM, Memref.isWhole_whole _, wd 3, (Scalar.select 0#1 0#32 (Scalar.select 1#1 (Scalar.addi (wd 3) 1#32) (wd 3))), wd 4⟩) k) Q) := by
  rw [show (Scalar.select (Scalar.cmpi .ult (Scalar.addi 0#32 10#32) (Scalar.addi (wd 4) 1#32)) (Scalar.addi 0#32 10#32) (Scalar.addi (wd 4) 1#32)) = wd 5 from by decide, show (Scalar.select 0#1 0#32 (Scalar.select 1#1 (Scalar.addi (wd 3) 1#32) (wd 3))) = wd 4 from by decide]
  exact send4 c X (wd 5) ⟨3, by decide⟩ (by decide) (by decide)

/-- Look-ahead loop 5 sends for block 5. -/
theorem go5 {α : Type} {Q : α → sProp 𝕄} {k : W3 → Prog (TpuEff nD τ sig (Elt F) (Λ₀ F) .tc) α} :
    iprop(xfree c (sl 10 5) ∗ xhome c X (bk 128 5))
      ⊢ iprop((xflight c X (sl 10 5) (bk 128 5) -∗ wp frame (wpE (defs₀ (F := F)) 𝒱₀ (c : Thread nD τ) none) Set.univ (k (wd 5, wd 6, wd 6)) Q)
        -∗ wp frame (wpE (defs₀ (F := F)) 𝒱₀ (c : Thread nD τ) none) Set.univ (.op (.call (5 : (Λ₀ F).Label) ⟨(Scalar.select (Scalar.cmpi .ult (Scalar.addi 0#32 10#32) (Scalar.addi (wd 5) 1#32)) (Scalar.addi 0#32 10#32) (Scalar.addi (wd 5) 1#32)), cc0_scoped1, xbM, Memref.isWhole_whole _, xM, Memref.isWhole_whole _, wd 4, (Scalar.select 0#1 0#32 (Scalar.select 1#1 (Scalar.addi (wd 4) 1#32) (wd 4))), wd 5⟩) k) Q) := by
  rw [show (Scalar.select (Scalar.cmpi .ult (Scalar.addi 0#32 10#32) (Scalar.addi (wd 5) 1#32)) (Scalar.addi 0#32 10#32) (Scalar.addi (wd 5) 1#32)) = wd 6 from by decide, show (Scalar.select 0#1 0#32 (Scalar.select 1#1 (Scalar.addi (wd 4) 1#32) (wd 4))) = wd 5 from by decide]
  exact send5 c X (wd 6) ⟨4, by decide⟩ (by decide) (by decide)

/-- Look-ahead loop 6 sends for block 6. -/
theorem go6 {α : Type} {Q : α → sProp 𝕄} {k : W3 → Prog (TpuEff nD τ sig (Elt F) (Λ₀ F) .tc) α} :
    iprop(xfree c (sl 10 6) ∗ xhome c X (bk 128 6))
      ⊢ iprop((xflight c X (sl 10 6) (bk 128 6) -∗ wp frame (wpE (defs₀ (F := F)) 𝒱₀ (c : Thread nD τ) none) Set.univ (k (wd 6, wd 7, wd 7)) Q)
        -∗ wp frame (wpE (defs₀ (F := F)) 𝒱₀ (c : Thread nD τ) none) Set.univ (.op (.call (6 : (Λ₀ F).Label) ⟨(Scalar.select (Scalar.cmpi .ult (Scalar.addi 0#32 10#32) (Scalar.addi (wd 6) 1#32)) (Scalar.addi 0#32 10#32) (Scalar.addi (wd 6) 1#32)), cc0_scoped1, xbM, Memref.isWhole_whole _, xM, Memref.isWhole_whole _, wd 5, (Scalar.select 0#1 0#32 (Scalar.select 1#1 (Scalar.addi (wd 5) 1#32) (wd 5))), wd 6⟩) k) Q) := by
  rw [show (Scalar.select (Scalar.cmpi .ult (Scalar.addi 0#32 10#32) (Scalar.addi (wd 6) 1#32)) (Scalar.addi 0#32 10#32) (Scalar.addi (wd 6) 1#32)) = wd 7 from by decide, show (Scalar.select 0#1 0#32 (Scalar.select 1#1 (Scalar.addi (wd 5) 1#32) (wd 5))) = wd 6 from by decide]
  exact send6 c X (wd 7) ⟨5, by decide⟩ (by decide) (by decide)

/-- Look-ahead loop 7 sends for block 7. -/
theorem go7 {α : Type} {Q : α → sProp 𝕄} {k : W3 → Prog (TpuEff nD τ sig (Elt F) (Λ₀ F) .tc) α} :
    iprop(xfree c (sl 10 7) ∗ xhome c X (bk 128 7))
      ⊢ iprop((xflight c X (sl 10 7) (bk 128 7) -∗ wp frame (wpE (defs₀ (F := F)) 𝒱₀ (c : Thread nD τ) none) Set.univ (k (wd 7, wd 8, wd 8)) Q)
        -∗ wp frame (wpE (defs₀ (F := F)) 𝒱₀ (c : Thread nD τ) none) Set.univ (.op (.call (7 : (Λ₀ F).Label) ⟨(Scalar.select (Scalar.cmpi .ult (Scalar.addi 0#32 10#32) (Scalar.addi (wd 7) 1#32)) (Scalar.addi 0#32 10#32) (Scalar.addi (wd 7) 1#32)), cc0_scoped1, xbM, Memref.isWhole_whole _, xM, Memref.isWhole_whole _, wd 6, (Scalar.select 0#1 0#32 (Scalar.select 1#1 (Scalar.addi (wd 6) 1#32) (wd 6))), wd 7⟩) k) Q) := by
  rw [show (Scalar.select (Scalar.cmpi .ult (Scalar.addi 0#32 10#32) (Scalar.addi (wd 7) 1#32)) (Scalar.addi 0#32 10#32) (Scalar.addi (wd 7) 1#32)) = wd 8 from by decide, show (Scalar.select 0#1 0#32 (Scalar.select 1#1 (Scalar.addi (wd 6) 1#32) (wd 6))) = wd 7 from by decide]
  exact send7 c X (wd 8) ⟨6, by decide⟩ (by decide) (by decide)

/-- Look-ahead loop 8 sends for block 8. -/
theorem go8 {α : Type} {Q : α → sProp 𝕄} {k : W3 → Prog (TpuEff nD τ sig (Elt F) (Λ₀ F) .tc) α} :
    iprop(xfree c (sl 10 8) ∗ xhome c X (bk 128 8))
      ⊢ iprop((xflight c X (sl 10 8) (bk 128 8) -∗ wp frame (wpE (defs₀ (F := F)) 𝒱₀ (c : Thread nD τ) none) Set.univ (k (wd 8, wd 9, wd 9)) Q)
        -∗ wp frame (wpE (defs₀ (F := F)) 𝒱₀ (c : Thread nD τ) none) Set.univ (.op (.call (8 : (Λ₀ F).Label) ⟨(Scalar.select (Scalar.cmpi .ult (Scalar.addi 0#32 10#32) (Scalar.addi (wd 8) 1#32)) (Scalar.addi 0#32 10#32) (Scalar.addi (wd 8) 1#32)), cc0_scoped1, xbM, Memref.isWhole_whole _, xM, Memref.isWhole_whole _, wd 7, (Scalar.select 0#1 0#32 (Scalar.select 1#1 (Scalar.addi (wd 7) 1#32) (wd 7))), wd 8⟩) k) Q) := by
  rw [show (Scalar.select (Scalar.cmpi .ult (Scalar.addi 0#32 10#32) (Scalar.addi (wd 8) 1#32)) (Scalar.addi 0#32 10#32) (Scalar.addi (wd 8) 1#32)) = wd 9 from by decide, show (Scalar.select 0#1 0#32 (Scalar.select 1#1 (Scalar.addi (wd 7) 1#32) (wd 7))) = wd 8 from by decide]
  exact send8 c X (wd 9) ⟨7, by decide⟩ (by decide) (by decide)

/-- Stretch 10 sends for blocks 0 to 3. -/
theorem part10 {Q : _ → sProp 𝕄} :
    iprop((xfree c (sl 10 0) ∗ xhome c X (bk 128 0)) ∗ (xfree c (sl 10 1) ∗ xhome c X (bk 128 1)) ∗ (xfree c (sl 10 2) ∗ xhome c X (bk 128 2)) ∗ (xfree c (sl 10 3) ∗ xhome c X (bk 128 3)))
      ⊢ iprop((iprop(xflight c X (sl 10 0) (bk 128 0) ∗ xflight c X (sl 10 1) (bk 128 1) ∗ xflight c X (sl 10 2) (bk 128 2) ∗ xflight c X (sl 10 3) (bk 128 3)) -∗ Q ⟨wd 3, wd 4⟩) -∗ wp frame (wpE (defs₀ (F := F)) 𝒱₀ (c : Thread nD τ) none) Set.univ (P10 (F := F)) Q) := by
  unfold P10
  rw [k0_part10_eq_skeleton]
  unfold k0_part10_skel
  simp only [Prog.lift, Prog.bind_op, Prog.bind_ret, Prog.pure_eq_ret]
  iintro ⟨H0, H1, H2, H3⟩ Hk
  iapply (x_issue c X none (sl 10 0) (bk 128 0) w_off1 w_off2 w_off3) $$ H0
  iintro H0
  iapply (go1 c X) $$ H1
  iintro H1
  iapply (go2 c X) $$ H2
  iintro H2
  iapply (go3 c X) $$ H3
  iintro H3
  rw [wp_ret]; imodintro
  iapply Hk
  isplitl [H0]; · iexact H0
  isplitl [H1]; · iexact H1
  isplitl [H2]; · iexact H2
  iexact H3

/-- Stretch 11 sends for blocks 4 to 7. -/
theorem part11 {Q : _ → sProp 𝕄} :
    iprop((xfree c (sl 10 4) ∗ xhome c X (bk 128 4)) ∗ (xfree c (sl 10 5) ∗ xhome c X (bk 128 5)) ∗ (xfree c (sl 10 6) ∗ xhome c X (bk 128 6)) ∗ (xfree c (sl 10 7) ∗ xhome c X (bk 128 7)))
      ⊢ iprop((iprop(xflight c X (sl 10 4) (bk 128 4) ∗ xflight c X (sl 10 5) (bk 128 5) ∗ xflight c X (sl 10 6) (bk 128 6) ∗ xflight c X (sl 10 7) (bk 128 7)) -∗ Q ⟨wd 7, wd 8⟩) -∗ wp frame (wpE (defs₀ (F := F)) 𝒱₀ (c : Thread nD τ) none) Set.univ (P11 (F := F) (wd 3) (wd 4)) Q) := by
  unfold P11
  rw [k0_part11_eq_skeleton]
  unfold k0_part11_skel
  simp only [Prog.lift, Prog.bind_op, Prog.bind_ret, Prog.pure_eq_ret]
  iintro ⟨H0, H1, H2, H3⟩ Hk
  iapply (go4 c X) $$ H0
  iintro H0
  iapply (go5 c X) $$ H1
  iintro H1
  iapply (go6 c X) $$ H2
  iintro H2
  iapply (go7 c X) $$ H3
  iintro H3
  rw [wp_ret]; imodintro
  iapply Hk
  isplitl [H0]; · iexact H0
  isplitl [H1]; · iexact H1
  isplitl [H2]; · iexact H2
  iexact H3

/-- With blocks 0 to 8 in flight, the ring is at trip 0. -/
theorem ring_start :
    iprop((xflight c X (sl 10 0) (bk 128 0) ∗ xflight c X (sl 10 1) (bk 128 1) ∗ xflight c X (sl 10 2) (bk 128 2) ∗ xflight c X (sl 10 3) (bk 128 3) ∗ xflight c X (sl 10 4) (bk 128 4) ∗ xflight c X (sl 10 5) (bk 128 5) ∗ xflight c X (sl 10 6) (bk 128 6) ∗ xflight c X (sl 10 7) (bk 128 7) ∗ xflight c X (sl 10 8) (bk 128 8)) ∗ xfree c (sl 10 9) ∗ bigSep (Ring.homeSet (NB := 128) 9 0) (xhome c X)) ⊢ ringAt c X 0 := by
  unfold ringAt
  rw [BI.bigSep_eq_bigSepL_of_eq (S := Finset.Ico 0 (0 + 9)) [0, 1, 2, 3, 4, 5, 6, 7, 8] (by decide) (by decide)]
  exact .rfl

theorem acc_start : ((wd 9, 0#32, wd 8, 0#32, 0#32, 0#32, 0#32, 0#32) : BitVec 32 × BitVec 32 × BitVec 32 × BitVec 32 × BitVec 32 × BitVec 32 × BitVec 32 × BitVec 32) = accAt 0 :=
  Prod.ext (by decide) (Prod.ext (by decide) (Prod.ext (by decide) (Prod.ext (by decide) (Prod.ext (by decide) (Prod.ext (by decide) (Prod.ext (by decide) (by decide)))))))

/-- A trip keeps the invariant, whatever words come with it. -/
theorem loop_step (k : Fin (Scf.trips k0_t1_loop.lb k0_t1_loop.ub k0_t1_loop.st)) (a : BitVec 32 × BitVec 32 × BitVec 32 × BitVec 32 × BitVec 32 × BitVec 32 × BitVec 32 × BitVec 32) :
    iprop(⌜a = accAt k.val⌝ ∗ resAt c X W k.val)
      ⊢ wp frame (wpE (defs₀ (F := F)) 𝒱₀ (c : Thread nD τ) none) Set.univ (tripBody (F := F) (wd 7) (wd 8) k a) (fun a => iprop(⌜a = accAt (k.val + 1)⌝ ∗ resAt c X W (k.val + 1))) := by
  iintro ⟨%ha, H⟩
  subst ha
  iapply (trip c X W (wd 7) (wd 8) k) $$ H

/-- Stretch 12 sends for block 8 and runs the loop. -/
theorem part12 {Q : _ → sProp 𝕄} :
    iprop((xfree c (sl 10 8) ∗ xhome c X (bk 128 8)) ∗ (xflight c X (sl 10 8) (bk 128 8) -∗ resAt c X W 0))
      ⊢ iprop((∀ v w, resAt c X W 128 -∗ Q ⟨wd 127, wd 127, wd 0, w_chk25, w_chk24, w_chk23, v, w⟩) -∗ wp frame (wpE (defs₀ (F := F)) 𝒱₀ (c : Thread nD τ) none) Set.univ (P12 (F := F) (wd 7) (wd 8)) Q) := by
  unfold P12
  rw [k0_part12_eq_skeleton]
  unfold k0_part12_skel
  simp only [Prog.lift, Prog.bind_op, Prog.bind_ret, Prog.pure_eq_ret]
  iintro ⟨H8, HR⟩ Hk
  iapply (go8 c X) $$ H8
  iintro H8
  ihave HR := HR $$ H8
  iapply (Scf.wp_for_bind frame (wpE (defs₀ (F := F)) 𝒱₀ (c : Thread nD τ) none) Set.univ k0_t1_loop.lb k0_t1_loop.ub k0_t1_loop.st k0_t1_ok
    _ (tripBody (F := F) (wd 7) (wd 8)) (fun t a => iprop(⌜a = accAt t⌝ ∗ resAt c X W t)) (loop_step c X W)) $$ [HR]
  · isplitr
    · ipureintro; exact acc_start
    · iexact HR
  iintro %a ⟨%ha, HR⟩
  rw [show Scf.trips k0_t1_loop.lb k0_t1_loop.ub k0_t1_loop.st = 128 from trips_eq] at ha ⊢
  have ha' : a = (wd (sent 128), wd 128, wd (ahead 128), wd 128, wd 127, wd 128, wd 127, wd 0) := ha
  subst ha'
  iapply (wp_assume 𝒱₀ (c : Thread nD τ) none Set.univ w_chk25)
  iapply (wp_assume 𝒱₀ (c : Thread nD τ) none Set.univ w_chk24)
  iapply (wp_assume 𝒱₀ (c : Thread nD τ) none Set.univ w_chk23)
  rw [wp_ret]; imodintro
  iapply Hk $$ %_ %_ HR

/-- Stretch 13 computes a word that nothing depends on. -/
theorem part13 (v : BitVec 32) {Q : _ → sProp 𝕄} :
    iprop(∀ r, Q r) ⊢ wp frame (wpE (defs₀ (F := F)) 𝒱₀ (c : Thread nD τ) none) Set.univ (P13 (F := F) v) Q := by
  unfold P13
  rw [k0_part13_eq_skeleton]
  unfold k0_part13_skel
  simp only [Prog.pure_eq_ret]
  iintro Hk
  rw [wp_ret]; imodintro
  iapply Hk $$ %_

/-! ## The whole body -/

/-- What the core holds as the body starts, beside what it owes. -/
def startP : sProp 𝕄 :=
  iprop((wsrcP c W ∗ (∃ f, wbufP (F := F) c f) ∗ wcellP (F := F) c)
    ∗ bigSep Finset.univ (fun s => xfree (F := F) c s) ∗ bigSep Finset.univ (xhome c X)
    ∗ (tfree (F := F) c 0 ∗ tfree (F := F) c 1) ∗ (ofree (F := F) c 0 ∗ ofree (F := F) c 1)
    ∗ bigSep Finset.univ (fun b => iprop(∃ f, tblkP (F := F) c b f)) ∗ bigSep Finset.univ (fun b => iprop(∃ f, oblkP (F := F) c b f)))
/-- What it holds as the body ends: every block of the results at its values. -/
def endP : sProp 𝕄 :=
  iprop((wsrcP c W ∗ (∃ f, wbufP (F := F) c f) ∗ wcellP (F := F) c)
    ∗ bigSep Finset.univ (fun s => xfree (F := F) c s) ∗ bigSep Finset.univ (xhome c X)
    ∗ (tfree (F := F) c 0 ∗ tfree (F := F) c 1) ∗ (ofree (F := F) c 0 ∗ ofree (F := F) c 1)
    ∗ bigSep Finset.univ (fun b => tdone c b (tB c X W b)) ∗ bigSep Finset.univ (fun b => odone c b (oB c X W b)))

omit [FloatOps F] in
/-- Over the blocks, or over their numbers. -/
theorem bigSep_blocks (Φ : Fin 128 → sProp 𝕄) : bigSep (Finset.range 128) (fun i => Φ (bk 128 i)) = bigSep Finset.univ Φ := by
  rw [← show (Finset.univ : Finset (Fin 128)).map Fin.valEmbedding = Finset.range 128 from Fin.map_valEmbedding_univ.trans (by rw [Nat.Iio_eq_range]),
    BI.bigSep_map]
  exact BI.bigSep_congr fun b _ => congrArg Φ (Fin.ext (Ring.bk_val b.isLt))

theorem ttodo_start : (bigSep Finset.univ (fun b => iprop(∃ f, tblkP (F := F) c b f)) : sProp 𝕄) ⊢ ttodo (F := F) c 0 := by
  unfold ttodo
  rw [← bigSep_blocks, Finset.range_eq_Ico]
theorem tdones_end : tdones c X W 129 ⊢ bigSep Finset.univ (fun b => tdone c b (tB c X W b)) := by
  unfold tdones
  rw [← bigSep_blocks]
theorem tring_start : iprop((tfree (F := F) c 0 ∗ tfree (F := F) c 1) ∗ ttodo (F := F) c 0) ⊢ tring c X W 0 := by
  unfold tring
  have e1 : tprev c X W 0 = tfree (F := F) c 1 := if_pos rfl
  have e2 : tdones c X W 0 = BI.emp := rfl
  rw [e1, e2]
  iintro ⟨⟨H0, H1⟩, H2⟩
  isplitl [H0]; · iexact H0
  isplitl [H1]; · iexact H1
  isplitr
  · iempintro
  · iexact H2
theorem tring_end : tring c X W 128 ⊢ iprop(tfree (F := F) c 0 ∗ tflight c (sl 2 127) (bk 128 127) (tB c X W (bk 128 127)) ∗ tdones c X W 128) := by
  unfold tring
  have e1 : tprev c X W 128 = tflight c (sl 2 127) (bk 128 127) (tB c X W (bk 128 127)) := if_neg (by decide)
  rw [e1]
  iintro ⟨H0, H1, H2, H3⟩
  isplitl [H0]; · iexact H0
  isplitl [H1] <;> iassumption
theorem otodo_start : (bigSep Finset.univ (fun b => iprop(∃ f, oblkP (F := F) c b f)) : sProp 𝕄) ⊢ otodo (F := F) c 0 := by
  unfold otodo
  rw [← bigSep_blocks, Finset.range_eq_Ico]
theorem odones_end : odones c X W 129 ⊢ bigSep Finset.univ (fun b => odone c b (oB c X W b)) := by
  unfold odones
  rw [← bigSep_blocks]
theorem oring_start : iprop((ofree (F := F) c 0 ∗ ofree (F := F) c 1) ∗ otodo (F := F) c 0) ⊢ oring c X W 0 := by
  unfold oring
  have e1 : oprev c X W 0 = ofree (F := F) c 1 := if_pos rfl
  have e2 : odones c X W 0 = BI.emp := rfl
  rw [e1, e2]
  iintro ⟨⟨H0, H1⟩, H2⟩
  isplitl [H0]; · iexact H0
  isplitl [H1]; · iexact H1
  isplitr
  · iempintro
  · iexact H2
theorem oring_end : oring c X W 128 ⊢ iprop(ofree (F := F) c 0 ∗ oflight c (sl 2 127) (bk 128 127) (oB c X W (bk 128 127)) ∗ odones c X W 128) := by
  unfold oring
  have e1 : oprev c X W 128 = oflight c (sl 2 127) (bk 128 127) (oB c X W (bk 128 127)) := if_neg (by decide)
  rw [e1]
  iintro ⟨H0, H1, H2, H3⟩
  isplitl [H0]; · iexact H0
  isplitl [H1] <;> iassumption

theorem slots_start : (bigSep Finset.univ (fun s => xfree (F := F) c s) : sProp 𝕄) ⊢ iprop(xfree (F := F) c (sl 10 0) ∗ xfree (F := F) c (sl 10 1) ∗ xfree (F := F) c (sl 10 2) ∗ xfree (F := F) c (sl 10 3) ∗ xfree (F := F) c (sl 10 4) ∗ xfree (F := F) c (sl 10 5) ∗ xfree (F := F) c (sl 10 6) ∗ xfree (F := F) c (sl 10 7) ∗ xfree (F := F) c (sl 10 8) ∗ xfree (F := F) c (sl 10 9)) := by
  rw [BI.bigSep_univ_eq_bigSepL [0, 1, 2, 3, 4, 5, 6, 7, 8, 9] (by decide) (by decide)]
  exact .rfl
theorem slots_end : iprop(xfree (F := F) c (sl 10 0) ∗ xfree (F := F) c (sl 10 1) ∗ xfree (F := F) c (sl 10 2) ∗ xfree (F := F) c (sl 10 3) ∗ xfree (F := F) c (sl 10 4) ∗ xfree (F := F) c (sl 10 5) ∗ xfree (F := F) c (sl 10 6) ∗ xfree (F := F) c (sl 10 7) ∗ xfree (F := F) c (sl 10 8) ∗ xfree (F := F) c (sl 10 9)) ⊢ (bigSep Finset.univ (fun s => xfree (F := F) c s) : sProp 𝕄) := by
  rw [BI.bigSep_univ_eq_bigSepL [0, 1, 2, 3, 4, 5, 6, 7, 8, 9] (by decide) (by decide)]
  exact .rfl
theorem homes_start : (bigSep Finset.univ (xhome c X) : sProp 𝕄)
    ⊢ iprop((xhome c X (bk 128 0) ∗ xhome c X (bk 128 1) ∗ xhome c X (bk 128 2) ∗ xhome c X (bk 128 3) ∗ xhome c X (bk 128 4) ∗ xhome c X (bk 128 5) ∗ xhome c X (bk 128 6) ∗ xhome c X (bk 128 7) ∗ xhome c X (bk 128 8)) ∗ bigSep (Ring.homeSet (NB := 128) 9 0) (xhome c X)) := by
  rw [BI.bigSep_sdiff_split (s := (Finset.univ : Finset (Fin 128))) (t := [0, 1, 2, 3, 4, 5, 6, 7, 8].toFinset) (Finset.subset_univ _),
    BI.bigSep_eq_bigSepL _ (by decide),
    show (Finset.univ : Finset (Fin 128)) \ ([0, 1, 2, 3, 4, 5, 6, 7, 8] : List (Fin 128)).toFinset = Ring.homeSet (NB := 128) 9 0 from by decide]
  exact .rfl
/-- After the last trip every slot is free and every block of `x` is home. -/
theorem ring_end : ringAt c X 128 ⊢ iprop((bigSep Finset.univ (fun s => xfree (F := F) c s)) ∗ bigSep Finset.univ (xhome c X)) := by
  unfold ringAt
  have e : (bigSep (Finset.Ico 128 (128 + 9)) (slotAt c X) : sProp 𝕄) = bigSep (Finset.Ico 128 (128 + 9)) (fun i => xfree (F := F) c (sl 10 i)) :=
    BI.bigSep_congr fun i hi => if_neg (by have := (Finset.mem_Ico.1 hi).1; omega)
  have e' : (bigSep (Finset.Ico 128 (128 + 9)) (fun i => xfree (F := F) c (sl 10 i)) : sProp 𝕄) = iprop(xfree (F := F) c (sl 10 128) ∗ xfree (F := F) c (sl 10 129) ∗ xfree (F := F) c (sl 10 130) ∗ xfree (F := F) c (sl 10 131) ∗ xfree (F := F) c (sl 10 132) ∗ xfree (F := F) c (sl 10 133) ∗ xfree (F := F) c (sl 10 134) ∗ xfree (F := F) c (sl 10 135) ∗ xfree (F := F) c (sl 10 136)) :=
    BI.bigSep_eq_bigSepL_of_eq (S := Finset.Ico 128 (128 + 9)) [128, 129, 130, 131, 132, 133, 134, 135, 136] (by decide) (by decide) _
  rw [e, e', Ring.homeSet_last 9 128 le_rfl]
  iintro ⟨⟨H8, H9, H0, H1, H2, H3, H4, H5, H6⟩, H7, Hh⟩
  isplitr [Hh]
  · iapply (slots_end c) $$ [H0 H1 H2 H3 H4 H5 H6 H7 H8 H9]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iexact Hh

/-- The body, up to the last wait. -/
theorem part14 {Q : _ → sProp 𝕄} :
    iprop(startP c X W ∗ owesP (F := F) c)
      ⊢ iprop((iprop((wsrcP c W ∗ (∃ f, wbufP (F := F) c f) ∗ wcellP (F := F) c)
            ∗ ((bigSep Finset.univ (fun s => xfree (F := F) c s)) ∗ bigSep Finset.univ (xhome c X))
            ∗ ((tfree (F := F) c 0 ∗ tfree (F := F) c 1) ∗ bigSep Finset.univ (fun b => tdone c b (tB c X W b)))
            ∗ oring c X W 128 ∗ owesP (F := F) c) -∗ Q ⟨wd 127, wd 0, w_chk25, w_chk24⟩) -∗ wp frame (wpE (defs₀ (F := F)) 𝒱₀ (c : Thread nD τ) none) Set.univ (P14 (F := F)) Q) := by
  unfold P14
  rw [k0_part14_eq_skeleton]
  unfold k0_part14_skel startP
  simp only [Prog.lift, Prog.pure_eq_ret]
  iintro ⟨⟨Hw, Hs, Hh, Ht, Ho, Htt, Hot⟩, HO⟩ Hk
  ihave Hs := (slots_start c) $$ Hs
  icases Hs with ⟨S0, S1, S2, S3, S4, S5, S6, S7, S8, S9⟩
  ihave Hh := (homes_start c X) $$ Hh
  icases Hh with ⟨⟨h0, h1, h2, h3, h4, h5, h6, h7, h8⟩, Hh⟩
  ihave Htt := (ttodo_start c) $$ Htt
  ihave Hot := (otodo_start c) $$ Hot
  ihave Ht := (tring_start c X W) $$ [Ht Htt]
  · isplitl [Ht] <;> iassumption
  ihave Ho := (oring_start c X W) $$ [Ho Hot]
  · isplitl [Ho] <;> iassumption
  rw [wp_bind]
  iapply (part8 c W) $$ [Hw HO]
  · isplitl [Hw] <;> iassumption
  iintro %v ⟨Hws, Hwf, Hwc, HO⟩
  rw [wp_bind]
  iapply (part9 c v)
  rw [wp_bind]
  iapply (part10 c X) $$ [S0 S1 S2 S3 h0 h1 h2 h3]
  · isplitl [S0 h0]
    · isplitl [S0] <;> iassumption
    isplitl [S1 h1]
    · isplitl [S1] <;> iassumption
    isplitl [S2 h2]
    · isplitl [S2] <;> iassumption
    isplitl [S3] <;> iassumption
  iintro ⟨f0, f1, f2, f3⟩
  try dsimp only
  rw [wp_bind]
  iapply (part11 c X) $$ [S4 S5 S6 S7 h4 h5 h6 h7]
  · isplitl [S4 h4]
    · isplitl [S4] <;> iassumption
    isplitl [S5 h5]
    · isplitl [S5] <;> iassumption
    isplitl [S6 h6]
    · isplitl [S6] <;> iassumption
    isplitl [S7] <;> iassumption
  iintro ⟨f4, f5, f6, f7⟩
  try dsimp only
  rw [wp_bind]
  iapply (part12 c X W) $$ [S8 h8 S9 Hh Ht Ho HO Hwf f0 f1 f2 f3 f4 f5 f6 f7]
  · isplitl [S8 h8]
    · isplitl [S8] <;> iassumption
    iintro f8
    unfold resAt
    isplitl [Hwf]; · iexact Hwf
    isplitr [Ht Ho HO]
    · iapply (ring_start c X) $$ [S9 Hh f0 f1 f2 f3 f4 f5 f6 f7 f8]
      isplitr [S9 Hh]
      · isplitl [f0]; · iexact f0
        isplitl [f1]; · iexact f1
        isplitl [f2]; · iexact f2
        isplitl [f3]; · iexact f3
        isplitl [f4]; · iexact f4
        isplitl [f5]; · iexact f5
        isplitl [f6]; · iexact f6
        isplitl [f7]; · iexact f7
        iexact f8
      · isplitl [S9] <;> iassumption
    isplitl [Ht]; · iexact Ht
    isplitl [Ho] <;> iassumption
  unfold resAt
  iintro %v1 %v2 ⟨Hwf, HR, Ht, Ho, HO⟩
  try dsimp only
  rw [wp_bind]
  iapply (part13 c v2)
  iintro %v3
  try simp only [Prog.bind_op, Prog.bind_ret]
  ihave Ht := (tring_end c X W) $$ Ht
  icases Ht with ⟨Ht0, Htf, Htd⟩
  iapply (t_wait c none (sl 2 127) (bk 128 127) (tB c X W (bk 128 127)) w_off49 w_off50 w_off51) $$ [Htf HO]
  · isplitl [Htf] <;> iassumption
  iintro ⟨Htl, Ht1, HO⟩
  rw [wp_ret]; imodintro
  iapply Hk
  isplitl [Hws Hwf Hwc]
  · isplitl [Hws]; · iexact Hws
    isplitl [Hwf]
    · unfold wfull
      icases Hwf with ⟨%f, %hf, Hwf⟩
      iexists f; iexact Hwf
    · iexact Hwc
  isplitl [HR]
  · iapply (ring_end c X) $$ HR
  isplitl [Ht0 Ht1 Htl Htd]
  · isplitl [Ht0 Ht1]
    · isplitl [Ht0]; · iexact Ht0
      iexact Ht1
    · iapply (tdones_end c X W)
      iapply (tdones_succ c X W 128 (by decide)) $$ [Htl Htd]
      isplitl [Htl] <;> iassumption
  isplitl [Ho] <;> iassumption

/-- The kernel's body, from `startP` to `endP`. -/
theorem body (t : Fin (cfg0 (F := F)).N) :
    iprop(startP c X W ∗ owesP (F := F) c)
      ⊢ wp frame (wpE (defs₀ (F := F)) 𝒱₀ (c : Thread nD τ) none) Set.univ (bodyAt0 (F := F) t) (fun _ => iprop(endP c X W ∗ owesP (F := F) c)) := by
  unfold bodyAt0
  rw [cc0__router_body2_eq_skeleton]
  unfold cc0__router_body2_skel endP
  simp only [Prog.lift, Prog.pure_eq_ret]
  rw [wp_bind]
  iintro H
  iapply (part14 c X W) $$ H
  iintro ⟨Hw, ⟨Hs, Hh⟩, ⟨Ht, Htd⟩, Ho, HO⟩
  ihave Ho := (oring_end c X W) $$ Ho
  icases Ho with ⟨Ho0, Hof, Hod⟩
  try simp only [Prog.bind_op, Prog.bind_ret]
  iapply (o_wait c none (sl 2 127) (bk 128 127) (oB c X W (bk 128 127)) w_off52 w_off53 w_off54) $$ [Hof HO]
  · isplitl [Hof] <;> iassumption
  iintro ⟨Hol, Ho1, HO⟩
  rw [wp_ret]; imodintro
  isplitr [HO]
  · isplitl [Hw]; · iexact Hw
    isplitl [Hs]; · iexact Hs
    isplitl [Hh]; · iexact Hh
    isplitl [Ht]; · iexact Ht
    isplitl [Ho0 Ho1]
    · isplitl [Ho0]; · iexact Ho0
      iexact Ho1
    isplitl [Htd]; · iexact Htd
    iapply (odones_end c X W)
    iapply (odones_succ c X W 128 (by decide)) $$ [Hol Hod]
    isplitl [Hol] <;> iassumption
  · iexact HO

end Cert.Proof.K2

end
-- ==== Proof.K2.Run.lean ====
/-
  The launch of the router: the three arrays and the three rings are cut into blocks and slots, the body runs on the one
  point, and the pieces are joined back. Each result ends, block by block, at the values the body computed.
-/
module

public import proofs.«01_k».proof.Proof.K2.Body

@[expose] public section

noncomputable section

namespace Cert.Proof.K2

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Ring (sl bk)

local notation "𝕄" => MT nD τ sig Unit (Elt F) ℕ (UU nD τ) ℕ

open Idealize.ShloMosaic.Pipeline (Dat Cfg Window BodyObligation cellOf)

variable (m : (ℓ : Loc nD τ sig) → Buf (Elt F) ℓ) (ρ : Dev nD → PrngReg)

/-! ## The kernel's own semaphores -/

/-- The weight matrix's cell, the ten cells of the ring of `x` blocks, and the two of each result ring. -/
abbrev osem : Fin 15 → SemLoc sig
  | ⟨0, _⟩ => .dma cc0_scratch1.sem
  | ⟨1, _⟩ => .dma (xcell 0) | ⟨2, _⟩ => .dma (xcell 1) | ⟨3, _⟩ => .dma (xcell 2) | ⟨4, _⟩ => .dma (xcell 3) | ⟨5, _⟩ => .dma (xcell 4)
  | ⟨6, _⟩ => .dma (xcell 5) | ⟨7, _⟩ => .dma (xcell 6) | ⟨8, _⟩ => .dma (xcell 7) | ⟨9, _⟩ => .dma (xcell 8) | ⟨10, _⟩ => .dma (xcell 9)
  | ⟨11, _⟩ => .dma (tcell 0) | ⟨12, _⟩ => .dma (tcell 1) | ⟨13, _⟩ => .dma (ocell 0) | ⟨_ + 14, _⟩ => .dma (ocell 1)
theorem ownSemFacts : Pipeline.OwnSemFacts (cfg0 (F := F)).spec osem := ⟨by decide, by decide, fun _ w => w.elim0⟩

/-! ## Blocks and slots cover what they are cut from -/

theorem xblk_set (b : Fin 128) : (xblk b).view.set = (xblkR b).set := View.set_slice_whole _ _
theorem xblk_disjoint : ∀ b b' : Fin 128, b ≠ b' → Disjoint (xblkR b).set (xblkR b').set := fun b b' h =>
  Ring.lead_disjoint (s := S32768x4096) (0 : Fin 2) 256 (fun b : Fin 128 => blkOff b) S256x4096.size xOff_inb (fun b => by simp) rfl b b' h
theorem xblk_cover : (Finset.univ : Finset (Fin 128)).biUnion (fun b => (xblkR b).set) = Finset.univ :=
  Ring.lead_cover (s := S32768x4096) (0 : Fin 2) 256 (fun b : Fin 128 => blkOff b) S256x4096.size xOff_inb (fun b => by simp)
    (fun b a h => by fin_cases a <;> simp_all) rfl (fun a h => by fin_cases a <;> simp_all) rfl

theorem rblk_set (b : Fin 128) : (tblk b).view.set = (rblkR b).set := View.set_slice_whole _ _
theorem rblk_disjoint : ∀ b b' : Fin 128, b ≠ b' → Disjoint (rblkR b).set (rblkR b').set := fun b b' h =>
  Ring.lead_disjoint (s := S32768x8) (0 : Fin 2) 256 (fun b : Fin 128 => blkOff b) S256x8.size rOff_inb (fun b => by simp) rfl b b' h
theorem rblk_cover : (Finset.univ : Finset (Fin 128)).biUnion (fun b => (rblkR b).set) = Finset.univ :=
  Ring.lead_cover (s := S32768x8) (0 : Fin 2) 256 (fun b : Fin 128 => blkOff b) S256x8.size rOff_inb (fun b => by simp)
    (fun b a h => by fin_cases a <;> simp_all) rfl (fun a h => by fin_cases a <;> simp_all) rfl
theorem oblk_set (b : Fin 128) : (oblk b).view.set = (rblkR b).set := View.set_slice_whole _ _

theorem xsl_set (b : Fin 10) : (xslot b).view.set = (xslotR b).set := (View.set_reshape _ _).trans (View.set_slice_whole _ _)
theorem xsl_disjoint : ∀ b b' : Fin 10, b ≠ b' → Disjoint (xslotR b).set (xslotR b').set := fun b b' h =>
  Ring.lead_disjoint (s := S10x256x4096) (0 : Fin 3) 1 (fun b : Fin 10 => slotOff b) S1x256x4096.size xsOff_inb (fun b => by simp) rfl b b' h
theorem xsl_cover : (Finset.univ : Finset (Fin 10)).biUnion (fun b => (xslotR b).set) = Finset.univ :=
  Ring.lead_cover (s := S10x256x4096) (0 : Fin 3) 1 (fun b : Fin 10 => slotOff b) S1x256x4096.size xsOff_inb (fun b => by simp)
    (fun b a h => by fin_cases a <;> simp_all) rfl (fun a h => by fin_cases a <;> simp_all) rfl

theorem rsl_set (b : Fin 2) : (tslot b).view.set = (rslotR b).set := (View.set_reshape _ _).trans (View.set_slice_whole _ _)
theorem rsl_disjoint : ∀ b b' : Fin 2, b ≠ b' → Disjoint (rslotR b).set (rslotR b').set := fun b b' h =>
  Ring.lead_disjoint (s := S2x256x8) (0 : Fin 3) 1 (fun b : Fin 2 => slotOff b) S1x256x8.size rsOff_inb (fun b => by simp) rfl b b' h
theorem rsl_cover : (Finset.univ : Finset (Fin 2)).biUnion (fun b => (rslotR b).set) = Finset.univ :=
  Ring.lead_cover (s := S2x256x8) (0 : Fin 3) 1 (fun b : Fin 2 => slotOff b) S1x256x8.size rsOff_inb (fun b => by simp)
    (fun b a h => by fin_cases a <;> simp_all) rfl (fun a h => by fin_cases a <;> simp_all) rfl
theorem osl_set (s : Fin 2) : (oslot s).view.set = (rslotR s).set := (View.set_reshape _ _).trans (View.set_slice_whole _ _)

section Pieces
variable (c : Dev nD)

/-- `x` whole is its 128 blocks. -/
theorem x_eq (X : Buf (Elt F) (xM.view.loc (c : Thread nD τ))) :
    (((c : Thread nD τ).loc main_arg0) ↦{fullShare} X : sProp 𝕄) = bigSep Finset.univ (xhome c X) := by
  rw [Ring.pointsTo_blocks (ℓ := (c : Thread nD τ).loc main_arg0) (fun b => (xblkR b).set) xblk_disjoint xblk_cover]
  exact BI.bigSep_congr fun b _ => by rw [← xblk_set]
theorem w_eq (W : Buf (Elt F) (wM.view.loc (c : Thread nD τ))) :
    (((c : Thread nD τ).loc main_arg1) ↦{fullShare} W : sProp 𝕄) = wsrcP c W := by
  unfold wsrcP; rw [show wM.view.set = Finset.univ from View.set_whole _]
theorem wbuf_eq (f : Buf (Elt F) (wbM.view.loc (c : Thread nD τ))) :
    (((c : Thread nD τ).loc cc0_scratch0) ↦{fullShare} f : sProp 𝕄) = wbufP c f := by
  unfold wbufP; rw [show wbM.view.set = Finset.univ from View.set_whole _]

theorem tblk_some (b : Fin 128) (f : Buf (Elt F) (tM.view.loc (c : Thread nD τ))) :
    tblkP (F := F) c b f ⊢ iprop(∃ f, tblkP (F := F) c b f) := by
  iintro H
  iexists f; iexact H
theorem t_split (f : Buf (Elt F) (tM.view.loc (c : Thread nD τ))) :
    (((c : Thread nD τ).loc main_v0_0) ↦{fullShare} f : sProp 𝕄) ⊢ bigSep Finset.univ (fun b => iprop(∃ f, tblkP (F := F) c b f)) := by
  rw [Ring.pointsTo_blocks (ℓ := (c : Thread nD τ).loc main_v0_0) (fun b => (rblkR b).set) rblk_disjoint rblk_cover]
  exact BI.bigSep_mono fun b _ => by rw [← rblk_set b]; exact tblk_some c b f
/-- The blocks done, joined: the whole result, each block of it at its values. -/
theorem t_join (f₀ : Buf (Elt F) ((c : Thread nD τ).loc main_v0_0)) (v : Fin 128 → S256x8.Idx → Elt F .i32) :
    (bigSep Finset.univ (fun b => tdone (F := F) c b (v b)) : sProp 𝕄)
      ⊢ iprop(∃ g : Buf (Elt F) ((c : Thread nD τ).loc main_v0_0), ⌜∀ b, (tblk b).view.read (Elt F) g = v b⌝ ∗ ((c : Thread nD τ).loc main_v0_0) ↦{fullShare} g) := by
  have : Nonempty (Buf (Elt F) ((c : Thread nD τ).loc main_v0_0)) := ⟨f₀⟩
  unfold tdone
  refine (BI.bigSep_exists_pi Finset.univ (fun b (f : Buf (Elt F) ((c : Thread nD τ).loc main_v0_0)) =>
    iprop(⌜(tblk b).view.read (Elt F) f = v b⌝ ∗ tblkP (F := F) c b f))).trans ?_
  iintro ⟨%fs, H⟩
  ihave H := (BI.bigSep_pure_sep Finset.univ _ _) $$ H
  icases H with ⟨%hv, H⟩
  ihave H := (pointsTo_biUnion_join (Ix := Unit) (Name := ℕ) (U := UU nD τ) (Lvl := ℕ) (q := fullShare) (ℓ := (c : Thread nD τ).loc main_v0_0) Finset.univ (fun b => (tblk b).view.set) fs f₀
    (fun b _ b' _ h => by rw [rblk_set, rblk_set]; exact rblk_disjoint b b' h)) $$ H
  icases H with ⟨%g, %hg, H⟩
  iexists g
  isplitr
  · ipureintro
    intro b
    exact (View.read_congr fun i hi => hg b (Finset.mem_univ _) i hi).trans (hv b (Finset.mem_univ _))
  · rw [show (Finset.univ : Finset (Fin 128)).biUnion (fun b => (tblk b).view.set) = Finset.univ from
      (Finset.biUnion_congr rfl fun b _ => rblk_set b).trans rblk_cover]
    iexact H

theorem oblk_some (b : Fin 128) (f : Buf (Elt F) (oM.view.loc (c : Thread nD τ))) :
    oblkP (F := F) c b f ⊢ iprop(∃ f, oblkP (F := F) c b f) := by
  iintro H
  iexists f; iexact H
theorem o_split (f : Buf (Elt F) (oM.view.loc (c : Thread nD τ))) :
    (((c : Thread nD τ).loc main_v0_1) ↦{fullShare} f : sProp 𝕄) ⊢ bigSep Finset.univ (fun b => iprop(∃ f, oblkP (F := F) c b f)) := by
  rw [Ring.pointsTo_blocks (ℓ := (c : Thread nD τ).loc main_v0_1) (fun b => (rblkR b).set) rblk_disjoint rblk_cover]
  exact BI.bigSep_mono fun b _ => by rw [← oblk_set b]; exact oblk_some c b f
/-- The blocks done, joined: the whole result, each block of it at its values. -/
theorem o_join (f₀ : Buf (Elt F) ((c : Thread nD τ).loc main_v0_1)) (v : Fin 128 → S256x8.Idx → Elt F .f32) :
    (bigSep Finset.univ (fun b => odone (F := F) c b (v b)) : sProp 𝕄)
      ⊢ iprop(∃ g : Buf (Elt F) ((c : Thread nD τ).loc main_v0_1), ⌜∀ b, (oblk b).view.read (Elt F) g = v b⌝ ∗ ((c : Thread nD τ).loc main_v0_1) ↦{fullShare} g) := by
  have : Nonempty (Buf (Elt F) ((c : Thread nD τ).loc main_v0_1)) := ⟨f₀⟩
  unfold odone
  refine (BI.bigSep_exists_pi Finset.univ (fun b (f : Buf (Elt F) ((c : Thread nD τ).loc main_v0_1)) =>
    iprop(⌜(oblk b).view.read (Elt F) f = v b⌝ ∗ oblkP (F := F) c b f))).trans ?_
  iintro ⟨%fs, H⟩
  ihave H := (BI.bigSep_pure_sep Finset.univ _ _) $$ H
  icases H with ⟨%hv, H⟩
  ihave H := (pointsTo_biUnion_join (Ix := Unit) (Name := ℕ) (U := UU nD τ) (Lvl := ℕ) (q := fullShare) (ℓ := (c : Thread nD τ).loc main_v0_1) Finset.univ (fun b => (oblk b).view.set) fs f₀
    (fun b _ b' _ h => by rw [oblk_set, oblk_set]; exact rblk_disjoint b b' h)) $$ H
  icases H with ⟨%g, %hg, H⟩
  iexists g
  isplitr
  · ipureintro
    intro b
    exact (View.read_congr fun i hi => hg b (Finset.mem_univ _) i hi).trans (hv b (Finset.mem_univ _))
  · rw [show (Finset.univ : Finset (Fin 128)).biUnion (fun b => (oblk b).view.set) = Finset.univ from
      (Finset.biUnion_congr rfl fun b _ => oblk_set b).trans rblk_cover]
    iexact H

theorem xslot_some (s : Fin 10) (f : Buf (Elt F) (xbM.view.loc (c : Thread nD τ))) :
    xslotP (F := F) c s f ⊢ iprop(∃ f, xslotP (F := F) c s f) := by
  iintro H
  iexists f; iexact H
theorem xring_split : iprop(∃ f : Buf (Elt F) ((c : Thread nD τ).loc cc0_scoped0), ((c : Thread nD τ).loc cc0_scoped0) ↦{fullShare} f)
    ⊢ (bigSep Finset.univ (fun s => iprop(∃ f, xslotP (F := F) c s f)) : sProp 𝕄) := by
  iintro ⟨%f, H⟩
  ihave H := (entails_of_eq (Ring.pointsTo_blocks (Ix := Unit) (Name := ℕ) (U := UU nD τ) (Lvl := ℕ) (q := fullShare) (ℓ := (c : Thread nD τ).loc cc0_scoped0) (fun s => (xslotR s).set) xsl_disjoint xsl_cover f)) $$ H
  have h : (bigSep Finset.univ (fun s => (((c : Thread nD τ).loc cc0_scoped0) ↦[(xslotR s).set]{fullShare} f : sProp 𝕄)))
      ⊢ bigSep Finset.univ (fun s => iprop(∃ f, xslotP (F := F) c s f)) :=
    BI.bigSep_mono fun s _ => by rw [← xsl_set s]; exact xslot_some c s f
  iapply h $$ H
theorem xring_join (f₀ : Buf (Elt F) ((c : Thread nD τ).loc cc0_scoped0)) : (bigSep Finset.univ (fun s => iprop(∃ f, xslotP (F := F) c s f)) : sProp 𝕄)
    ⊢ iprop(∃ f : Buf (Elt F) ((c : Thread nD τ).loc cc0_scoped0), ((c : Thread nD τ).loc cc0_scoped0) ↦{fullShare} f) := by
  have h : ∀ s, (iprop(∃ f, xslotP (F := F) c s f) : sProp 𝕄) ⊢ iprop(∃ f, ((c : Thread nD τ).loc cc0_scoped0) ↦[(xslotR s).set]{fullShare} f) := fun s => by
    rw [← xsl_set s]
  exact BIBase.Entails.trans (BI.bigSep_mono fun s _ => h s)
    (Ring.pointsTo_blocks_join_exists (ℓ := (c : Thread nD τ).loc cc0_scoped0) (fun s => (xslotR s).set) xsl_disjoint xsl_cover f₀)

theorem tslot_some (s : Fin 2) (f : Buf (Elt F) (tbM.view.loc (c : Thread nD τ))) :
    tslotP (F := F) c s f ⊢ iprop(∃ f, tslotP (F := F) c s f) := by
  iintro H
  iexists f; iexact H
theorem tring_split : iprop(∃ f : Buf (Elt F) ((c : Thread nD τ).loc cc0_scoped2), ((c : Thread nD τ).loc cc0_scoped2) ↦{fullShare} f)
    ⊢ (bigSep Finset.univ (fun s => iprop(∃ f, tslotP (F := F) c s f)) : sProp 𝕄) := by
  iintro ⟨%f, H⟩
  ihave H := (entails_of_eq (Ring.pointsTo_blocks (Ix := Unit) (Name := ℕ) (U := UU nD τ) (Lvl := ℕ) (q := fullShare) (ℓ := (c : Thread nD τ).loc cc0_scoped2) (fun s => (rslotR s).set) rsl_disjoint rsl_cover f)) $$ H
  have h : (bigSep Finset.univ (fun s => (((c : Thread nD τ).loc cc0_scoped2) ↦[(rslotR s).set]{fullShare} f : sProp 𝕄)))
      ⊢ bigSep Finset.univ (fun s => iprop(∃ f, tslotP (F := F) c s f)) :=
    BI.bigSep_mono fun s _ => by rw [← rsl_set s]; exact tslot_some c s f
  iapply h $$ H
theorem tring_join (f₀ : Buf (Elt F) ((c : Thread nD τ).loc cc0_scoped2)) : (bigSep Finset.univ (fun s => iprop(∃ f, tslotP (F := F) c s f)) : sProp 𝕄)
    ⊢ iprop(∃ f : Buf (Elt F) ((c : Thread nD τ).loc cc0_scoped2), ((c : Thread nD τ).loc cc0_scoped2) ↦{fullShare} f) := by
  have h : ∀ s, (iprop(∃ f, tslotP (F := F) c s f) : sProp 𝕄) ⊢ iprop(∃ f, ((c : Thread nD τ).loc cc0_scoped2) ↦[(rslotR s).set]{fullShare} f) := fun s => by
    rw [← rsl_set s]
  exact BIBase.Entails.trans (BI.bigSep_mono fun s _ => h s)
    (Ring.pointsTo_blocks_join_exists (ℓ := (c : Thread nD τ).loc cc0_scoped2) (fun s => (rslotR s).set) rsl_disjoint rsl_cover f₀)

theorem oslot_some (s : Fin 2) (f : Buf (Elt F) (obM.view.loc (c : Thread nD τ))) :
    oslotP (F := F) c s f ⊢ iprop(∃ f, oslotP (F := F) c s f) := by
  iintro H
  iexists f; iexact H
theorem oring_split : iprop(∃ f : Buf (Elt F) ((c : Thread nD τ).loc cc0_scoped4), ((c : Thread nD τ).loc cc0_scoped4) ↦{fullShare} f)
    ⊢ (bigSep Finset.univ (fun s => iprop(∃ f, oslotP (F := F) c s f)) : sProp 𝕄) := by
  iintro ⟨%f, H⟩
  ihave H := (entails_of_eq (Ring.pointsTo_blocks (Ix := Unit) (Name := ℕ) (U := UU nD τ) (Lvl := ℕ) (q := fullShare) (ℓ := (c : Thread nD τ).loc cc0_scoped4) (fun s => (rslotR s).set) rsl_disjoint rsl_cover f)) $$ H
  have h : (bigSep Finset.univ (fun s => (((c : Thread nD τ).loc cc0_scoped4) ↦[(rslotR s).set]{fullShare} f : sProp 𝕄)))
      ⊢ bigSep Finset.univ (fun s => iprop(∃ f, oslotP (F := F) c s f)) :=
    BI.bigSep_mono fun s _ => by rw [← osl_set s]; exact oslot_some c s f
  iapply h $$ H
theorem oring_join (f₀ : Buf (Elt F) ((c : Thread nD τ).loc cc0_scoped4)) : (bigSep Finset.univ (fun s => iprop(∃ f, oslotP (F := F) c s f)) : sProp 𝕄)
    ⊢ iprop(∃ f : Buf (Elt F) ((c : Thread nD τ).loc cc0_scoped4), ((c : Thread nD τ).loc cc0_scoped4) ↦{fullShare} f) := by
  have h : ∀ s, (iprop(∃ f, oslotP (F := F) c s f) : sProp 𝕄) ⊢ iprop(∃ f, ((c : Thread nD τ).loc cc0_scoped4) ↦[(rslotR s).set]{fullShare} f) := fun s => by
    rw [← osl_set s]
  exact BIBase.Entails.trans (BI.bigSep_mono fun s _ => h s)
    (Ring.pointsTo_blocks_join_exists (ℓ := (c : Thread nD τ).loc cc0_scoped4) (fun s => (rslotR s).set) rsl_disjoint rsl_cover f₀)

/-- The kernel's own cells at zero, by name. -/
theorem ownSems0_eq : (Pipeline.ownSems0 (Ix := Unit) (Name := ℕ) (U := UU nD τ) (Lvl := ℕ) (Val := Elt F) (τ := τ) osem c : sProp 𝕄)
    = iprop(wcellP (F := F) c ∗ xcellP (F := F) c 0 ∗ xcellP (F := F) c 1 ∗ xcellP (F := F) c 2 ∗ xcellP (F := F) c 3 ∗ xcellP (F := F) c 4 ∗ xcellP (F := F) c 5 ∗ xcellP (F := F) c 6 ∗ xcellP (F := F) c 7 ∗ xcellP (F := F) c 8 ∗ xcellP (F := F) c 9 ∗ tcellP (F := F) c 0 ∗ tcellP (F := F) c 1 ∗ ocellP (F := F) c 0 ∗ ocellP (F := F) c 1) := by
  unfold Pipeline.ownSems0
  exact BI.bigSep_univ_eq_bigSepL ([0, 1, 2, 3, 4, 5, 6, 7, 8, 9, 10, 11, 12, 13, 14] : List (Fin 15)) (by decide) (by decide) _
theorem xcells_eq : (bigSep Finset.univ (fun s => xcellP (F := F) c s) : sProp 𝕄) = iprop(xcellP (F := F) c 0 ∗ xcellP (F := F) c 1 ∗ xcellP (F := F) c 2 ∗ xcellP (F := F) c 3 ∗ xcellP (F := F) c 4 ∗ xcellP (F := F) c 5 ∗ xcellP (F := F) c 6 ∗ xcellP (F := F) c 7 ∗ xcellP (F := F) c 8 ∗ xcellP (F := F) c 9) :=
  BI.bigSep_univ_eq_bigSepL [0, 1, 2, 3, 4, 5, 6, 7, 8, 9] (by decide) (by decide) _
theorem xfree_eq : (bigSep Finset.univ (fun s => xfree (F := F) c s) : sProp 𝕄)
    = iprop((bigSep Finset.univ (fun s => iprop(∃ f, xslotP (F := F) c s f))) ∗ bigSep Finset.univ (fun s => xcellP (F := F) c s)) :=
  BI.bigSep_sep' _ _ _
theorem tfree_eq : iprop((bigSep Finset.univ (fun s => iprop(∃ f, tslotP (F := F) c s f))) ∗ (tcellP (F := F) c 0 ∗ tcellP (F := F) c 1))
    = (iprop(tfree (F := F) c 0 ∗ tfree (F := F) c 1) : sProp 𝕄) := by
  rw [← show (bigSep Finset.univ (fun s => tcellP (F := F) c s) : sProp 𝕄) = iprop(tcellP (F := F) c 0 ∗ tcellP (F := F) c 1) from
      BI.bigSep_univ_eq_bigSepL [0, 1] (by decide) (by decide) _,
    ← show (bigSep Finset.univ (fun s => tfree (F := F) c s) : sProp 𝕄) = iprop(tfree (F := F) c 0 ∗ tfree (F := F) c 1) from
      BI.bigSep_univ_eq_bigSepL [0, 1] (by decide) (by decide) _]
  exact (BI.bigSep_sep' _ _ _).symm
theorem ofree_eq : iprop((bigSep Finset.univ (fun s => iprop(∃ f, oslotP (F := F) c s f))) ∗ (ocellP (F := F) c 0 ∗ ocellP (F := F) c 1))
    = (iprop(ofree (F := F) c 0 ∗ ofree (F := F) c 1) : sProp 𝕄) := by
  rw [← show (bigSep Finset.univ (fun s => ocellP (F := F) c s) : sProp 𝕄) = iprop(ocellP (F := F) c 0 ∗ ocellP (F := F) c 1) from
      BI.bigSep_univ_eq_bigSepL [0, 1] (by decide) (by decide) _,
    ← show (bigSep Finset.univ (fun s => ofree (F := F) c s) : sProp 𝕄) = iprop(ofree (F := F) c 0 ∗ ofree (F := F) c 1) from
      BI.bigSep_univ_eq_bigSepL [0, 1] (by decide) (by decide) _]
  exact (BI.bigSep_sep' _ _ _).symm

end Pieces

/-! ## The pipeline's proof data -/

abbrev XV (c : Dev nD) : Buf (Elt F) (xM.view.loc (c : Thread nD τ)) := (s₀ m ρ).mem _
abbrev WV (c : Dev nD) : Buf (Elt F) (wM.view.loc (c : Thread nD τ)) := (s₀ m ρ).mem _

/-- Before the one point, what the body starts from; after it, what it leaves. -/
def Φ (c : Dev nD) (t : Fin ((cfg0 (F := F)).N + 1)) : sProp 𝕄 :=
  if t.val = 0 then startP c (XV m ρ c) (WV m ρ c) else endP c (XV m ρ c) (WV m ρ c)
def dats (_ : Fin 1) (c : Dev nD) : Dat τ (Elt F) Unit ℕ (UU nD τ) ℕ (cfg0 (F := F)) c where
  A w := w.elim0
  after w t := w.elim0
  Φ t := Φ m ρ c t
  q _ := fullShare
  owed _ := 0

theorem Φ_first (c : Dev nD) (t : Fin (cfg0 (F := F)).N) : (dats m ρ 0 c).Φ t.castSucc = startP c (XV m ρ c) (WV m ρ c) := by
  show Φ m ρ c t.castSucc = _
  unfold Φ
  exact if_pos (by have := fin_N0 t; subst this; rfl)
theorem Φ_last (c : Dev nD) (t : Fin (cfg0 (F := F)).N) : (dats m ρ 0 c).Φ t.succ = endP c (XV m ρ c) (WV m ρ c) := by
  show Φ m ρ c t.succ = _
  unfold Φ
  exact if_neg (by simp)

/-- The body table's entry is the kernel on its whole arrays. -/
theorem defs_tc (t : Fin (cfg0 (F := F)).N) : (defs₀ (F := F)) .tc (cfg0 (F := F)).body = fun _ => bodyAt0 (F := F) t := rfl
theorem prog_eq (t : Fin (cfg0 (F := F)).N) :
    (defs₀ (F := F)) .tc (cfg0 (F := F)).body ((cfg0 (F := F)).bodyArgs t ((cfg0 (F := F)).slots t)) = bodyAt0 (F := F) t :=
  (congrFun (defs_tc t) _).trans rfl

set_option backward.isDefEq.respectTransparency.types false in
/-- The body meets what the pipeline asks of it. -/
theorem body_obligation (c : Dev nD) : BodyObligation (dats (F := F) m ρ 0 c) (defs₀ (F := F)) 𝒱₀ () Set.univ := fun t => by
  rw [Φ_first, Φ_last]
  unfold Dat.owesAt Pipeline.owesWithin
  rw [show (dats m ρ 0 c).owed t.castSucc = 0 from rfl, show (dats m ρ 0 c).owed t.succ = 0 from rfl]
  rw [show (Finset.univ : Finset (Fin (cfg0 (F := F)).W)) = ∅ from rfl]
  simp only [bigSep_empty]
  sl_rw [prog_eq t]
  refine BIBase.Entails.trans ?_ ((body c (XV m ρ c) (WV m ρ c) t).trans (wp_mono _ _ _ fun _ => ?_))
  · unfold owesP
    iintro ⟨HS, ⟨%Ws, -, HO⟩, -⟩
    isplitl [HS]; · iexact HS
    iexists Ws; iexact HO
  · unfold owesP
    iintro ⟨HS, ⟨%Ws, HO⟩⟩
    isplitl [HS]; · iexact HS
    isplitl [HO]
    · iexists Ws; isplitr; · ipureintro; exact fun _ _ => Or.inl trivial
      iexact HO
    iempintro

/-! ## The run -/

/-- What the run leaves on core `c`: the arguments as they were, each result block at its values. -/
def Final (c : Dev nD) (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ (∀ b, (tblk b).view.read (Elt F) (s.mem ((c : Thread nD τ).loc main_v0_0)) = tB c (XV m ρ c) (WV m ρ c) b)
  ∧ (∀ b, (oblk b).view.read (Elt F) (s.mem ((c : Thread nD τ).loc main_v0_1)) = oB c (XV m ρ c) (WV m ρ c) b)

def intoΦ (c : Dev nD) : sProp 𝕄 :=
  iprop((bigSep Finset.univ (xhome c (XV m ρ c)) ∗ wsrcP c (WV m ρ c)
    ∗ bigSep Finset.univ (fun b => iprop(∃ f, tblkP (F := F) c b f)) ∗ bigSep Finset.univ (fun b => iprop(∃ f, oblkP (F := F) c b f)))
    ∗ Pipeline.ownSems0 osem c)
def outOfΦ (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (∃ g : Buf (Elt F) ((c : Thread nD τ).loc main_v0_0), ⌜∀ b, (tblk b).view.read (Elt F) g = tB c (XV m ρ c) (WV m ρ c) b⌝ ∗ ((c : Thread nD τ).loc main_v0_0) ↦{fullShare} g)
    ∗ (∃ g : Buf (Elt F) ((c : Thread nD τ).loc main_v0_1), ⌜∀ b, (oblk b).view.read (Elt F) g = oB c (XV m ρ c) (WV m ρ c) b⌝ ∗ ((c : Thread nD τ).loc main_v0_1) ↦{fullShare} g))
def u₀ : UU nD τ := (initOf (Pipeline.cells (cfgs (F := F)) cellOf_inj) (Pipeline.launchToks (cfgs (F := F)) cellOf_inj), 1)

/-- What the launch hands the region is what the body starts from. -/
theorem enter (c : Dev nD) : iprop(intoΦ m ρ c ∗ Pipeline.scopedRest (cfg0 (F := F)).spec c) ⊢ startP c (XV m ρ c) (WV m ρ c) := by
  rw [scopedRest0_eq]
  unfold intoΦ startP
  rw [ownSems0_eq, xfree_eq, xcells_eq, ← tfree_eq, ← ofree_eq]
  iintro ⟨⟨⟨Hx, Hw, Ht, Ho⟩, Hwc, C0, C1, C2, C3, C4, C5, C6, C7, C8, C9, T0, T1, O0, O1⟩, ⟨%fw, Hwb⟩, Hxr, Htr, Hor⟩
  isplitl [Hw Hwb Hwc]
  · isplitl [Hw]; · iexact Hw
    isplitl [Hwb]
    · iexists fw
      iapply (entails_of_eq (wbuf_eq c fw)) $$ Hwb
    · iexact Hwc
  isplitl [Hxr C0 C1 C2 C3 C4 C5 C6 C7 C8 C9]
  · isplitl [Hxr]
    · iapply (xring_split c) $$ Hxr
    isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    iexact C9
  isplitl [Hx]; · iexact Hx
  isplitl [Htr T0 T1]
  · isplitl [Htr]
    · iapply (tring_split c) $$ Htr
    isplitl [T0]; · iexact T0
    iexact T1
  isplitl [Hor O0 O1]
  · isplitl [Hor]
    · iapply (oring_split c) $$ Hor
    isplitl [O0]; · iexact O0
    iexact O1
  isplitl [Ht]; · iexact Ht
  iexact Ho

/-- What the body leaves is what the region hands back. -/
theorem leave (c : Dev nD) : endP c (XV m ρ c) (WV m ρ c)
    ⊢ iprop(outOfΦ m ρ c ∗ Pipeline.ownSems0 osem c ∗ Pipeline.scopedRest (cfg0 (F := F)).spec c) := by
  rw [scopedRest0_eq, ownSems0_eq]
  unfold outOfΦ endP
  rw [xfree_eq, xcells_eq, ← tfree_eq, ← ofree_eq]
  iintro ⟨⟨Hw, ⟨%fw, Hwb⟩, Hwc⟩, ⟨Hxr, C0, C1, C2, C3, C4, C5, C6, C7, C8, C9⟩, Hx, ⟨Htr, T0, T1⟩, ⟨Hor, O0, O1⟩, Ht, Ho⟩
  isplitl [Hx Hw Ht Ho]
  · isplitl [Hx]
    · iapply (entails_of_eq (x_eq c (XV m ρ c)).symm) $$ Hx
    isplitl [Hw]
    · iapply (entails_of_eq (w_eq c (WV m ρ c)).symm) $$ Hw
    isplitl [Ht]
    · iapply (t_join c ((s₀ m ρ).mem _) _) $$ Ht
    · iapply (o_join c ((s₀ m ρ).mem _) _) $$ Ho
  isplitl [Hwc C0 C1 C2 C3 C4 C5 C6 C7 C8 C9 T0 T1 O0 O1]
  · isplitl [Hwc]; · iexact Hwc
    isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [T0]; · iexact T0
    isplitl [T1]; · iexact T1
    isplitl [O0]; · iexact O0
    iexact O1
  isplitl [Hwb]
  · iexists fw
    iapply (entails_of_eq (wbuf_eq c fw).symm) $$ Hwb
  isplitl [Hxr]
  · iapply (xring_join c ((s₀ m ρ).mem _)) $$ Hxr
  isplitl [Htr]
  · iapply (tring_join c ((s₀ m ρ).mem _)) $$ Htr
  · iapply (oring_join c ((s₀ m ρ).mem _)) $$ Hor

set_option backward.isDefEq.respectTransparency.types false in
/-- From any memory with zero counters every weakly fair execution terminates without fault; every final state has the
    arguments unchanged, each result block at its values, and every counter at zero. -/
theorem run_main : θ_run defs (onTc (τ := τ) (main (F := F))) (s₀ m ρ) (fun r => (∀ c, Final m ρ c r.2) ∧ r.2.sem = fun _ => 0) :=
  Pipeline.θ_run_region_kit_quiescent (cfgs (F := F)) (dats m ρ) () (0 : Fin 1) launch0 ownSemFacts EP defs₀ 𝒱₀ m ρ main
    (hbody := fun c => (body_obligation m ρ c).loose) (hshare := fun c => (dats m ρ 0 c).share_full fun _ => rfl)
    (howed := fun _ _ => rfl)
    (G := fun _ => iprop(emp)) (u₀ := u₀ (F := F))
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, fn_kernel2.body, Prog.lift, Prog.bind_op, Prog.bind_ret]
      iintro ⟨Hk, Hb⟩; iapply Hk; iexact Hb)
    (hA := fun _ w => w.elim0)
    (X := intoΦ m ρ) (Y := outOfΦ m ρ) (Z := fun _ => iprop(emp))
    (hX := fun c => by
      rw [unscopedRest0_eq, x_eq c (XV m ρ c), w_eq c (WV m ρ c)]
      unfold intoΦ
      iintro ⟨⟨H0, H1, H2, H3⟩, HS, -, -, -⟩; imodintro
      isplitl [H0 H1 H2 H3 HS]
      · isplitl [H0 H1 H2 H3]
        · isplitl [H0]; · iexact H0
          isplitl [H1]; · iexact H1
          isplitl [H2]
          · iapply (t_split c _) $$ H2
          · iapply (o_split c _) $$ H3
        · iexact HS
      iempintro)
    (hin := fun c => enter m ρ c)
    (hout := fun c => leave m ρ c)
    (QY := Final m ρ)
    (hY := fun c s' => by
      unfold outOfΦ
      iintro ⟨⟨H0, H1, ⟨%gt, %ht, H2⟩, ⟨%go, %ho, H3⟩⟩, -, HSI⟩
      icombine HSI H0 gives %h0
      icombine HSI H1 gives %h1
      icombine HSI H2 gives %h2
      icombine HSI H3 gives %h3
      imodintro
      isplitr
      · ipureintro
        refine ⟨Buf.eq_of_forall_mem_univ h0, Buf.eq_of_forall_mem_univ h1, fun b => ?_, fun b => ?_⟩
        · rw [← ht b]; exact congrArg _ (Buf.eq_of_forall_mem_univ h2)
        · rw [← ho b]; exact congrArg _ (Buf.eq_of_forall_mem_univ h3)
      iexact HSI)
    (hQ := fun _ hh hz => ⟨fun c => (hh c).2, hz⟩)

end Cert.Proof.K2

end
-- ==== Proof.Frames.lean ====
/- The frames of the four programs. The two pipelined kernels' frames are read off their runs (the second kernel's text
   read on machine floats and over the extended reals declares its loops' states twice, hence a run for each); the
   reference runs on the host alone. -/
module

public import proofs.«01_k».proof.Defs
public import proofs.«01_k».proof.Proof.Gen.Kernel
public import proofs.«01_k».proof.Proof.Gen.Kernel2
public import proofs.«01_k».proof.Proof.Gen.Kernel2Ideal
public import proofs.«01_k».proof.Proof.Gen.Reference2Ideal.Run
public import proofs.«01_k».proof.Proof.K1.Run
public import proofs.«01_k».proof.Proof.K2.Run
public import proofs.«01_k».proof.Proof.K3.Run

@[expose] public section

noncomputable section

namespace Cert.Proof

open Idealize.ShloMosaic Idealize.SL.Sem

/-- The kernel as written terminates, leaves its arguments as they were, and ends with every semaphore at zero. -/
theorem frame_kernel : Cert.quiescent_Kernel := fun m ρ _ =>
  (θ_run Cert.Kernel.defs _ _).mono (fun _ h => ⟨fun c => ⟨(h.1 c).1, (h.1 c).2.1⟩, h.2⟩) (K1.run_main (F := Bits) m ρ)

/-- So does the kernel whose keys are pairs, on machine floats. -/
theorem frame_kernel2 : Cert.quiescent_Kernel2 := fun m ρ _ =>
  (θ_run Cert.Kernel2.defs _ _).mono (fun _ h => ⟨fun c => ⟨(h.1 c).1, (h.1 c).2.1⟩, h.2⟩) (K3.run_main (F := Bits) m ρ)

/-- And the same text over the extended reals. -/
theorem frame_kernel2_ideal : Cert.quiescent_Kernel2Ideal := fun m ρ _ =>
  (θ_run Cert.Kernel2Ideal.defs _ _).mono (fun _ h => ⟨fun c => ⟨(h.1 c).1, (h.1 c).2.1⟩, h.2⟩) (K2.run_main (F := Ideal) m ρ)

/-- The reference has host operations only and no semaphore; its run leaves its arguments as they were. -/
theorem frame_reference2_ideal : Cert.quiescent_Reference2Ideal := fun m ρ _ =>
  (θ_run Cert.Reference2Ideal.defs _ _).mono
    (fun r h => ⟨fun c => ⟨(h c).2.2.1, (h c).2.2.2⟩, sem_eq_zero_of_no_sems (by decide) r.2⟩)
    (Cert.Reference2Ideal.Value.run (F := Ideal) m ρ)

end Cert.Proof

end
-- ==== Proof.V.Rounds.lean ====
/- The selection by rounds, as plain mathematics: over a column `v` of `n` extended reals, all above minus infinity, a
   round takes the least position that holds the maximum and overwrites it by minus infinity. The positions taken in
   the first `n` rounds are those at which a stable descending sort of `v` reads. -/
module

public import Idealize.ShloMosaic.Lib.SortPrefix
public import Mathlib.Data.EReal.Basic
public import Mathlib.Data.Fintype.Lattice

@[expose] public section

noncomputable section

namespace Cert.Proof.V

open Idealize.ShloMosaic

open scoped Classical in
/-- The positions that hold the maximum of a column. -/
def tops {n : ℕ} (y : Fin n → EReal) : Finset (Fin n) :=
  Finset.univ.filter fun e => y e = Finset.univ.sup y

/-- A nonempty column holds its maximum somewhere. -/
theorem tops_nonempty {n : ℕ} [NeZero n] (y : Fin n → EReal) : (tops y).Nonempty := by
  obtain ⟨e, -, he⟩ := Finset.exists_mem_eq_sup (Finset.univ : Finset (Fin n)) Finset.univ_nonempty y
  exact ⟨e, by simp [tops, he]⟩

/-- The least position that holds the maximum. -/
def pick {n : ℕ} [NeZero n] (y : Fin n → EReal) : Fin n := (tops y).min' (tops_nonempty y)

/-- The column after a round: the position taken is minus infinity. -/
def next {n : ℕ} [NeZero n] (y : Fin n → EReal) : Fin n → EReal := fun e => if e = pick y then ⊥ else y e

/-- The column before round `r`. -/
def col {n : ℕ} [NeZero n] (v : Fin n → EReal) : ℕ → Fin n → EReal
  | 0 => v
  | r + 1 => next (col v r)

/-- The position taken in round `r`. -/
def sel {n : ℕ} [NeZero n] (v : Fin n → EReal) (r : ℕ) : Fin n := pick (col v r)

section
variable {n : ℕ} [NeZero n]

/-- The position taken holds the maximum. -/
theorem pick_max (y : Fin n → EReal) : y (pick y) = Finset.univ.sup y := by
  have h := Finset.min'_mem _ (tops_nonempty y)
  simpa [tops, pick] using h

/-- Nothing in the column exceeds the entry taken. -/
theorem le_pick (y : Fin n → EReal) (e : Fin n) : y e ≤ y (pick y) :=
  (Finset.le_sup (f := y) (Finset.mem_univ e)).trans_eq (pick_max y).symm

/-- Of the positions that hold the maximum the one taken is the least. -/
theorem pick_least (y : Fin n → EReal) (e : Fin n) (h : y e = y (pick y)) : pick y ≤ e := by
  have h' := h.trans (pick_max y)
  exact Finset.min'_le _ _ (by simp [tops, h'])

/-- A position that holds the maximum and below which nothing does is the one taken. -/
theorem eq_pick (y : Fin n → EReal) (e : Fin n) (h : y e = Finset.univ.sup y)
    (hl : ∀ e', y e' = Finset.univ.sup y → e ≤ e') : e = pick y :=
  le_antisymm (hl _ (pick_max y)) (pick_least y e (h.trans (pick_max y).symm))

/-- A position not yet taken still holds its own entry. -/
theorem col_of_not_taken (v : Fin n → EReal) (e : Fin n) :
    ∀ r, (∀ q, q < r → sel v q ≠ e) → col v r e = v e
  | 0, _ => rfl
  | r + 1, h => by
    show (if e = pick (col v r) then ⊥ else col v r e) = v e
    rw [if_neg fun he => h r (Nat.lt_succ_self r) he.symm]
    exact col_of_not_taken v e r fun q hq => h q (Nat.lt_succ_of_lt hq)

/-- A position taken before holds minus infinity. -/
theorem col_of_taken (v : Fin n → EReal) (q : ℕ) : ∀ r, q < r → col v r (sel v q) = ⊥
  | 0, h => absurd h (Nat.not_lt_zero q)
  | r + 1, h => by
    show (if sel v q = pick (col v r) then ⊥ else col v r (sel v q)) = ⊥
    rcases Nat.lt_succ_iff_lt_or_eq.mp h with h | rfl
    · rw [col_of_taken v q r h, ite_self]
    · exact if_pos rfl

variable {v : Fin n → EReal} (hv : ∀ e, ⊥ < v e)
include hv

/-- While fewer than all positions are taken, the entry taken next is above minus infinity. -/
theorem bot_lt_col_sel (r : ℕ) (hr : r < n) : ⊥ < col v r (sel v r) := by
  have : ∃ e : Fin n, ∀ q, q < r → sel v q ≠ e := by
    by_contra hcon
    push Not at hcon
    have hsub : (Finset.univ : Finset (Fin n)) ⊆ (Finset.range r).image (sel v) := fun e _ => by
      obtain ⟨q, hq, he⟩ := hcon e
      exact Finset.mem_image.mpr ⟨q, Finset.mem_range.mpr hq, he⟩
    have := (Finset.card_le_card hsub).trans Finset.card_image_le
    simp at this
    omega
  obtain ⟨e, he⟩ := this
  calc ⊥ < v e := hv e
    _ = col v r e := (col_of_not_taken v e r he).symm
    _ ≤ _ := le_pick _ e

/-- A position is taken once. -/
theorem sel_ne (q r : ℕ) (hq : q < r) (hr : r < n) : sel v q ≠ sel v r := fun h => by
  have := bot_lt_col_sel hv r hr
  rw [← h, col_of_taken v q r hq] at this
  exact lt_irrefl _ this

/-- The maximum of a round is the column's own entry at the position taken. -/
theorem col_sel (r : ℕ) (hr : r < n) : col v r (sel v r) = v (sel v r) :=
  col_of_not_taken v _ r fun q hq => sel_ne hv q r hq hr

/-- The maximum of round `r`. -/
theorem sup_col (r : ℕ) (hr : r < n) : Finset.univ.sup (col v r) = v (sel v r) :=
  (pick_max _).symm.trans (col_sel hv r hr)

/-- No position left over before round `r` exceeds the one taken, and if it ties it comes later. -/
theorem sel_first (r : ℕ) (hr : r < n) (p : Fin n) (hp : ∀ q, q < r → sel v q ≠ p) :
    v p ≤ v (sel v r) ∧ (v p = v (sel v r) → sel v r ≤ p) := by
  rw [← col_of_not_taken v p r hp, ← col_sel hv r hr]
  exact ⟨le_pick _ p, pick_least _ p⟩

/-- The first round takes the greatest entry of all. -/
theorem le_sel_zero (p : Fin n) : v p ≤ v (sel v 0) := le_pick v p

end

/-- Two relations that agree where the later position is compared with the earlier one sort a strictly increasing list
    alike: insertion asks only whether a later element goes before an earlier one. -/
theorem stableSort_congr_of_increasing {n : ℕ} (R R' : Fin n → Fin n → Bool)
    (h : ∀ a b, a < b → R b a = R' b a) : ∀ l : List (Fin n), l.Pairwise (· < ·) → stableSort R l = stableSort R' l
  | [], _ => rfl
  | a :: l, hl => by
    rw [List.pairwise_cons] at hl
    unfold stableSort
    rw [stableSort_congr_of_increasing R R' h l hl.2]
    exact insertBefore_congr R R' a _ fun b hb => h a b (hl.1 b ((perm_stableSort R' l).mem_iff.mp hb))

/-- The same in positions. -/
theorem sortedFrom_congr_of_later {n : ℕ} (R R' : Fin n → Fin n → Bool) (h : ∀ a b, a < b → R b a = R' b a) :
    sortedFrom R = sortedFrom R' := by
  have e : sortPositions n R = sortPositions n R' :=
    stableSort_congr_of_increasing R R' h _ (List.pairwise_lt_finRange n)
  funext k
  unfold sortedFrom
  rw [List.get_of_eq e]
  rfl

/-- THE SELECTION IS THE SORT: of a column above minus infinity, the position that round `i` takes is the one at which
    a stable descending sort reads its entry `i`. -/
theorem sortedFrom_eq_sel {n : ℕ} [NeZero n] {v : Fin n → EReal} (hv : ∀ e, ⊥ < v e)
    (B : Fin n → Fin n → Bool) (hB : ∀ a b, B a b = decide (v b < v a)) (k : Fin n) : sortedFrom B k = sel v k := by
  classical
  have hS := StrictTotalBefore.of_key_then_position (fun a b : EReal => decide (b < a)) v
    (fun a => by simp) (fun a b c hab hbc => by
      simp only [decide_eq_true_eq] at *; exact lt_trans hbc hab)
    (fun a b => by
      simp only [decide_eq_true_eq]
      rcases lt_trichotomy a b with h | h | h
      · exact Or.inr (Or.inr h)
      · exact Or.inr (Or.inl h)
      · exact Or.inl h)
  have e : sortedFrom B = sortedFrom fun k k' : Fin n =>
      decide (v k' < v k) || (decide (v k = v k') && decide (k < k')) :=
    sortedFrom_congr_of_later B _ fun a b hab => by
      rw [hB b a, decide_eq_false (p := b < a) (not_lt.mpr hab.le), Bool.and_false, Bool.or_false]
  rw [e]
  have key : ∀ (i : ℕ) (_ : i < n) (p : Fin n), (∀ q, q < i → sel v q ≠ p) →
      (decide (v (sel v i) < v p) || (decide (v p = v (sel v i)) && decide (p < sel v i))) = false := fun i hi p hp => by
    obtain ⟨h1, h2⟩ := sel_first hv i hi p hp
    rw [decide_eq_false (not_lt.mpr h1), Bool.false_or, Bool.and_eq_false_iff]
    by_cases e : v p = v (sel v i)
    · exact Or.inr (decide_eq_false (not_lt.mpr (h2 e)))
    · exact Or.inl (decide_eq_false e)
  have inj : ∀ i j : Fin n, sel v i = sel v j → i = j := fun i j h => by
    rcases lt_trichotomy i j with hij | hij | hij
    · exact absurd h (sel_ne hv i j hij j.isLt)
    · exact hij
    · exact absurd h.symm (sel_ne hv j i hij i.isLt)
  exact hS.sortedFrom_eq_of_prefix le_rfl (fun i : Fin n => sel v i) (fun i j h => inj i j h)
    (fun i j hij => key i i.isLt _ fun q hq h => sel_ne hv q j (hq.trans hij) j.isLt h)
    (fun i p hp => key i i.isLt p fun q hq => hp ⟨q, hq.trans i.isLt⟩) k

end Cert.Proof.V

end
-- ==== Proof.V.Payload.lean ====
/- What one block's body computes, read at an index over the extended reals: a round's maximum, the index it takes and
   the block after it are the maximum, the position and the column of the rounds in Rounds.lean; the two tiles stored are the
   positions taken in rounds 0..7, and the exponentials of the maxima over their sum. -/
module

public import proofs.«01_k».proof.Proof.K2.Parts
public import proofs.«01_k».proof.Proof.V.Rounds
public import Idealize.ShloMosaic.Lib.Pointwise
public import Idealize.ShloMosaic.Lib.ValueIdx

@[expose] public section

noncomputable section

namespace Cert.Proof.V

open Cert.Kernel2Ideal Cert.Kernel2Ideal.Gen
open Idealize.ShloMosaic

variable {F : FTy → Type} [FloatOps F]

/-! ## The body in terms of one round -/

/-- The greatest logit of each token. -/
def kmax (y : FVec F S64x256 .f32) : FVec F S1x256 .f32 :=
  shapeCast S1x256 (multiReduction .maximumf [0] S256 y 0xFF800000#32 reduces_S64x256_S256 (.inl rfl) rfl) shapeCasts_S256_S1x256

/-- The expert numbers, down each column. -/
def kiota : IVec S64x256 32 := iota .tc S64x256 32 [0] iota_S64x256_d0_w32

/-- The least expert number at which a token's greatest logit stands. -/
def kidx (y : FVec F S64x256 .f32) : IVec S1x256 32 :=
  shapeCast S1x256 (multiReductionI .minsi [0] S256
    (select (cmpf .oeq y (broadcastTo S64x256 (kmax y) broadcasts_S1x256_S64x256)) kiota (broadcast S64x256 64#32))
    2147483647#32 reduces_S64x256_S256 rfl) shapeCasts_S256_S1x256

/-- The logits with that expert's overwritten by minus infinity. -/
def knext (y : FVec F S64x256 .f32) : FVec F S64x256 .f32 :=
  select (cmpi .eq kiota (broadcastTo S64x256 (kidx y) broadcasts_S1x256_S64x256))
    (broadcast S64x256 (Scalar.ofBits .f32 0xFF800000#32)) y

/-- The logits before round `r`. -/
def kcol (y : FVec F S64x256 .f32) : ℕ → FVec F S64x256 .f32
  | 0 => y
  | r + 1 => knext (kcol y r)

/-- The eight maxima, one round a row. -/
def kmaxes (y : FVec F S64x256 .f32) : FVec F S8x256 .f32 :=
  concatenate S8x256 0 [⟨S1x256, kmax (kcol y 0)⟩, ⟨S1x256, kmax (kcol y 1)⟩, ⟨S1x256, kmax (kcol y 2)⟩, ⟨S1x256, kmax (kcol y 3)⟩,
    ⟨S1x256, kmax (kcol y 4)⟩, ⟨S1x256, kmax (kcol y 5)⟩, ⟨S1x256, kmax (kcol y 6)⟩, ⟨S1x256, kmax (kcol y 7)⟩]
    concatenates_S1x256_S1x256_S1x256_S1x256_S1x256_S1x256_S1x256_S1x256_S8x256_d0

/-- The eight expert numbers, one round a row. -/
def kidxes (y : FVec F S64x256 .f32) : IVec S8x256 32 :=
  concatenate S8x256 0 [⟨S1x256, kidx (kcol y 0)⟩, ⟨S1x256, kidx (kcol y 1)⟩, ⟨S1x256, kidx (kcol y 2)⟩, ⟨S1x256, kidx (kcol y 3)⟩,
    ⟨S1x256, kidx (kcol y 4)⟩, ⟨S1x256, kidx (kcol y 5)⟩, ⟨S1x256, kidx (kcol y 6)⟩, ⟨S1x256, kidx (kcol y 7)⟩]
    concatenates_S1x256_S1x256_S1x256_S1x256_S1x256_S1x256_S1x256_S1x256_S8x256_d0

/-- The exponentials of the maxima less the first. -/
def kexp (t : FVec F S8x256 .f32) : FVec F S8x256 .f32 :=
  exp (subf t (broadcastTo S8x256 (extractStridedSlice S1x256 ![0, 0] t slices_S8x256_o0_0_S1x256) broadcasts_S1x256_S8x256))

/-- Those over their sum. -/
def ksoft (t : FVec F S8x256 .f32) : FVec F S8x256 .f32 :=
  divf (kexp t) (broadcastTo S8x256 (shapeCast S1x256
    (multiReduction .add [0] S256 (kexp t) 0x00000000#32 reduces_S8x256_S256 (.inl rfl) rfl) shapeCasts_S256_S1x256) broadcasts_S1x256_S8x256)

/-- The tile of indices is the eight rows of expert numbers, turned. -/
theorem tv_eq (w : Vec F S64x4096 .f32) (x : Vec F S1x256x4096 .f32) :
    K2.tv w x = shapeCast S1x256x8 (transpose S256x8 [1, 0] (kidxes (k0_pay1 w x)) transposes_S8x256_p1_0_S256x8) shapeCasts_S256x8_S1x256x8 := rfl

/-- The tile of weights is the quotients, turned. -/
theorem ov_eq (w : Vec F S64x4096 .f32) (x : Vec F S1x256x4096 .f32) :
    K2.ov w x = shapeCast S1x256x8 (transpose S256x8 [1, 0] (ksoft (kmaxes (k0_pay1 w x))) transposes_S8x256_p1_0_S256x8) shapeCasts_S256x8_S1x256x8 := rfl

/-! ## Read at an index -/

/-- A token's column of logits. -/
abbrev colOf (y : FVec Ideal S64x256 .f32) (l : Fin 256) : Fin 64 → EReal := fun e => y (ix2 e l)

/-- The mask's word is minus infinity. -/
theorem ofBits_neg_inf : Ideal.ofBits .f32 4286578688#32 = ⊥ := by
  simp [Ideal.ofBits, Ideal.ieee]

/-- A maximum folded from minus infinity is the supremum. -/
theorem fold_max_bot {n : ℕ} (f : Fin n → EReal) : Finset.fold max ⊥ f Finset.univ = Finset.univ.sup f := rfl

/-- A signed minimum of words, read as integers, is the integers' minimum. -/
theorem toInt_minsi (a b : BitVec 32) : (IntOp.minsi a b).toInt = min a.toInt b.toInt := by
  unfold IntOp.minsi
  simp only [BitVec.slt, decide_eq_true_eq]
  split <;> omega

/-- A small natural's word, read as an integer. -/
theorem toInt_ofNat (n : ℕ) (h : n < 2 ^ 31) : (BitVec.ofNat 32 n).toInt = n := by
  rw [BitVec.toInt_eq_toNat_of_lt (by rw [BitVec.toNat_ofNat]; omega), BitVec.toNat_ofNat]
  omega

/-- Words of two expert numbers are equal when the numbers are. -/
theorem ofNat_eq_iff (a b : Fin 64) : BitVec.ofNat 32 a.val = BitVec.ofNat 32 b.val ↔ a = b := by
  constructor
  · intro h
    have := congrArg BitVec.toInt h
    rw [toInt_ofNat _ (by omega), toInt_ofNat _ (by omega)] at this
    exact Fin.ext (by exact_mod_cast this)
  · rintro rfl; rfl

/-- The signed minimum of the expert numbers at the maximum (64 elsewhere) is the least of them. -/
theorem fold_minsi_eq_pick (v : Fin 64 → EReal) :
    Finset.fold IntOp.minsi 2147483647#32 (fun e => if v e = Finset.univ.sup v then BitVec.ofNat 32 e.val else 64#32) Finset.univ
      = BitVec.ofNat 32 (pick v).val := by
  apply BitVec.eq_of_toInt_eq
  rw [← Finset.fold_hom (op' := min) (m := BitVec.toInt) toInt_minsi, toInt_ofNat (pick v).val (by omega)]
  have e64 : (64#32 : BitVec 32).toInt = 64 := by decide
  have emax : (2147483647#32 : BitVec 32).toInt = 2147483647 := by decide
  refine le_antisymm ((Finset.fold_min_le _).mpr (Or.inr ⟨pick v, Finset.mem_univ _, ?_⟩))
    ((Finset.le_fold_min _).mpr ⟨?_, fun e _ => ?_⟩)
  · rw [if_pos (pick_max v), toInt_ofNat _ (by omega)]
  · rw [emax]; omega
  · split
    · next h =>
      rw [toInt_ofNat _ (by omega)]
      exact_mod_cast pick_least v e (h.trans (pick_max v).symm)
    · rw [e64]; omega

/-- A round's maximum. -/
theorem kmax_apply (y : FVec Ideal S64x256 .f32) (l : Fin 256) : kmax y (ix2 0 l) = Finset.univ.sup (colOf y l) := by
  pointwise [kmax]
  rw [ofBits_neg_inf]
  exact fold_max_bot _

/-- A round's expert number. -/
theorem kidx_apply (y : FVec Ideal S64x256 .f32) (l : Fin 256) :
    kidx y (ix2 0 l) = BitVec.ofNat 32 (pick (colOf y l)).val := by
  pointwise [kidx, kiota]
  rw [kmax_apply]
  exact fold_minsi_eq_pick (colOf y l)

/-- The logits after a round. -/
theorem knext_apply (y : FVec Ideal S64x256 .f32) (e : Fin 64) (l : Fin 256) : knext y (ix2 e l) = next (colOf y l) e := by
  pointwise [knext, kiota]
  rw [kidx_apply, ofBits_neg_inf]
  unfold next
  by_cases h : e = pick (colOf y l)
  · rw [if_pos h, h]
    simp [Scalar.select, IntOp.cmpi]
  · rw [if_neg h]
    have h' := fun hh => h ((ofNat_eq_iff _ _).mp hh)
    have hb : (BitVec.ofNat 32 e.val == BitVec.ofNat 32 (pick (colOf y l)).val) = false := beq_eq_false_iff_ne.mpr h'
    simp [Scalar.select, IntOp.cmpi, hb]

/-- The logits before round `r` are the rounds' columns. -/
theorem kcol_apply (y : FVec Ideal S64x256 .f32) (l : Fin 256) : ∀ r, colOf (kcol y r) l = col (colOf y l) r
  | 0 => rfl
  | r + 1 => by
    funext e
    show knext (kcol y r) (ix2 e l) = next (col (colOf y l) r) e
    rw [knext_apply, kcol_apply y l r]

/-- Row `r` of the expert numbers. -/
theorem kidxes_apply (y : FVec Ideal S64x256 .f32) (r : Fin 8) (l : Fin 256) :
    kidxes y (ix2 r l) = BitVec.ofNat 32 (sel (colOf y l) r).val := by
  have h : kidxes y (ix2 r l) = kidx (kcol y r) (ix2 0 l) := by
    pointwise [kidxes]
    fin_cases r <;> rfl
  rw [h, kidx_apply, kcol_apply]
  rfl

/-- Row `r` of the maxima: the logit at the position taken, where all logits are above minus infinity. -/
theorem kmaxes_apply (y : FVec Ideal S64x256 .f32) (r : Fin 8) (l : Fin 256) (hv : ∀ e, ⊥ < colOf y l e) :
    kmaxes y (ix2 r l) = colOf y l (sel (colOf y l) r) := by
  have h : kmaxes y (ix2 r l) = kmax (kcol y r) (ix2 0 l) := by
    pointwise [kmaxes]
    fin_cases r <;> rfl
  rw [h, kmax_apply, kcol_apply, sup_col hv _ (by omega)]

/-- The quotients, from any eight rows. -/
theorem ksoft_apply (t : FVec Ideal S8x256 .f32) (r : Fin 8) (l : Fin 256) :
    ksoft t (ix2 r l) = Ideal.div (Ideal.exp (t (ix2 r l) - t (ix2 0 l))) (∑ q : Fin 8, Ideal.exp (t (ix2 q l) - t (ix2 0 l))) := by
  pointwise [ksoft, kexp]

/-- The logits: the weight's row times the token's. -/
theorem pay1_apply (w : FVec Ideal S64x4096 .f32) (x : FVec Ideal S1x256x4096 .f32) (e : Fin 64) (l : Fin 256) :
    k0_pay1 (F := Ideal) w x (ix2 e l) = ∑ k : Fin 4096, w (ix2 e k) * x (ix3 0 l k) := by
  pointwise [k0_pay1]

/-- The index stored for token `l` of the block in place `r`. -/
theorem tv_apply (w : FVec Ideal S64x4096 .f32) (x : FVec Ideal S1x256x4096 .f32) (l : Fin 256) (r : Fin 8) :
    K2.tv (F := Ideal) w x (ix3 0 l r) = BitVec.ofNat 32 (sel (colOf (k0_pay1 (F := Ideal) w x) l) r).val := by
  rw [tv_eq]
  pointwise
  exact kidxes_apply _ r l

/-- A softmax over the entries at the positions taken, the first one subtracted. -/
def soft8 (v : Fin 64 → EReal) (r : Fin 8) : EReal :=
  Ideal.div (Ideal.exp (v (sel v r) - v (sel v 0))) (∑ q : Fin 8, Ideal.exp (v (sel v q) - v (sel v 0)))

/-- The weight stored for token `l` of the block in place `r`. -/
theorem ov_apply (w : FVec Ideal S64x4096 .f32) (x : FVec Ideal S1x256x4096 .f32) (l : Fin 256) (r : Fin 8)
    (hv : ∀ e, ⊥ < colOf (k0_pay1 (F := Ideal) w x) l e) :
    K2.ov (F := Ideal) w x (ix3 0 l r) = soft8 (colOf (k0_pay1 (F := Ideal) w x) l) r := by
  rw [ov_eq]
  pointwise
  rw [ksoft_apply]
  simp only [kmaxes_apply _ _ l hv]
  rfl

end Cert.Proof.V

end
-- ==== Proof.V.Reference.lean ====
/- The reference's results read at an index over the extended reals: an entry of its top-8 is the logit at the position that a
   round of Rounds.lean takes, and its softmax subtracts the first of them. -/
module

public import proofs.«01_k».proof.Proof.Gen.Reference2Ideal.Run
public import proofs.«01_k».proof.Proof.V.Payload

@[expose] public section

noncomputable section

namespace Cert.Proof.V

open Cert.Reference2Ideal Cert.Reference2Ideal.Gen
open Idealize.ShloMosaic

/-- The logits of a token: its row of `x` times each expert's row of `W`. -/
def logit (x : FVec Ideal S32768x4096 .f32) (W : FVec Ideal S64x4096 .f32) (i : Fin 32768) : Fin 64 → EReal :=
  fun e => ∑ k : Fin 4096, x (ix2 i k) * W (ix2 e k)

/-- The reference's logits. -/
def rlog (x : FVec Ideal S32768x4096 .f32) (W : FVec Ideal S64x4096 .f32) : FVec Ideal S32768x64 .f32 :=
  Host.dotGeneral dot_S32768x4096_S4096x64_S32768x64_1_0_0_1_n_n none x (transpose S4096x64 [1, 0] W transposes_S64x4096_S4096x64_1_0)

/-- They are the plain sums. -/
theorem rlog_apply (x : FVec Ideal S32768x4096 .f32) (W : FVec Ideal S64x4096 .f32) (i : Fin 32768) (e : Fin 64) :
    rlog x W (ix2 i e) = logit x W i e := by
  pointwise [rlog]
  rfl

/-- A sort of two operands, the first read at an index. -/
theorem sort2_fst_along {s : Shape} {α β : Type} (d : Nat) (hd : d < s.rank) (cmp : α × β → α × β → BitVec 1) (x : s.Idx → α)
    (y : s.Idx → β) (j : s.Idx) :
    (Host.sort2 s d cmp x y).1 j = x (j.along ⟨d, hd⟩ (sortedFrom (fun k k' => cmp (x (j.along ⟨d, hd⟩ k), y (j.along ⟨d, hd⟩ k))
      (x (j.along ⟨d, hd⟩ k'), y (j.along ⟨d, hd⟩ k')) == 1#1) (j ⟨d, hd⟩))) := by
  unfold Host.sort2
  rw [dif_pos hd]

/-- A sort of two operands, the second read at an index. -/
theorem sort2_snd_along {s : Shape} {α β : Type} (d : Nat) (hd : d < s.rank) (cmp : α × β → α × β → BitVec 1) (x : s.Idx → α)
    (y : s.Idx → β) (j : s.Idx) :
    (Host.sort2 s d cmp x y).2 j = y (j.along ⟨d, hd⟩ (sortedFrom (fun k k' => cmp (x (j.along ⟨d, hd⟩ k), y (j.along ⟨d, hd⟩ k))
      (x (j.along ⟨d, hd⟩ k'), y (j.along ⟨d, hd⟩ k')) == 1#1) (j ⟨d, hd⟩))) := by
  unfold Host.sort2
  rw [dif_pos hd]

/-- The index along the second axis through an entry of row `i`. -/
theorem along_row (i : Fin 32768) (k e : Fin 64) : Shape.Idx.along (s := S32768x64) (ix2 i k) 1 e = ix2 i e := by
  funext a
  fin_cases a <;> rfl

/-- The position along row `i` at which the stable descending sort reads its entry `k`. -/
theorem sorted_row (y : FVec Ideal S32768x64 .f32) (i : Fin 32768) (hv : ∀ e, ⊥ < y (ix2 i e)) (k : Fin 64) :
    sortedFrom (n := 64) (fun a b => FloatOps.cmpfTotal (F := Ideal) (φ := .f32) .gt
        (y (Shape.Idx.along (s := S32768x64) (ix2 i k) 1 a)) (y (Shape.Idx.along (s := S32768x64) (ix2 i k) 1 b)) == 1#1) k
      = sel (fun e => y (ix2 i e)) k := by
  refine sortedFrom_eq_sel hv _ (fun a b => ?_) k
  rw [along_row, along_row]
  show (BitVec.ofBool (decide (y (ix2 i b) < y (ix2 i a))) == 1#1) = _
  cases decide (y (ix2 i b) < y (ix2 i a)) <;> rfl

/-- The sorted row of a second operand, read at an entry. -/
theorem sort2_snd (y : FVec Ideal S32768x64 .f32) (z : IVec S32768x64 32) (i : Fin 32768) (hv : ∀ e, ⊥ < y (ix2 i e)) (k : Fin 64) :
    (Host.sort2 S32768x64 1 (fun l r => FloatOps.cmpfTotal (F := Ideal) (φ := .f32) .gt l.1 r.1) y z).2 (ix2 i k)
      = z (ix2 i (sel (fun e => y (ix2 i e)) k)) := by
  rw [sort2_snd_along 1 (by decide)]
  exact congrArg z ((along_row i k _).trans (congrArg (ix2 i) (sorted_row y i hv k)))

/-- The sorted row itself, read at an entry. -/
theorem sort2_fst (y : FVec Ideal S32768x64 .f32) (z : IVec S32768x64 32) (i : Fin 32768) (hv : ∀ e, ⊥ < y (ix2 i e)) (k : Fin 64) :
    (Host.sort2 S32768x64 1 (fun l r => FloatOps.cmpfTotal (F := Ideal) (φ := .f32) .gt l.1 r.1) y z).1 (ix2 i k)
      = y (ix2 i (sel (fun e => y (ix2 i e)) k)) := by
  rw [sort2_fst_along 1 (by decide)]
  exact congrArg y ((along_row i k _).trans (congrArg (ix2 i) (sorted_row y i hv k)))

/-- The position of an output of the top-8. -/
theorem topK_idx (y : FVec Ideal S32768x64 .f32) (i : Fin 32768) (r : Fin 8) (hv : ∀ e, ⊥ < y (ix2 i e)) :
    (Host.topK S32768x8 1 (FloatOps.cmpfTotal (F := Ideal) (φ := .f32) .gt) y sliceFits_S32768x64_S32768x8).2 (ix2 i r)
      = BitVec.ofNat 32 (sel (fun e => y (ix2 i e)) r).val := by
  unfold Host.topK
  pointwise
  rw [sort2_snd y _ i hv]
  rfl

/-- The value of an output of the top-8. -/
theorem topK_val (y : FVec Ideal S32768x64 .f32) (i : Fin 32768) (r : Fin 8) (hv : ∀ e, ⊥ < y (ix2 i e)) :
    (Host.topK S32768x8 1 (FloatOps.cmpfTotal (F := Ideal) (φ := .f32) .gt) y sliceFits_S32768x64_S32768x8).1 (ix2 i r)
      = y (ix2 i (sel (fun e => y (ix2 i e)) r)) := by
  unfold Host.topK
  pointwise
  rw [sort2_fst y _ i hv]

/-- The reference's softmax of eight entries a row. -/
def rsoft (t : FVec Ideal S32768x8 .f32) : FVec Ideal S32768x8 .f32 :=
  Host.divf (Host.exp (subf t (broadcastInDim S32768x8 ![0, 1] bcast_S32768x1_S32768x8_0_1 (broadcastInDim S32768x1 ![0] bcast_S32768_S32768x1_0 (maximumf (broadcastInDim S32768 ![] bcast_S_S32768 (constant S_ .f32 0xFF800000#32)) (Host.reduce FloatOps.maximumf t (constant S_ .f32 0xFF800000#32) reducesTo_S32768x8_S32768_d1 h_S_))))))
    (broadcastInDim S32768x8 ![0, 1] bcast_S32768x1_S32768x8_0_1 (broadcastInDim S32768x1 ![0] bcast_S32768_S32768x1_0 (Host.reduceAdd (Host.exp (subf t (broadcastInDim S32768x8 ![0, 1] bcast_S32768x1_S32768x8_0_1 (broadcastInDim S32768x1 ![0] bcast_S32768_S32768x1_0 (maximumf (broadcastInDim S32768 ![] bcast_S_S32768 (constant S_ .f32 0xFF800000#32)) (Host.reduce FloatOps.maximumf t (constant S_ .f32 0xFF800000#32) reducesTo_S32768x8_S32768_d1 h_S_)))))) (constant S_ .f32 0x00000000#32) reducesTo_S32768x8_S32768_d1 h_S_)))

/-- Where the first entry of a row is the greatest, it is what the softmax subtracts. -/
theorem rsoft_apply (t : FVec Ideal S32768x8 .f32) (i : Fin 32768) (r : Fin 8) (ht : ∀ q, t (ix2 i q) ≤ t (ix2 i 0)) :
    rsoft t (ix2 i r) = Ideal.div (Ideal.exp (t (ix2 i r) - t (ix2 i 0))) (∑ q : Fin 8, Ideal.exp (t (ix2 i q) - t (ix2 i 0))) := by
  have hm : Finset.fold max ⊥ (fun q : Fin 8 => t (ix2 i q)) Finset.univ = t (ix2 i 0) := by
    rw [fold_max_bot]
    exact le_antisymm (Finset.sup_le fun q _ => ht q) (Finset.le_sup (f := fun q : Fin 8 => t (ix2 i q)) (Finset.mem_univ 0))
  pointwise [rsoft]
  rw [ofBits_neg_inf, hm, max_eq_right bot_le]

/-- THE REFERENCE'S INDICES: in place `r` of token `i` the position that round `r` takes of its logits. -/
theorem ref_idx (x : FVec Ideal S32768x4096 .f32) (W : FVec Ideal S64x4096 .f32) (i : Fin 32768) (r : Fin 8)
    (hv : ∀ e, ⊥ < logit x W i e) :
    (Host.topK S32768x8 1 (FloatOps.cmpfTotal (F := Ideal) (φ := .f32) .gt) (rlog x W) sliceFits_S32768x64_S32768x8).2 (ix2 i r)
      = BitVec.ofNat 32 (sel (logit x W i) r).val := by
  have e : (fun e => rlog x W (ix2 i e)) = logit x W i := funext fun e => rlog_apply x W i e
  rw [topK_idx _ i r fun e => by rw [rlog_apply]; exact hv e, e]

/-- THE REFERENCE'S WEIGHTS: the softmax of the logits at those positions. -/
theorem ref_weights (x : FVec Ideal S32768x4096 .f32) (W : FVec Ideal S64x4096 .f32) (i : Fin 32768) (r : Fin 8)
    (hv : ∀ e, ⊥ < logit x W i e) :
    rsoft (Host.topK S32768x8 1 (FloatOps.cmpfTotal (F := Ideal) (φ := .f32) .gt) (rlog x W) sliceFits_S32768x64_S32768x8).1 (ix2 i r)
      = soft8 (logit x W i) r := by
  have e : (fun e => rlog x W (ix2 i e)) = logit x W i := funext fun e => rlog_apply x W i e
  have ht : ∀ q : Fin 8, (Host.topK S32768x8 1 (FloatOps.cmpfTotal (F := Ideal) (φ := .f32) .gt) (rlog x W) sliceFits_S32768x64_S32768x8).1 (ix2 i q)
      = logit x W i (sel (logit x W i) q) := fun q => by
    rw [topK_val _ i q fun e => by rw [rlog_apply]; exact hv e, e, rlog_apply]
  rw [rsoft_apply _ i r fun q => by rw [ht, ht]; exact le_sel_zero (v := logit x W i) hv _]
  simp only [ht]
  rfl

end Cert.Proof.V

end
-- ==== Proof.V.Algebraic.lean ====
/- The value claim: over the extended reals the kernel whose keys are pairs and the reference leave equal results, where no logit
   is minus infinity. -/
module

public import proofs.«01_k».proof.Defs
public import proofs.«01_k».proof.Proof.K2.Run
public import proofs.«01_k».proof.Proof.V.Reference
public import Idealize.ShloMosaic.Lib.Pipeline.ValueKit
public import Idealize.ShloMosaic.Lib.ValueLayout

@[expose] public section

noncomputable section

/-- The side conditions of the precondition's program. -/
instance Cert.Proof.preFacts : Cert.Pre_logits_above_minus_infinity.Facts where
  transposes_S64x4096_S4096x64_1_0 := by decide
  bcast_S_S32768x64 := by decide
  dot_S32768x4096_S4096x64_S32768x64_1_0_0_1_n_n_wf := by decide

namespace Cert.Proof.V

open Cert.Kernel2Ideal Cert.Kernel2Ideal.Gen
open Idealize.ShloMosaic Idealize.SL.Sem Idealize.ShloMosaic.TcCoe

/-- The precondition, entry by entry. -/
theorem logit_above (x : FVec Ideal S32768x4096 .f32) (W : FVec Ideal S64x4096 .f32)
    (h : Cert.Pre_logits_above_minus_infinity.fn (F := Ideal) x W = fun _ => 1#1) (i : Fin 32768) (e : Fin 64) : ⊥ < logit x W i e := by
  have h' := congrFun h (ix2 i e)
  revert h'
  pointwise [Cert.Pre_logits_above_minus_infinity.fn]
  rw [ofBits_neg_inf]
  intro h'
  by_contra hn
  rw [show (decide (⊥ < ∑ k : Fin 4096, x (ix2 i k) * W (ix2 e k))) = false from decide_eq_false hn] at h'
  exact absurd h' (by decide)

/-- Row `l` of block `b`. -/
def rowOf (b : Fin 128) (l : Fin 256) : Fin 32768 := ⟨256 * b.val + l.val, by omega⟩

/-- Every row is a row of a block. -/
theorem exists_rowOf (i : Fin 32768) : ∃ b l, i = rowOf b l :=
  ⟨⟨i.val / 256, by omega⟩, ⟨i.val % 256, by omega⟩, Fin.ext (by simp only [rowOf]; omega)⟩

/-- A block of `x` reads its rows. -/
theorem read_xblk (f : FVec Ideal S32768x4096 .f32) (b : Fin 128) (l : Fin 256) (k : Fin 4096) :
    (K2.xblk b).view.read (Elt Ideal) f (ix2 l k) = f (ix2 (rowOf b l) k) := by
  refine congrArg f ?_
  funext a
  fin_cases a
  · exact Fin.ext (ValueKit.rect_emb_unit_val _ _ _ _ _)
  · exact Fin.ext ((ValueKit.rect_emb_unit_val _ _ _ _ _).trans (Nat.zero_add _))

/-- A block of the indices reads its rows. -/
theorem read_tblk (f : IVec S32768x8 32) (b : Fin 128) (l : Fin 256) (r : Fin 8) :
    (K2.tblk b).view.read (Elt Ideal) f (ix2 l r) = f (ix2 (rowOf b l) r) := by
  refine congrArg f ?_
  funext a
  fin_cases a
  · exact Fin.ext (ValueKit.rect_emb_unit_val _ _ _ _ _)
  · exact Fin.ext ((ValueKit.rect_emb_unit_val _ _ _ _ _).trans (Nat.zero_add _))

/-- A block of the weights reads its rows. -/
theorem read_oblk (f : FVec Ideal S32768x8 .f32) (b : Fin 128) (l : Fin 256) (r : Fin 8) :
    (K2.oblk b).view.read (Elt Ideal) f (ix2 l r) = f (ix2 (rowOf b l) r) := by
  refine congrArg f ?_
  funext a
  fin_cases a
  · exact Fin.ext (ValueKit.rect_emb_unit_val _ _ _ _ _)
  · exact Fin.ext ((ValueKit.rect_emb_unit_val _ _ _ _ _).trans (Nat.zero_add _))

/-- Squeezing away a leading axis of extent one, on indices. -/
theorem squeeze_ix2 {a b : ℕ} (h : (⟨2, ![a, b]⟩ : Shape).numel = (⟨3, ![1, a, b]⟩ : Shape).numel) (x : Fin a) (y : Fin b) :
    Shape.reshapeEquiv h (ix2 x y) = ix3 0 x y := by
  rw [ix2_eq_valueIdx, ix3_eq_valueIdx]
  exact ValueIdx.reshapeEquiv_ix2_1ab h x y

/-- The block's logits are the tokens' logits. -/
theorem colOf_block (c : Dev nD) (x : FVec Ideal S32768x4096 .f32) (W : FVec Ideal S64x4096 .f32) (b : Fin 128) (l : Fin 256) :
    colOf (k0_pay1 (F := Ideal) (K2.wv c W) (K2.xv c x b)) l = logit x W (rowOf b l) := by
  funext e
  show k0_pay1 (F := Ideal) (K2.wv c W) (K2.xv c x b) (ix2 e l) = _
  rw [pay1_apply]
  refine Finset.sum_congr rfl fun k _ => ?_
  have hx : K2.xv (F := Ideal) c x b (ix3 0 l k) = x (ix2 (rowOf b l) k) := by
    show (K2.xblk b).view.read (Elt Ideal) x ((Shape.reshapeEquiv K2.numel_x).symm (ix3 0 l k)) = _
    rw [(Shape.reshapeEquiv K2.numel_x).symm_apply_eq.mpr (squeeze_ix2 K2.numel_x l k).symm]
    exact read_xblk x b l k
  rw [hx, mul_comm]
  rfl

variable (m : (ℓ : Loc nD τ sig) → Buf (Elt Ideal) ℓ) (ρ : Dev nD → PrngReg)

/-- The kernel's index result is the reference's. -/
theorem final_idx (c : Dev nD) (s : MemSt nD τ sig (Elt Ideal)) (h : K2.Final m ρ c s) (x : FVec Ideal S32768x4096 .f32) (W : FVec Ideal S64x4096 .f32)
    (hx : m ((c : Thread nD τ).loc main_arg0) = x) (hW : m ((c : Thread nD τ).loc main_arg1) = W) (hv : ∀ i e, ⊥ < logit x W i e) :
    s.mem ((c : Thread nD τ).loc main_v0_0)
      = (Host.topK S32768x8 1 (FloatOps.cmpfTotal (F := Ideal) (φ := .f32) .gt) (rlog x W) Cert.Reference2Ideal.Gen.sliceFits_S32768x64_S32768x8).2 := by
  subst hx hW
  funext j
  obtain ⟨i, r, rfl⟩ : ∃ (i : Fin 32768) (r : Fin 8), j = ix2 i r := ⟨j 0, j 1, eq_ix2 j⟩
  obtain ⟨b, l, rfl⟩ := exists_rowOf i
  rw [ref_idx _ _ _ _ (hv _)]
  refine (read_tblk (s.mem ((c : Thread nD τ).loc main_v0_0)) b l r).symm.trans ((congrFun (h.2.2.1 b) (ix2 l r)).trans ?_)
  show K2.tv (F := Ideal) _ _ (Shape.reshapeEquiv K2.numel_r (ix2 l r)) = _
  rw [squeeze_ix2 K2.numel_r l r, tv_apply]
  exact congrArg (fun v => BitVec.ofNat 32 (sel v r).val) (colOf_block c _ _ b l)

/-- The kernel's weights are the reference's. -/
theorem final_weights (c : Dev nD) (s : MemSt nD τ sig (Elt Ideal)) (h : K2.Final m ρ c s) (x : FVec Ideal S32768x4096 .f32) (W : FVec Ideal S64x4096 .f32)
    (hx : m ((c : Thread nD τ).loc main_arg0) = x) (hW : m ((c : Thread nD τ).loc main_arg1) = W) (hv : ∀ i e, ⊥ < logit x W i e) :
    s.mem ((c : Thread nD τ).loc main_v0_1)
      = rsoft (Host.topK S32768x8 1 (FloatOps.cmpfTotal (F := Ideal) (φ := .f32) .gt) (rlog x W) Cert.Reference2Ideal.Gen.sliceFits_S32768x64_S32768x8).1 := by
  subst hx hW
  funext j
  obtain ⟨i, r, rfl⟩ : ∃ (i : Fin 32768) (r : Fin 8), j = ix2 i r := ⟨j 0, j 1, eq_ix2 j⟩
  obtain ⟨b, l, rfl⟩ := exists_rowOf i
  rw [ref_weights _ _ _ _ (hv _)]
  refine (read_oblk (s.mem ((c : Thread nD τ).loc main_v0_1)) b l r).symm.trans ((congrFun (h.2.2.2 b) (ix2 l r)).trans ?_)
  show K2.ov (F := Ideal) _ _ (Shape.reshapeEquiv K2.numel_r (ix2 l r)) = _
  have e := colOf_block c (m ((c : Thread nD τ).loc main_arg0)) (m ((c : Thread nD τ).loc main_arg1)) b l
  rw [squeeze_ix2 K2.numel_r l r]
  refine (ov_apply _ _ l r fun e' => ?_).trans (congrArg (fun v => soft8 v r) e)
  exact (congrFun e e').symm ▸ hv _ e'

end Cert.Proof.V

namespace Cert.Proof

open Idealize.ShloMosaic Idealize.SL.Sem Idealize.ShloMosaic.TcCoe

/-- THE VALUE CLAIM: where no logit is minus infinity the kernel and the reference leave equal indices and equal weights. -/
theorem algebraic : Cert.algebraic_Kernel2Ideal_Reference2Ideal_pre_logits_above_minus_infinity := fun m g m' g' hpre hargs =>
  ⟨fun c => (Host.topK Cert.Reference2Ideal.S32768x8 1 (FloatOps.cmpfTotal (F := Ideal) (φ := .f32) .gt)
      (V.rlog (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1)))
      Cert.Reference2Ideal.Gen.sliceFits_S32768x64_S32768x8).2,
    fun c => V.rsoft (Host.topK Cert.Reference2Ideal.S32768x8 1 (FloatOps.cmpfTotal (F := Ideal) (φ := .f32) .gt)
      (V.rlog (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1)))
      Cert.Reference2Ideal.Gen.sliceFits_S32768x64_S32768x8).1,
    (θ_run Cert.Kernel2Ideal.defs _ _).mono
      (fun r h c => ⟨V.final_idx m g c r.2 (h.1 c) _ _ rfl rfl (V.logit_above _ _ (hpre c)),
        V.final_weights m g c r.2 (h.1 c) _ _ rfl rfl (V.logit_above _ _ (hpre c)), (h.1 c).1, (h.1 c).2.1⟩)
      (K2.run_main (F := Ideal) m g),
    (θ_run Cert.Reference2Ideal.defs _ _).mono
      (fun r h c => by
        have h' := h c
        rw [(hargs c).1, (hargs c).2] at h'
        refine ⟨h'.1, h'.2.1, ?_, ?_⟩
        · rw [(hargs c).1]; exact h'.2.2.1
        · rw [(hargs c).2]; exact h'.2.2.2)
      (Cert.Reference2Ideal.Value.run (F := Ideal) m' g')⟩

end Cert.Proof

end
-- ==== Proof.lean ====
module

public import proofs.«01_k».proof.Defs
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Frames
public import proofs.«01_k».proof.Proof.V.Algebraic

@[expose] public section

noncomputable section

namespace Cert.Proof

open Idealize.ShloMosaic Idealize.SL.Sem

/-- Every claim of the certificate: the frames hold of every input, hence also under the value claim's precondition. -/
theorem claim : Cert.Claim :=
  ⟨Cert.Kernel.Gen.facts, Cert.Kernel2.Gen.facts, Cert.Kernel2Ideal.Gen.facts, Cert.Reference2Ideal.Gen.facts, preFacts,
    frame_kernel, frame_kernel2, frame_kernel2_ideal, fun m ρ _ => frame_kernel2_ideal m ρ trivial,
    frame_reference2_ideal, fun m ρ _ => frame_reference2_ideal m ρ trivial, trivial, algebraic⟩

end Cert.Proof

end
